-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite1 [hPre_finite1 : Cert.Pre_finite1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.2.2.2 = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite1 [hPre_finite1 : Cert.Pre_finite1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))).2.2.2.2.2.2.2.2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18))).2.2.2.2.2.2.2.2.2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Kernel1Ideal_pre_finite1 [hKernel1Ideal : Cert.Kernel1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Reference1Ideal_pre_finite1 [hReference1Ideal : Cert.Reference1Ideal.Facts] [hPre_finite1 : Cert.Pre_finite1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v18_5)) (v6 : (c : Dev Cert.KernelIdeal.nD) → Buf (Elt Ideal) ((c.tc : Thread Cert.KernelIdeal.nD Cert.KernelIdeal.τ).loc Cert.KernelIdeal.main_v18_6)) (v7 : (c : Dev Cert.KernelIdeal.nD) → Buf (Elt Ideal) ((c.tc : Thread Cert.KernelIdeal.nD Cert.KernelIdeal.τ).loc Cert.KernelIdeal.main_v18_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v18_5) = v5 c
          ∧ r.2.mem ((c.tc : Thread Cert.KernelIdeal.nD Cert.KernelIdeal.τ).loc Cert.KernelIdeal.main_v18_6) = v6 c
          ∧ r.2.mem ((c.tc : Thread Cert.KernelIdeal.nD Cert.KernelIdeal.τ).loc Cert.KernelIdeal.main_v18_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_v150) = v5 c
          ∧ r.2.mem ((c.tc : Thread Cert.ReferenceIdeal.nD Cert.ReferenceIdeal.τ).loc Cert.ReferenceIdeal.main_v152) = v6 c
          ∧ r.2.mem ((c.tc : Thread Cert.ReferenceIdeal.nD Cert.ReferenceIdeal.τ).loc Cert.ReferenceIdeal.main_v164) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel1_Kernel1Ideal : Prop :=
  True

def algebraic_Kernel1Ideal_Reference1Ideal_pre_finite1 [hKernel1Ideal : Cert.Kernel1Ideal.Facts] [hReference1Ideal : Cert.Reference1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)) →
    ∃ (v0 : (c : Dev Cert.Kernel1Ideal.nD) → Buf (Elt Ideal) ((c.tc : Thread Cert.Kernel1Ideal.nD Cert.Kernel1Ideal.τ).loc Cert.Kernel1Ideal.main_v15_0)) (v1 : (c : Dev Cert.Kernel1Ideal.nD) → Buf (Elt Ideal) ((c.tc : Thread Cert.Kernel1Ideal.nD Cert.Kernel1Ideal.τ).loc Cert.Kernel1Ideal.main_v17_0)) (v2 : (c : Dev Cert.Kernel1Ideal.nD) → Buf (Elt Ideal) ((c.tc : Thread Cert.Kernel1Ideal.nD Cert.Kernel1Ideal.τ).loc Cert.Kernel1Ideal.main_v17_1)) (v3 : (c : Dev Cert.Kernel1Ideal.nD) → Buf (Elt Ideal) ((c.tc : Thread Cert.Kernel1Ideal.nD Cert.Kernel1Ideal.τ).loc Cert.Kernel1Ideal.main_v17_2)) (v4 : (c : Dev Cert.Kernel1Ideal.nD) → Buf (Elt Ideal) ((c.tc : Thread Cert.Kernel1Ideal.nD Cert.Kernel1Ideal.τ).loc Cert.Kernel1Ideal.main_v17_3)) (v5 : (c : Dev Cert.Kernel1Ideal.nD) → Buf (Elt Ideal) ((c.tc : Thread Cert.Kernel1Ideal.nD Cert.Kernel1Ideal.τ).loc Cert.Kernel1Ideal.main_v17_4)) (v6 : (c : Dev Cert.Kernel1Ideal.nD) → Buf (Elt Ideal) ((c.tc : Thread Cert.Kernel1Ideal.nD Cert.Kernel1Ideal.τ).loc Cert.Kernel1Ideal.main_v17_5)) (v7 : (c : Dev Cert.Kernel1Ideal.nD) → Buf (Elt Ideal) ((c.tc : Thread Cert.Kernel1Ideal.nD Cert.Kernel1Ideal.τ).loc Cert.Kernel1Ideal.main_v17_6)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v15_0) = v0 c
          ∧ r.2.mem ((c.tc : Thread Cert.Kernel1Ideal.nD Cert.Kernel1Ideal.τ).loc Cert.Kernel1Ideal.main_v17_0) = v1 c
          ∧ r.2.mem ((c.tc : Thread Cert.Kernel1Ideal.nD Cert.Kernel1Ideal.τ).loc Cert.Kernel1Ideal.main_v17_1) = v2 c
          ∧ r.2.mem ((c.tc : Thread Cert.Kernel1Ideal.nD Cert.Kernel1Ideal.τ).loc Cert.Kernel1Ideal.main_v17_2) = v3 c
          ∧ r.2.mem ((c.tc : Thread Cert.Kernel1Ideal.nD Cert.Kernel1Ideal.τ).loc Cert.Kernel1Ideal.main_v17_3) = v4 c
          ∧ r.2.mem ((c.tc : Thread Cert.Kernel1Ideal.nD Cert.Kernel1Ideal.τ).loc Cert.Kernel1Ideal.main_v17_4) = v5 c
          ∧ r.2.mem ((c.tc : Thread Cert.Kernel1Ideal.nD Cert.Kernel1Ideal.τ).loc Cert.Kernel1Ideal.main_v17_5) = v6 c
          ∧ r.2.mem ((c.tc : Thread Cert.Kernel1Ideal.nD Cert.Kernel1Ideal.τ).loc Cert.Kernel1Ideal.main_v17_6) = v7 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v139) = v0 c
          ∧ r.2.mem ((c.tc : Thread Cert.Reference1Ideal.nD Cert.Reference1Ideal.τ).loc Cert.Reference1Ideal.main_v140) = v1 c
          ∧ r.2.mem ((c.tc : Thread Cert.Reference1Ideal.nD Cert.Reference1Ideal.τ).loc Cert.Reference1Ideal.main_v143) = v2 c
          ∧ r.2.mem ((c.tc : Thread Cert.Reference1Ideal.nD Cert.Reference1Ideal.τ).loc Cert.Reference1Ideal.main_v146) = v3 c
          ∧ r.2.mem ((c.tc : Thread Cert.Reference1Ideal.nD Cert.Reference1Ideal.τ).loc Cert.Reference1Ideal.main_v148) = v4 c
          ∧ r.2.mem ((c.tc : Thread Cert.Reference1Ideal.nD Cert.Reference1Ideal.τ).loc Cert.Reference1Ideal.main_v150) = v5 c
          ∧ r.2.mem ((c.tc : Thread Cert.Reference1Ideal.nD Cert.Reference1Ideal.τ).loc Cert.Reference1Ideal.main_v136) = v6 c
          ∧ r.2.mem ((c.tc : Thread Cert.Reference1Ideal.nD Cert.Reference1Ideal.τ).loc Cert.Reference1Ideal.main_v138) = v7 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)) →
    ∃ (v0 : (c : Dev Cert.Kernel2Ideal.nD) → Buf (Elt Ideal) ((c.tc : Thread Cert.Kernel2Ideal.nD Cert.Kernel2Ideal.τ).loc Cert.Kernel2Ideal.main_v187_0)) (v1 : (c : Dev Cert.Kernel2Ideal.nD) → Buf (Elt Ideal) ((c.tc : Thread Cert.Kernel2Ideal.nD Cert.Kernel2Ideal.τ).loc Cert.Kernel2Ideal.main_v187_1)) (v2 : (c : Dev Cert.Kernel2Ideal.nD) → Buf (Elt Ideal) ((c.tc : Thread Cert.Kernel2Ideal.nD Cert.Kernel2Ideal.τ).loc Cert.Kernel2Ideal.main_v187_2)) (v3 : (c : Dev Cert.Kernel2Ideal.nD) → Buf (Elt Ideal) ((c.tc : Thread Cert.Kernel2Ideal.nD Cert.Kernel2Ideal.τ).loc Cert.Kernel2Ideal.main_v187_3)) (v4 : (c : Dev Cert.Kernel2Ideal.nD) → Buf (Elt Ideal) ((c.tc : Thread Cert.Kernel2Ideal.nD Cert.Kernel2Ideal.τ).loc Cert.Kernel2Ideal.main_v187_4)) (v5 : (c : Dev Cert.Kernel2Ideal.nD) → Buf (Elt Ideal) ((c.tc : Thread Cert.Kernel2Ideal.nD Cert.Kernel2Ideal.τ).loc Cert.Kernel2Ideal.main_v187_5)) (v6 : (c : Dev Cert.Kernel2Ideal.nD) → Buf (Elt Ideal) ((c.tc : Thread Cert.Kernel2Ideal.nD Cert.Kernel2Ideal.τ).loc Cert.Kernel2Ideal.main_v187_6)) (v7 : (c : Dev Cert.Kernel2Ideal.nD) → Buf (Elt Ideal) ((c.tc : Thread Cert.Kernel2Ideal.nD Cert.Kernel2Ideal.τ).loc Cert.Kernel2Ideal.main_v187_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v187_0) = v0 c
          ∧ r.2.mem ((c.tc : Thread Cert.Kernel2Ideal.nD Cert.Kernel2Ideal.τ).loc Cert.Kernel2Ideal.main_v187_1) = v1 c
          ∧ r.2.mem ((c.tc : Thread Cert.Kernel2Ideal.nD Cert.Kernel2Ideal.τ).loc Cert.Kernel2Ideal.main_v187_2) = v2 c
          ∧ r.2.mem ((c.tc : Thread Cert.Kernel2Ideal.nD Cert.Kernel2Ideal.τ).loc Cert.Kernel2Ideal.main_v187_3) = v3 c
          ∧ r.2.mem ((c.tc : Thread Cert.Kernel2Ideal.nD Cert.Kernel2Ideal.τ).loc Cert.Kernel2Ideal.main_v187_4) = v4 c
          ∧ r.2.mem ((c.tc : Thread Cert.Kernel2Ideal.nD Cert.Kernel2Ideal.τ).loc Cert.Kernel2Ideal.main_v187_5) = v5 c
          ∧ r.2.mem ((c.tc : Thread Cert.Kernel2Ideal.nD Cert.Kernel2Ideal.τ).loc Cert.Kernel2Ideal.main_v187_6) = v6 c
          ∧ r.2.mem ((c.tc : Thread Cert.Kernel2Ideal.nD Cert.Kernel2Ideal.τ).loc Cert.Kernel2Ideal.main_v187_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v365) = v0 c
          ∧ r.2.mem ((c.tc : Thread Cert.Reference2Ideal.nD Cert.Reference2Ideal.τ).loc Cert.Reference2Ideal.main_v367) = v1 c
          ∧ r.2.mem ((c.tc : Thread Cert.Reference2Ideal.nD Cert.Reference2Ideal.τ).loc Cert.Reference2Ideal.main_v369) = v2 c
          ∧ r.2.mem ((c.tc : Thread Cert.Reference2Ideal.nD Cert.Reference2Ideal.τ).loc Cert.Reference2Ideal.main_v359) = v3 c
          ∧ r.2.mem ((c.tc : Thread Cert.Reference2Ideal.nD Cert.Reference2Ideal.τ).loc Cert.Reference2Ideal.main_v362) = v4 c
          ∧ r.2.mem ((c.tc : Thread Cert.Reference2Ideal.nD Cert.Reference2Ideal.τ).loc Cert.Reference2Ideal.main_v364) = v5 c
          ∧ r.2.mem ((c.tc : Thread Cert.Reference2Ideal.nD Cert.Reference2Ideal.τ).loc Cert.Reference2Ideal.main_v370) = v6 c
          ∧ r.2.mem ((c.tc : Thread Cert.Reference2Ideal.nD Cert.Reference2Ideal.τ).loc Cert.Reference2Ideal.main_v371) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_v15) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg0) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m ((c.tc : Thread Cert.Kernel6Ideal.nD Cert.Kernel6Ideal.τ).loc Cert.Kernel6Ideal.main_arg0) = Layout.block ⟨3, ![4, 704, 1024]⟩ ⟨3, ![32, 704, 1024]⟩ 0 8 c (m' (((0 : Dev Cert.Reference6Ideal.nD).tc : Thread Cert.Reference6Ideal.nD Cert.Reference6Ideal.τ).loc Cert.Reference6Ideal.main_arg0))) →
    ∃ (v0 : Buf (Elt Ideal) (((0 : Dev Cert.Reference6Ideal.nD).tc : Thread Cert.Reference6Ideal.nD Cert.Reference6Ideal.τ).loc Cert.Reference6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = Layout.block ⟨3, ![4, 704, 1024]⟩ ⟨3, ![32, 704, 1024]⟩ 0 8 c v0
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r =>
          r.2.mem (((0 : Dev Cert.Reference6Ideal.nD).tc : Thread Cert.Reference6Ideal.nD Cert.Reference6Ideal.τ).loc Cert.Reference6Ideal.main_v2) = v0
          ∧ r.2.mem (((0 : Dev Cert.Reference6Ideal.nD).tc : Thread Cert.Reference6Ideal.nD Cert.Reference6Ideal.τ).loc Cert.Reference6Ideal.main_arg0) = m' (((0 : Dev Cert.Reference6Ideal.nD).tc : Thread Cert.Reference6Ideal.nD Cert.Reference6Ideal.τ).loc Cert.Reference6Ideal.main_arg0))

def bitexact_Kernel6_Reference6 [hKernel6 : Cert.Kernel6.Facts] [hReference6 : Cert.Reference6.Facts] : Prop :=
  ∀ (m : (ℓ : Loc Cert.Kernel6.nD Cert.Kernel6.τ Cert.Kernel6.sig) → Buf (Elt Bits) ℓ) (g : Dev Cert.Kernel6.nD → PrngReg)
    (m' : (ℓ : Loc Cert.Reference6.nD Cert.Reference6.τ Cert.Reference6.sig) → Buf (Elt Bits) ℓ) (g' : Dev Cert.Reference6.nD → PrngReg), Pre_Kernel6 m →
    (∀ c : Dev Cert.Kernel6.nD,
      m ((c.tc : Thread Cert.Kernel6.nD Cert.Kernel6.τ).loc Cert.Kernel6.main_arg0) = Layout.block ⟨3, ![4, 704, 1024]⟩ ⟨3, ![32, 704, 1024]⟩ 0 8 c (m' (((0 : Dev Cert.Reference6.nD).tc : Thread Cert.Reference6.nD Cert.Reference6.τ).loc Cert.Reference6.main_arg0))) →
    ∃ (v0 : Buf (Elt Bits) (((0 : Dev Cert.Reference6.nD).tc : Thread Cert.Reference6.nD Cert.Reference6.τ).loc Cert.Reference6.main_v2)),
      θ_run (Cert.Kernel6.defs (F := Bits)) (onTc (τ := Cert.Kernel6.τ) (Cert.Kernel6.main (F := Bits))) ⟨m, fun _ => 0, g⟩ (fun r => ∀ c : Dev Cert.Kernel6.nD,
          r.2.mem ((c.tc : Thread Cert.Kernel6.nD Cert.Kernel6.τ).loc Cert.Kernel6.main_v1) = Layout.block ⟨3, ![4, 704, 1024]⟩ ⟨3, ![32, 704, 1024]⟩ 0 8 c v0
          ∧ r.2.mem ((c.tc : Thread Cert.Kernel6.nD Cert.Kernel6.τ).loc Cert.Kernel6.main_arg0) = m ((c.tc : Thread Cert.Kernel6.nD Cert.Kernel6.τ).loc Cert.Kernel6.main_arg0))
      ∧ θ_run (Cert.Reference6.defs (F := Bits)) (onTc (τ := Cert.Reference6.τ) (Cert.Reference6.main (F := Bits))) ⟨m', fun _ => 0, g'⟩ (fun r =>
          r.2.mem (((0 : Dev Cert.Reference6.nD).tc : Thread Cert.Reference6.nD Cert.Reference6.τ).loc Cert.Reference6.main_v2) = v0
          ∧ r.2.mem (((0 : Dev Cert.Reference6.nD).tc : Thread Cert.Reference6.nD Cert.Reference6.τ).loc Cert.Reference6.main_arg0) = m' (((0 : Dev Cert.Reference6.nD).tc : Thread Cert.Reference6.nD Cert.Reference6.τ).loc Cert.Reference6.main_arg0))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hReference6 : Cert.Reference6.Facts) (hPre_finite : Cert.Pre_finite.Facts) (hPre_finite1 : Cert.Pre_finite1.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel1 (hKernel1 := hKernel1)
    ∧ quiescent_Kernel1Ideal (hKernel1Ideal := hKernel1Ideal)
    ∧ quiescent_Kernel1Ideal_pre_finite1 (hKernel1Ideal := hKernel1Ideal) (hPre_finite1 := hPre_finite1)
    ∧ quiescent_Reference1Ideal (hReference1Ideal := hReference1Ideal)
    ∧ quiescent_Reference1Ideal_pre_finite1 (hReference1Ideal := hReference1Ideal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel1_Kernel1Ideal
    ∧ algebraic_Kernel1Ideal_Reference1Ideal_pre_finite1 (hKernel1Ideal := hKernel1Ideal) (hReference1Ideal := hReference1Ideal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ bitexact_Kernel6_Reference6 (hKernel6 := hKernel6) (hReference6 := hReference6)
-- ==== Pre_finite.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S2x1024 : S_.BroadcastsInDim S2x1024 (![] : Fin 0 → Fin S2x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x1024x5632 .f32) (main_arg7 : FVec F S1x2816x1024 .f32) (main_arg8 : FVec F S2x2048x1024 .f32) (main_v2 : IVec S2x2048x1024 1) (main_v5 : IVec S2x1024 1) (main_v8 : IVec S2x1024 1) (main_v11 : IVec S2x1024 1) (main_v14 : IVec S1x1024 1) (main_v17 : IVec S1x1024 1) : IVec S2x2048x1024 1 × IVec S2x1024 1 × IVec S2x1024 1 × IVec S2x1024 1 × IVec S1x1024 1 × IVec S1x1024 1 × IVec S1x1024x5632 1 × IVec S1x2816x1024 1 × IVec S2x2048x1024 1 :=
  let main_v18 : FVec F S1x1024x5632 .f32 := Host.absf main_arg6
  let main_cst_5 : FVec F S_ .f32 := constant S_ .f32 0x7F800000#32
  let main_v19 : FVec F S1x1024x5632 .f32 := broadcastInDim S1x1024x5632 ![] bcast_S_S1x1024x5632 main_cst_5
  let main_v20 : IVec S1x1024x5632 1 := cmpf .olt main_v18 main_v19
  let main_v21 : FVec F S1x2816x1024 .f32 := Host.absf main_arg7
  let main_cst_6 : FVec F S_ .f32 := constant S_ .f32 0x7F800000#32
  let main_v22 : FVec F S1x2816x1024 .f32 := broadcastInDim S1x2816x1024 ![] bcast_S_S1x2816x1024 main_cst_6
  let main_v23 : IVec S1x2816x1024 1 := cmpf .olt main_v21 main_v22
  let main_v24 : FVec F S2x2048x1024 .f32 := Host.absf main_arg8
  let main_cst_7 : FVec F S_ .f32 := constant S_ .f32 0x7F800000#32
  let main_v25 : FVec F S2x2048x1024 .f32 := broadcastInDim S2x2048x1024 ![] bcast_S_S2x2048x1024 main_cst_7
  let main_v26 : IVec S2x2048x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S2x1024 .f32) (main_arg2 : FVec F S2x1024 .f32) (main_arg3 : FVec F S2x1024 .f32) (main_arg4 : FVec F S1x1024 .f32) (main_arg5 : FVec F S1x1024 .f32) (main_arg6 : FVec F S1x1024x5632 .f32) (main_arg7 : FVec F S1x2816x1024 .f32) (main_arg8 : FVec F S2x2048x1024 .f32) : IVec S2x2048x1024 1 × IVec S2x1024 1 × IVec S2x1024 1 × IVec S2x1024 1 × IVec S1x1024 1 × IVec S1x1024 1 × IVec S1x1024x5632 1 × IVec S1x2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_finite1.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S2x1024 : S_.BroadcastsInDim S2x1024 (![] : Fin 0 → Fin S2x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x1024x5632 .f32) (main_arg7 : FVec F S1x2816x1024 .f32) (main_arg8 : FVec F S2x2048x1024 .f32) (main_v2 : IVec S2x2048x1024 1) (main_v5 : IVec S2x1024 1) (main_v8 : IVec S2x1024 1) (main_v11 : IVec S2x1024 1) (main_v14 : IVec S1x1024 1) (main_v17 : IVec S1x1024 1) : IVec S2x2048x1024 1 × IVec S2x1024 1 × IVec S2x1024 1 × IVec S2x1024 1 × IVec S1x1024 1 × IVec S1x1024 1 × IVec S1x1024x5632 1 × IVec S1x2816x1024 1 × IVec S2x2048x1024 1 :=
  let main_v18 : FVec F S1x1024x5632 .f32 := Host.absf main_arg6
  let main_cst_5 : FVec F S_ .f32 := constant S_ .f32 0x7F800000#32
  let main_v19 : FVec F S1x1024x5632 .f32 := broadcastInDim S1x1024x5632 ![] bcast_S_S1x1024x5632 main_cst_5
  let main_v20 : IVec S1x1024x5632 1 := cmpf .olt main_v18 main_v19
  let main_v21 : FVec F S1x2816x1024 .f32 := Host.absf main_arg7
  let main_cst_6 : FVec F S_ .f32 := constant S_ .f32 0x7F800000#32
  let main_v22 : FVec F S1x2816x1024 .f32 := broadcastInDim S1x2816x1024 ![] bcast_S_S1x2816x1024 main_cst_6
  let main_v23 : IVec S1x2816x1024 1 := cmpf .olt main_v21 main_v22
  let main_v24 : FVec F S2x2048x1024 .f32 := Host.absf main_arg8
  let main_cst_7 : FVec F S_ .f32 := constant S_ .f32 0x7F800000#32
  let main_v25 : FVec F S2x2048x1024 .f32 := broadcastInDim S2x2048x1024 ![] bcast_S_S2x2048x1024 main_cst_7
  let main_v26 : IVec S2x2048x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S2x1024 .f32) (main_arg2 : FVec F S2x1024 .f32) (main_arg3 : FVec F S2x1024 .f32) (main_arg4 : FVec F S1x1024 .f32) (main_arg5 : FVec F S1x1024 .f32) (main_arg6 : FVec F S1x1024x5632 .f32) (main_arg7 : FVec F S1x2816x1024 .f32) (main_arg8 : FVec F S2x2048x1024 .f32) : IVec S2x2048x1024 1 × IVec S2x1024 1 × IVec S2x1024 1 × IVec S2x1024 1 × IVec S1x1024 1 × IVec S1x1024 1 × IVec S1x1024x5632 1 × IVec S1x2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_finite2.lean ====
abbrev S2x2048x1024 : Shape := ⟨3, ![2, 2048, 1024]⟩
abbrev S2x1024 : Shape := ⟨2, ![2, 1024]⟩
abbrev S1x1024 : Shape := ⟨2, ![1, 1024]⟩
abbrev S1x1024x2048 : Shape := ⟨3, ![1, 1024, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S_ : Shape := ⟨0, ![]⟩

class Facts : Prop where
  bcast_S_S2x2048x1024 : S_.BroadcastsInDim S2x2048x1024 (![] : Fin 0 → Fin S2x2048x1024.rank)
  bcast_S_S2x1024 : S_.BroadcastsInDim S2x1024 (![] : Fin 0 → Fin S2x1024.rank)
  bcast_S_S1x1024 : S_.BroadcastsInDim S1x1024 (![] : Fin 0 → Fin S1x1024.rank)
  bcast_S_S1x1024x2048 : S_.BroadcastsInDim S1x1024x2048 (![] : Fin 0 → Fin S1x1024x2048.rank)
  bcast_S_S1x512 : S_.BroadcastsInDim S1x512 (![] : Fin 0 → Fin S1x512.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x31x512 : S_.BroadcastsInDim S1x31x512 (![] : Fin 0 → Fin S1x31x512.rank)
  bcast_S_S1x1024x1024 : S_.BroadcastsInDim S1x1024x1024 (![] : Fin 0 → Fin S1x1024x1024.rank)

variable [Facts]

def fn_part3 {F : FTy → Type} [FloatOps F] (main_arg18 : FVec F S2x2048x1024 .f32) (main_v2 : IVec S2x2048x1024 1) (main_v5 : IVec S2x1024 1) (main_v8 : IVec S2x1024 1) (main_v11 : IVec S2x1024 1) (main_v14 : IVec S1x1024 1) (main_v17 : IVec S1x1024 1) (main_v20 : IVec S1x1024x2048 1) (main_v23 : IVec S1x512 1) (main_v26 : IVec S1x512 1) (main_v29 : IVec S1x8x128x128 1) (main_v32 : IVec S1x8x128 1) (main_v35 : IVec S1x31x512 1) (main_v38 : IVec S1x512 1) (main_v41 : IVec S1x512 1) (main_v44 : IVec S1x512 1) (main_v47 : IVec S1x512 1) (main_v50 : IVec S1x512 1) (main_v53 : IVec S1x1024x1024 1) : IVec S2x2048x1024 1 × IVec S2x1024 1 × IVec S2x1024 1 × IVec S2x1024 1 × IVec S1x1024 1 × IVec S1x1024 1 × IVec S1x1024x2048 1 × IVec S1x512 1 × IVec S1x512 1 × IVec S1x8x128x128 1 × IVec S1x8x128 1 × IVec S1x31x512 1 × IVec S1x512 1 × IVec S1x512 1 × IVec S1x512 1 × IVec S1x512 1 × IVec S1x512 1 × IVec S1x1024x1024 1 × IVec S2x2048x1024 1 :=
  let main_v54 : FVec F S2x2048x1024 .f32 := Host.absf main_arg18
  let main_cst_17 : FVec F S_ .f32 := constant S_ .f32 0x7F800000#32
  let main_v55 : FVec F S2x2048x1024 .f32 := broadcastInDim S2x2048x1024 ![] bcast_S_S2x2048x1024 main_cst_17
  let main_v56 : IVec S2x2048x1024 1 := cmpf .olt main_v54 main_v55
  (main_v2, main_v5, main_v8, main_v11, main_v14, main_v17, main_v20, main_v23, main_v26, main_v29, main_v32, main_v35, main_v38, main_v41, main_v44, main_v47, main_v50, main_v53, main_v56)

def fn_part2 {F : FTy → Type} [FloatOps F] (main_arg12 : FVec F S1x512 .f32) (main_arg13 : FVec F S1x512 .f32) (main_arg14 : FVec F S1x512 .f32) (main_arg15 : FVec F S1x512 .f32) (main_arg16 : FVec F S1x512 .f32) (main_arg17 : FVec F S1x1024x1024 .f32) (main_arg18 : FVec F S2x2048x1024 .f32) (main_v2 : IVec S2x2048x1024 1) (main_v5 : IVec S2x1024 1) (main_v8 : IVec S2x1024 1) (main_v11 : IVec S2x1024 1) (main_v14 : IVec S1x1024 1) (main_v17 : IVec S1x1024 1) (main_v20 : IVec S1x1024x2048 1) (main_v23 : IVec S1x512 1) (main_v26 : IVec S1x512 1) (main_v29 : IVec S1x8x128x128 1) (main_v32 : IVec S1x8x128 1) (main_v35 : IVec S1x31x512 1) : IVec S2x2048x1024 1 × IVec S2x1024 1 × IVec S2x1024 1 × IVec S2x1024 1 × IVec S1x1024 1 × IVec S1x1024 1 × IVec S1x1024x2048 1 × IVec S1x512 1 × IVec S1x512 1 × IVec S1x8x128x128 1 × IVec S1x8x128 1 × IVec S1x31x512 1 × IVec S1x512 1 × IVec S1x512 1 × IVec S1x512 1 × IVec S1x512 1 × IVec S1x512 1 × IVec S1x1024x1024 1 × IVec S2x2048x1024 1 :=
  let main_v36 : FVec F S1x512 .f32 := Host.absf main_arg12
  let main_cst_11 : FVec F S_ .f32 := constant S_ .f32 0x7F800000#32
  let main_v37 : FVec F S1x512 .f32 := broadcastInDim S1x512 ![] bcast_S_S1x512 main_cst_11
  let main_v38 : IVec S1x512 1 := cmpf .olt main_v36 main_v37
  let main_v39 : FVec F S1x512 .f32 := Host.absf main_arg13
  let main_cst_12 : FVec F S_ .f32 := constant S_ .f32 0x7F800000#32
  let main_v40 : FVec F S1x512 .f32 := broadcastInDim S1x512 ![] bcast_S_S1x512 main_cst_12
  let main_v41 : IVec S1x512 1 := cmpf .olt main_v39 main_v40
  let main_v42 : FVec F S1x512 .f32 := Host.absf main_arg14
  let main_cst_13 : FVec F S_ .f32 := constant S_ .f32 0x7F800000#32
  let main_v43 : FVec F S1x512 .f32 := broadcastInDim S1x512 ![] bcast_S_S1x512 main_cst_13
  let main_v44 : IVec S1x512 1 := cmpf .olt main_v42 main_v43
  let main_v45 : FVec F S1x512 .f32 := Host.absf main_arg15
  let main_cst_14 : FVec F S_ .f32 := constant S_ .f32 0x7F800000#32
  let main_v46 : FVec F S1x512 .f32 := broadcastInDim S1x512 ![] bcast_S_S1x512 main_cst_14
  let main_v47 : IVec S1x512 1 := cmpf .olt main_v45 main_v46
  let main_v48 : FVec F S1x512 .f32 := Host.absf main_arg16
  let main_cst_15 : FVec F S_ .f32 := constant S_ .f32 0x7F800000#32
  let main_v49 : FVec F S1x512 .f32 := broadcastInDim S1x512 ![] bcast_S_S1x512 main_cst_15
  let main_v50 : IVec S1x512 1 := cmpf .olt main_v48 main_v49
  let main_v51 : FVec F S1x1024x1024 .f32 := Host.absf main_arg17
  let main_cst_16 : FVec F S_ .f32 := constant S_ .f32 0x7F800000#32
  let main_v52 : FVec F S1x1024x1024 .f32 := broadcastInDim S1x1024x1024 ![] bcast_S_S1x1024x1024 main_cst_16
  let main_v53 : IVec S1x1024x1024 1 := cmpf .olt main_v51 main_v52
  fn_part3 (F := F) main_arg18 main_v2 main_v5 main_v8 main_v11 main_v14 main_v17 main_v20 main_v23 main_v26 main_v29 main_v32 main_v35 main_v38 main_v41 main_v44 main_v47 main_v50 main_v53

def fn_part1 {F : FTy → Type} [FloatOps F] (main_arg6 : FVec F S1x1024x2048 .f32) (main_arg7 : FVec F S1x512 .f32) (main_arg8 : FVec F S1x512 .f32) (main_arg9 : FVec F S1x8x128x128 .f32) (main_arg10 : FVec F S1x8x128 .f32) (main_arg11 : FVec F S1x31x512 .f32) (main_arg12 : FVec F S1x512 .f32) (main_arg13 : FVec F S1x512 .f32) (main_arg14 : FVec F S1x512 .f32) (main_arg15 : FVec F S1x512 .f32) (main_arg16 : FVec F S1x512 .f32) (main_arg17 : FVec F S1x1024x1024 .f32) (main_arg18 : FVec F S2x2048x1024 .f32) (main_v2 : IVec S2x2048x1024 1) (main_v5 : IVec S2x1024 1) (main_v8 : IVec S2x1024 1) (main_v11 : IVec S2x1024 1) (main_v14 : IVec S1x1024 1) (main_v17 : IVec S1x1024 1) : IVec S2x2048x1024 1 × IVec S2x1024 1 × IVec S2x1024 1 × IVec S2x1024 1 × IVec S1x1024 1 × IVec S1x1024 1 × IVec S1x1024x2048 1 × IVec S1x512 1 × IVec S1x512 1 × IVec S1x8x128x128 1 × IVec S1x8x128 1 × IVec S1x31x512 1 × IVec S1x512 1 × IVec S1x512 1 × IVec S1x512 1 × IVec S1x512 1 × IVec S1x512 1 × IVec S1x1024x1024 1 × IVec S2x2048x1024 1 :=
  let main_v18 : FVec F S1x1024x2048 .f32 := Host.absf main_arg6
  let main_cst_5 : FVec F S_ .f32 := constant S_ .f32 0x7F800000#32
  let main_v19 : FVec F S1x1024x2048 .f32 := broadcastInDim S1x1024x2048 ![] bcast_S_S1x1024x2048 main_cst_5
  let main_v20 : IVec S1x1024x2048 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x8x128x128 .f32 := Host.absf main_arg9
  let main_cst_8 : FVec F S_ .f32 := constant S_ .f32 0x7F800000#32
  let main_v28 : FVec F S1x8x128x128 .f32 := broadcastInDim S1x8x128x128 ![] bcast_S_S1x8x128x128 main_cst_8
  let main_v29 : IVec S1x8x128x128 1 := cmpf .olt main_v27 main_v28
  let main_v30 : FVec F S1x8x128 .f32 := Host.absf main_arg10
  let main_cst_9 : FVec F S_ .f32 := constant S_ .f32 0x7F800000#32
  let main_v31 : FVec F S1x8x128 .f32 := broadcastInDim S1x8x128 ![] bcast_S_S1x8x128 main_cst_9
  let main_v32 : IVec S1x8x128 1 := cmpf .olt main_v30 main_v31
  let main_v33 : FVec F S1x31x512 .f32 := Host.absf main_arg11
  let main_cst_10 : FVec F S_ .f32 := constant S_ .f32 0x7F800000#32
  let main_v34 : FVec F S1x31x512 .f32 := broadcastInDim S1x31x512 ![] bcast_S_S1x31x512 main_cst_10
  let main_v35 : IVec S1x31x512 1 := cmpf .olt main_v33 main_v34
  fn_part2 (F := F) main_arg12 main_arg13 main_arg14 main_arg15 main_arg16 main_arg17 main_arg18 main_v2 main_v5 main_v8 main_v11 main_v14 main_v17 main_v20 main_v23 main_v26 main_v29 main_v32 main_v35

def fn {F : FTy → Type} [FloatOps F] (main_arg0 : FVec F S2x2048x1024 .f32) (main_arg1 : FVec F S2x1024 .f32) (main_arg2 : FVec F S2x1024 .f32) (main_arg3 : FVec F S2x1024 .f32) (main_arg4 : FVec F S1x1024 .f32) (main_arg5 : FVec F S1x1024 .f32) (main_arg6 : FVec F S1x1024x2048 .f32) (main_arg7 : FVec F S1x512 .f32) (main_arg8 : FVec F S1x512 .f32) (main_arg9 : FVec F S1x8x128x128 .f32) (main_arg10 : FVec F S1x8x128 .f32) (main_arg11 : FVec F S1x31x512 .f32) (main_arg12 : FVec F S1x512 .f32) (main_arg13 : FVec F S1x512 .f32) (main_arg14 : FVec F S1x512 .f32) (main_arg15 : FVec F S1x512 .f32) (main_arg16 : FVec F S1x512 .f32) (main_arg17 : FVec F S1x1024x1024 .f32) (main_arg18 : FVec F S2x2048x1024 .f32) : IVec S2x2048x1024 1 × IVec S2x1024 1 × IVec S2x1024 1 × IVec S2x1024 1 × IVec S1x1024 1 × IVec S1x1024 1 × IVec S1x1024x2048 1 × IVec S1x512 1 × IVec S1x512 1 × IVec S1x8x128x128 1 × IVec S1x8x128 1 × IVec S1x31x512 1 × IVec S1x512 1 × IVec S1x512 1 × IVec S1x512 1 × IVec S1x512 1 × IVec S1x512 1 × IVec S1x1024x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_arg11 main_arg12 main_arg13 main_arg14 main_arg15 main_arg16 main_arg17 main_arg18 main_v2 main_v5 main_v8 main_v11 main_v14 main_v17
-- ==== Kernel.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S5632x1024 : Shape := ⟨2, ![5632, 1024]⟩
abbrev S8x704x1024 : Shape := ⟨3, ![8, 704, 1024]⟩
abbrev S2816x1024 : Shape := ⟨2, ![2816, 1024]⟩
abbrev S4x704x1024 : Shape := ⟨3, ![4, 704, 1024]⟩
abbrev S4096x1024 : Shape := ⟨2, ![4096, 1024]⟩
abbrev S2x1x1024 : Shape := ⟨3, ![2, 1, 1024]⟩
abbrev S_ : Shape := ⟨0, ![]⟩
abbrev S2x5x1024 : Shape := ⟨3, ![2, 5, 1024]⟩
abbrev S2x8x1024 : Shape := ⟨3, ![2, 8, 1024]⟩
abbrev S8x1024 : Shape := ⟨2, ![8, 1024]⟩
abbrev S8x704x256 : Shape := ⟨3, ![8, 704, 256]⟩
abbrev S8x704x768 : Shape := ⟨3, ![8, 704, 768]⟩
abbrev S8x4096x704 : Shape := ⟨3, ![8, 4096, 704]⟩
abbrev S4x4096x704 : Shape := ⟨3, ![4, 4096, 704]⟩
abbrev S256x1024 : Shape := ⟨2, ![256, 1024]⟩
abbrev S1x8x1024 : Shape := ⟨3, ![1, 8, 1024]⟩
abbrev S8x256x704 : Shape := ⟨3, ![8, 256, 704]⟩
abbrev S4x256x704 : Shape := ⟨3, ![4, 256, 704]⟩
abbrev S1x1x1024 : Shape := ⟨3, ![1, 1, 1024]⟩
abbrev S256 : Shape := ⟨1, ![256]⟩
abbrev S256x1 : Shape := ⟨2, ![256, 1]⟩
abbrev S256x256 : Shape := ⟨2, ![256, 256]⟩
abbrev S256x768 : Shape := ⟨2, ![256, 768]⟩
abbrev S1x704x256 : Shape := ⟨3, ![1, 704, 256]⟩
abbrev S704x256 : Shape := ⟨2, ![704, 256]⟩
abbrev S256x704 : Shape := ⟨2, ![256, 704]⟩
abbrev S1x704x768 : Shape := ⟨3, ![1, 704, 768]⟩
abbrev S704x768 : Shape := ⟨2, ![704, 768]⟩
abbrev S1x256x704 : Shape := ⟨3, ![1, 256, 704]⟩
abbrev S1x704x1024 : Shape := ⟨3, ![1, 704, 1024]⟩
abbrev S704x1024 : Shape := ⟨2, ![704, 1024]⟩
abbrev S1024 : Shape := ⟨1, ![1024]⟩
abbrev S1 : Shape := ⟨1, ![1]⟩
abbrev S1x1 : Shape := ⟨2, ![1, 1]⟩

abbrev nBuf : Space → Nat
  | .hbm => 37
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S2x2048x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S8x704x1024, .bf16⟩
  | .hbm, ⟨13, _⟩ => ⟨S2816x1024, .f32⟩
  | .hbm, ⟨14, _⟩ => ⟨S2816x1024, .bf16⟩
  | .hbm, ⟨15, _⟩ => ⟨S4x704x1024, .bf16⟩
  | .hbm, ⟨16, _⟩ => ⟨S4096x1024, .f32⟩
  | .hbm, ⟨17, _⟩ => ⟨S4096x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S_, .f32⟩
  | .hbm, ⟨22, _⟩ => ⟨S2x5x1024, .f32⟩
  | .hbm, ⟨23, _⟩ => ⟨S2x8x1024, .f32⟩
  | .hbm, ⟨24, _⟩ => ⟨S_, .f32⟩
  | .hbm, ⟨25, _⟩ => ⟨S1x1024, .f32⟩
  | .hbm, ⟨26, _⟩ => ⟨S8x1024, .f32⟩
  | .hbm, ⟨27, _⟩ => ⟨S8x704x256, .bf16⟩
  | .hbm, ⟨28, _⟩ => ⟨S8x704x768, .bf16⟩
  | .hbm, ⟨29, _⟩ => ⟨S4096x1024, .f32⟩
  | .hbm, ⟨30, _⟩ => ⟨S8x4096x704, .bf16⟩
  | .hbm, ⟨31, _⟩ => ⟨S4x4096x704, .bf16⟩
  | .hbm, ⟨32, _⟩ => ⟨S4096x1024, .bf16⟩
  | .hbm, ⟨33, _⟩ => ⟨S4096x1024, .bf16⟩
  | .hbm, ⟨34, _⟩ => ⟨S2x8x1024, .f32⟩
  | .hbm, ⟨35, _⟩ => ⟨S8x1024, .f32⟩
  | .hbm, ⟨36, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S8x1024, .f32⟩
  | .local _ .vmem, ⟨7, _⟩ => ⟨S8x704x256, .bf16⟩
  | .local _ .vmem, ⟨8, _⟩ => ⟨S8x704x768, .bf16⟩
  | .local _ .vmem, ⟨9, _⟩ => ⟨S4x704x1024, .bf16⟩
  | .local _ .vmem, ⟨10, _⟩ => ⟨S256x1024, .f32⟩
  | .local _ .vmem, ⟨11, _⟩ => ⟨S256x1024, .f32⟩
  | .local _ .vmem, ⟨12, _⟩ => ⟨S8x256x704, .bf16⟩
  | .local _ .vmem, ⟨13, _⟩ => ⟨S8x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x8x1024, .f32⟩
  | .local _ .vmem, ⟨21, _⟩ => ⟨S1x8x1024, .f32⟩
  | .local _ .vmem, ⟨22, _⟩ => ⟨S8x1024, .f32⟩
  | .local _ .vmem, ⟨23, _⟩ => ⟨S8x1024, .f32⟩
  | .local _ .vmem, ⟨24, _⟩ => ⟨S8x256x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x704x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S2x2048x5632 : Shape := ⟨3, ![2, 2048, 5632]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x5632 : Shape := ⟨2, ![1024, 5632]⟩
abbrev S2x2048x2816 : Shape := ⟨3, ![2, 2048, 2816]⟩
abbrev S2816x1024 : Shape := ⟨2, ![2816, 1024]⟩
abbrev S2x8x1024 : Shape := ⟨3, ![2, 8, 1024]⟩
abbrev S6x1024 : Shape := ⟨2, ![6, 1024]⟩
abbrev S8x1024 : Shape := ⟨2, ![8, 1024]⟩
abbrev S4096x1024 : Shape := ⟨2, ![4096, 1024]⟩
abbrev S4096x8x704 : Shape := ⟨3, ![4096, 8, 704]⟩
abbrev S8x4096x704 : Shape := ⟨3, ![8, 4096, 704]⟩
abbrev S4096x4x704 : Shape := ⟨3, ![4096, 4, 704]⟩
abbrev S4x4096x704 : Shape := ⟨3, ![4, 4096, 704]⟩

abbrev nBuf : Space → Nat
  | .hbm => 228
  | .vmem => 0
  | .smem => 0
  | _ => 0

abbrev hbmTy0_0 (i : Nat) : BufTy := match i % 128 with
  | 0 => ⟨S2x2048x1024, .f32⟩
  | 1 => ⟨S2x1024, .f32⟩
  | 2 => ⟨S2x1024, .f32⟩
  | 3 => ⟨S2x1024, .f32⟩
  | 4 => ⟨S1x1024, .f32⟩
  | 5 => ⟨S1x1024, .f32⟩
  | 6 => ⟨S1x1024x5632, .f32⟩
  | 7 => ⟨S1x2816x1024, .f32⟩
  | 8 => ⟨S2x2048x1024, .f32⟩
  | 9 => ⟨S_, .f32⟩
  | 10 => ⟨S2x2048x5632, .f32⟩
  | 11 => ⟨S_, .f32⟩
  | 12 => ⟨S2x2048x1024, .f32⟩
  | 13 => ⟨S1024, .f32⟩
  | 14 => ⟨S2x2048x1024, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x1x1024, .f32⟩
  | 35 => ⟨S_, .f32⟩
  | 36 => ⟨S2x1x1024, .f32⟩
  | 37 => ⟨S2x1x1024, .f32⟩
  | 38 => ⟨S2x2048x1024, .f32⟩
  | 39 => ⟨S2x2048x1024, .f32⟩
  | 40 => ⟨S2x1x1024, .f32⟩
  | 41 => ⟨S2x2048x1024, .f32⟩
  | 42 => ⟨S2x2048x1024, .f32⟩
  | 43 => ⟨S1024x5632, .f32⟩
  | 44 => ⟨S2x2048x5632, .f32⟩
  | 45 => ⟨S2x2048x5632, .f32⟩
  | 46 => ⟨S2x2048x2816, .f32⟩
  | 47 => ⟨S2x2048x2816, .f32⟩
  | 48 => ⟨S2x2048x2816, .f32⟩
  | 49 => ⟨S2x2048x2816, .f32⟩
  | 50 => ⟨S_, .f32⟩
  | 51 => ⟨S2x2048x2816, .f32⟩
  | 52 => ⟨S2x2048x2816, .f32⟩
  | 53 => ⟨S_, .f32⟩
  | 54 => ⟨S2x2048x2816, .f32⟩
  | 55 => ⟨S2x2048x2816, .f32⟩
  | 56 => ⟨S_, .f32⟩
  | 57 => ⟨S2x2048x2816, .f32⟩
  | 58 => ⟨S2x2048x2816, .f32⟩
  | 59 => ⟨S2x2048x2816, .f32⟩
  | 60 => ⟨S2x2048x2816, .f32⟩
  | 61 => ⟨S2x2048x2816, .f32⟩
  | 62 => ⟨S2816x1024, .f32⟩
  | 63 => ⟨S2x2048x1024, .f32⟩
  | 64 => ⟨S2x2048x1024, .f32⟩
  | 65 => ⟨S2x1x1024, .f32⟩
  | 66 => ⟨S_, .f32⟩
  | 67 => ⟨S2x1x1024, .f32⟩
  | 68 => ⟨S2x1x1024, .f32⟩
  | 69 => ⟨S1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S_, .f32⟩
  | 96 => ⟨S2x2048x1024, .f32⟩
  | 97 => ⟨S2x2048x1024, .f32⟩
  | 98 => ⟨S_, .f32⟩
  | 99 => ⟨S2x2048, .f32⟩
  | 100 => ⟨S_, .f32⟩
  | 101 => ⟨S2x2048, .f32⟩
  | 102 => ⟨S2x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2x2048, .f32⟩
  | 111 => ⟨S_, .f32⟩
  | 112 => ⟨S2x2048, .f32⟩
  | 113 => ⟨S2x2048, .f32⟩
  | 114 => ⟨S2x2048x1024, .f32⟩
  | 115 => ⟨S2x2048x1024, .f32⟩
  | 116 => ⟨S2x2048x1024, .f32⟩
  | 117 => ⟨S2x2048x1024, .f32⟩
  | 118 => ⟨S2x2048x1024, .f32⟩
  | 119 => ⟨S_, .f32⟩
  | 120 => ⟨S2x1024, .f32⟩
  | 121 => ⟨S2x1x1024, .f32⟩
  | 122 => ⟨S2x2048x1024, .f32⟩
  | 123 => ⟨S_, .f32⟩
  | 124 => ⟨S1024, .f32⟩
  | 125 => ⟨S1x1x1024, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S1024, .f32⟩
  | 2 => ⟨S2x2048x1024, .f32⟩
  | 3 => ⟨S_, .f32⟩
  | 4 => ⟨S2x2048, .f32⟩
  | 5 => ⟨S2x2048x1, .f32⟩
  | 6 => ⟨S2x2048x1024, .f32⟩
  | 7 => ⟨S2x2048x1024, .f32⟩
  | 8 => ⟨S2x2048x1, .f32⟩
  | 9 => ⟨S_, .f32⟩
  | 10 => ⟨S2x2048x1, .f32⟩
  | 11 => ⟨S2x2048x1, .f32⟩
  | 12 => ⟨S_, .f32⟩
  | 13 => ⟨S2x2048, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S1x1024, .f32⟩
  | 20 => ⟨S_, .f32⟩
  | 21 => ⟨S2x1x1024, .f32⟩
  | 22 => ⟨S2x1x1024, .f32⟩
  | 23 => ⟨S_, .f32⟩
  | 24 => ⟨S2x1024, .f32⟩
  | 25 => ⟨S2x2048x2816, .f32⟩
  | 26 => ⟨S2x2048x2816, .f32⟩
  | 27 => ⟨S2x2048x2816, .f32⟩
  | 28 => ⟨S2x2048x2816, .f32⟩
  | 29 => ⟨S2x2048x2816, .f32⟩
  | 30 => ⟨S2x2048x2816, .f32⟩
  | 31 => ⟨S2x2048x2816, .f32⟩
  | 32 => ⟨S2x2048x5632, .f32⟩
  | 33 => ⟨S2x2048x1024, .f32⟩
  | 34 => ⟨S_, .f32⟩
  | 35 => ⟨S2x1024, .f32⟩
  | 36 => ⟨S2x1x1024, .f32⟩
  | 37 => ⟨S_, .f32⟩
  | 38 => ⟨S2x1024, .f32⟩
  | 39 => ⟨S2x2048x1024, .f32⟩
  | 40 => ⟨S_, .f32⟩
  | 41 => ⟨S2x1024, .f32⟩
  | 42 => ⟨S2x1x1024, .f32⟩
  | 43 => ⟨S2x2048x1024, .f32⟩
  | 44 => ⟨S2x2048x1024, .f32⟩
  | 45 => ⟨S_, .f32⟩
  | 46 => ⟨S2x1024, .f32⟩
  | 47 => ⟨S2x2048x1024, .f32⟩
  | 48 => ⟨S_, .f32⟩
  | 49 => ⟨S1024, .f32⟩
  | 50 => ⟨S1x1x1024, .f32⟩
  | 51 => ⟨S2x2048x1024, .f32⟩
  | 52 => ⟨S2x2048x1024, .f32⟩
  | 53 => ⟨S_, .f32⟩
  | 54 => ⟨S1024, .f32⟩
  | 55 => ⟨S2x2048x1024, .f32⟩
  | 56 => ⟨S_, .f32⟩
  | 57 => ⟨S2x2048, .f32⟩
  | 58 => ⟨S2x2048x1, .f32⟩
  | 59 => ⟨S2x2048x1024, .f32⟩
  | 60 => ⟨S2x2048x1024, .f32⟩
  | 61 => ⟨S2x2048x1024, .f32⟩
  | 62 => ⟨S2x2048x1, .f32⟩
  | 63 => ⟨S_, .f32⟩
  | 64 => ⟨S2x2048x1, .f32⟩
  | 65 => ⟨S2x2048x1, .f32⟩
  | 66 => ⟨S_, .f32⟩
  | 67 => ⟨S2x2048, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S1x1024, .f32⟩
  | 74 => ⟨S_, .f32⟩
  | 75 => ⟨S2x1024, .f32⟩
  | 76 => ⟨S2x1x1024, .f32⟩
  | 77 => ⟨S2x1x1024, .f32⟩
  | 78 => ⟨S2x1x1024, .f32⟩
  | 79 => ⟨S2x1x1024, .f32⟩
  | 80 => ⟨S2x1x1024, .f32⟩
  | 81 => ⟨S2x1x1024, .f32⟩
  | 82 => ⟨S2x1x1024, .f32⟩
  | 83 => ⟨S2x1x1024, .f32⟩
  | 84 => ⟨S2x8x1024, .f32⟩
  | 85 => ⟨S_, .f32⟩
  | 86 => ⟨S6x1024, .f32⟩
  | 87 => ⟨S8x1024, .f32⟩
  | 88 => ⟨S4096x1024, .f32⟩
  | 89 => ⟨S4096x8x704, .f32⟩
  | 90 => ⟨S8x4096x704, .f32⟩
  | 91 => ⟨S8x4096x704, .bf16⟩
  | 92 => ⟨S4096x4x704, .f32⟩
  | 93 => ⟨S4x4096x704, .f32⟩
  | 94 => ⟨S4x4096x704, .bf16⟩
  | 95 => ⟨S4096x1024, .f32⟩
  | 96 => ⟨S4096x1024, .bf16⟩
  | 97 => ⟨S4096x1024, .f32⟩
  | 98 => ⟨S4096x1024, .bf16⟩
  | 99 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_cst_16 : Ref sig .tc := ⟨.hbm, 107, rfl⟩
abbrev main_cst_17 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_19 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_23 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_25 : Ref sig .tc := ⟨.hbm, 148, rfl⟩
abbrev main_v101 : Ref sig .tc := ⟨.hbm, 149, rfl⟩
abbrev main_v102 : Ref sig .tc := ⟨.hbm, 150, rfl⟩
abbrev main_cst_26 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_v111 : Ref sig .tc := ⟨.hbm, 164, rfl⟩
abbrev main_cst_28 : Ref sig .tc := ⟨.hbm, 165, rfl⟩
abbrev main_v112 : Ref sig .tc := ⟨.hbm, 166, rfl⟩
abbrev main_v113 : Ref sig .tc := ⟨.hbm, 167, rfl⟩
abbrev main_cst_29 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_30 : Ref sig .tc := ⟨.hbm, 173, rfl⟩
abbrev main_v118 : Ref sig .tc := ⟨.hbm, 174, rfl⟩
abbrev main_v119 : Ref sig .tc := ⟨.hbm, 175, rfl⟩
abbrev main_cst_31 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_32 : Ref sig .tc := ⟨.hbm, 181, rfl⟩
abbrev main_v124 : Ref sig .tc := ⟨.hbm, 182, rfl⟩
abbrev main_v125 : Ref sig .tc := ⟨.hbm, 183, rfl⟩
abbrev main_cst_33 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_34 : Ref sig .tc := ⟨.hbm, 191, rfl⟩
abbrev main_v132 : Ref sig .tc := ⟨.hbm, 192, rfl⟩
abbrev main_v133 : Ref sig .tc := ⟨.hbm, 193, rfl⟩
abbrev main_cst_35 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_36 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_37 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩

abbrev nD : Nat := 1
abbrev τ : Topo := Topo.v7x

variable {F : FTy → Type} [FloatOps F]
-- ==== Kernel1.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x1x1024 : Shape := ⟨3, ![2, 1, 1024]⟩
abbrev S_ : Shape := ⟨0, ![]⟩
abbrev S2x5x1024 : Shape := ⟨3, ![2, 5, 1024]⟩
abbrev S2x8x1024 : Shape := ⟨3, ![2, 8, 1024]⟩
abbrev S8x1024 : Shape := ⟨2, ![8, 1024]⟩
abbrev S1024x5632 : Shape := ⟨2, ![1024, 5632]⟩
abbrev S5632x1024 : Shape := ⟨2, ![5632, 1024]⟩
abbrev S8x704x1024 : Shape := ⟨3, ![8, 704, 1024]⟩
abbrev S2816x1024 : Shape := ⟨2, ![2816, 1024]⟩
abbrev S4x704x1024 : Shape := ⟨3, ![4, 704, 1024]⟩
abbrev S4096x1024 : Shape := ⟨2, ![4096, 1024]⟩
abbrev S8x4096x704 : Shape := ⟨3, ![8, 4096, 704]⟩
abbrev S256x1024 : Shape := ⟨2, ![256, 1024]⟩
abbrev S1x8x1024 : Shape := ⟨3, ![1, 8, 1024]⟩
abbrev S8x256x704 : Shape := ⟨3, ![8, 256, 704]⟩
abbrev S1x1x1024 : Shape := ⟨3, ![1, 1, 1024]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S4x4096x704 : Shape := ⟨3, ![4, 4096, 704]⟩
abbrev S4x256x704 : Shape := ⟨3, ![4, 256, 704]⟩
abbrev S1024 : Shape := ⟨1, ![1024]⟩

abbrev nBuf : Space → Nat
  | .hbm => 37
  | .vmem => 39
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S2x2048x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x5x1024, .f32⟩
  | .hbm, ⟨14, _⟩ => ⟨S2x8x1024, .f32⟩
  | .hbm, ⟨15, _⟩ => ⟨S_, .f32⟩
  | .hbm, ⟨16, _⟩ => ⟨S1x1024, .f32⟩
  | .hbm, ⟨17, _⟩ => ⟨S8x1024, .f32⟩
  | .hbm, ⟨18, _⟩ => ⟨S1024x5632, .f32⟩
  | .hbm, ⟨19, _⟩ => ⟨S5632x1024, .f32⟩
  | .hbm, ⟨20, _⟩ => ⟨S5632x1024, .bf16⟩
  | .hbm, ⟨21, _⟩ => ⟨S8x704x1024, .bf16⟩
  | .hbm, ⟨22, _⟩ => ⟨S2816x1024, .f32⟩
  | .hbm, ⟨23, _⟩ => ⟨S2816x1024, .bf16⟩
  | .hbm, ⟨24, _⟩ => ⟨S4x704x1024, .bf16⟩
  | .hbm, ⟨25, _⟩ => ⟨S4096x1024, .f32⟩
  | .hbm, ⟨26, _⟩ => ⟨S4096x1024, .f32⟩
  | .hbm, ⟨27, _⟩ => ⟨S8x4096x704, .bf16⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S8x4096x704, .bf16⟩
  | .hbm, ⟨32, _⟩ => ⟨S4x4096x704, .bf16⟩
  | .hbm, ⟨33, _⟩ => ⟨S4096x1024, .bf16⟩
  | .hbm, ⟨34, _⟩ => ⟨S4096x1024, .bf16⟩
  | .hbm, ⟨35, _⟩ => ⟨S2x8x1024, .f32⟩
  | .hbm, ⟨36, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S8x704x1024, .bf16⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S8x256x704, .bf16⟩
  | .local _ .vmem, ⟨10, _⟩ => ⟨S8x256x704, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x256x704, .bf16⟩
  | .local _ .vmem, ⟨20, _⟩ => ⟨S8x256x704, .bf16⟩
  | .local _ .vmem, ⟨21, _⟩ => ⟨S1x8x1024, .f32⟩
  | .local _ .vmem, ⟨22, _⟩ => ⟨S1x8x1024, .f32⟩
  | .local _ .vmem, ⟨23, _⟩ => ⟨S8x1024, .f32⟩
  | .local _ .vmem, ⟨24, _⟩ => ⟨S8x704x1024, .bf16⟩
  | .local _ .vmem, ⟨25, _⟩ => ⟨S4x704x1024, .bf16⟩
  | .local _ .vmem, ⟨26, _⟩ => ⟨S256x1024, .f32⟩
  | .local _ .vmem, ⟨27, _⟩ => ⟨S256x1024, .f32⟩
  | .local _ .vmem, ⟨28, _⟩ => ⟨S8x256x704, .bf16⟩
  | .local _ .vmem, ⟨29, _⟩ => ⟨S8x256x704, .bf16⟩
  | .local _ .vmem, ⟨30, _⟩ => ⟨S4x256x704, .bf16⟩
  | .local _ .vmem, ⟨31, _⟩ => ⟨S4x256x704, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1x8x1024, .f32⟩
  | .local _ .vmem, ⟨37, _⟩ => ⟨S1x8x1024, .f32⟩
  | .local _ .vmem, ⟨38, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev main_v17_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x704x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x704x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x256x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x256x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S8x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== Reference1Ideal.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S2x2048x5632 : Shape := ⟨3, ![2, 2048, 5632]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x5632 : Shape := ⟨2, ![1024, 5632]⟩
abbrev S2x2048x2816 : Shape := ⟨3, ![2, 2048, 2816]⟩
abbrev S2816x1024 : Shape := ⟨2, ![2816, 1024]⟩
abbrev S2x8x1024 : Shape := ⟨3, ![2, 8, 1024]⟩
abbrev S6x1024 : Shape := ⟨2, ![6, 1024]⟩
abbrev S8x1024 : Shape := ⟨2, ![8, 1024]⟩
abbrev S4096x1024 : Shape := ⟨2, ![4096, 1024]⟩
abbrev S4096x8x704 : Shape := ⟨3, ![4096, 8, 704]⟩
abbrev S8x4096x704 : Shape := ⟨3, ![8, 4096, 704]⟩
abbrev S4096x4x704 : Shape := ⟨3, ![4096, 4, 704]⟩
abbrev S4x4096x704 : Shape := ⟨3, ![4, 4096, 704]⟩

abbrev nBuf : Space → Nat
  | .hbm => 206
  | .vmem => 0
  | .smem => 0
  | _ => 0

abbrev hbmTy0_0 (i : Nat) : BufTy := match i % 128 with
  | 0 => ⟨S2x2048x1024, .f32⟩
  | 1 => ⟨S2x1024, .f32⟩
  | 2 => ⟨S2x1024, .f32⟩
  | 3 => ⟨S2x1024, .f32⟩
  | 4 => ⟨S1x1024, .f32⟩
  | 5 => ⟨S1x1024, .f32⟩
  | 6 => ⟨S1x1024x5632, .f32⟩
  | 7 => ⟨S1x2816x1024, .f32⟩
  | 8 => ⟨S2x2048x1024, .f32⟩
  | 9 => ⟨S_, .f32⟩
  | 10 => ⟨S2x2048x5632, .f32⟩
  | 11 => ⟨S_, .f32⟩
  | 12 => ⟨S2x2048x1024, .f32⟩
  | 13 => ⟨S1024, .f32⟩
  | 14 => ⟨S2x2048x1024, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x1x1024, .f32⟩
  | 35 => ⟨S_, .f32⟩
  | 36 => ⟨S2x1x1024, .f32⟩
  | 37 => ⟨S2x1x1024, .f32⟩
  | 38 => ⟨S2x2048x1024, .f32⟩
  | 39 => ⟨S2x2048x1024, .f32⟩
  | 40 => ⟨S2x1x1024, .f32⟩
  | 41 => ⟨S2x2048x1024, .f32⟩
  | 42 => ⟨S2x2048x1024, .f32⟩
  | 43 => ⟨S1024x5632, .f32⟩
  | 44 => ⟨S2x2048x5632, .f32⟩
  | 45 => ⟨S2x2048x5632, .f32⟩
  | 46 => ⟨S2x2048x2816, .f32⟩
  | 47 => ⟨S2x2048x2816, .f32⟩
  | 48 => ⟨S2x2048x2816, .f32⟩
  | 49 => ⟨S2x2048x2816, .f32⟩
  | 50 => ⟨S_, .f32⟩
  | 51 => ⟨S2x2048x2816, .f32⟩
  | 52 => ⟨S2x2048x2816, .f32⟩
  | 53 => ⟨S_, .f32⟩
  | 54 => ⟨S2x2048x2816, .f32⟩
  | 55 => ⟨S2x2048x2816, .f32⟩
  | 56 => ⟨S_, .f32⟩
  | 57 => ⟨S2x2048x2816, .f32⟩
  | 58 => ⟨S2x2048x2816, .f32⟩
  | 59 => ⟨S2x2048x2816, .f32⟩
  | 60 => ⟨S2x2048x2816, .f32⟩
  | 61 => ⟨S2x2048x2816, .f32⟩
  | 62 => ⟨S2816x1024, .f32⟩
  | 63 => ⟨S2x2048x1024, .f32⟩
  | 64 => ⟨S2x2048x1024, .f32⟩
  | 65 => ⟨S2x1x1024, .f32⟩
  | 66 => ⟨S_, .f32⟩
  | 67 => ⟨S2x1x1024, .f32⟩
  | 68 => ⟨S2x1x1024, .f32⟩
  | 69 => ⟨S1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S_, .f32⟩
  | 98 => ⟨S2x1024, .f32⟩
  | 99 => ⟨S2x1x1024, .f32⟩
  | 100 => ⟨S2x2048x1024, .f32⟩
  | 101 => ⟨S_, .f32⟩
  | 102 => ⟨S1024, .f32⟩
  | 103 => ⟨S1x1x1024, .f32⟩
  | 104 => ⟨S2x2048x1024, .f32⟩
  | 105 => ⟨S2x2048x1024, .f32⟩
  | 106 => ⟨S_, .f32⟩
  | 107 => ⟨S1024, .f32⟩
  | 108 => ⟨S2x2048x1024, .f32⟩
  | 109 => ⟨S_, .f32⟩
  | 110 => ⟨S2x2048, .f32⟩
  | 111 => ⟨S2x2048x1, .f32⟩
  | 112 => ⟨S2x2048x1024, .f32⟩
  | 113 => ⟨S2x2048x1024, .f32⟩
  | 114 => ⟨S2x2048x1, .f32⟩
  | 115 => ⟨S_, .f32⟩
  | 116 => ⟨S2x2048x1, .f32⟩
  | 117 => ⟨S2x2048x1, .f32⟩
  | 118 => ⟨S_, .f32⟩
  | 119 => ⟨S2x2048, .f32⟩
  | 120 => ⟨S2x2048x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S1x1024, .f32⟩
  | 126 => ⟨S_, .f32⟩
  | 127 => ⟨S2x1x1024, .f32⟩
  | _ => ⟨S2x2048x1024, .f32⟩

abbrev hbmTy0_1 (i : Nat) : BufTy := match i % 128 with
  | 0 => ⟨S2x1x1024, .f32⟩
  | 1 => ⟨S_, .f32⟩
  | 2 => ⟨S2x1024, .f32⟩
  | 3 => ⟨S2x2048x2816, .f32⟩
  | 4 => ⟨S2x2048x2816, .f32⟩
  | 5 => ⟨S2x2048x2816, .f32⟩
  | 6 => ⟨S2x2048x2816, .f32⟩
  | 7 => ⟨S2x2048x2816, .f32⟩
  | 8 => ⟨S2x2048x2816, .f32⟩
  | 9 => ⟨S2x2048x2816, .f32⟩
  | 10 => ⟨S2x2048x5632, .f32⟩
  | 11 => ⟨S2x2048x1024, .f32⟩
  | 12 => ⟨S_, .f32⟩
  | 13 => ⟨S2x1024, .f32⟩
  | 14 => ⟨S2x1x1024, .f32⟩
  | 15 => ⟨S_, .f32⟩
  | 16 => ⟨S2x1024, .f32⟩
  | 17 => ⟨S2x2048x1024, .f32⟩
  | 18 => ⟨S_, .f32⟩
  | 19 => ⟨S2x1024, .f32⟩
  | 20 => ⟨S2x1x1024, .f32⟩
  | 21 => ⟨S2x2048x1024, .f32⟩
  | 22 => ⟨S2x2048x1024, .f32⟩
  | 23 => ⟨S_, .f32⟩
  | 24 => ⟨S2x1024, .f32⟩
  | 25 => ⟨S2x2048x1024, .f32⟩
  | 26 => ⟨S_, .f32⟩
  | 27 => ⟨S1024, .f32⟩
  | 28 => ⟨S1x1x1024, .f32⟩
  | 29 => ⟨S2x2048x1024, .f32⟩
  | 30 => ⟨S2x2048x1024, .f32⟩
  | 31 => ⟨S_, .f32⟩
  | 32 => ⟨S1024, .f32⟩
  | 33 => ⟨S2x2048x1024, .f32⟩
  | 34 => ⟨S_, .f32⟩
  | 35 => ⟨S2x2048, .f32⟩
  | 36 => ⟨S2x2048x1, .f32⟩
  | 37 => ⟨S2x2048x1024, .f32⟩
  | 38 => ⟨S2x2048x1024, .f32⟩
  | 39 => ⟨S2x2048x1024, .f32⟩
  | 40 => ⟨S2x2048x1, .f32⟩
  | 41 => ⟨S_, .f32⟩
  | 42 => ⟨S2x2048x1, .f32⟩
  | 43 => ⟨S2x2048x1, .f32⟩
  | 44 => ⟨S_, .f32⟩
  | 45 => ⟨S2x2048, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S1x1024, .f32⟩
  | 52 => ⟨S_, .f32⟩
  | 53 => ⟨S2x1024, .f32⟩
  | 54 => ⟨S2x1x1024, .f32⟩
  | 55 => ⟨S2x1x1024, .f32⟩
  | 56 => ⟨S2x1x1024, .f32⟩
  | 57 => ⟨S2x1x1024, .f32⟩
  | 58 => ⟨S2x1x1024, .f32⟩
  | 59 => ⟨S2x1x1024, .f32⟩
  | 60 => ⟨S2x1x1024, .f32⟩
  | 61 => ⟨S2x1x1024, .f32⟩
  | 62 => ⟨S2x8x1024, .f32⟩
  | 63 => ⟨S_, .f32⟩
  | 64 => ⟨S6x1024, .f32⟩
  | 65 => ⟨S8x1024, .f32⟩
  | 66 => ⟨S4096x1024, .f32⟩
  | 67 => ⟨S4096x1024, .f32⟩
  | 68 => ⟨S4096x8x704, .f32⟩
  | 69 => ⟨S8x4096x704, .f32⟩
  | 70 => ⟨S8x4096x704, .bf16⟩
  | 71 => ⟨S4096x4x704, .f32⟩
  | 72 => ⟨S4x4096x704, .f32⟩
  | 73 => ⟨S4x4096x704, .bf16⟩
  | 74 => ⟨S4096x1024, .f32⟩
  | 75 => ⟨S4096x1024, .bf16⟩
  | 76 => ⟨S4096x1024, .f32⟩
  | 77 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_19 : Ref sig .tc := ⟨.hbm, 140, rfl⟩
abbrev main_v96 : Ref sig .tc := ⟨.hbm, 141, rfl⟩
abbrev main_v97 : Ref sig .tc := ⟨.hbm, 142, rfl⟩
abbrev main_cst_20 : Ref sig .tc := ⟨.hbm, 143, rfl⟩
abbrev main_v98 : Ref sig .tc := ⟨.hbm, 144, rfl⟩
abbrev main_v99 : Ref sig .tc := ⟨.hbm, 145, rfl⟩
abbrev main_cst_21 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_22 : Ref sig .tc := ⟨.hbm, 151, rfl⟩
abbrev main_v104 : Ref sig .tc := ⟨.hbm, 152, rfl⟩
abbrev main_v105 : Ref sig .tc := ⟨.hbm, 153, rfl⟩
abbrev main_cst_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_24 : Ref sig .tc := ⟨.hbm, 159, rfl⟩
abbrev main_v110 : Ref sig .tc := ⟨.hbm, 160, rfl⟩
abbrev main_v111 : Ref sig .tc := ⟨.hbm, 161, rfl⟩
abbrev main_cst_25 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_26 : Ref sig .tc := ⟨.hbm, 169, rfl⟩
abbrev main_v118 : Ref sig .tc := ⟨.hbm, 170, rfl⟩
abbrev main_v119 : Ref sig .tc := ⟨.hbm, 171, rfl⟩
abbrev main_cst_27 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_28 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_29 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x1024 : Shape := ⟨2, ![2, 1024]⟩
abbrev S1x1024 : Shape := ⟨2, ![1, 1024]⟩
abbrev S1x1024x2048 : Shape := ⟨3, ![1, 1024, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x2048 : Shape := ⟨2, ![1024, 2048]⟩
abbrev S2x2048x2048 : Shape := ⟨3, ![2, 2048, 2048]⟩
abbrev S2x2048x512 : Shape := ⟨3, ![2, 2048, 512]⟩
abbrev S2x2078x512 : Shape := ⟨3, ![2, 2078, 512]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2x2048x31x512 : Shape := ⟨4, ![2, 2048, 31, 512]⟩
abbrev S31x512 : Shape := ⟨2, ![31, 512]⟩
abbrev S1x1x31x512 : Shape := ⟨4, ![1, 1, 31, 512]⟩
abbrev S512 : Shape := ⟨1, ![512]⟩
abbrev S1x1x512 : Shape := ⟨3, ![1, 1, 512]⟩
abbrev S32x128x8x64 : Shape := ⟨4, ![32, 128, 8, 64]⟩
abbrev S32x8x128x64 : Shape := ⟨4, ![32, 8, 128, 64]⟩
abbrev S128x128 : Shape := ⟨2, ![128, 128]⟩
abbrev S1x128x128 : Shape := ⟨3, ![1, 128, 128]⟩
abbrev S8x128x128 : Shape := ⟨3, ![8, 128, 128]⟩
abbrev S1x8x128x128x1 : Shape := ⟨5, ![1, 8, 128, 128, 1]⟩
abbrev S32x8x1x128x64 : Shape := ⟨5, ![32, 8, 1, 128, 64]⟩
abbrev S32x8x128x128x64 : Shape := ⟨5, ![32, 8, 128, 128, 64]⟩
abbrev S8x128 : Shape := ⟨2, ![8, 128]⟩
abbrev S128x8 : Shape := ⟨2, ![128, 8]⟩
abbrev S128x8x1 : Shape := ⟨3, ![128, 8, 1]⟩
abbrev S128x8x64 : Shape := ⟨3, ![128, 8, 64]⟩
abbrev S1x128x8x64 : Shape := ⟨4, ![1, 128, 8, 64]⟩
abbrev S1024x1024 : Shape := ⟨2, ![1024, 1024]⟩
abbrev S8x512 : Shape := ⟨2, ![8, 512]⟩
abbrev S128x512 : Shape := ⟨2, ![128, 512]⟩
abbrev S4096x1024 : Shape := ⟨2, ![4096, 1024]⟩
abbrev S4096x2048 : Shape := ⟨2, ![4096, 2048]⟩
abbrev S4096x512 : Shape := ⟨2, ![4096, 512]⟩
abbrev S2x5x1024 : Shape := ⟨3, ![2, 5, 1024]⟩
abbrev S2x8x1024 : Shape := ⟨3, ![2, 8, 1024]⟩
abbrev S8x1024 : Shape := ⟨2, ![8, 1024]⟩
abbrev S256x1024 : Shape := ⟨2, ![256, 1024]⟩
abbrev S256x512 : Shape := ⟨2, ![256, 512]⟩
abbrev S1x8x1024 : Shape := ⟨3, ![1, 8, 1024]⟩
abbrev S256x2048 : Shape := ⟨2, ![256, 2048]⟩
abbrev S256 : Shape := ⟨1, ![256]⟩
abbrev S256x1 : Shape := ⟨2, ![256, 1]⟩

abbrev nBuf : Space → Nat
  | .hbm => 280
  | .vmem => 29
  | .smem => 0
  | _ => 0

abbrev hbmTy0_0 (i : Nat) : BufTy := match i % 128 with
  | 0 => ⟨S2x2048x1024, .f32⟩
  | 1 => ⟨S2x1024, .f32⟩
  | 2 => ⟨S2x1024, .f32⟩
  | 3 => ⟨S2x1024, .f32⟩
  | 4 => ⟨S1x1024, .f32⟩
  | 5 => ⟨S1x1024, .f32⟩
  | 6 => ⟨S1x1024x2048, .f32⟩
  | 7 => ⟨S1x512, .f32⟩
  | 8 => ⟨S1x512, .f32⟩
  | 9 => ⟨S1x8x128x128, .f32⟩
  | 10 => ⟨S1x8x128, .f32⟩
  | 11 => ⟨S1x31x512, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x1024x1024, .f32⟩
  | 18 => ⟨S2x2048x1024, .f32⟩
  | 19 => ⟨S1024, .f32⟩
  | 20 => ⟨S2x2048x1024, .f32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S_, .f32⟩
  | 28 => ⟨S2x2048x1, .f32⟩
  | 29 => ⟨S2x2048x1, .f32⟩
  | 30 => ⟨S2x2048x1, .f32⟩
  | 31 => ⟨S2x2048x1024, .f32⟩
  | 32 => ⟨S2x2048x1024, .f32⟩
  | 33 => ⟨S1x1x1024, .f32⟩
  | 34 => ⟨S2x2048x1024, .f32⟩
  | 35 => ⟨S2x2048x1024, .f32⟩
  | 36 => ⟨S2x1x1024, .f32⟩
  | 37 => ⟨S_, .f32⟩
  | 38 => ⟨S2x1x1024, .f32⟩
  | 39 => ⟨S2x1x1024, .f32⟩
  | 40 => ⟨S2x2048x1024, .f32⟩
  | 41 => ⟨S2x2048x1024, .f32⟩
  | 42 => ⟨S2x1x1024, .f32⟩
  | 43 => ⟨S2x2048x1024, .f32⟩
  | 44 => ⟨S2x2048x1024, .f32⟩
  | 45 => ⟨S1024x2048, .f32⟩
  | 46 => ⟨S2x2048x2048, .f32⟩
  | 47 => ⟨S2x2048x512, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S2x2048x512, .f32⟩
  | 60 => ⟨S_, .i32⟩
  | 61 => ⟨S_, .f32⟩
  | 62 => ⟨S2x2078x512, .f32⟩
  | 63 => ⟨S2048, .i32⟩
  | 64 => ⟨S2048x1, .i32⟩
  | 65 => ⟨S31, .i32⟩
  | 66 => ⟨S1x31, .i32⟩
  | 67 => ⟨S2048x31, .i32⟩
  | 68 => ⟨S2048x31, .i32⟩
  | 69 => ⟨S2048x31, .i32⟩
  | 70 => ⟨S2048x31x1, .i32⟩
  | 71 => ⟨S2x2048x31x512, .f32⟩
  | 72 => ⟨S31x512, .f32⟩
  | 73 => ⟨S1x1x31x512, .f32⟩
  | 74 => ⟨S2x2048x31x512, .f32⟩
  | 75 => ⟨S2x2048x31x512, .f32⟩
  | 76 => ⟨S_, .f32⟩
  | 77 => ⟨S2x2048x512, .f32⟩
  | 78 => ⟨S512, .f32⟩
  | 79 => ⟨S512, .f32⟩
  | 80 => ⟨S_, .f32⟩
  | 81 => ⟨S2x2048, .f32⟩
  | 82 => ⟨S2x2048x1, .f32⟩
  | 83 => ⟨S_, .f32⟩
  | 84 => ⟨S2x2048x1, .f32⟩
  | 85 => ⟨S2x2048x1, .f32⟩
  | 86 => ⟨S2x2048x512, .f32⟩
  | 87 => ⟨S2x2048x512, .f32⟩
  | 88 => ⟨S2x2048x512, .f32⟩
  | 89 => ⟨S_, .f32⟩
  | 90 => ⟨S2x2048, .f32⟩
  | 91 => ⟨S2x2048x1, .f32⟩
  | 92 => ⟨S_, .f32⟩
  | 93 => ⟨S2x2048x1, .f32⟩
  | 94 => ⟨S2x2048x1, .f32⟩
  | 95 => ⟨S_, .f32⟩
  | 96 => ⟨S2x2048x1, .f32⟩
  | 97 => ⟨S2x2048x1, .f32⟩
  | 98 => ⟨S2x2048x1, .f32⟩
  | 99 => ⟨S2x2048x512, .f32⟩
  | 100 => ⟨S2x2048x512, .f32⟩
  | 101 => ⟨S1x1x512, .f32⟩
  | 102 => ⟨S2x2048x512, .f32⟩
  | 103 => ⟨S2x2048x512, .f32⟩
  | 104 => ⟨S1x1x512, .f32⟩
  | 105 => ⟨S2x2048x512, .f32⟩
  | 106 => ⟨S2x2048x512, .f32⟩
  | 107 => ⟨S32x128x8x64, .f32⟩
  | 108 => ⟨S32x8x128x64, .f32⟩
  | 109 => ⟨S_, .i1⟩
  | 110 => ⟨S128x128, .i1⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S_, .i1⟩
  | 118 => ⟨S128x128, .i1⟩
  | 119 => ⟨S128x128, .i1⟩
  | 120 => ⟨S1x128x128, .i1⟩
  | 121 => ⟨S8x128x128, .f32⟩
  | 122 => ⟨S8x128x128, .f32⟩
  | 123 => ⟨S_, .f32⟩
  | 124 => ⟨S8x128x128, .f32⟩
  | 125 => ⟨S8x128x128, .i1⟩
  | 126 => ⟨S8x128x128, .f32⟩
  | 127 => ⟨S1x8x128x128x1, .f32⟩
  | _ => ⟨S2x2048x1024, .f32⟩

abbrev hbmTy0_1 (i : Nat) : BufTy := match i % 128 with
  | 0 => ⟨S32x8x1x128x64, .f32⟩
  | 1 => ⟨S32x8x128x128x64, .f32⟩
  | 2 => ⟨S32x8x128x128x64, .f32⟩
  | 3 => ⟨S32x8x128x128x64, .f32⟩
  | 4 => ⟨S_, .f32⟩
  | 5 => ⟨S32x8x128x64, .f32⟩
  | 6 => ⟨S32x128x8x64, .f32⟩
  | 7 => ⟨S8x128, .f32⟩
  | 8 => ⟨S128x8, .f32⟩
  | 9 => ⟨S128x8x1, .f32⟩
  | 10 => ⟨S128x8x64, .f32⟩
  | 11 => ⟨S1x128x8x64, .f32⟩
  | 12 => ⟨S32x128x8x64, .f32⟩
  | 13 => ⟨S32x128x8x64, .f32⟩
  | 14 => ⟨S2x2048x512, .f32⟩
  | 15 => ⟨S2x2048x512, .f32⟩
  | 16 => ⟨S512, .f32⟩
  | 17 => ⟨S1x1x512, .f32⟩
  | 18 => ⟨S2x2048x512, .f32⟩
  | 19 => ⟨S2x2048x512, .f32⟩
  | 20 => ⟨S512, .f32⟩
  | 21 => ⟨S512, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S2x2048x512, .f32⟩
  | 29 => ⟨S2x2048x512, .f32⟩
  | 30 => ⟨S2x2048x512, .f32⟩
  | 31 => ⟨S_, .f32⟩
  | 32 => ⟨S2x2048, .f32⟩
  | 33 => ⟨S2x2048x1, .f32⟩
  | 34 => ⟨S_, .f32⟩
  | 35 => ⟨S2x2048x1, .f32⟩
  | 36 => ⟨S2x2048x1, .f32⟩
  | 37 => ⟨S_, .f32⟩
  | 38 => ⟨S2x2048x1, .f32⟩
  | 39 => ⟨S2x2048x1, .f32⟩
  | 40 => ⟨S2x2048x1, .f32⟩
  | 41 => ⟨S2x2048x512, .f32⟩
  | 42 => ⟨S2x2048x512, .f32⟩
  | 43 => ⟨S1x1x512, .f32⟩
  | 44 => ⟨S2x2048x512, .f32⟩
  | 45 => ⟨S2x2048x512, .f32⟩
  | 46 => ⟨S1x1x512, .f32⟩
  | 47 => ⟨S2x2048x512, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S_, .f32⟩
  | 55 => ⟨S2x2048x512, .f32⟩
  | 56 => ⟨S2x2048x512, .f32⟩
  | 57 => ⟨S2x2048x512, .f32⟩
  | 58 => ⟨S512, .f32⟩
  | 59 => ⟨S2x2048x512, .f32⟩
  | 60 => ⟨S_, .f32⟩
  | 61 => ⟨S2x2048, .f32⟩
  | 62 => ⟨S2x2048x1, .f32⟩
  | 63 => ⟨S_, .f32⟩
  | 64 => ⟨S2x2048x1, .f32⟩
  | 65 => ⟨S2x2048x1, .f32⟩
  | 66 => ⟨S_, .f32⟩
  | 67 => ⟨S2x2048x1, .f32⟩
  | 68 => ⟨S2x2048x1, .f32⟩
  | 69 => ⟨S2x2048x1, .f32⟩
  | 70 => ⟨S2x2048x512, .f32⟩
  | 71 => ⟨S2x2048x512, .f32⟩
  | 72 => ⟨S1x1x512, .f32⟩
  | 73 => ⟨S2x2048x512, .f32⟩
  | 74 => ⟨S2x2048x512, .f32⟩
  | 75 => ⟨S512, .f32⟩
  | 76 => ⟨S2x2048x512, .f32⟩
  | 77 => ⟨S_, .f32⟩
  | 78 => ⟨S2x2048, .f32⟩
  | 79 => ⟨S2x2048x1, .f32⟩
  | 80 => ⟨S_, .f32⟩
  | 81 => ⟨S2x2048x1, .f32⟩
  | 82 => ⟨S2x2048x1, .f32⟩
  | 83 => ⟨S_, .f32⟩
  | 84 => ⟨S2x2048x1, .f32⟩
  | 85 => ⟨S2x2048x1, .f32⟩
  | 86 => ⟨S2x2048x1, .f32⟩
  | 87 => ⟨S2x2048x512, .f32⟩
  | 88 => ⟨S2x2048x512, .f32⟩
  | 89 => ⟨S1x1x512, .f32⟩
  | 90 => ⟨S2x2048x512, .f32⟩
  | 91 => ⟨S2x2048x512, .f32⟩
  | 92 => ⟨S2x2048x1024, .f32⟩
  | 93 => ⟨S1024x1024, .f32⟩
  | 94 => ⟨S2x2048x1024, .f32⟩
  | 95 => ⟨S_, .f32⟩
  | 96 => ⟨S1x512, .f32⟩
  | 97 => ⟨S8x512, .f32⟩
  | 98 => ⟨S8x128, .f32⟩
  | 99 => ⟨S128x8, .f32⟩
  | 100 => ⟨S128x8x64, .f32⟩
  | 101 => ⟨S128x512, .f32⟩
  | 102 => ⟨S8x512, .i32⟩
  | 103 => ⟨S_, .i32⟩
  | 104 => ⟨S_, .i32⟩
  | 105 => ⟨S8x512, .i32⟩
  | 106 => ⟨S8x512, .i32⟩
  | 107 => ⟨S8x512, .i32⟩
  | 108 => ⟨S_, .i32⟩
  | 109 => ⟨S8x512, .i32⟩
  | 110 => ⟨S8x512, .i1⟩
  | 111 => ⟨S8x512, .i32⟩
  | 112 => ⟨S8x512, .i32⟩
  | 113 => ⟨S_, .i32⟩
  | 114 => ⟨S8x512, .i32⟩
  | 115 => ⟨S8x512, .i1⟩
  | 116 => ⟨S8x512, .i1⟩
  | 117 => ⟨S_, .i32⟩
  | 118 => ⟨S8x512, .i32⟩
  | 119 => ⟨S8x512, .i32⟩
  | 120 => ⟨S8x512, .i32⟩
  | 121 => ⟨S8x512, .i32⟩
  | 122 => ⟨S8x512, .i1⟩
  | 123 => ⟨S8x512, .f32⟩
  | 124 => ⟨S4096x1024, .f32⟩
  | 125 => ⟨S4096x1024, .f32⟩
  | 126 => ⟨S4096x2048, .f32⟩
  | 127 => ⟨S512, .f32⟩
  | _ => ⟨S2x2048x1024, .f32⟩

abbrev hbmTy0_2 (i : Nat) : BufTy := match i % 128 with
  | 0 => ⟨S1x1x512, .f32⟩
  | 1 => ⟨S2x2048x512, .f32⟩
  | 2 => ⟨S2x2048x512, .f32⟩
  | 3 => ⟨S4096x512, .f32⟩
  | 4 => ⟨S2x1x1024, .f32⟩
  | 5 => ⟨S2x1x1024, .f32⟩
  | 6 => ⟨S2x1x1024, .f32⟩
  | 7 => ⟨S_, .f32⟩
  | 8 => ⟨S2x5x1024, .f32⟩
  | 9 => ⟨S2x8x1024, .f32⟩
  | 10 => ⟨S_, .f32⟩
  | 11 => ⟨S1x1024, .f32⟩
  | 12 => ⟨S8x1024, .f32⟩
  | 13 => ⟨S1024x1024, .f32⟩
  | 14 => ⟨S1024x1024, .bf16⟩
  | 15 => ⟨S8x128x128, .f32⟩
  | 16 => ⟨S4096x2048, .f32⟩
  | 17 => ⟨S4096x1024, .bf16⟩
  | 18 => ⟨S4096x1024, .bf16⟩
  | 19 => ⟨S2x8x1024, .f32⟩
  | 20 => ⟨S8x1024, .f32⟩
  | 21 => ⟨S8x512, .f32⟩
  | 22 => ⟨S8x128x128, .f32⟩
  | 23 => ⟨S8x128, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S1x8x1024, .f32⟩
  | .local _ .vmem, ⟨9, _⟩ => ⟨S1x8x1024, .f32⟩
  | .local _ .vmem, ⟨10, _⟩ => ⟨S8x1024, .f32⟩
  | .local _ .vmem, ⟨11, _⟩ => ⟨S1024x1024, .bf16⟩
  | .local _ .vmem, ⟨12, _⟩ => ⟨S8x512, .f32⟩
  | .local _ .vmem, ⟨13, _⟩ => ⟨S8x128x128, .f32⟩
  | .local _ .vmem, ⟨14, _⟩ => ⟨S128x512, .f32⟩
  | .local _ .vmem, ⟨15, _⟩ => ⟨S8x512, .f32⟩
  | .local _ .vmem, ⟨16, _⟩ => ⟨S256x2048, .f32⟩
  | .local _ .vmem, ⟨17, _⟩ => ⟨S256x2048, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1x8x1024, .f32⟩
  | .local _ .vmem, ⟨23, _⟩ => ⟨S1x8x1024, .f32⟩
  | .local _ .vmem, ⟨24, _⟩ => ⟨S8x1024, .f32⟩
  | .local _ .vmem, ⟨25, _⟩ => ⟨S8x512, .f32⟩
  | .local _ .vmem, ⟨26, _⟩ => ⟨S8x128x128, .f32⟩
  | .local _ .vmem, ⟨27, _⟩ => ⟨S8x128, .f32⟩
  | .local _ .vmem, ⟨28, _⟩ => ⟨S128x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_call0_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_8 : Ref sig .tc := ⟨.hbm, 89, rfl⟩
abbrev main_v58 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_call2_v0 : Ref sig .tc := ⟨.hbm, 111, rfl⟩
abbrev main_call2_c : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_c_0 : Ref sig .tc := ⟨.hbm, 117, rfl⟩
abbrev main_call2_v5 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_12 : Ref sig .tc := ⟨.hbm, 123, rfl⟩
abbrev main_v80 : Ref sig .tc := ⟨.hbm, 124, rfl⟩
abbrev main_call3_v0 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_13 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_14 : Ref sig .tc := ⟨.hbm, 150, rfl⟩
abbrev main_v104 : Ref sig .tc := ⟨.hbm, 151, rfl⟩
abbrev main_v105 : Ref sig .tc := ⟨.hbm, 152, rfl⟩
abbrev main_cst_15 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_16 : Ref sig .tc := ⟨.hbm, 159, rfl⟩
abbrev main_v111 : Ref sig .tc := ⟨.hbm, 160, rfl⟩
abbrev main_v112 : Ref sig .tc := ⟨.hbm, 161, rfl⟩
abbrev main_cst_17 : Ref sig .tc := ⟨.hbm, 162, rfl⟩
abbrev main_v113 : Ref sig .tc := ⟨.hbm, 163, rfl⟩
abbrev main_v114 : Ref sig .tc := ⟨.hbm, 164, rfl⟩
abbrev main_cst_18 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_call4_v0 : Ref sig .tc := ⟨.hbm, 177, rfl⟩
abbrev main_call4_v1 : Ref sig .tc := ⟨.hbm, 178, rfl⟩
abbrev main_call4_cst : Ref sig .tc := ⟨.hbm, 179, rfl⟩
abbrev main_call4_v2 : Ref sig .tc := ⟨.hbm, 180, rfl⟩
abbrev main_call4_v3 : Ref sig .tc := ⟨.hbm, 181, rfl⟩
abbrev main_call4_cst_0 : Ref sig .tc := ⟨.hbm, 182, rfl⟩
abbrev main_call4_v4 : Ref sig .tc := ⟨.hbm, 183, rfl⟩
abbrev main_call4_v5 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_19 : Ref sig .tc := ⟨.hbm, 188, rfl⟩
abbrev main_v129 : Ref sig .tc := ⟨.hbm, 189, rfl⟩
abbrev main_v130 : Ref sig .tc := ⟨.hbm, 190, rfl⟩
abbrev main_cst_20 : Ref sig .tc := ⟨.hbm, 191, rfl⟩
abbrev main_v131 : Ref sig .tc := ⟨.hbm, 192, rfl⟩
abbrev main_v132 : Ref sig .tc := ⟨.hbm, 193, rfl⟩
abbrev main_cst_21 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_22 : Ref sig .tc := ⟨.hbm, 205, rfl⟩
abbrev main_v143 : Ref sig .tc := ⟨.hbm, 206, rfl⟩
abbrev main_v144 : Ref sig .tc := ⟨.hbm, 207, rfl⟩
abbrev main_cst_23 : Ref sig .tc := ⟨.hbm, 208, rfl⟩
abbrev main_v145 : Ref sig .tc := ⟨.hbm, 209, rfl⟩
abbrev main_v146 : Ref sig .tc := ⟨.hbm, 210, rfl⟩
abbrev main_cst_24 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_cst_25 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_c_26 : Ref sig .tc := ⟨.hbm, 231, rfl⟩
abbrev main_call5_v0 : Ref sig .tc := ⟨.hbm, 232, rfl⟩
abbrev main_call5_v1 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_call5_v5 : Ref sig .tc := ⟨.hbm, 237, rfl⟩
abbrev main_call5_v6 : Ref sig .tc := ⟨.hbm, 238, rfl⟩
abbrev main_call5_v7 : Ref sig .tc := ⟨.hbm, 239, rfl⟩
abbrev main_call5_v8 : Ref sig .tc := ⟨.hbm, 240, rfl⟩
abbrev main_call5_c : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_c_0 : Ref sig .tc := ⟨.hbm, 245, rfl⟩
abbrev main_call5_v12 : Ref sig .tc := ⟨.hbm, 246, rfl⟩
abbrev main_call5_v13 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_cst_27 : Ref sig .tc := ⟨.hbm, 263, rfl⟩
abbrev main_v180 : Ref sig .tc := ⟨.hbm, 264, rfl⟩
abbrev main_v181 : Ref sig .tc := ⟨.hbm, 265, rfl⟩
abbrev main_cst_28 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187_0 : Ref sig .tc := ⟨.hbm, 272, rfl⟩
abbrev main_v187_1 : Ref sig .tc := ⟨.hbm, 273, rfl⟩
abbrev main_v187_2 : Ref sig .tc := ⟨.hbm, 274, rfl⟩
abbrev main_v187_3 : Ref sig .tc := ⟨.hbm, 275, rfl⟩
abbrev main_v187_4 : Ref sig .tc := ⟨.hbm, 276, rfl⟩
abbrev main_v187_5 : Ref sig .tc := ⟨.hbm, 277, rfl⟩
abbrev main_v187_6 : Ref sig .tc := ⟨.hbm, 278, rfl⟩
abbrev main_v187_7 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v632 : BitVec 1 := Scalar.cmpi .eq arg0 c15_i32
  let v633 : BitVec 32 := Scalar.extui v632
  let c0_i32_347 : BitVec 32 := 0#32
  let v634 : BitVec 1 := Scalar.cmpi .ne v633 c0_i32_347
  v634

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S2x2048x1024 : Shape := ⟨3, ![2, 2048, 1024]⟩
abbrev S2x1024 : Shape := ⟨2, ![2, 1024]⟩
abbrev S1x1024 : Shape := ⟨2, ![1, 1024]⟩
abbrev S1x1024x2048 : Shape := ⟨3, ![1, 1024, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x2048 : Shape := ⟨2, ![1024, 2048]⟩
abbrev S2x2048x2048 : Shape := ⟨3, ![2, 2048, 2048]⟩
abbrev S2x2048x512 : Shape := ⟨3, ![2, 2048, 512]⟩
abbrev S2x2078x512 : Shape := ⟨3, ![2, 2078, 512]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2x2048x31x512 : Shape := ⟨4, ![2, 2048, 31, 512]⟩
abbrev S31x512 : Shape := ⟨2, ![31, 512]⟩
abbrev S1x1x31x512 : Shape := ⟨4, ![1, 1, 31, 512]⟩
abbrev S512 : Shape := ⟨1, ![512]⟩
abbrev S1x1x512 : Shape := ⟨3, ![1, 1, 512]⟩
abbrev S32x128x8x64 : Shape := ⟨4, ![32, 128, 8, 64]⟩
abbrev S128x128 : Shape := ⟨2, ![128, 128]⟩
abbrev S1x128x128 : Shape := ⟨3, ![1, 128, 128]⟩
abbrev S8x128x128 : Shape := ⟨3, ![8, 128, 128]⟩
abbrev S8x32x64x128 : Shape := ⟨4, ![8, 32, 64, 128]⟩
abbrev S8x128 : Shape := ⟨2, ![8, 128]⟩
abbrev S128x8 : Shape := ⟨2, ![128, 8]⟩
abbrev S128x8x1 : Shape := ⟨3, ![128, 8, 1]⟩
abbrev S128x8x64 : Shape := ⟨3, ![128, 8, 64]⟩
abbrev S1x128x8x64 : Shape := ⟨4, ![1, 128, 8, 64]⟩
abbrev S1024x1024 : Shape := ⟨2, ![1024, 1024]⟩
abbrev S2x8x1024 : Shape := ⟨3, ![2, 8, 1024]⟩
abbrev S6x1024 : Shape := ⟨2, ![6, 1024]⟩
abbrev S8x1024 : Shape := ⟨2, ![8, 1024]⟩
abbrev S8x512 : Shape := ⟨2, ![8, 512]⟩
abbrev S4096x2048 : Shape := ⟨2, ![4096, 2048]⟩
abbrev S4096x1024 : Shape := ⟨2, ![4096, 1024]⟩

abbrev nBuf : Space → Nat
  | .hbm => 504
  | .vmem => 0
  | .smem => 0
  | _ => 0

abbrev hbmTy0_0 (i : Nat) : BufTy := match i % 128 with
  | 0 => ⟨S2x2048x1024, .f32⟩
  | 1 => ⟨S2x1024, .f32⟩
  | 2 => ⟨S2x1024, .f32⟩
  | 3 => ⟨S2x1024, .f32⟩
  | 4 => ⟨S1x1024, .f32⟩
  | 5 => ⟨S1x1024, .f32⟩
  | 6 => ⟨S1x1024x2048, .f32⟩
  | 7 => ⟨S1x512, .f32⟩
  | 8 => ⟨S1x512, .f32⟩
  | 9 => ⟨S1x8x128x128, .f32⟩
  | 10 => ⟨S1x8x128, .f32⟩
  | 11 => ⟨S1x31x512, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x1024x1024, .f32⟩
  | 18 => ⟨S2x2048x1024, .f32⟩
  | 19 => ⟨S1024, .f32⟩
  | 20 => ⟨S2x2048x1024, .f32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S_, .f32⟩
  | 28 => ⟨S2x2048x1, .f32⟩
  | 29 => ⟨S2x2048x1, .f32⟩
  | 30 => ⟨S2x2048x1, .f32⟩
  | 31 => ⟨S2x2048x1024, .f32⟩
  | 32 => ⟨S2x2048x1024, .f32⟩
  | 33 => ⟨S1x1x1024, .f32⟩
  | 34 => ⟨S2x2048x1024, .f32⟩
  | 35 => ⟨S2x2048x1024, .f32⟩
  | 36 => ⟨S2x1x1024, .f32⟩
  | 37 => ⟨S_, .f32⟩
  | 38 => ⟨S2x1x1024, .f32⟩
  | 39 => ⟨S2x1x1024, .f32⟩
  | 40 => ⟨S2x2048x1024, .f32⟩
  | 41 => ⟨S2x2048x1024, .f32⟩
  | 42 => ⟨S2x1x1024, .f32⟩
  | 43 => ⟨S2x2048x1024, .f32⟩
  | 44 => ⟨S2x2048x1024, .f32⟩
  | 45 => ⟨S1024x2048, .f32⟩
  | 46 => ⟨S2x2048x2048, .f32⟩
  | 47 => ⟨S2x2048x512, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S2x2048x512, .f32⟩
  | 60 => ⟨S_, .i32⟩
  | 61 => ⟨S_, .f32⟩
  | 62 => ⟨S2x2078x512, .f32⟩
  | 63 => ⟨S2048, .i32⟩
  | 64 => ⟨S2048x1, .i32⟩
  | 65 => ⟨S31, .i32⟩
  | 66 => ⟨S1x31, .i32⟩
  | 67 => ⟨S2048x31, .i32⟩
  | 68 => ⟨S2048x31, .i32⟩
  | 69 => ⟨S2048x31, .i32⟩
  | 70 => ⟨S2048x31x1, .i32⟩
  | 71 => ⟨S2x2048x31x512, .f32⟩
  | 72 => ⟨S31x512, .f32⟩
  | 73 => ⟨S1x1x31x512, .f32⟩
  | 74 => ⟨S2x2048x31x512, .f32⟩
  | 75 => ⟨S2x2048x31x512, .f32⟩
  | 76 => ⟨S_, .f32⟩
  | 77 => ⟨S2x2048x512, .f32⟩
  | 78 => ⟨S_, .f32⟩
  | 79 => ⟨S2x2048x1024, .f32⟩
  | 80 => ⟨S512, .f32⟩
  | 81 => ⟨S512, .f32⟩
  | 82 => ⟨S_, .f32⟩
  | 83 => ⟨S2x2048, .f32⟩
  | 84 => ⟨S2x2048x1, .f32⟩
  | 85 => ⟨S_, .f32⟩
  | 86 => ⟨S2x2048x1, .f32⟩
  | 87 => ⟨S2x2048x1, .f32⟩
  | 88 => ⟨S2x2048x512, .f32⟩
  | 89 => ⟨S2x2048x512, .f32⟩
  | 90 => ⟨S2x2048x512, .f32⟩
  | 91 => ⟨S_, .f32⟩
  | 92 => ⟨S2x2048, .f32⟩
  | 93 => ⟨S2x2048x1, .f32⟩
  | 94 => ⟨S_, .f32⟩
  | 95 => ⟨S2x2048x1, .f32⟩
  | 96 => ⟨S2x2048x1, .f32⟩
  | 97 => ⟨S_, .f32⟩
  | 98 => ⟨S2x2048x1, .f32⟩
  | 99 => ⟨S2x2048x1, .f32⟩
  | 100 => ⟨S2x2048x1, .f32⟩
  | 101 => ⟨S2x2048x1, .f32⟩
  | 102 => ⟨S_, .f32⟩
  | 103 => ⟨S2x2048x1, .f32⟩
  | 104 => ⟨S2x2048x1, .f32⟩
  | 105 => ⟨S2x2048x512, .f32⟩
  | 106 => ⟨S2x2048x512, .f32⟩
  | 107 => ⟨S1x1x512, .f32⟩
  | 108 => ⟨S2x2048x512, .f32⟩
  | 109 => ⟨S2x2048x512, .f32⟩
  | 110 => ⟨S1x1x512, .f32⟩
  | 111 => ⟨S2x2048x512, .f32⟩
  | 112 => ⟨S2x2048x512, .f32⟩
  | 113 => ⟨S32x128x8x64, .f32⟩
  | 114 => ⟨S_, .i1⟩
  | 115 => ⟨S128x128, .i1⟩
  | 116 => ⟨S128x128, .i32⟩
  | 117 => ⟨S_, .i32⟩
  | 118 => ⟨S128x128, .i32⟩
  | 119 => ⟨S128x128, .i32⟩
  | 120 => ⟨S128x128, .i32⟩
  | 121 => ⟨S128x128, .i1⟩
  | 122 => ⟨S_, .i1⟩
  | 123 => ⟨S128x128, .i1⟩
  | 124 => ⟨S128x128, .i1⟩
  | 125 => ⟨S1x128x128, .i1⟩
  | 126 => ⟨S8x128x128, .f32⟩
  | 127 => ⟨S8x128x128, .f32⟩
  | _ => ⟨S2x2048x1024, .f32⟩

abbrev hbmTy0_1 (i : Nat) : BufTy := match i % 128 with
  | 0 => ⟨S_, .f32⟩
  | 1 => ⟨S8x128x128, .f32⟩
  | 2 => ⟨S8x128x128, .i1⟩
  | 3 => ⟨S8x128x128, .f32⟩
  | 4 => ⟨S_, .f32⟩
  | 5 => ⟨S8x128x128, .f32⟩
  | 6 => ⟨S8x32x64x128, .f32⟩
  | 7 => ⟨S32x128x8x64, .f32⟩
  | 8 => ⟨S8x128, .f32⟩
  | 9 => ⟨S128x8, .f32⟩
  | 10 => ⟨S128x8x1, .f32⟩
  | 11 => ⟨S128x8x64, .f32⟩
  | 12 => ⟨S1x128x8x64, .f32⟩
  | 13 => ⟨S32x128x8x64, .f32⟩
  | 14 => ⟨S32x128x8x64, .f32⟩
  | 15 => ⟨S2x2048x512, .f32⟩
  | 16 => ⟨S2x2048x512, .f32⟩
  | 17 => ⟨S512, .f32⟩
  | 18 => ⟨S1x1x512, .f32⟩
  | 19 => ⟨S2x2048x512, .f32⟩
  | 20 => ⟨S2x2048x512, .f32⟩
  | 21 => ⟨S512, .f32⟩
  | 22 => ⟨S512, .f32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .f32⟩
  | 29 => ⟨S2x2048x512, .f32⟩
  | 30 => ⟨S2x2048x512, .f32⟩
  | 31 => ⟨S2x2048x512, .f32⟩
  | 32 => ⟨S_, .f32⟩
  | 33 => ⟨S2x2048, .f32⟩
  | 34 => ⟨S2x2048x1, .f32⟩
  | 35 => ⟨S_, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S2x2048x1, .f32⟩
  | 42 => ⟨S2x2048x1, .f32⟩
  | 43 => ⟨S_, .f32⟩
  | 44 => ⟨S2x2048x1, .f32⟩
  | 45 => ⟨S2x2048x1, .f32⟩
  | 46 => ⟨S2x2048x512, .f32⟩
  | 47 => ⟨S2x2048x512, .f32⟩
  | 48 => ⟨S1x1x512, .f32⟩
  | 49 => ⟨S2x2048x512, .f32⟩
  | 50 => ⟨S2x2048x512, .f32⟩
  | 51 => ⟨S1x1x512, .f32⟩
  | 52 => ⟨S2x2048x512, .f32⟩
  | 53 => ⟨S2x2048x512, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S_, .f32⟩
  | 60 => ⟨S2x2048x512, .f32⟩
  | 61 => ⟨S2x2048x512, .f32⟩
  | 62 => ⟨S_, .f32⟩
  | 63 => ⟨S2x2048x512, .f32⟩
  | 64 => ⟨S2x2048x512, .f32⟩
  | 65 => ⟨S2x2048x512, .f32⟩
  | 66 => ⟨S2x2048x512, .f32⟩
  | 67 => ⟨S512, .f32⟩
  | 68 => ⟨S2x2048x512, .f32⟩
  | 69 => ⟨S_, .f32⟩
  | 70 => ⟨S2x2048, .f32⟩
  | 71 => ⟨S2x2048x1, .f32⟩
  | 72 => ⟨S_, .f32⟩
  | 73 => ⟨S2x2048x1, .f32⟩
  | 74 => ⟨S2x2048x1, .f32⟩
  | 75 => ⟨S_, .f32⟩
  | 76 => ⟨S2x2048x1, .f32⟩
  | 77 => ⟨S2x2048x1, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S2x2048x512, .f32⟩
  | 84 => ⟨S2x2048x512, .f32⟩
  | 85 => ⟨S1x1x512, .f32⟩
  | 86 => ⟨S2x2048x512, .f32⟩
  | 87 => ⟨S2x2048x512, .f32⟩
  | 88 => ⟨S512, .f32⟩
  | 89 => ⟨S2x2048x512, .f32⟩
  | 90 => ⟨S_, .f32⟩
  | 91 => ⟨S2x2048, .f32⟩
  | 92 => ⟨S2x2048x1, .f32⟩
  | 93 => ⟨S_, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S2x2048x1, .f32⟩
  | 100 => ⟨S2x2048x1, .f32⟩
  | 101 => ⟨S_, .f32⟩
  | 102 => ⟨S2x2048x1, .f32⟩
  | 103 => ⟨S2x2048x1, .f32⟩
  | 104 => ⟨S2x2048x512, .f32⟩
  | 105 => ⟨S2x2048x512, .f32⟩
  | 106 => ⟨S1x1x512, .f32⟩
  | 107 => ⟨S2x2048x512, .f32⟩
  | 108 => ⟨S2x2048x512, .f32⟩
  | 109 => ⟨S2x2048x1024, .f32⟩
  | 110 => ⟨S2x1x1024, .f32⟩
  | 111 => ⟨S1024x1024, .f32⟩
  | 112 => ⟨S2x2048x1024, .f32⟩
  | 113 => ⟨S2x2048x1024, .f32⟩
  | 114 => ⟨S1024, .f32⟩
  | 115 => ⟨S2x2048x1024, .f32⟩
  | 116 => ⟨S_, .f32⟩
  | 117 => ⟨S2x2048, .f32⟩
  | 118 => ⟨S2x2048x1, .f32⟩
  | 119 => ⟨S_, .f32⟩
  | 120 => ⟨S2x2048x1, .f32⟩
  | 121 => ⟨S2x2048x1, .f32⟩
  | 122 => ⟨S_, .f32⟩
  | 123 => ⟨S2x2048x1, .f32⟩
  | 124 => ⟨S2x2048x1, .f32⟩
  | 125 => ⟨S2x2048x1, .f32⟩
  | 126 => ⟨S2x2048x1, .f32⟩
  | 127 => ⟨S_, .f32⟩
  | _ => ⟨S2x2048x1024, .f32⟩

abbrev hbmTy0_2 (i : Nat) : BufTy := match i % 128 with
  | 0 => ⟨S2x2048x1, .f32⟩
  | 1 => ⟨S2x2048x1, .f32⟩
  | 2 => ⟨S2x2048x1024, .f32⟩
  | 3 => ⟨S2x2048x1024, .f32⟩
  | 4 => ⟨S1x1x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S_, .f32⟩
  | 14 => ⟨S2x1024, .f32⟩
  | 15 => ⟨S2x1x1024, .f32⟩
  | 16 => ⟨S2x2048x1024, .f32⟩
  | 17 => ⟨S_, .f32⟩
  | 18 => ⟨S1024, .f32⟩
  | 19 => ⟨S1x1x1024, .f32⟩
  | 20 => ⟨S2x2048x1024, .f32⟩
  | 21 => ⟨S2x2048x1024, .f32⟩
  | 22 => ⟨S_, .f32⟩
  | 23 => ⟨S1024, .f32⟩
  | 24 => ⟨S2x2048x1024, .f32⟩
  | 25 => ⟨S_, .f32⟩
  | 26 => ⟨S2x2048, .f32⟩
  | 27 => ⟨S2x2048x1, .f32⟩
  | 28 => ⟨S2x2048x1024, .f32⟩
  | 29 => ⟨S2x2048x1024, .f32⟩
  | 30 => ⟨S2x2048x1, .f32⟩
  | 31 => ⟨S_, .f32⟩
  | 32 => ⟨S2x2048x1, .f32⟩
  | 33 => ⟨S2x2048x1, .f32⟩
  | 34 => ⟨S_, .f32⟩
  | 35 => ⟨S2x2048, .f32⟩
  | 36 => ⟨S2x2048x1024, .f32⟩
  | 37 => ⟨S2x2048x1024, .f32⟩
  | 38 => ⟨S2x2048x1024, .f32⟩
  | 39 => ⟨S2x2048x1024, .f32⟩
  | 40 => ⟨S2x2048x1024, .f32⟩
  | 41 => ⟨S1x1024, .f32⟩
  | 42 => ⟨S2x2048x1024, .f32⟩
  | 43 => ⟨S_, .f32⟩
  | 44 => ⟨S2x1024, .f32⟩
  | 45 => ⟨S2x2048x512, .f32⟩
  | 46 => ⟨S2x2048x512, .f32⟩
  | 47 => ⟨S2x2048x512, .f32⟩
  | 48 => ⟨S_, .f32⟩
  | 49 => ⟨S512, .f32⟩
  | 50 => ⟨S1x1x512, .f32⟩
  | 51 => ⟨S2x2048x512, .f32⟩
  | 52 => ⟨S2x2048x512, .f32⟩
  | 53 => ⟨S_, .f32⟩
  | 54 => ⟨S512, .f32⟩
  | 55 => ⟨S2x2048x512, .f32⟩
  | 56 => ⟨S_, .f32⟩
  | 57 => ⟨S2x2048, .f32⟩
  | 58 => ⟨S2x2048x1, .f32⟩
  | 59 => ⟨S2x2048x512, .f32⟩
  | 60 => ⟨S2x2048x512, .f32⟩
  | 61 => ⟨S2x2048x1, .f32⟩
  | 62 => ⟨S_, .f32⟩
  | 63 => ⟨S2x2048x1, .f32⟩
  | 64 => ⟨S2x2048x1, .f32⟩
  | 65 => ⟨S_, .f32⟩
  | 66 => ⟨S2x2048, .f32⟩
  | 67 => ⟨S2x2048x512, .f32⟩
  | 68 => ⟨S2x2048x512, .f32⟩
  | 69 => ⟨S2x2048x512, .f32⟩
  | 70 => ⟨S2x2048x512, .f32⟩
  | 71 => ⟨S2x2048x512, .f32⟩
  | 72 => ⟨S1x512, .f32⟩
  | 73 => ⟨S2x2048x512, .f32⟩
  | 74 => ⟨S_, .f32⟩
  | 75 => ⟨S512, .f32⟩
  | 76 => ⟨S1x1x512, .f32⟩
  | 77 => ⟨S2x2048x512, .f32⟩
  | 78 => ⟨S2x2048x512, .f32⟩
  | 79 => ⟨S_, .f32⟩
  | 80 => ⟨S512, .f32⟩
  | 81 => ⟨S2x2048x512, .f32⟩
  | 82 => ⟨S_, .f32⟩
  | 83 => ⟨S2x2048, .f32⟩
  | 84 => ⟨S2x2048x1, .f32⟩
  | 85 => ⟨S2x2048x512, .f32⟩
  | 86 => ⟨S2x2048x512, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048, .f32⟩
  | 93 => ⟨S2x2048x512, .f32⟩
  | 94 => ⟨S2x2048x512, .f32⟩
  | 95 => ⟨S2x2048x512, .f32⟩
  | 96 => ⟨S2x2048x512, .f32⟩
  | 97 => ⟨S2x2048x512, .f32⟩
  | 98 => ⟨S1x512, .f32⟩
  | 99 => ⟨S2x2048x512, .f32⟩
  | 100 => ⟨S2x2048x512, .f32⟩
  | 101 => ⟨S2x2048x512, .f32⟩
  | 102 => ⟨S2x2048x512, .f32⟩
  | 103 => ⟨S_, .f32⟩
  | 104 => ⟨S512, .f32⟩
  | 105 => ⟨S1x1x512, .f32⟩
  | 106 => ⟨S_, .f32⟩
  | 107 => ⟨S512, .f32⟩
  | 108 => ⟨S2x2048x512, .f32⟩
  | 109 => ⟨S_, .f32⟩
  | 110 => ⟨S512, .f32⟩
  | 111 => ⟨S1x1x512, .f32⟩
  | 112 => ⟨S2x2048x512, .f32⟩
  | 113 => ⟨S2x2048x512, .f32⟩
  | 114 => ⟨S_, .f32⟩
  | 115 => ⟨S512, .f32⟩
  | 116 => ⟨S2x2048x512, .f32⟩
  | 117 => ⟨S_, .f32⟩
  | 118 => ⟨S2x2048, .f32⟩
  | 119 => ⟨S2x2048x1, .f32⟩
  | 120 => ⟨S2x2048x512, .f32⟩
  | 121 => ⟨S2x2048x512, .f32⟩
  | 122 => ⟨S2x2048x1, .f32⟩
  | 123 => ⟨S_, .f32⟩
  | 124 => ⟨S2x2048x1, .f32⟩
  | 125 => ⟨S2x2048x1, .f32⟩
  | 126 => ⟨S_, .f32⟩
  | 127 => ⟨S2x2048, .f32⟩
  | _ => ⟨S2x2048x1024, .f32⟩

abbrev hbmTy0_3 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x512, .f32⟩
  | 5 => ⟨S2x2048x512, .f32⟩
  | 6 => ⟨S_, .f32⟩
  | 7 => ⟨S2x2048, .f32⟩
  | 8 => ⟨S2x2048x1, .f32⟩
  | 9 => ⟨S_, .f32⟩
  | 10 => ⟨S2x2048x1, .f32⟩
  | 11 => ⟨S2x2048x1, .f32⟩
  | 12 => ⟨S_, .f32⟩
  | 13 => ⟨S2x2048, .f32⟩
  | 14 => ⟨S2x2048x512, .f32⟩
  | 15 => ⟨S2x2048x512, .f32⟩
  | 16 => ⟨S1x512, .f32⟩
  | 17 => ⟨S1x512, .f32⟩
  | 18 => ⟨S_, .f32⟩
  | 19 => ⟨S512, .f32⟩
  | 20 => ⟨S1x1x512, .f32⟩
  | 21 => ⟨S_, .f32⟩
  | 22 => ⟨S512, .f32⟩
  | 23 => ⟨S1x512, .f32⟩
  | 24 => ⟨S2x2048x512, .f32⟩
  | 25 => ⟨S2x2048x512, .f32⟩
  | 26 => ⟨S32x128x8x64, .f32⟩
  | 27 => ⟨S_, .f32⟩
  | 28 => ⟨S128x8x64, .f32⟩
  | 29 => ⟨S1x128x8x64, .f32⟩
  | 30 => ⟨S_, .f32⟩
  | 31 => ⟨S128x8x64, .f32⟩
  | 32 => ⟨S_, .f32⟩
  | 33 => ⟨S128x8, .f32⟩
  | 34 => ⟨S128x8x1, .f32⟩
  | 35 => ⟨S_, .f32⟩
  | 36 => ⟨S128x8, .f32⟩
  | 37 => ⟨S8x128, .f32⟩
  | 38 => ⟨S1x8x128, .f32⟩
  | 39 => ⟨S8x32x64x128, .f32⟩
  | 40 => ⟨S8x128x128, .f32⟩
  | 41 => ⟨S8x32x64x128, .f32⟩
  | 42 => ⟨S32x128x8x64, .f32⟩
  | 43 => ⟨S_, .f32⟩
  | 44 => ⟨S8x128x128, .f32⟩
  | 45 => ⟨S8x128x128, .f32⟩
  | 46 => ⟨S1x8x128x128, .f32⟩
  | 47 => ⟨S2x2048x512, .f32⟩
  | 48 => ⟨S_, .f32⟩
  | 49 => ⟨S512, .f32⟩
  | 50 => ⟨S1x1x512, .f32⟩
  | 51 => ⟨S_, .f32⟩
  | 52 => ⟨S512, .f32⟩
  | 53 => ⟨S2x2048x512, .f32⟩
  | 54 => ⟨S_, .f32⟩
  | 55 => ⟨S512, .f32⟩
  | 56 => ⟨S1x1x512, .f32⟩
  | 57 => ⟨S2x2048x512, .f32⟩
  | 58 => ⟨S2x2048x512, .f32⟩
  | 59 => ⟨S_, .f32⟩
  | 60 => ⟨S512, .f32⟩
  | 61 => ⟨S2x2048x512, .f32⟩
  | 62 => ⟨S_, .f32⟩
  | 63 => ⟨S2x2048, .f32⟩
  | 64 => ⟨S2x2048x1, .f32⟩
  | 65 => ⟨S2x2048x512, .f32⟩
  | 66 => ⟨S2x2048x512, .f32⟩
  | 67 => ⟨S2x2048x1, .f32⟩
  | 68 => ⟨S_, .f32⟩
  | 69 => ⟨S2x2048x1, .f32⟩
  | 70 => ⟨S2x2048x1, .f32⟩
  | 71 => ⟨S_, .f32⟩
  | 72 => ⟨S2x2048, .f32⟩
  | 73 => ⟨S2x2048x512, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S_, .f32⟩
  | 80 => ⟨S2x2048, .f32⟩
  | 81 => ⟨S2x2048x1, .f32⟩
  | 82 => ⟨S_, .f32⟩
  | 83 => ⟨S2x2048x1, .f32⟩
  | 84 => ⟨S2x2048x1, .f32⟩
  | 85 => ⟨S_, .f32⟩
  | 86 => ⟨S2x2048, .f32⟩
  | 87 => ⟨S2x2048x512, .f32⟩
  | 88 => ⟨S2x2048x512, .f32⟩
  | 89 => ⟨S1x512, .f32⟩
  | 90 => ⟨S1x512, .f32⟩
  | 91 => ⟨S_, .f32⟩
  | 92 => ⟨S2x2048x512, .f32⟩
  | 93 => ⟨S2x2048x2048, .f32⟩
  | 94 => ⟨S_, .f32⟩
  | 95 => ⟨S2x1024, .f32⟩
  | 96 => ⟨S2x1x1024, .f32⟩
  | 97 => ⟨S2x1x1024, .f32⟩
  | 98 => ⟨S2x1x1024, .f32⟩
  | 99 => ⟨S2x1x1024, .f32⟩
  | 100 => ⟨S2x1x1024, .f32⟩
  | 101 => ⟨S2x1x1024, .f32⟩
  | 102 => ⟨S2x1x1024, .f32⟩
  | 103 => ⟨S2x1x1024, .f32⟩
  | 104 => ⟨S2x8x1024, .f32⟩
  | 105 => ⟨S_, .f32⟩
  | 106 => ⟨S1x1024, .f32⟩
  | 107 => ⟨S_, .f32⟩
  | 108 => ⟨S6x1024, .f32⟩
  | 109 => ⟨S8x1024, .f32⟩
  | 110 => ⟨S_, .f32⟩
  | 111 => ⟨S1x512, .f32⟩
  | 112 => ⟨S8x512, .f32⟩
  | 113 => ⟨S4096x2048, .f32⟩
  | 114 => ⟨S4096x1024, .f32⟩
  | 115 => ⟨S4096x1024, .bf16⟩
  | 116 => ⟨S4096x1024, .f32⟩
  | 117 => ⟨S4096x1024, .bf16⟩
  | 118 => ⟨S8x128x128, .f32⟩
  | 119 => ⟨S8x128, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_call0_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_13 : Ref sig .tc := ⟨.hbm, 114, rfl⟩
abbrev main_v78 : Ref sig .tc := ⟨.hbm, 115, rfl⟩
abbrev main_call2_v0 : Ref sig .tc := ⟨.hbm, 116, rfl⟩
abbrev main_call2_c : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_c_0 : Ref sig .tc := ⟨.hbm, 122, rfl⟩
abbrev main_call2_v5 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_14 : Ref sig .tc := ⟨.hbm, 128, rfl⟩
abbrev main_v83 : Ref sig .tc := ⟨.hbm, 129, rfl⟩
abbrev main_v84_1 : Ref sig .tc := ⟨.hbm, 130, rfl⟩
abbrev main_v84_0 : Ref sig .tc := ⟨.hbm, 131, rfl⟩
abbrev main_call3_cst : Ref sig .tc := ⟨.hbm, 132, rfl⟩
abbrev main_v84_2 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_15 : Ref sig .tc := ⟨.hbm, 151, rfl⟩
abbrev main_v102 : Ref sig .tc := ⟨.hbm, 152, rfl⟩
abbrev main_v103 : Ref sig .tc := ⟨.hbm, 153, rfl⟩
abbrev main_cst_16 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_17 : Ref sig .tc := ⟨.hbm, 160, rfl⟩
abbrev main_v109 : Ref sig .tc := ⟨.hbm, 161, rfl⟩
abbrev main_v110 : Ref sig .tc := ⟨.hbm, 162, rfl⟩
abbrev main_cst_18 : Ref sig .tc := ⟨.hbm, 163, rfl⟩
abbrev main_v111 : Ref sig .tc := ⟨.hbm, 164, rfl⟩
abbrev main_v112 : Ref sig .tc := ⟨.hbm, 165, rfl⟩
abbrev main_cst_19 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_20 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_call4_v0 : Ref sig .tc := ⟨.hbm, 182, rfl⟩
abbrev main_call4_v1 : Ref sig .tc := ⟨.hbm, 183, rfl⟩
abbrev main_call4_cst : Ref sig .tc := ⟨.hbm, 184, rfl⟩
abbrev main_call4_v2 : Ref sig .tc := ⟨.hbm, 185, rfl⟩
abbrev main_call4_v3 : Ref sig .tc := ⟨.hbm, 186, rfl⟩
abbrev main_call4_cst_0 : Ref sig .tc := ⟨.hbm, 187, rfl⟩
abbrev main_call4_v4 : Ref sig .tc := ⟨.hbm, 188, rfl⟩
abbrev main_v127_2 : Ref sig .tc := ⟨.hbm, 189, rfl⟩
abbrev main_call4_cst_1 : Ref sig .tc := ⟨.hbm, 190, rfl⟩
abbrev main_call4_v6 : Ref sig .tc := ⟨.hbm, 191, rfl⟩
abbrev main_call4_v7 : Ref sig .tc := ⟨.hbm, 192, rfl⟩
abbrev main_v127_1 : Ref sig .tc := ⟨.hbm, 193, rfl⟩
abbrev main_v127_0 : Ref sig .tc := ⟨.hbm, 194, rfl⟩
abbrev main_v128 : Ref sig .tc := ⟨.hbm, 195, rfl⟩
abbrev main_v129 : Ref sig .tc := ⟨.hbm, 196, rfl⟩
abbrev main_cst_21 : Ref sig .tc := ⟨.hbm, 197, rfl⟩
abbrev main_v130 : Ref sig .tc := ⟨.hbm, 198, rfl⟩
abbrev main_v131 : Ref sig .tc := ⟨.hbm, 199, rfl⟩
abbrev main_cst_22 : Ref sig .tc := ⟨.hbm, 200, rfl⟩
abbrev main_v132 : Ref sig .tc := ⟨.hbm, 201, rfl⟩
abbrev main_v133 : Ref sig .tc := ⟨.hbm, 202, rfl⟩
abbrev main_cst_23 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_cst_24 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_25 : Ref sig .tc := ⟨.hbm, 218, rfl⟩
abbrev main_v147 : Ref sig .tc := ⟨.hbm, 219, rfl⟩
abbrev main_v148 : Ref sig .tc := ⟨.hbm, 220, rfl⟩
abbrev main_cst_26 : Ref sig .tc := ⟨.hbm, 221, rfl⟩
abbrev main_v149 : Ref sig .tc := ⟨.hbm, 222, rfl⟩
abbrev main_v150 : Ref sig .tc := ⟨.hbm, 223, rfl⟩
abbrev main_cst_27 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_cst_28 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_cst_29 : Ref sig .tc := ⟨.hbm, 244, rfl⟩
abbrev main_v169 : Ref sig .tc := ⟨.hbm, 245, rfl⟩
abbrev main_v170 : Ref sig .tc := ⟨.hbm, 246, rfl⟩
abbrev main_cst_30 : Ref sig .tc := ⟨.hbm, 247, rfl⟩
abbrev main_v171 : Ref sig .tc := ⟨.hbm, 248, rfl⟩
abbrev main_v172 : Ref sig .tc := ⟨.hbm, 249, rfl⟩
abbrev main_cst_31 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_cst_32 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_cst_33 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_cst_34 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_cst_35 : Ref sig .tc := ⟨.hbm, 278, rfl⟩
abbrev main_v197 : Ref sig .tc := ⟨.hbm, 279, rfl⟩
abbrev main_v198 : Ref sig .tc := ⟨.hbm, 280, rfl⟩
abbrev main_cst_36 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_cst_37 : Ref sig .tc := ⟨.hbm, 287, rfl⟩
abbrev main_v204 : Ref sig .tc := ⟨.hbm, 288, rfl⟩
abbrev main_v205 : Ref sig .tc := ⟨.hbm, 289, rfl⟩
abbrev main_cst_38 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_cst_39 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_cst_40 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_cst_41 : Ref sig .tc := ⟨.hbm, 309, rfl⟩
abbrev main_v222 : Ref sig .tc := ⟨.hbm, 310, rfl⟩
abbrev main_v223 : Ref sig .tc := ⟨.hbm, 311, rfl⟩
abbrev main_cst_42 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_cst_43 : Ref sig .tc := ⟨.hbm, 318, rfl⟩
abbrev main_v229 : Ref sig .tc := ⟨.hbm, 319, rfl⟩
abbrev main_v230 : Ref sig .tc := ⟨.hbm, 320, rfl⟩
abbrev main_cst_44 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_cst_45 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_cst_46 : Ref sig .tc := ⟨.hbm, 335, rfl⟩
abbrev main_v243 : Ref sig .tc := ⟨.hbm, 336, rfl⟩
abbrev main_v244 : Ref sig .tc := ⟨.hbm, 337, rfl⟩
abbrev main_cst_47 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_cst_48 : Ref sig .tc := ⟨.hbm, 344, rfl⟩
abbrev main_v250 : Ref sig .tc := ⟨.hbm, 345, rfl⟩
abbrev main_v251 : Ref sig .tc := ⟨.hbm, 346, rfl⟩
abbrev main_cst_49 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_call5_v0 : Ref sig .tc := ⟨.hbm, 355, rfl⟩
abbrev main_call5_v1 : Ref sig .tc := ⟨.hbm, 356, rfl⟩
abbrev main_call5_v2 : Ref sig .tc := ⟨.hbm, 357, rfl⟩
abbrev main_v259 : Ref sig .tc := ⟨.hbm, 358, rfl⟩
abbrev main_cst_50 : Ref sig .tc := ⟨.hbm, 359, rfl⟩
abbrev main_v260 : Ref sig .tc := ⟨.hbm, 360, rfl⟩
abbrev main_v261 : Ref sig .tc := ⟨.hbm, 361, rfl⟩
abbrev main_cst_51 : Ref sig .tc := ⟨.hbm, 362, rfl⟩
abbrev main_v262 : Ref sig .tc := ⟨.hbm, 363, rfl⟩
abbrev main_v263 : Ref sig .tc := ⟨.hbm, 364, rfl⟩
abbrev main_cst_52 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_cst_53 : Ref sig .tc := ⟨.hbm, 370, rfl⟩
abbrev main_v268 : Ref sig .tc := ⟨.hbm, 371, rfl⟩
abbrev main_v269 : Ref sig .tc := ⟨.hbm, 372, rfl⟩
abbrev main_cst_54 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_cst_55 : Ref sig .tc := ⟨.hbm, 379, rfl⟩
abbrev main_v275 : Ref sig .tc := ⟨.hbm, 380, rfl⟩
abbrev main_v276 : Ref sig .tc := ⟨.hbm, 381, rfl⟩
abbrev main_cst_56 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_v282 : Ref sig .tc := ⟨.hbm, 388, rfl⟩
abbrev main_v283 : Ref sig .tc := ⟨.hbm, 389, rfl⟩
abbrev main_cst_57 : Ref sig .tc := ⟨.hbm, 390, rfl⟩
abbrev main_v284 : Ref sig .tc := ⟨.hbm, 391, rfl⟩
abbrev main_v285 : Ref sig .tc := ⟨.hbm, 392, rfl⟩
abbrev main_cst_58 : Ref sig .tc := ⟨.hbm, 393, rfl⟩
abbrev main_v286 : Ref sig .tc := ⟨.hbm, 394, rfl⟩
abbrev main_v287 : Ref sig .tc := ⟨.hbm, 395, rfl⟩
abbrev main_cst_59 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩
abbrev main_v291 : Ref sig .tc := ⟨.hbm, 400, rfl⟩
abbrev main_v292 : Ref sig .tc := ⟨.hbm, 401, rfl⟩
abbrev main_cst_60 : Ref sig .tc := ⟨.hbm, 402, rfl⟩
abbrev main_v293 : Ref sig .tc := ⟨.hbm, 403, rfl⟩
abbrev main_v294 : Ref sig .tc := ⟨.hbm, 404, rfl⟩
abbrev main_cst_61 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_cst_62 : Ref sig .tc := ⟨.hbm, 411, rfl⟩
abbrev main_v300 : Ref sig .tc := ⟨.hbm, 412, rfl⟩
abbrev main_v301 : Ref sig .tc := ⟨.hbm, 413, rfl⟩
abbrev main_cst_63 : Ref sig .tc := ⟨.hbm, 414, rfl⟩
abbrev main_v302 : Ref sig .tc := ⟨.hbm, 415, rfl⟩
abbrev main_cst_64 : Ref sig .tc := ⟨.hbm, 416, rfl⟩
abbrev main_v303 : Ref sig .tc := ⟨.hbm, 417, rfl⟩
abbrev main_v304 : Ref sig .tc := ⟨.hbm, 418, rfl⟩
abbrev main_cst_65 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_v308 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_call6_cst : Ref sig .tc := ⟨.hbm, 427, rfl⟩
abbrev main_call6_v0 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_cst_66 : Ref sig .tc := ⟨.hbm, 432, rfl⟩
abbrev main_v315 : Ref sig .tc := ⟨.hbm, 433, rfl⟩
abbrev main_v316 : Ref sig .tc := ⟨.hbm, 434, rfl⟩
abbrev main_cst_67 : Ref sig .tc := ⟨.hbm, 435, rfl⟩
abbrev main_v317 : Ref sig .tc := ⟨.hbm, 436, rfl⟩
abbrev main_v318 : Ref sig .tc := ⟨.hbm, 437, rfl⟩
abbrev main_cst_68 : Ref sig .tc := ⟨.hbm, 438, rfl⟩
abbrev main_v319 : Ref sig .tc := ⟨.hbm, 439, rfl⟩
abbrev main_v320 : Ref sig .tc := ⟨.hbm, 440, rfl⟩
abbrev main_v321 : Ref sig .tc := ⟨.hbm, 441, rfl⟩
abbrev main_v322 : Ref sig .tc := ⟨.hbm, 442, rfl⟩
abbrev main_cst_69 : Ref sig .tc := ⟨.hbm, 443, rfl⟩
abbrev main_v323 : Ref sig .tc := ⟨.hbm, 444, rfl⟩
abbrev main_v324 : Ref sig .tc := ⟨.hbm, 445, rfl⟩
abbrev main_cst_70 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_v329 : Ref sig .tc := ⟨.hbm, 451, rfl⟩
abbrev main_cst_71 : Ref sig .tc := ⟨.hbm, 452, rfl⟩
abbrev main_v330 : Ref sig .tc := ⟨.hbm, 453, rfl⟩
abbrev main_v331 : Ref sig .tc := ⟨.hbm, 454, rfl⟩
abbrev main_cst_72 : Ref sig .tc := ⟨.hbm, 455, rfl⟩
abbrev main_v332 : Ref sig .tc := ⟨.hbm, 456, rfl⟩
abbrev main_v333 : Ref sig .tc := ⟨.hbm, 457, rfl⟩
abbrev main_v334 : Ref sig .tc := ⟨.hbm, 458, rfl⟩
abbrev main_v335 : Ref sig .tc := ⟨.hbm, 459, rfl⟩
abbrev main_v336 : Ref sig .tc := ⟨.hbm, 460, rfl⟩
abbrev main_v337 : Ref sig .tc := ⟨.hbm, 461, rfl⟩
abbrev main_v338 : Ref sig .tc := ⟨.hbm, 462, rfl⟩
abbrev main_cst_73 : Ref sig .tc := ⟨.hbm, 463, rfl⟩
abbrev main_v339 : Ref sig .tc := ⟨.hbm, 464, rfl⟩
abbrev main_v340 : Ref sig .tc := ⟨.hbm, 465, rfl⟩
abbrev main_cst_74 : Ref sig .tc := ⟨.hbm, 466, rfl⟩
abbrev main_v341 : Ref sig .tc := ⟨.hbm, 467, rfl⟩
abbrev main_v342 : Ref sig .tc := ⟨.hbm, 468, rfl⟩
abbrev main_cst_75 : Ref sig .tc := ⟨.hbm, 469, rfl⟩
abbrev main_v343 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_cst_76 : Ref sig .tc := ⟨.hbm, 475, rfl⟩
abbrev main_v348 : Ref sig .tc := ⟨.hbm, 476, rfl⟩
abbrev main_v349 : Ref sig .tc := ⟨.hbm, 477, rfl⟩
abbrev main_cst_77 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩
abbrev main_v354 : Ref sig .tc := ⟨.hbm, 483, rfl⟩
abbrev main_v355 : Ref sig .tc := ⟨.hbm, 484, rfl⟩
abbrev main_v356 : Ref sig .tc := ⟨.hbm, 485, rfl⟩
abbrev main_v357 : Ref sig .tc := ⟨.hbm, 486, rfl⟩
abbrev main_v358 : Ref sig .tc := ⟨.hbm, 487, rfl⟩
abbrev main_v359 : Ref sig .tc := ⟨.hbm, 488, rfl⟩
abbrev main_cst_78 : Ref sig .tc := ⟨.hbm, 489, rfl⟩
abbrev main_v360 : Ref sig .tc := ⟨.hbm, 490, rfl⟩
abbrev main_cst_79 : Ref sig .tc := ⟨.hbm, 491, rfl⟩
abbrev main_v361 : Ref sig .tc := ⟨.hbm, 492, rfl⟩
abbrev main_v362 : Ref sig .tc := ⟨.hbm, 493, rfl⟩
abbrev main_cst_80 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_v370 : Ref sig .tc := ⟨.hbm, 502, rfl⟩
abbrev main_v371 : Ref sig .tc := ⟨.hbm, 503, rfl⟩

abbrev nD : Nat := 1
abbrev τ : Topo := Topo.v7x

variable {F : FTy → Type} [FloatOps F]
-- ==== Kernel3.lean ====
abbrev S4x1024x256 : Shape := ⟨3, ![4, 1024, 256]⟩
abbrev S1x1024x256 : Shape := ⟨3, ![1, 1024, 256]⟩
abbrev S1024x256 : Shape := ⟨2, ![1024, 256]⟩
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 11
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S4x256x256, .bf16⟩
  | .local _ .vmem, ⟨1, _⟩ => ⟨S4x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x1024x256 : Shape := ⟨3, ![4, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel4.lean ====
abbrev S64x1024 : Shape := ⟨2, ![64, 1024]⟩
abbrev S64x1152 : Shape := ⟨2, ![64, 1152]⟩
abbrev S1x1024x1152 : Shape := ⟨3, ![1, 1024, 1152]⟩
abbrev S_ : Shape := ⟨0, ![]⟩
abbrev S1024x1152 : Shape := ⟨2, ![1024, 1152]⟩
abbrev S64x256 : Shape := ⟨2, ![64, 256]⟩
abbrev S256x1152 : Shape := ⟨2, ![256, 1152]⟩

abbrev nBuf : Space → Nat
  | .hbm => 21
  | .vmem => 17
  | .smem => 0
  | _ => 0

abbrev bufTy : (tb : Table) → Fin (tcTables nBuf tb) → BufTy
  | .hbm, ⟨0, _⟩ => ⟨S64x1024, .f32⟩
  | .hbm, ⟨1, _⟩ => ⟨S64x1152, .f32⟩
  | .hbm, ⟨2, _⟩ => ⟨S1x1024x1152, .f32⟩
  | .hbm, ⟨3, _⟩ => ⟨S1x1024x1152, .f32⟩
  | .hbm, ⟨4, _⟩ => ⟨S1x1024x1152, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S1024x1152, .f32⟩
  | .hbm, ⟨15, _⟩ => ⟨S1024x1152, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S1024x1152, .f32⟩
  | .hbm, ⟨20, _⟩ => ⟨S1024x1152, .f32⟩
  | .local _ .vmem, ⟨0, _⟩ => ⟨S64x256, .f32⟩
  | .local _ .vmem, ⟨1, _⟩ => ⟨S64x256, .f32⟩
  | .local _ .vmem, ⟨2, _⟩ => ⟨S64x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S64x1024 : Shape := ⟨2, ![64, 1024]⟩
abbrev S64x1152 : Shape := ⟨2, ![64, 1152]⟩
abbrev S1x1024x1152 : Shape := ⟨3, ![1, 1024, 1152]⟩
abbrev S1024x1152 : Shape := ⟨2, ![1024, 1152]⟩
abbrev S_ : Shape := ⟨0, ![]⟩
abbrev S1152x1024 : Shape := ⟨2, ![1152, 1024]⟩

abbrev nBuf : Space → Nat
  | .hbm => 54
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1152, .f32⟩
  | .hbm, ⟨2, _⟩ => ⟨S1x1024x1152, .f32⟩
  | .hbm, ⟨3, _⟩ => ⟨S1x1024x1152, .f32⟩
  | .hbm, ⟨4, _⟩ => ⟨S1x1024x1152, .f32⟩
  | .hbm, ⟨5, _⟩ => ⟨S1024x1152, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x1152, .f32⟩
  | .hbm, ⟨16, _⟩ => ⟨S1152x1024, .f32⟩
  | .hbm, ⟨17, _⟩ => ⟨S1024x1152, .f32⟩
  | .hbm, ⟨18, _⟩ => ⟨S1024x1152, .f32⟩
  | .hbm, ⟨19, _⟩ => ⟨S1024x1152, .f32⟩
  | .hbm, ⟨20, _⟩ => ⟨S1024x1152, .f32⟩
  | .hbm, ⟨21, _⟩ => ⟨S_, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S1024x1152, .f32⟩
  | .hbm, ⟨36, _⟩ => ⟨S_, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | .hbm, ⟨46, _⟩ => ⟨S1024x1152, .f32⟩
  | .hbm, ⟨47, _⟩ => ⟨S_, .f32⟩
  | .hbm, ⟨48, _⟩ => ⟨S1024x1152, .f32⟩
  | .hbm, ⟨49, _⟩ => ⟨S1024x1152, .f32⟩
  | .hbm, ⟨50, _⟩ => ⟨S1024x1152, .f32⟩
  | .hbm, ⟨51, _⟩ => ⟨S_, .f32⟩
  | .hbm, ⟨52, _⟩ => ⟨S1024x1152, .f32⟩
  | .hbm, ⟨53, _⟩ => ⟨S1024x1152, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel5.lean ====
abbrev S32x64 : Shape := ⟨2, ![32, 64]⟩
abbrev S1x31x64 : Shape := ⟨3, ![1, 31, 64]⟩
abbrev S31x64 : Shape := ⟨2, ![31, 64]⟩
abbrev S_ : Shape := ⟨0, ![]⟩

abbrev nBuf : Space → Nat
  | .hbm => 20
  | .vmem => 8
  | .smem => 0
  | _ => 0

abbrev bufTy : (tb : Table) → Fin (tcTables nBuf tb) → BufTy
  | .hbm, ⟨0, _⟩ => ⟨S32x64, .f32⟩
  | .hbm, ⟨1, _⟩ => ⟨S1x31x64, .f32⟩
  | .hbm, ⟨2, _⟩ => ⟨S1x31x64, .f32⟩
  | .hbm, ⟨3, _⟩ => ⟨S1x31x64, .f32⟩
  | .hbm, ⟨4, _⟩ => ⟨S31x64, .f32⟩
  | .hbm, ⟨5, _⟩ => ⟨S_, .f32⟩
  | .hbm, ⟨6, _⟩ => ⟨S_, .f32⟩
  | .hbm, ⟨7, _⟩ => ⟨S32x64, .f32⟩
  | .hbm, ⟨8, _⟩ => ⟨S31x64, .f32⟩
  | .hbm, ⟨9, _⟩ => ⟨S_, .f32⟩
  | .hbm, ⟨10, _⟩ => ⟨S_, .f32⟩
  | .hbm, ⟨11, _⟩ => ⟨S32x64, .f32⟩
  | .hbm, ⟨12, _⟩ => ⟨S31x64, .f32⟩
  | .hbm, ⟨13, _⟩ => ⟨S_, .f32⟩
  | .hbm, ⟨14, _⟩ => ⟨S_, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call2_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference5Ideal.lean ====
abbrev S32x64 : Shape := ⟨2, ![32, 64]⟩
abbrev S1x31x64 : Shape := ⟨3, ![1, 31, 64]⟩
abbrev S31x64 : Shape := ⟨2, ![31, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S1x31x64, .f32⟩
  | .hbm, ⟨2, _⟩ => ⟨S1x31x64, .f32⟩
  | .hbm, ⟨3, _⟩ => ⟨S1x31x64, .f32⟩
  | .hbm, ⟨4, _⟩ => ⟨S31x64, .f32⟩
  | .hbm, ⟨5, _⟩ => ⟨S_, .f32⟩
  | .hbm, ⟨6, _⟩ => ⟨S_, .f32⟩
  | .hbm, ⟨7, _⟩ => ⟨S32x64, .f32⟩
  | .hbm, ⟨8, _⟩ => ⟨S31x64, .f32⟩
  | .hbm, ⟨9, _⟩ => ⟨S_, .f32⟩
  | .hbm, ⟨10, _⟩ => ⟨S_, .f32⟩
  | .hbm, ⟨11, _⟩ => ⟨S32x64, .f32⟩
  | .hbm, ⟨12, _⟩ => ⟨S31x64, .f32⟩
  | .hbm, ⟨13, _⟩ => ⟨S_, .f32⟩
  | .hbm, ⟨14, _⟩ => ⟨S_, .f32⟩
  | .hbm, ⟨15, _⟩ => ⟨S32x64, .f32⟩
  | .hbm, ⟨16, _⟩ => ⟨S_, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S_, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S_, .f32⟩
  | .hbm, ⟨47, _⟩ => ⟨S32x64, .f32⟩
  | .hbm, ⟨48, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call2_v0 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel6.lean ====
abbrev S4x704x1024 : Shape := ⟨3, ![4, 704, 1024]⟩
abbrev S3 : Shape := ⟨1, ![3]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_11 : BitVec 32 := 0#32
  let c0_i32_12 : BitVec 32 := 0#32
  ![v10.toNat, 0, 0]
def k0_off2 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_23 : BitVec 32 := 0#32
  let c0_i32_24 : BitVec 32 := 0#32
  ![v13.toNat, 0, 0]
def k0_dev1 (d0 : Dev nD) : Nat :=
  let c0_i32_18 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_17 : BitVec 32 := 4#32
  let v27 : BitVec 32 := Scalar.muli v11 c4_i32_17
  let v28 : BitVec 32 := Scalar.addi c0_i32_18 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v29 : BitVec 32 := Scalar.muli v5 c2_i32_19
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v31 : BitVec 32 := Scalar.muli v8 c1_i32_20
  let v32 : BitVec 32 := Scalar.addi v30 v31
  v32.toNat
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_7 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.addi v15 v14
  let c0_i32_33 : BitVec 32 := 0#32
  let c0_i32_34 : BitVec 32 := 0#32
  ![v16.toNat, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_29 : BitVec 32 := 2#32
  let v43 : BitVec 32 := Scalar.muli v14 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
def k0_off4 (d0 : Dev nD) : Fin 3 → Nat :=
  let c2_i32_10 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v19 : BitVec 32 := Scalar.muli c2_i32_10 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v20 : BitVec 32 := Scalar.addi v19 v18
  let c0_i32_43 : BitVec 32 := 0#32
  let c0_i32_44 : BitVec 32 := 0#32
  ![v20.toNat, 0, 0]
def k0_dev3 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_37 : BitVec 32 := 4#32
  let v55 : BitVec 32 := Scalar.muli v17 c4_i32_37
  let v56 : BitVec 32 := Scalar.addi c0_i32_38 v55
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_39 : BitVec 32 := 2#32
  let v57 : BitVec 32 := Scalar.muli v18 c2_i32_39
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.muli v8 c1_i32_40
  let v60 : BitVec 32 := Scalar.addi v58 v59
  v60.toNat
-- ==== Reference6.lean ====
abbrev S32x704x1024 : Shape := ⟨3, ![32, 704, 1024]⟩
abbrev S4x2x4x704x1024 : Shape := ⟨5, ![4, 2, 4, 704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x704x1024, .bf16⟩
  | .hbm, ⟨1, _⟩ => ⟨S4x2x4x704x1024, .bf16⟩
  | .hbm, ⟨2, _⟩ => ⟨S4x2x4x704x1024, .bf16⟩
  | .hbm, ⟨3, _⟩ => ⟨S32x704x1024, .bf16⟩
  | _, _ => ⟨S32x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Tile.lean ====
/- The kernel's tile, stage by stage: what a block of 256 rows computes from the blocks it reads. -/
module

public import proofs.«01_k».proof.Proof.Gen.KernelIdeal.Value
public import Idealize.ShloMosaic.Lib.Pointwise

@[expose] public section

set_option maxRecDepth 16384

noncomputable section

namespace Cert.KernelIdeal.Tile

open Cert.KernelIdeal Cert.KernelIdeal.Gen Idealize.ShloMosaic

/-- The blocks a point reads: rows, target, modulation, gains, and the three weights in pieces. -/
structure In where
  x : Vec Ideal S256x1024 .f32
  t : Vec Ideal S256x1024 .f32
  md : Vec Ideal S1x8x1024 .f32
  gv : Vec Ideal S8x1024 .f32
  wa : Vec Ideal S8x704x256 .bf16
  wb : Vec Ideal S8x704x768 .bf16
  wo : Vec Ideal S4x704x1024 .bf16

namespace In

variable (I : In)

/-- Row `j` of the modulation, of the gains. -/
def mdRow (j : Fin 8) : Vec Ideal S1x1x1024 .f32 := View.ld I.md (Rect.unit ![0, j.val, 0] ![1, 1, 1024] (by revert j; decide))
def gvRow (j : Fin 8) : Vec Ideal S1x1024 .f32 := View.ld I.gv (Rect.unit ![j.val, 0] ![1, 1024] (by revert j; decide))

/-- Piece `j` of each weight. -/
def wA (j : Fin 8) : Vec Ideal S1x704x256 .bf16 := View.ld I.wa (Rect.unit ![j.val, 0, 0] ![1, 704, 256] (by revert j; decide))
def wB (j : Fin 8) : Vec Ideal S1x704x768 .bf16 := View.ld I.wb (Rect.unit ![j.val, 0, 0] ![1, 704, 768] (by revert j; decide))
def wO (c : Fin 4) : Vec Ideal S1x704x1024 .bf16 := View.ld I.wo (Rect.unit ![c.val, 0, 0] ![1, 704, 1024] (by revert c; decide))

/-- A load of one row or piece is that row or piece. -/
theorem ld_md (j : ℕ) (h : j < 8) (hb) : View.ld I.md (Rect.unit ![0, j, 0] ![1, 1, 1024] hb) = I.mdRow ⟨j, h⟩ := rfl
theorem ld_gv (j : ℕ) (h : j < 8) (hb) : View.ld I.gv (Rect.unit ![j, 0] ![1, 1024] hb) = I.gvRow ⟨j, h⟩ := rfl
theorem ld_wa (j : ℕ) (h : j < 8) (hb) : View.ld I.wa (Rect.unit ![j, 0, 0] ![1, 704, 256] hb) = I.wA ⟨j, h⟩ := rfl
theorem ld_wb (j : ℕ) (h : j < 8) (hb) : View.ld I.wb (Rect.unit ![j, 0, 0] ![1, 704, 768] hb) = I.wB ⟨j, h⟩ := rfl
theorem ld_wo (j : ℕ) (h : j < 4) (hb) : View.ld I.wo (Rect.unit ![j, 0, 0] ![1, 704, 1024] hb) = I.wO ⟨j, h⟩ := rfl

/-- The normalised and modulated row, whole and in its two column ranges. -/
def hT : FVec Ideal S256x1024 .bf16 := k0_pay13 I.x (I.mdRow 0) (I.mdRow 1) (I.gvRow 0)
def hA : FVec Ideal S256x256 .bf16 := k0_pay14 I.x (I.mdRow 0) (I.mdRow 1) (I.gvRow 0)
def hB : FVec Ideal S256x768 .bf16 := k0_pay15 I.x (I.mdRow 0) (I.mdRow 1) (I.gvRow 0)

/-- A piece of the projection as stored, and the gated activation from the gate piece `a` and the up piece `b`. -/
def pj (j : Fin 8) : FVec Ideal S1x256x704 .bf16 := k0_pay19 I.hA I.hB (I.wA j) (I.wB j)
def act (a b : Fin 8) : FVec Ideal S1x256x704 .bf16 := k0_pay22 (k0_pay21 I.hA I.hB (I.wA a) (I.wB a) (I.wA b) (I.wB b))

/-- The output projection over the first three pieces; the fourth is added where the sum is used. -/
def y1 : FVec Ideal S256x1024 .f32 := k0_pay23 k0_pay16 (I.act 0 4) (I.wO 0)
def y2 : FVec Ideal S256x1024 .f32 := k0_pay23 I.y1 (I.act 1 5) (I.wO 1)
def y3 : FVec Ideal S256x1024 .f32 := k0_pay23 I.y2 (I.act 2 6) (I.wO 2)
def ry : FVec Ideal S256x1 .f32 := k0_pay45 I.y3 (I.act 3 7) (I.wO 3)
def yh : FVec Ideal S256x1024 .f32 := k0_pay46 I.y3 (I.act 3 7) (I.wO 3)
def gt : FVec Ideal S1x1024 .f32 := k0_pay7 (I.mdRow 2)
def g2 : FVec Ideal S1x1024 .f32 := k0_pay9 (I.gvRow 1)

/-- The distance from the target, the output's cotangent, and the gradients down to the output projection's. -/
def err : FVec Ideal S256x1024 .f32 := k0_pay48 (k0_pay5 I.x) I.gt I.g2 I.y3 (I.act 3 7) (I.wO 3) I.t
def dxo : FVec Ideal S256x1024 .f32 := k0_pay49 (k0_pay5 I.x) I.gt I.g2 I.y3 (I.act 3 7) (I.wO 3) I.t
def dgt : FVec Ideal S1x1024 .f32 := k0_pay50 (k0_pay5 I.x) I.gt I.g2 I.y3 (I.act 3 7) (I.wO 3) I.t
def dp : FVec Ideal S256x1024 .f32 := k0_pay51 (k0_pay5 I.x) I.gt I.g2 I.y3 (I.act 3 7) (I.wO 3) I.t
def dg2 : FVec Ideal S1x1024 .f32 := k0_pay52 (k0_pay5 I.x) I.gt I.g2 I.y3 (I.act 3 7) (I.wO 3) I.t
def dy : FVec Ideal S256x1024 .bf16 := k0_pay53 I.g2 I.ry I.yh I.dp

/-- A piece of the gradient of the up half and of the gate half: gate piece `a`, up piece `b`, output piece `c`. -/
def g32 (a : Fin 8) : FVec Ideal S256x704 .f32 := k0_pay67 (I.pj a)
def dup (a : Fin 8) (c : Fin 4) : FVec Ideal S256x704 .bf16 := k0_pay70 I.dy (I.g32 a) (I.wO c)
def dga (a b : Fin 8) (c : Fin 4) : FVec Ideal S256x704 .bf16 := k0_pay71 I.dy (I.g32 a) (I.pj b) (I.wO c)

/-- The same two as stored. -/
def dupS (a : Fin 8) (c : Fin 4) : FVec Ideal S1x256x704 .bf16 := k0_pay73 I.dy (I.g32 a) (I.wO c)
def dgaS (a b : Fin 8) (c : Fin 4) : FVec Ideal S1x256x704 .bf16 := k0_pay72 I.dy (I.g32 a) (I.pj b) (I.wO c)

/-- One piece's contribution to the row's gradient, in the two column ranges. -/
def stepA (z : FVec Ideal S256x256 .f32) (a b : Fin 8) (c : Fin 4) : FVec Ideal S256x256 .f32 :=
  k0_pay74 I.dy z (I.g32 a) (I.pj b) (I.wO c) (I.wA a)
def addA (z : FVec Ideal S256x256 .f32) (a b : Fin 8) (c : Fin 4) : FVec Ideal S256x256 .f32 := k0_pay75 (I.dup a c) (I.stepA z a b c) (I.wA b)
def addB (z : FVec Ideal S256x768 .f32) (a b : Fin 8) (c : Fin 4) : FVec Ideal S256x768 .f32 :=
  k0_pay76 z (I.dup a c) (I.dga a b c) (I.wB a) (I.wB b)
def dA3 : FVec Ideal S256x256 .f32 := I.addA (I.addA (I.addA k0_pay54 0 4 0) 1 5 1) 2 6 2
def dB3 : FVec Ideal S256x768 .f32 := I.addB (I.addB (I.addB k0_pay55 0 4 0) 1 5 1) 2 6 2

/-- The row's gradient and what follows from it. -/
def sc : FVec Ideal S1x1024 .f32 := k0_pay6 (I.mdRow 1)
def dh : FVec Ideal S256x1024 .f32 := k0_pay98 I.dB3 (I.dup 3 3) (I.dga 3 7 3) (I.stepA I.dA3 3 7 3) (k0_pay97 (I.wA 7)) (I.wB 3) (I.wB 7)
def dsc : FVec Ideal S1x1024 .f32 :=
  k0_pay99 (k0_pay12 I.x (I.gvRow 0)) I.dB3 (I.dup 3 3) (I.dga 3 7 3) (I.stepA I.dA3 3 7 3) (k0_pay97 (I.wA 7)) (I.wB 3) (I.wB 7)
def dsh : FVec Ideal S1x1024 .f32 :=
  k0_pay100 I.dB3 (I.dup 3 3) (I.dga 3 7 3) (I.stepA I.dA3 3 7 3) (k0_pay97 (I.wA 7)) (I.wB 3) (I.wB 7)
def dg1 : FVec Ideal S1x1024 .f32 :=
  k0_pay102 I.sc (k0_pay11 I.x) I.dB3 (I.dup 3 3) (I.dga 3 7 3) (I.stepA I.dA3 3 7 3) (k0_pay97 (I.wA 7)) (I.wB 3) (I.wB 7)
def dx : FVec Ideal S256x1024 .f32 :=
  k0_pay103 I.sc (k0_pay8 (I.gvRow 0)) (k0_pay10 I.x) (k0_pay11 I.x) I.dxo I.dB3 (I.dup 3 3) (I.dga 3 7 3) (I.stepA I.dA3 3 7 3)
    (k0_pay97 (I.wA 7)) (I.wB 3) (I.wB 7)

/-- The arrays a point leaves, entry by entry: the projection's gradient in eight pieces (gate pieces first), the activation in four. -/
def dgT : Vec Ideal S8x256x704 .bf16 := fun y =>
  if h : (y 0).val < 4 then I.dga ⟨(y 0).val, by omega⟩ ⟨4 + (y 0).val, by omega⟩ ⟨(y 0).val, h⟩ (ix2 (y 1) (y 2))
  else I.dup ⟨(y 0).val - 4, by have := (y 0).isLt; simp at this; omega⟩ ⟨(y 0).val - 4, by have := (y 0).isLt; simp at this; omega⟩ (ix2 (y 1) (y 2))
def actT : Vec Ideal S4x256x704 .bf16 := fun y =>
  I.act ⟨(y 0).val, by have := (y 0).isLt; simp at this; omega⟩ ⟨4 + (y 0).val, by have := (y 0).isLt; simp at this; omega⟩ (ix3 0 (y 1) (y 2))

/-- What a point adds to the modulation's gradient, the gains' and the loss. -/
def mgT : Vec Ideal S1x8x1024 .f32 := fun y =>
  if (y 1).val = 0 then I.dsh (ix2 0 (y 2)) else if (y 1).val = 1 then I.dsc (ix2 0 (y 2)) else if (y 1).val = 2 then I.dgt (ix2 0 (y 2)) else 0
def vgT : Vec Ideal S8x1024 .f32 := fun y =>
  if (y 0).val = 0 then I.dg1 (ix2 0 (y 1)) else if (y 0).val = 1 then I.dg2 (ix2 0 (y 1)) else 0

/-- Each stage's text is the stage. -/
theorem hT_text : k0_pay13 I.x (I.mdRow 0) (I.mdRow 1) (I.gvRow 0) = I.hT := rfl
theorem hA_text : k0_pay14 I.x (I.mdRow 0) (I.mdRow 1) (I.gvRow 0) = I.hA := rfl
theorem hB_text : k0_pay15 I.x (I.mdRow 0) (I.mdRow 1) (I.gvRow 0) = I.hB := rfl
theorem pj_text (j : Fin 8) : k0_pay19 I.hA I.hB (I.wA j) (I.wB j) = I.pj j := rfl
theorem act_text (a b : Fin 8) : k0_pay22 (k0_pay21 I.hA I.hB (I.wA a) (I.wB a) (I.wA b) (I.wB b)) = I.act a b := rfl
theorem y1_text : k0_pay23 k0_pay16 (I.act 0 4) (I.wO 0) = I.y1 := rfl
theorem y2_text : k0_pay23 I.y1 (I.act 1 5) (I.wO 1) = I.y2 := rfl
theorem y3_text : k0_pay23 I.y2 (I.act 2 6) (I.wO 2) = I.y3 := rfl
theorem ry_text : k0_pay45 I.y3 (I.act 3 7) (I.wO 3) = I.ry := rfl
theorem yh_text : k0_pay46 I.y3 (I.act 3 7) (I.wO 3) = I.yh := rfl
theorem gt_text : k0_pay7 (I.mdRow 2) = I.gt := rfl
theorem g2_text : k0_pay9 (I.gvRow 1) = I.g2 := rfl
theorem err_text : k0_pay48 (k0_pay5 I.x) I.gt I.g2 I.y3 (I.act 3 7) (I.wO 3) I.t = I.err := rfl
theorem dxo_text : k0_pay49 (k0_pay5 I.x) I.gt I.g2 I.y3 (I.act 3 7) (I.wO 3) I.t = I.dxo := rfl
theorem dgt_text : k0_pay50 (k0_pay5 I.x) I.gt I.g2 I.y3 (I.act 3 7) (I.wO 3) I.t = I.dgt := rfl
theorem dp_text : k0_pay51 (k0_pay5 I.x) I.gt I.g2 I.y3 (I.act 3 7) (I.wO 3) I.t = I.dp := rfl
theorem dg2_text : k0_pay52 (k0_pay5 I.x) I.gt I.g2 I.y3 (I.act 3 7) (I.wO 3) I.t = I.dg2 := rfl
theorem dy_text : k0_pay53 I.g2 I.ry I.yh I.dp = I.dy := rfl
theorem g32_text (a : Fin 8) : k0_pay67 (I.pj a) = I.g32 a := rfl
theorem dup_text (a : Fin 8) (c : Fin 4) : k0_pay70 I.dy (I.g32 a) (I.wO c) = I.dup a c := rfl
theorem dga_text (a b : Fin 8) (c : Fin 4) : k0_pay71 I.dy (I.g32 a) (I.pj b) (I.wO c) = I.dga a b c := rfl
theorem dupS_text (a : Fin 8) (c : Fin 4) : k0_pay73 I.dy (I.g32 a) (I.wO c) = I.dupS a c := rfl
theorem dupS_text' (a : Fin 8) (c : Fin 4) : k0_pay64 (I.dup a c) = I.dupS a c := rfl
theorem dupS_text'' (a : Fin 8) (c : Fin 4) : k0_pay86 (I.dup a c) = I.dupS a c := rfl
theorem dgaS_text (a b : Fin 8) (c : Fin 4) : k0_pay72 I.dy (I.g32 a) (I.pj b) (I.wO c) = I.dgaS a b c := rfl
theorem stepA_text (z : FVec Ideal S256x256 .f32) (a b : Fin 8) (c : Fin 4) : k0_pay74 I.dy z (I.g32 a) (I.pj b) (I.wO c) (I.wA a) = I.stepA z a b c := rfl
theorem addA_text (z : FVec Ideal S256x256 .f32) (a b : Fin 8) (c : Fin 4) : k0_pay75 (I.dup a c) (I.stepA z a b c) (I.wA b) = I.addA z a b c := rfl
theorem addB_text (z : FVec Ideal S256x768 .f32) (a b : Fin 8) (c : Fin 4) : k0_pay76 z (I.dup a c) (I.dga a b c) (I.wB a) (I.wB b) = I.addB z a b c := rfl
theorem dA3_text : I.addA (I.addA (I.addA k0_pay54 0 4 0) 1 5 1) 2 6 2 = I.dA3 := rfl
theorem dB3_text : I.addB (I.addB (I.addB k0_pay55 0 4 0) 1 5 1) 2 6 2 = I.dB3 := rfl
theorem sc_text : k0_pay6 (I.mdRow 1) = I.sc := rfl
theorem dh_text : k0_pay98 I.dB3 (I.dup 3 3) (I.dga 3 7 3) (I.stepA I.dA3 3 7 3) (k0_pay97 (I.wA 7)) (I.wB 3) (I.wB 7) = I.dh := rfl
theorem dsc_text : k0_pay99 (k0_pay12 I.x (I.gvRow 0)) I.dB3 (I.dup 3 3) (I.dga 3 7 3) (I.stepA I.dA3 3 7 3) (k0_pay97 (I.wA 7)) (I.wB 3) (I.wB 7) = I.dsc := rfl
theorem dsh_text : k0_pay100 I.dB3 (I.dup 3 3) (I.dga 3 7 3) (I.stepA I.dA3 3 7 3) (k0_pay97 (I.wA 7)) (I.wB 3) (I.wB 7) = I.dsh := rfl
theorem dg1_text : k0_pay102 I.sc (k0_pay11 I.x) I.dB3 (I.dup 3 3) (I.dga 3 7 3) (I.stepA I.dA3 3 7 3) (k0_pay97 (I.wA 7)) (I.wB 3) (I.wB 7) = I.dg1 := rfl
theorem dx_text : k0_pay103 I.sc (k0_pay8 (I.gvRow 0)) (k0_pay10 I.x) (k0_pay11 I.x) I.dxo I.dB3 (I.dup 3 3) (I.dga 3 7 3) (I.stepA I.dA3 3 7 3) (k0_pay97 (I.wA 7)) (I.wB 3) (I.wB 7) = I.dx := rfl

end In
end Cert.KernelIdeal.Tile
end
-- ==== Proof.Stores.lean ====
/- The stores of a point, piece by piece, read back as whole blocks. -/
module
public import proofs.«01_k».proof.Proof.Tile
public import Idealize.ShloMosaic.Lib.Pointwise
public import Idealize.ShloMosaic.Lib.WritesUnit
public import Idealize.ShloMosaic.Lib.VecWindow
public import Idealize.ShloMosaic.Lib.Pipeline.ValueKit
public import Idealize.ShloMosaic.Lib.Pipeline.ReadBack

@[expose] public section
set_option maxRecDepth 16384

noncomputable section
namespace Cert.KernelIdeal.Tile
open Cert.KernelIdeal Cert.KernelIdeal.Gen Idealize.ShloMosaic Idealize.ShloMosaic.TcCoe Idealize.SL.Sem
variable (I : In)

namespace In
/-- A stored piece of the projection's gradient, of the activation, is the block's part there. -/
theorem dupS_at (a : Fin 4) (x : S1x256x704.Idx) (y : S8x256x704.Idx) (h0 : (y 0).val = 4 + a.val) (h1 : (y 1).val = (x 1).val)
    (h2 : (y 2).val = (x 2).val) : I.dupS (a.castLE (by decide)) a x = I.dgT y := by
  have e1 : y 1 = x 1 := Fin.ext h1
  have e2 : y 2 = x 2 := Fin.ext h2
  have e0 : ((y 0).val - 4) = a.val := by omega
  unfold dgT
  rw [dif_neg (by omega)]
  simp only [e0, e1, e2]
  pointwise [dupS, dup, k0_pay73]
  all_goals rfl

theorem dgaS_at (a : Fin 4) (b : Fin 8) (hb : b.val = 4 + a.val) (x : S1x256x704.Idx) (y : S8x256x704.Idx) (h0 : (y 0).val = a.val) (h1 : (y 1).val = (x 1).val)
    (h2 : (y 2).val = (x 2).val) : I.dgaS (a.castLE (by decide)) b a x = I.dgT y := by
  have e1 : y 1 = x 1 := Fin.ext h1
  have e2 : y 2 = x 2 := Fin.ext h2
  have eb : b = ⟨4 + a.val, by clear hb; omega⟩ := Fin.ext hb
  unfold dgT
  rw [dif_pos (by omega)]
  subst eb
  simp only [h0, e1, e2]
  pointwise [dgaS, dga, k0_pay72]
  all_goals rfl

/-- The eight, the four pieces together. -/
theorem dg_read :
   View.canon (Val := Elt Ideal)
      [⟨Rect.unit ![7, 0, 0] ![1, 256, 704] inb_S8x256x704_S1x256x704_7_0_0, I.dupS 3 3⟩,
        ⟨Rect.unit ![3, 0, 0] ![1, 256, 704] inb_S8x256x704_S1x256x704_3_0_0, I.dgaS 3 7 3⟩,
        ⟨Rect.unit ![6, 0, 0] ![1, 256, 704] inb_S8x256x704_S1x256x704_6_0_0, I.dupS 2 2⟩,
        ⟨Rect.unit ![2, 0, 0] ![1, 256, 704] inb_S8x256x704_S1x256x704_2_0_0, I.dgaS 2 6 2⟩,
        ⟨Rect.unit ![5, 0, 0] ![1, 256, 704] inb_S8x256x704_S1x256x704_5_0_0, I.dupS 1 1⟩,
        ⟨Rect.unit ![1, 0, 0] ![1, 256, 704] inb_S8x256x704_S1x256x704_1_0_0, I.dgaS 1 5 1⟩,
        ⟨Rect.unit ![4, 0, 0] ![1, 256, 704] inb_S8x256x704_S1x256x704_4_0_0, I.dupS 0 0⟩,
        ⟨Rect.unit ![0, 0, 0] ![1, 256, 704] inb_S8x256x704_S1x256x704_0_0_0, I.dgaS 0 4 0⟩] = I.dgT := by
  funext y
  canon_tiles x h
  · exact I.dupS_at 3 x y (by simp; omega) h1 h2
  · exact I.dgaS_at 3 7 rfl x y (by simp; omega) h1 h2
  · exact I.dupS_at 2 x y (by simp; omega) h1 h2
  · exact I.dgaS_at 2 6 rfl x y (by simp; omega) h1 h2
  · exact I.dupS_at 1 x y (by simp; omega) h1 h2
  · exact I.dgaS_at 1 5 rfl x y (by simp; omega) h1 h2
  · exact I.dupS_at 0 x y (by simp; omega) h1 h2
  · exact I.dgaS_at 0 4 rfl x y (by simp; omega) h1 h2

theorem act_at (a : Fin 4) (b : Fin 8) (hb : b.val = 4 + a.val) (x : S1x256x704.Idx) (y : S4x256x704.Idx) (h0 : (y 0).val = a.val) (h1 : (y 1).val = (x 1).val)
    (h2 : (y 2).val = (x 2).val) : I.act (a.castLE (by decide)) b x = I.actT y := by
  have e1 : y 1 = x 1 := Fin.ext h1
  have e2 : y 2 = x 2 := Fin.ext h2
  have eb : b = ⟨4 + a.val, by clear hb; omega⟩ := Fin.ext hb
  have ex : x = ix3 0 (x 1) (x 2) := by
    funext k
    match k with
    | ⟨0, _⟩ => exact Subsingleton.elim (α := Fin 1) _ _
    | ⟨1, _⟩ => rfl
    | ⟨2, _⟩ => rfl
  unfold actT
  subst eb
  simp only [h0, e1, e2]
  exact congrArg (I.act _ _) ex

theorem act_read :
   View.canon (Val := Elt Ideal)
      [⟨Rect.unit ![3, 0, 0] ![1, 256, 704] inb_S4x256x704_S1x256x704_3_0_0, I.act 3 7⟩,
        ⟨Rect.unit ![2, 0, 0] ![1, 256, 704] inb_S4x256x704_S1x256x704_2_0_0, I.act 2 6⟩,
        ⟨Rect.unit ![1, 0, 0] ![1, 256, 704] inb_S4x256x704_S1x256x704_1_0_0, I.act 1 5⟩,
        ⟨Rect.unit ![0, 0, 0] ![1, 256, 704] inb_S4x256x704_S1x256x704_0_0_0, I.act 0 4⟩] = I.actT := by
  funext y
  canon_tiles x h
  · exact I.act_at 3 7 rfl x y (by simp; omega) h1 h2
  · exact I.act_at 2 6 rfl x y (by simp; omega) h1 h2
  · exact I.act_at 1 5 rfl x y (by simp; omega) h1 h2
  · exact I.act_at 0 4 rfl x y (by simp; omega) h1 h2

/-- Three rows added into the block of the modulation's gradient, whatever it was read from. -/
theorem mg_read {sg : RefSig} {κ : Kind} {sp : Space} (v : View sg κ sp S1x8x1024 .f32) (f : v.ty.Contents (Elt Ideal)) (L : List (View.Piece (Elt Ideal) S1x8x1024 .f32))
   (Z : Vec Ideal S1x8x1024 .f32) (hL : v.read (Elt Ideal) (v.writes (Elt Ideal) f L) = Z) (r : Fin 8) (d : Fin 1024) :
   v.read (Elt Ideal) (v.writes (Elt Ideal) f (
        ⟨Rect.unit ![0, 2, 0] ![1, 1, 1024] inb_S1x8x1024_S1x1x1024_0_2_0,
            k0_pay1 (k0_pay109 I.dgt (View.ld Z (Rect.unit ![0, 2, 0] ![1, 1, 1024] inb_S1x8x1024_S1x1x1024_0_2_0)))⟩ ::
          ⟨Rect.unit ![0, 1, 0] ![1, 1, 1024] inb_S1x8x1024_S1x1x1024_0_1_0,
            k0_pay108 I.dsc (View.ld Z (Rect.unit ![0, 1, 0] ![1, 1, 1024] inb_S1x8x1024_S1x1x1024_0_1_0))⟩ ::
          ⟨Rect.unit ![0, 0, 0] ![1, 1, 1024] inb_S1x8x1024_S1x1x1024_0_0_0,
            k0_pay107 I.dsh (View.ld Z (Rect.unit ![0, 0, 0] ![1, 1, 1024] inb_S1x8x1024_S1x1x1024_0_0_0))⟩ :: L)) (ix3 0 r d) = Z (ix3 0 r d) + I.mgT (ix3 0 r d) := by
  have hit : ∀ (q : ℕ) (hq : r.val = q) (inb) (w : Vec Ideal S1x1x1024 .f32) (L' : List (View.Piece (Elt Ideal) S1x8x1024 .f32)),
      v.read (Elt Ideal) (v.writes (Elt Ideal) f (⟨Rect.unit ![0, q, 0] ![1, 1, 1024] inb, w⟩ :: L')) (ix3 0 r d) = w (ix3 0 0 d) := by
    intro q hq inb w L'
    refine View.read_writes_cons_unit_of_mem v f inb w L' (ix3 0 r d) (ix3 0 0 d) rfl fun a => ?_
    match a with
    | ⟨0, _⟩ => rfl
    | ⟨1, _⟩ => exact hq
    | ⟨2, _⟩ => exact (Nat.zero_add _).symm
  have miss : ∀ (q : ℕ) (hq : r.val ≠ q) (inb) (w : Vec Ideal S1x1x1024 .f32) (L' : List (View.Piece (Elt Ideal) S1x8x1024 .f32)),
      v.read (Elt Ideal) (v.writes (Elt Ideal) f (⟨Rect.unit ![0, q, 0] ![1, 1, 1024] inb, w⟩ :: L')) (ix3 0 r d)
        = v.read (Elt Ideal) (v.writes (Elt Ideal) f L') (ix3 0 r d) := by
    intro q hq inb w L'
    refine View.read_writes_cons_unit_of_not_mem v f inb w L' (ix3 0 r d) rfl 1 ?_
    show r.val < q ∨ q + 1 ≤ r.val
    omega
  by_cases h2 : r.val = 2
  · rw [hit 2 h2]
    obtain rfl : r = 2 := Fin.ext h2
    pointwise [k0_pay1, k0_pay109, mgT]
  rw [miss 2 h2]
  by_cases h1 : r.val = 1
  · rw [hit 1 h1]
    obtain rfl : r = 1 := Fin.ext h1
    pointwise [k0_pay108, mgT]
  rw [miss 1 h1]
  by_cases h0 : r.val = 0
  · rw [hit 0 h0]
    obtain rfl : r = 0 := Fin.ext h0
    pointwise [k0_pay107, mgT]
  rw [miss 0 h0, hL]
  have e : I.mgT (ix3 0 r d) = 0 := by
    exact (if_neg h0).trans ((if_neg h1).trans (if_neg h2))
  rw [e]
  exact (add_zero _).symm

/-- Two rows added into the block of the gains' gradient. -/
theorem vg_read {sg : RefSig} {κ : Kind} {sp : Space} (v : View sg κ sp S8x1024 .f32) (f : v.ty.Contents (Elt Ideal)) (L : List (View.Piece (Elt Ideal) S8x1024 .f32))
   (Z : Vec Ideal S8x1024 .f32) (hL : v.read (Elt Ideal) (v.writes (Elt Ideal) f L) = Z) (r : Fin 8) (d : Fin 1024) :
   v.read (Elt Ideal) (v.writes (Elt Ideal) f (
        ⟨Rect.unit ![1, 0] ![1, 1024] inb_S8x1024_S1x1024_1_0, k0_pay3 I.dg2 (View.ld Z (Rect.unit ![1, 0] ![1, 1024] inb_S8x1024_S1x1024_1_0))⟩ ::
          ⟨Rect.unit ![0, 0] ![1, 1024] inb_S8x1024_S1x1024_0_0, k0_pay2 I.dg1 (View.ld Z (Rect.unit ![0, 0] ![1, 1024] inb_S8x1024_S1x1024_0_0))⟩ :: L)) (ix2 r d)
     = Z (ix2 r d) + I.vgT (ix2 r d) := by
  have hit : ∀ (q : ℕ) (hq : r.val = q) (inb) (w : Vec Ideal S1x1024 .f32) (L' : List (View.Piece (Elt Ideal) S8x1024 .f32)),
      v.read (Elt Ideal) (v.writes (Elt Ideal) f (⟨Rect.unit ![q, 0] ![1, 1024] inb, w⟩ :: L')) (ix2 r d) = w (ix2 0 d) := by
    intro q hq inb w L'
    refine View.read_writes_cons_unit_of_mem v f inb w L' (ix2 r d) (ix2 0 d) rfl fun a => ?_
    match a with
    | ⟨0, _⟩ => exact hq
    | ⟨1, _⟩ => exact (Nat.zero_add _).symm
  have miss : ∀ (q : ℕ) (hq : r.val ≠ q) (inb) (w : Vec Ideal S1x1024 .f32) (L' : List (View.Piece (Elt Ideal) S8x1024 .f32)),
      v.read (Elt Ideal) (v.writes (Elt Ideal) f (⟨Rect.unit ![q, 0] ![1, 1024] inb, w⟩ :: L')) (ix2 r d)
        = v.read (Elt Ideal) (v.writes (Elt Ideal) f L') (ix2 r d) := by
    intro q hq inb w L'
    refine View.read_writes_cons_unit_of_not_mem v f inb w L' (ix2 r d) rfl 0 ?_
    show r.val < q ∨ q + 1 ≤ r.val
    omega
  by_cases h1 : r.val = 1
  · rw [hit 1 h1]
    obtain rfl : r = 1 := Fin.ext h1
    pointwise [k0_pay3, vgT]
  rw [miss 1 h1]
  by_cases h0 : r.val = 0
  · rw [hit 0 h0]
    obtain rfl : r = 0 := Fin.ext h0
    pointwise [k0_pay2, vgT]
  rw [miss 0 h0, hL]
  have e : I.vgT (ix2 r d) = 0 := by
    exact (if_neg h0).trans (if_neg h1)
  rw [e]
  exact (add_zero _).symm

/-- The zero fills. -/
theorem mg_zero (y : S1x8x1024.Idx) : k0_pay104 (F := Ideal) y = 0 := by
  pointwise [k0_pay104]
theorem vg_zero (y : S8x1024.Idx) : k0_pay105 (F := Ideal) y = 0 := by
  pointwise [k0_pay105]

/-- The same as whole blocks: added into what was there, or into the zero fill. -/
theorem mg_step {sg : RefSig} {κ : Kind} {sp : Space} (v : View sg κ sp S1x8x1024 .f32) (f : v.ty.Contents (Elt Ideal)) (Z : Vec Ideal S1x8x1024 .f32)
    (hf : v.read (Elt Ideal) f = Z) :
   v.read (Elt Ideal) (v.writes (Elt Ideal) f [
        ⟨Rect.unit ![0, 2, 0] ![1, 1, 1024] inb_S1x8x1024_S1x1x1024_0_2_0,
            k0_pay1 (k0_pay109 I.dgt (View.ld Z (Rect.unit ![0, 2, 0] ![1, 1, 1024] inb_S1x8x1024_S1x1x1024_0_2_0)))⟩,
          ⟨Rect.unit ![0, 1, 0] ![1, 1, 1024] inb_S1x8x1024_S1x1x1024_0_1_0,
            k0_pay108 I.dsc (View.ld Z (Rect.unit ![0, 1, 0] ![1, 1, 1024] inb_S1x8x1024_S1x1x1024_0_1_0))⟩,
          ⟨Rect.unit ![0, 0, 0] ![1, 1, 1024] inb_S1x8x1024_S1x1x1024_0_0_0,
            k0_pay107 I.dsh (View.ld Z (Rect.unit ![0, 0, 0] ![1, 1, 1024] inb_S1x8x1024_S1x1x1024_0_0_0))⟩]) = fun y => Z y + I.mgT y := by
  funext y
  obtain ⟨b, r, d, rfl⟩ : ∃ b r d, y = ix3 b r d := ⟨_, _, _, eq_ix3 y⟩
  obtain rfl : b = 0 := Subsingleton.elim (α := Fin 1) _ _
  exact I.mg_read v f [] Z hf r d

theorem mg_first {sg : RefSig} {κ : Kind} {sp : Space} (v : View sg κ sp S1x8x1024 .f32) (Z : Vec Ideal S1x8x1024 .f32) :
    View.canon (Val := Elt Ideal)
      [⟨Rect.unit ![0, 2, 0] ![1, 1, 1024] inb_S1x8x1024_S1x1x1024_0_2_0,
          k0_pay1 (k0_pay109 I.dgt (View.ld Z (Rect.unit ![0, 2, 0] ![1, 1, 1024] inb_S1x8x1024_S1x1x1024_0_2_0)))⟩,
        ⟨Rect.unit ![0, 1, 0] ![1, 1, 1024] inb_S1x8x1024_S1x1x1024_0_1_0,
          k0_pay108 I.dsc (View.ld Z (Rect.unit ![0, 1, 0] ![1, 1, 1024] inb_S1x8x1024_S1x1x1024_0_1_0))⟩,
        ⟨Rect.unit ![0, 0, 0] ![1, 1, 1024] inb_S1x8x1024_S1x1x1024_0_0_0,
          k0_pay107 I.dsh (View.ld Z (Rect.unit ![0, 0, 0] ![1, 1, 1024] inb_S1x8x1024_S1x1x1024_0_0_0))⟩,
        ⟨Rect.unit ![0, 0, 0] ![1, 8, 1024] inb_S1x8x1024_S1x8x1024_0_0_0, Z⟩] = fun y => Z y + I.mgT y := by
  rw [← View.read_writes_junk_eq_canon v]
  funext y
  obtain ⟨b, r, d, rfl⟩ : ∃ b r d, y = ix3 b r d := ⟨_, _, _, eq_ix3 y⟩
  obtain rfl : b = 0 := Subsingleton.elim (α := Fin 1) _ _
  exact I.mg_read v v.junk [_] Z (View.read_writes_full (s := S1x8x1024) v _ _ Z _) r d

theorem vg_step {sg : RefSig} {κ : Kind} {sp : Space} (v : View sg κ sp S8x1024 .f32) (f : v.ty.Contents (Elt Ideal)) (Z : Vec Ideal S8x1024 .f32)
    (hf : v.read (Elt Ideal) f = Z) :
   v.read (Elt Ideal) (v.writes (Elt Ideal) f [
        ⟨Rect.unit ![1, 0] ![1, 1024] inb_S8x1024_S1x1024_1_0, k0_pay3 I.dg2 (View.ld Z (Rect.unit ![1, 0] ![1, 1024] inb_S8x1024_S1x1024_1_0))⟩,
          ⟨Rect.unit ![0, 0] ![1, 1024] inb_S8x1024_S1x1024_0_0, k0_pay2 I.dg1 (View.ld Z (Rect.unit ![0, 0] ![1, 1024] inb_S8x1024_S1x1024_0_0))⟩])
     = fun y => Z y + I.vgT y := by
  funext y
  obtain ⟨r, d, rfl⟩ : ∃ r d, y = ix2 r d := ⟨_, _, eq_ix2 y⟩
  exact I.vg_read v f [] Z hf r d

theorem vg_first {sg : RefSig} {κ : Kind} {sp : Space} (v : View sg κ sp S8x1024 .f32) (Z : Vec Ideal S8x1024 .f32) :
    View.canon (Val := Elt Ideal)
      [⟨Rect.unit ![1, 0] ![1, 1024] inb_S8x1024_S1x1024_1_0, k0_pay3 I.dg2 (View.ld Z (Rect.unit ![1, 0] ![1, 1024] inb_S8x1024_S1x1024_1_0))⟩,
        ⟨Rect.unit ![0, 0] ![1, 1024] inb_S8x1024_S1x1024_0_0, k0_pay2 I.dg1 (View.ld Z (Rect.unit ![0, 0] ![1, 1024] inb_S8x1024_S1x1024_0_0))⟩,
        ⟨Rect.unit ![0, 0] ![8, 1024] inb_S8x1024_S8x1024_0_0, Z⟩] = fun y => Z y + I.vgT y := by
  rw [← View.read_writes_junk_eq_canon v]
  funext y
  obtain ⟨r, d, rfl⟩ : ∃ r d, y = ix2 r d := ⟨_, _, eq_ix2 y⟩
  exact I.vg_read v v.junk [_] Z (View.read_writes_full (s := S8x1024) v _ _ Z _) r d

end In
end Cert.KernelIdeal.Tile
end
-- ==== Proof.Copies.lean ====
/- The unrolled pieces of the kernel's tile are copies of one another: each copy's words, read as the first copy's. -/
module

public import proofs.«01_k».proof.Proof.Gen.KernelIdeal.Value

@[expose] public section

set_option maxRecDepth 16384

namespace Cert.KernelIdeal.Copies

open Cert.KernelIdeal Cert.KernelIdeal.Gen Idealize.ShloMosaic

variable {F : FTy → Type} [FloatOps F] (a : FVec F S256x256 .bf16) (b : FVec F S256x768 .bf16) (u u' : Vec F S1x704x256 .bf16)
  (v v' : Vec F S1x704x768 .bf16) (w : Vec F S1x704x1024 .bf16) (q q' : Vec F S1x256x704 .bf16) (s s' : FVec F S256x704 .bf16)
  (y : FVec F S256x1024 .f32) (g2 : FVec F S1x1024 .f32) (ry : FVec F S256x1 .f32) (yh dp : FVec F S256x1024 .f32) (dy : FVec F S256x1024 .bf16)
  (g : FVec F S256x704 .f32) (za : FVec F S256x256 .f32) (zb : FVec F S256x768 .f32)

theorem proj18 : k0_pay18 a b u v = k0_pay17 a b u v := rfl
theorem proj24 : k0_pay24 a b u v = k0_pay17 a b u v := rfl
theorem proj25 : k0_pay25 a b u v = k0_pay17 a b u v := rfl
theorem proj31 : k0_pay31 a b u v = k0_pay17 a b u v := rfl
theorem proj38 : k0_pay38 a b u v = k0_pay17 a b u v := rfl
theorem proj39 : k0_pay39 a b u v = k0_pay17 a b u v := rfl
theorem proj33 : k0_pay33 b (k0_pay32 a u) v = k0_pay17 a b u v := rfl
theorem store20 : k0_pay20 a b u v = k0_pay19 a b u v := rfl
theorem store26 : k0_pay26 a b u v = k0_pay19 a b u v := rfl
theorem store40 : k0_pay40 a b u v = k0_pay19 a b u v := rfl
theorem store41 : k0_pay41 a b u v = k0_pay19 a b u v := rfl
theorem store28 : k0_pay28 (k0_pay27 a b u v) = k0_pay19 a b u v := rfl
theorem store34 : k0_pay34 (k0_pay17 a b u v) = k0_pay19 a b u v := rfl
theorem store35 : k0_pay35 b (k0_pay32 a u) v = k0_pay19 a b u v := rfl
theorem act29 : k0_pay29 (k0_pay17 a b u v) (k0_pay17 a b u' v') = k0_pay22 (k0_pay21 a b u v u' v') := rfl
theorem act36 : k0_pay36 b (k0_pay17 a b u v) (k0_pay32 a u') v' = k0_pay22 (k0_pay21 a b u v u' v') := rfl
theorem act43 : k0_pay43 (k0_pay42 a b u v u' v') = k0_pay22 (k0_pay21 a b u v u' v') := rfl
theorem out30 : k0_pay30 y q w = k0_pay23 y q w := rfl
theorem out37 : k0_pay37 y q w = k0_pay23 y q w := rfl
theorem wide77 : k0_pay77 q = k0_pay67 q := rfl
theorem wide89 : k0_pay89 q = k0_pay67 q := rfl
theorem dup59 : k0_pay59 g2 ry yh dp q w = k0_pay70 (k0_pay53 g2 ry yh dp) (k0_pay67 q) w := rfl
theorem dup80 : k0_pay80 dy q w = k0_pay70 dy (k0_pay67 q) w := rfl
theorem dup92 : k0_pay92 dy g w = k0_pay70 dy g w := rfl
theorem dga62 : k0_pay62 (k0_pay57 q) (k0_pay60 g2 ry yh dp q' w) (k0_pay61 q) = k0_pay71 (k0_pay53 g2 ry yh dp) (k0_pay67 q) q' w := rfl
theorem dga84 : k0_pay84 (k0_pay78 q) (k0_pay81 dy q' w) (k0_pay82 q) k0_pay83 = k0_pay71 dy (k0_pay67 q) q' w := rfl
theorem dga93 : k0_pay93 dy g q w = k0_pay71 dy g q w := rfl
theorem dgaS63 : k0_pay63 (k0_pay57 q) (k0_pay60 g2 ry yh dp q' w) (k0_pay61 q) = k0_pay72 (k0_pay53 g2 ry yh dp) (k0_pay67 q) q' w := rfl
theorem dgaS85 : k0_pay85 (k0_pay78 q) (k0_pay81 dy q' w) (k0_pay82 q) k0_pay83 = k0_pay72 dy (k0_pay67 q) q' w := rfl
theorem dgaS94 : k0_pay94 dy g q w = k0_pay72 dy g q w := rfl
theorem dupS64 : k0_pay64 (k0_pay70 dy g w) = k0_pay73 dy g w := rfl
theorem dupS86 : k0_pay86 (k0_pay70 dy g w) = k0_pay73 dy g w := rfl
theorem dupS95 : k0_pay95 dy g w = k0_pay73 dy g w := rfl
theorem addA65 : k0_pay65 za (k0_pay57 q) s (k0_pay60 g2 ry yh dp q' w) (k0_pay61 q) u u' = k0_pay75 s (k0_pay74 (k0_pay53 g2 ry yh dp) za (k0_pay67 q) q' w u) u' := rfl
theorem addA87 : k0_pay87 za (k0_pay78 q) s (k0_pay81 dy q' w) (k0_pay82 q) k0_pay83 u u' = k0_pay75 s (k0_pay74 dy za (k0_pay67 q) q' w u) u' := rfl
theorem addA96 : k0_pay96 dy za g q w u = k0_pay74 dy za g q w u := rfl
theorem addB66 : k0_pay66 zb (k0_pay57 q) s (k0_pay60 g2 ry yh dp q' w) (k0_pay61 q) v v' = k0_pay76 zb s (k0_pay71 (k0_pay53 g2 ry yh dp) (k0_pay67 q) q' w) v v' := rfl
theorem addB88 : k0_pay88 zb (k0_pay78 q) s (k0_pay81 dy q' w) (k0_pay82 q) k0_pay83 v v' = k0_pay76 zb s (k0_pay71 dy (k0_pay67 q) q' w) v v' := rfl

end Cert.KernelIdeal.Copies
end
-- ==== Proof.Opened.lean ====
/- What the kernel's point leaves in each of its output blocks, over the blocks it read. -/
module

public import proofs.«01_k».proof.Proof.Stores
public import proofs.«01_k».proof.Proof.Copies

@[expose] public section

set_option maxRecDepth 16384

noncomputable section

namespace Cert.KernelIdeal.Opened

open Cert.KernelIdeal Cert.KernelIdeal.Gen Cert.KernelIdeal.Value Cert.KernelIdeal.Tile Cert.KernelIdeal.Copies
open Idealize.ShloMosaic Idealize.ShloMosaic.TcCoe Idealize.SL.Sem

variable (m : (ℓ : Loc nD τ sig) → Buf (Elt Ideal) ℓ)

/-- The blocks point `t` reads. -/
def inp (c : Dev nD) (t : Fin cfg0.N) : In :=
  ⟨iblk m c 0 t, iblk m c 1 t, iblk m c 2 t, iblk m c 3 t, iblk m c 4 t, iblk m c 5 t, iblk m c 6 t⟩

set_option maxHeartbeats 1600000 in
/-- The five blocks of its own, and the three it adds into: those start at zero at the first point of a sequence, of the grid. -/
theorem opened (c : Dev nD) (t : Fin cfg0.N) :
    (outsAt0 m c t.val t.isLt).1 = (inp m c t).dx
    ∧ (outsAt0 m c t.val t.isLt).2.1 = (inp m c t).dgT
    ∧ (outsAt0 m c t.val t.isLt).2.2.1 = (inp m c t).actT
    ∧ (outsAt0 m c t.val t.isLt).2.2.2.1 = (inp m c t).hT
    ∧ (outsAt0 m c t.val t.isLt).2.2.2.2.1 = (inp m c t).dy
    ∧ (outsAt0 m c t.val t.isLt).2.2.2.2.2.1
      = (fun y => (if t.val % 8 = 0 then k0_pay104 (F := Ideal) y else (outsAt0 m c (t.val - 1) (by omega)).2.2.2.2.2.1 y) + (inp m c t).mgT y)
    ∧ (outsAt0 m c t.val t.isLt).2.2.2.2.2.2.1
      = (fun y => (if t.val % 16 = 0 then k0_pay105 (F := Ideal) y else (outsAt0 m c (t.val - 1) (by omega)).2.2.2.2.2.2.1 y) + (inp m c t).vgT y)
    ∧ (outsAt0 m c t.val t.isLt).2.2.2.2.2.2.2
      = k0_pay4 (inp m c t).err (if t.val % 16 = 0 then k0_pay106 (F := Ideal) else (outsAt0 m c (t.val - 1) (by omega)).2.2.2.2.2.2.2) := by
  have e0 : iblk m c 0 t = (inp m c t).x := rfl
  have e1 : iblk m c 1 t = (inp m c t).t := rfl
  have e2 : iblk m c 2 t = (inp m c t).md := rfl
  have e3 : iblk m c 3 t = (inp m c t).gv := rfl
  have e4 : iblk m c 4 t = (inp m c t).wa := rfl
  have e5 : iblk m c 5 t = (inp m c t).wb := rfl
  have e6 : iblk m c 6 t = (inp m c t).wo := rfl
  obtain ⟨h1, h2⟩ | ⟨h1, h2⟩ | ⟨h1, h2⟩ : (t.val % 8 = 0 ∧ t.val % 16 = 0) ∨ (¬ t.val % 8 = 0 ∧ ¬ t.val % 16 = 0)
      ∨ (t.val % 8 = 0 ∧ ¬ t.val % 16 = 0) := by omega
  rw [outsAt0_A m c t h1 h2]; simp only [if_pos h1, if_pos h2]
  rotate_left 1
  rw [outsAt0_B m c t h1 h2]; simp only [if_neg h1, if_neg h2]
  rotate_left 1
  rw [outsAt0_C m c t h1 h2]; simp only [if_pos h1, if_neg h2]
  all_goals refine ⟨?_, ?_, ?_, ?_, ?_, ?_, ?_, ?_⟩
  all_goals frame_open
  all_goals simp (disch := decide) only [↓ View.readCov_skip, ↓ View.readCov_cons_toLoadRect, ↓ View.readCov_fill]
  all_goals frame_out
  all_goals simp only [e0, e1, e2, e3, e4, e5, e6]
  all_goals generalize inp m c t = I
  all_goals try simp (disch := decide) only [
    In.ld_md, In.ld_gv, In.ld_wa, In.ld_wb, In.ld_wo, Fin.reduceFinMk, proj18, proj24, proj25, proj31, proj38, proj39, proj33, store20,
    store26, store40, store41, store28, store34, store35, act29, act36, act43, out30, out37, wide77, wide89, dup59, dup80, dup92, dga62,
    dga84, dga93, dgaS63, dgaS85, dgaS94, dupS64, dupS86, dupS95, addA65, addA87, addA96, addB66, addB88, In.hT_text, In.hA_text, In.hB_text,
    In.pj_text, In.act_text, In.y1_text, In.y2_text, In.y3_text, In.ry_text, In.yh_text, In.gt_text, In.g2_text, In.err_text, In.dxo_text,
    In.dgt_text, In.dp_text, In.dg2_text, In.dy_text, In.g32_text, In.dup_text, In.dga_text, In.dupS_text, In.dupS_text', In.dupS_text'',
    In.dgaS_text, In.dg_read, In.act_read, In.stepA_text, In.addA_text, In.addB_text, In.dA3_text, In.dB3_text, In.sc_text, In.dh_text,
    In.dsc_text, In.dsh_text, In.dg1_text, In.dx_text]
  · exact I.mg_first (ms0_12 t).view _
  · exact I.vg_step _ _ _ (Memref.IsWhole.read_unread _ _)
  · exact I.mg_first (ms0_12 t).view _
  · exact I.vg_first (ms0_13 t).view _
  · exact I.mg_step _ _ _ (Memref.IsWhole.read_unread _ _)
  · exact I.vg_step _ _ _ (Memref.IsWhole.read_unread _ _)

end Cert.KernelIdeal.Opened
end
-- ==== Proof.Model.lean ====
/- The gated feed-forward block between two RMS norms, for one token, over the reals: its forward values, its
   gradient, and the facts that carry real numbers through the extended-real operations of the programs. -/
module

public import Idealize.ShloMosaic.Lib.Pointwise
public import Idealize.ShloMosaic.PureOps.Ideal.Laws

@[expose] public section

set_option maxRecDepth 16384

noncomputable section

namespace Ffn

open Idealize.ShloMosaic

/-! ### Constants and operations on reals -/

/-- The real number the word of `1e-6` denotes. -/
def eps : ℝ := 8796093 / 8796093022208

theorem eps_pos : 0 < eps := by norm_num [eps]

theorem lit_eps : Ideal.ofBits .f32 0x358637BD#32 = ((eps : ℝ) : EReal) := by
  simp [Ideal.ofBits, Ideal.ieee, eps]
  norm_num [zpow_neg]
  try norm_cast
  try norm_num

theorem lit_half : Ideal.ofBits .f32 0x3F000000#32 = ((1 / 2 : ℝ) : EReal) := by
  simp [Ideal.ofBits, Ideal.ieee]
  rw [← EReal.coe_mul]
  norm_num

theorem lit_neg_half : Ideal.ofBits .f32 0xBF000000#32 = ((-(1 / 2) : ℝ) : EReal) := by
  simp [Ideal.ofBits, Ideal.ieee]
  rw [← EReal.coe_mul]
  norm_num

theorem lit_two : Ideal.ofBits .f32 0x40000000#32 = ((2 : ℝ) : EReal) := by
  simp [Ideal.ofBits, Ideal.ieee]
  rw [← EReal.coe_mul]
  norm_num

theorem lit_one : Ideal.ofBits .f32 0x3F800000#32 = ((1 : ℝ) : EReal) := by
  simp [Ideal.ofBits, Ideal.ieee]
  rw [← EReal.coe_mul]
  norm_num

theorem lit_zero : Ideal.ofBits .f32 0x00000000#32 = ((0 : ℝ) : EReal) := by
  simp [Ideal.ofBits, Ideal.ieee]

theorem lit_1024 : Ideal.ofBits .f32 0x44800000#32 = ((1024 : ℝ) : EReal) := by
  simp [Ideal.ofBits, Ideal.ieee]
  rw [← EReal.coe_mul]
  norm_num

theorem lit_inv_1024 : Ideal.ofBits .f32 0x3A800000#32 = ((1 / 1024 : ℝ) : EReal) := by
  simp [Ideal.ofBits, Ideal.ieee]
  rw [← EReal.coe_mul]
  norm_num

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum over the two leading axes of an array of three. -/
theorem hostSum_two {n0 n1 n2 : Nat} (h : (⟨3, ![n0, n1, n2]⟩ : Shape).ReducesTo [0, 1] ⟨1, ![n2]⟩)
    (v : (⟨3, ![n0, n1, n2]⟩ : Shape).Idx → EReal) (z : EReal) (d : Fin n2) :
    Ideal.hostReduceAdd h v z (ix1 d) = z + ∑ a : Fin n0, ∑ b : Fin n1, v (ix3 a b d) := by
  have hd : ∀ i, h.drop i = ix1 d ↔ i 2 = d := fun i => by
    constructor
    · intro e
      exact Fin.ext (congrArg Fin.val (congrFun e 0))
    · intro e
      funext k
      match k with
      | ⟨0, _⟩ => exact Fin.ext (congrArg Fin.val e)
  unfold Ideal.hostReduceAdd
  refine congrArg (z + ·) ?_
  rw [Finset.sum_filter, sum_idx3]
  refine Finset.sum_congr rfl fun a _ => Finset.sum_congr rfl fun b _ => ?_
  rw [Finset.sum_eq_single d]
  · rw [if_pos ((hd _).2 rfl)]
  · intro k _ hk
    rw [if_neg fun e => hk ((hd _).1 e)]
  · intro hk
    exact absurd (Finset.mem_univ d) hk

theorem div_1024 (x : ℝ) : Ideal.div (x : EReal) ((1024 : ℝ) : EReal) = ((x / 1024 : ℝ) : EReal) := by
  rw [Ideal.div_coe (by norm_num), ← EReal.coe_mul]
  congr 1
  ring

theorem div_pos_real (x y : ℝ) (h : 0 < y) : Ideal.div (x : EReal) (y : EReal) = ((x / y : ℝ) : EReal) := by
  rw [Ideal.div_coe h.ne', ← EReal.coe_mul]
  congr 1
  ring

theorem rsqrt_pos (x : ℝ) (h : 0 < x) : Ideal.rsqrt (x : EReal) = (((Real.sqrt x)⁻¹ : ℝ) : EReal) := by
  rw [Ideal.rsqrt_coe, if_neg h.le.not_gt, if_neg h.ne']

theorem one_add_exp_pos (z : ℝ) : 0 < 1 + Real.exp z := by positivity

/-! ### One token -/

/-- The mean of a row's squares, over its 1024 entries. -/
def ms (x : Fin 1024 → ℝ) : ℝ := (∑ d, x d * x d) / 1024

/-- The reciprocal root mean square of a row. -/
def inv (x : Fin 1024 → ℝ) : ℝ := (Real.sqrt (ms x + eps))⁻¹

theorem ms_eps_pos (x : Fin 1024 → ℝ) : 0 < ms x + eps :=
  add_pos_of_nonneg_of_pos (div_nonneg (Finset.sum_nonneg fun d _ => mul_self_nonneg (x d)) (by norm_num)) eps_pos

theorem rsqrt_ms (x : Fin 1024 → ℝ) : Ideal.rsqrt ((ms x + eps : ℝ) : EReal) = ((inv x : ℝ) : EReal) := rsqrt_pos _ (ms_eps_pos x)

/-- The logistic function. -/
def sgm (z : ℝ) : ℝ := (1 + Real.exp (-z))⁻¹

theorem sgm_tanh (z : ℝ) : 1 / 2 * Real.tanh (1 / 2 * z) + 1 / 2 = sgm z := by
  have h : Real.exp (-z) = Real.exp (-(1 / 2 * z)) * Real.exp (-(1 / 2 * z)) := by rw [← Real.exp_add]; congr 1; ring
  have h1 : Real.exp (1 / 2 * z) * Real.exp (-(1 / 2 * z)) = 1 := by rw [← Real.exp_add]; simp
  have hp := Real.exp_pos (1 / 2 * z)
  have hn := Real.exp_pos (-(1 / 2 * z))
  rw [sgm, h, Real.tanh_eq_sinh_div_cosh, Real.sinh_eq, Real.cosh_eq]
  generalize Real.exp (1 / 2 * z) = a at *
  generalize Real.exp (-(1 / 2 * z)) = b at *
  have hab : a + b ≠ 0 := by positivity
  have hb : 1 + b * b ≠ 0 := by positivity
  field_simp
  linear_combination 2 * b * h1

/-- What one token's block reads: its row, the three modulation rows, the two gains, and the two weights. -/
structure Row where
  x : Fin 1024 → ℝ
  sh : Fin 1024 → ℝ
  sc : Fin 1024 → ℝ
  gt : Fin 1024 → ℝ
  g1 : Fin 1024 → ℝ
  g2 : Fin 1024 → ℝ
  W : Fin 1024 → Fin 5632 → ℝ
  V : Fin 2816 → Fin 1024 → ℝ

namespace Row

variable (R : Row)

/-- The first and the second half of the projection's columns. -/
def lo (f : Fin 2816) : Fin 5632 := ⟨f.val, by omega⟩
def hi (f : Fin 2816) : Fin 5632 := ⟨2816 + f.val, by omega⟩

/-- The normalised row, with its gain, and modulated. -/
def xh (d : Fin 1024) : ℝ := R.x d * inv R.x
def n (d : Fin 1024) : ℝ := R.xh d * R.g1 d
def h (d : Fin 1024) : ℝ := R.n d * (1 + R.sc d) + R.sh d

/-- Gate and up projection, the gated activation, and the output projection. -/
def proj (j : Fin 5632) : ℝ := ∑ d, R.h d * R.W d j
def gate (f : Fin 2816) : ℝ := R.proj (lo f)
def up (f : Fin 2816) : ℝ := R.proj (hi f)
def silu (f : Fin 2816) : ℝ := R.gate f * sgm (R.gate f)
def act (f : Fin 2816) : ℝ := R.silu f * R.up f
def y (d : Fin 1024) : ℝ := ∑ f, R.act f * R.V f d

/-- The second norm and the block's residual output. -/
def yh (d : Fin 1024) : ℝ := R.y d * inv R.y
def pn (d : Fin 1024) : ℝ := R.yh d * R.g2 d
def out (d : Fin 1024) : ℝ := R.x d + 1 / 2 * R.gt d * R.pn d

variable (e : Fin 1024 → ℝ)

/-- The gradient, for the cotangent `e` of the output row. -/
def dp (d : Fin 1024) : ℝ := 1 / 2 * R.gt d * e d
def dyh (d : Fin 1024) : ℝ := R.dp e d * R.g2 d
def my : ℝ := (∑ d, R.dyh e d * R.yh d) / 1024
def dy (d : Fin 1024) : ℝ := inv R.y * (R.dyh e d - R.yh d * R.my e)
def dact (f : Fin 2816) : ℝ := ∑ d, R.dy e d * R.V f d
def dup (f : Fin 2816) : ℝ := R.dact e f * R.silu f
def dgate (f : Fin 2816) : ℝ := R.dact e f * R.up f * (sgm (R.gate f) * (1 + R.gate f * (1 - sgm (R.gate f))))
/-- Both halves of the projection's gradient in one row, the gate's first. -/
def dproj (j : Fin 5632) : ℝ := if h : j.val < 2816 then R.dgate e ⟨j.val, h⟩ else R.dup e ⟨j.val - 2816, by omega⟩
def dh (d : Fin 1024) : ℝ := (∑ f, R.dgate e f * R.W d (lo f)) + ∑ f, R.dup e f * R.W d (hi f)
def dn (d : Fin 1024) : ℝ := R.dh e d * (1 + R.sc d)
def dxh (d : Fin 1024) : ℝ := R.dn e d * R.g1 d
def mx : ℝ := (∑ d, R.dxh e d * R.xh d) / 1024
def dx (d : Fin 1024) : ℝ := e d + inv R.x * (R.dxh e d - R.xh d * R.mx e)

theorem dproj_lo (f : Fin 2816) : R.dproj e (lo f) = R.dgate e f := dif_pos f.isLt

theorem dproj_hi (f : Fin 2816) : R.dproj e (hi f) = R.dup e f := by
  have h : ¬ (hi f).val < 2816 := by simp [hi]
  rw [dproj, dif_neg h]
  congr 1
  exact Fin.ext (by simp [hi])

theorem dh_eq (d : Fin 1024) : ∑ j, R.dproj e j * R.W d j = R.dh e d := by
  rw [Fin.sum_univ_two_halves 2816 2816 rfl]
  refine congrArg₂ (· + ·) (Finset.sum_congr rfl fun f _ => ?_) (Finset.sum_congr rfl fun f _ => ?_)
  · exact congrArg (· * _) (R.dproj_lo e f)
  · exact congrArg (· * _) (R.dproj_hi e f)

end Row

/-! ### All tokens -/

/-- The real arrays of the block: rows, modulation, gains and weights, and the target the loss compares with. -/
structure Args where
  X : Fin 2 → Fin 2048 → Fin 1024 → ℝ
  Sh : Fin 2 → Fin 1024 → ℝ
  Sc : Fin 2 → Fin 1024 → ℝ
  Gt : Fin 2 → Fin 1024 → ℝ
  G1 : Fin 1024 → ℝ
  G2 : Fin 1024 → ℝ
  W : Fin 1024 → Fin 5632 → ℝ
  V : Fin 2816 → Fin 1024 → ℝ
  T : Fin 2 → Fin 2048 → Fin 1024 → ℝ

namespace Args

variable (A : Args) (b : Fin 2) (s : Fin 2048)

/-- Token `s` of sequence `b`. -/
def row : Row := ⟨A.X b s, A.Sh b, A.Sc b, A.Gt b, A.G1, A.G2, A.W, A.V⟩

/-- The distance of the output from the target, and the loss's cotangent of the output. -/
def err (d : Fin 1024) : ℝ := (A.row b s).out d - A.T b s d
def cot (d : Fin 1024) : ℝ := A.err b s d / 1024

/-- Half the mean squared distance, added over all tokens. -/
def loss : ℝ := 1 / 2 * ∑ b, ∑ s, (∑ d, A.err b s d * A.err b s d) / 1024

end Args

/-! ### The gradient of a norm as automatic differentiation writes it -/

/-- `x ↦ x·rsqrt(mean x² + ε)` has the gradient `r·(g − x̂·mean(g·x̂))`; differentiating the inverse root as
    `−½·r/(mean x² + ε)` and the square as two equal summands gives the same. -/
theorem norm_grad (x g : Fin 1024 → ℝ) (d : Fin 1024) :
    g d * inv x + x d * ((∑ k, x k * g k) * (-(1 / 2) * (inv x / (ms x + eps))) / 1024)
        + (∑ k, x k * g k) * (-(1 / 2) * (inv x / (ms x + eps))) / 1024 * x d
      = inv x * (g d - x d * inv x * ((∑ k, g k * (x k * inv x)) / 1024)) := by
  have hs : ∑ k, g k * (x k * inv x) = (∑ k, x k * g k) * inv x := by
    rw [Finset.sum_mul]
    exact Finset.sum_congr rfl fun k _ => by ring
  have hp := ms_eps_pos x
  have hi : inv x * inv x = (ms x + eps)⁻¹ := by
    rw [inv, ← mul_inv, Real.mul_self_sqrt hp.le]
  have hd : inv x / (ms x + eps) = inv x * (inv x * inv x) := by rw [hi, div_eq_mul_inv]
  rw [hs, hd]
  ring

/-- The gradient of `z·logistic z` as automatic differentiation writes it. -/
theorem silu_grad (z g : ℝ) : g * sgm z + z * g * (sgm z * (1 - sgm z)) = g * (sgm z * (1 + z * (1 - sgm z))) := by ring

end Ffn
end
-- ==== Proof.Cols.lean ====
/- The projection's 5632 columns in eight pieces of 704, and the activation's 2816 in four. -/
module

public import proofs.«01_k».proof.Proof.Model

@[expose] public section

namespace Ffn

/-- Column `f` of piece `j` of the projection; row `f` of piece `c` of the activation. -/
def col (j : Fin 8) (f : Fin 704) : Fin 5632 := ⟨704 * j.val + f.val, by omega⟩
def piece (c : Fin 4) (f : Fin 704) : Fin 2816 := ⟨704 * c.val + f.val, by omega⟩

/-- Piece `c` of the gate half and of the up half. -/
def lo8 (c : Fin 4) : Fin 8 := ⟨c.val, by omega⟩
def hi8 (c : Fin 4) : Fin 8 := ⟨4 + c.val, by omega⟩

theorem col_lo (c : Fin 4) (f : Fin 704) : col (lo8 c) f = Row.lo (piece c f) := rfl
theorem col_hi (c : Fin 4) (f : Fin 704) : col (hi8 c) f = Row.hi (piece c f) := Fin.ext (by simp only [col, hi8, Row.hi, piece]; omega)

/-- A sum over the activation in four pieces. -/
theorem sum_pieces (g : Fin 2816 → ℝ) :
    ∑ f, g f = (∑ f, g (piece 0 f)) + (∑ f, g (piece 1 f)) + (∑ f, g (piece 2 f)) + ∑ f, g (piece 3 f) := by
  rw [← Fin.sum_univ_four fun c => ∑ f, g (piece c f)]
  rw [← Fintype.sum_prod_type' fun c f => g (piece c f)]
  refine (Fintype.sum_equiv (finProdFinEquiv (m := 4) (n := 704)) _ _ fun q => ?_).symm
  refine congrArg g (Fin.ext ?_)
  simp [piece, finProdFinEquiv]
  omega

theorem cols8 (f : Fin 704) : (Row.lo (piece 0 f) = col 0 f ∧ Row.lo (piece 1 f) = col 1 f ∧ Row.lo (piece 2 f) = col 2 f ∧ Row.lo (piece 3 f) = col 3 f)
    ∧ Row.hi (piece 0 f) = col 4 f ∧ Row.hi (piece 1 f) = col 5 f ∧ Row.hi (piece 2 f) = col 6 f ∧ Row.hi (piece 3 f) = col 7 f :=
  ⟨⟨(col_lo 0 f).symm, (col_lo 1 f).symm, (col_lo 2 f).symm, (col_lo 3 f).symm⟩, (col_hi 0 f).symm, (col_hi 1 f).symm, (col_hi 2 f).symm, (col_hi 3 f).symm⟩

end Ffn
end
-- ==== Proof.TileRows.lean ====
/- The kernel's tile as real numbers: each stage at row `p` is the model's row there. -/
module

public import proofs.«01_k».proof.Proof.Tile
public import proofs.«01_k».proof.Proof.Cols

@[expose] public section

set_option maxRecDepth 16384

noncomputable section

namespace Cert.KernelIdeal.Tile

open Cert.KernelIdeal Cert.KernelIdeal.Gen Idealize.ShloMosaic Ffn

/-- A column of the first 256, of the other 768. -/
def colA (d : Fin 256) : Fin 1024 := ⟨d.val, by omega⟩
def colB (d : Fin 768) : Fin 1024 := ⟨256 + d.val, by omega⟩

/-- The blocks of a point hold the rows `R p` and the targets `T p`. -/
structure Holds (I : In) (R : Fin 256 → Row) (T : Fin 256 → Fin 1024 → ℝ) : Prop where
  x : ∀ p d, I.x (ix2 p d) = (((R p).x d : ℝ) : EReal)
  t : ∀ p d, I.t (ix2 p d) = ((T p d : ℝ) : EReal)
  sh : ∀ p d, I.md (ix3 0 0 d) = (((R p).sh d : ℝ) : EReal)
  sc : ∀ p d, I.md (ix3 0 1 d) = (((R p).sc d : ℝ) : EReal)
  gt : ∀ p d, I.md (ix3 0 2 d) = (((R p).gt d : ℝ) : EReal)
  g1 : ∀ p d, I.gv (ix2 0 d) = (((R p).g1 d : ℝ) : EReal)
  g2 : ∀ p d, I.gv (ix2 1 d) = (((R p).g2 d : ℝ) : EReal)
  wa : ∀ p j f d, I.wa (ix3 j f d) = (((R p).W (colA d) (col j f) : ℝ) : EReal)
  wb : ∀ p j f d, I.wb (ix3 j f d) = (((R p).W (colB d) (col j f) : ℝ) : EReal)
  wo : ∀ p c f d, I.wo (ix3 c f d) = (((R p).V (piece c f) d : ℝ) : EReal)

/-- A row's sum in the two column ranges. -/
theorem sum_cols (g : Fin 1024 → ℝ) : (∑ d, g (colA d)) + ∑ d, g (colB d) = ∑ d, g d :=
  (Fin.sum_univ_two_halves 256 768 rfl g).symm

variable {I : In} {R : Fin 256 → Row} {T : Fin 256 → Fin 1024 → ℝ} (H : Holds I R T)

section Forward
include H

/-- The forward row. -/
theorem xinv (p : Fin 256) : k0_pay10 I.x (ix2 p 0) = ((inv (R p).x : ℝ) : EReal) := by
  pointwise [k0_pay10, k0_pay5]
  simp only [H.x, lit_eps, lit_half, lit_one, lit_zero, lit_1024, lit_inv_1024, ← EReal.coe_one, ← EReal.coe_zero, ← EReal.coe_mul, ← EReal.coe_add, ← EReal.coe_sub,
    ← EReal.coe_neg, coe_sum, div_1024]
  exact rsqrt_ms _

theorem xh (p : Fin 256) (d : Fin 1024) : k0_pay11 I.x (ix2 p d) = (((R p).xh d : ℝ) : EReal) := by
  pointwise [k0_pay11, k0_pay5]
  simp only [H.x, xinv H, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem n (p : Fin 256) (d : Fin 1024) : k0_pay12 I.x (I.gvRow 0) (ix2 p d) = (((R p).n d : ℝ) : EReal) := by
  pointwise [k0_pay12, k0_pay8, In.gvRow]
  simp only [xh H, H.g1 p, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem hT (p : Fin 256) (d : Fin 1024) : I.hT (ix2 p d) = (((R p).h d : ℝ) : EReal) := by
  pointwise [In.hT, k0_pay13, k0_pay6, In.mdRow]
  simp only [n H, H.sc p, H.sh p, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem hA (p : Fin 256) (d : Fin 256) : I.hA (ix2 p d) = (((R p).h (colA d) : ℝ) : EReal) := by
  pointwise [In.hA, k0_pay14]
  exact hT H p (colA d)

theorem hB (p : Fin 256) (d : Fin 768) : I.hB (ix2 p d) = (((R p).h (colB d) : ℝ) : EReal) := by
  pointwise [In.hB, k0_pay15]
  exact hT H p (colB d)

theorem proj (p : Fin 256) (j : Fin 8) (f : Fin 704) : k0_pay17 I.hA I.hB (I.wA j) (I.wB j) (ix2 p f) = (((R p).proj (col j f) : ℝ) : EReal) := by
  pointwise [k0_pay17, In.wA, In.wB]
  simp only [hA H, hB H, H.wa p, H.wb p, lit_eps, lit_half, lit_one, lit_zero, lit_1024, lit_inv_1024, ← EReal.coe_one, ← EReal.coe_zero, ← EReal.coe_mul, ← EReal.coe_add, ← EReal.coe_sub,
    ← EReal.coe_neg, coe_sum, div_1024]
  exact congrArg _ (sum_cols fun d => (R p).h d * (R p).W d (col j f))

theorem proj' (p : Fin 256) (j : Fin 8) (f : Fin 704) : k0_pay18 I.hA I.hB (I.wA j) (I.wB j) (ix2 p f) = (((R p).proj (col j f) : ℝ) : EReal) :=
  proj H p j f

theorem pj (p : Fin 256) (j : Fin 8) (f : Fin 704) : I.pj j (ix3 0 p f) = (((R p).proj (col j f) : ℝ) : EReal) := by
  pointwise [In.pj, k0_pay19]
  exact proj H p j f

theorem act (p : Fin 256) (c : Fin 4) (f : Fin 704) : I.act (lo8 c) (hi8 c) (ix3 0 p f) = (((R p).act (piece c f) : ℝ) : EReal) := by
  pointwise [In.act, k0_pay22, k0_pay21]
  simp only [proj H, proj' H, Ideal.tanh_coe, sgm_tanh, col_lo, col_hi, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem act4 (p : Fin 256) (f : Fin 704) :
    I.act 0 4 (ix3 0 p f) = (((R p).act (piece 0 f) : ℝ) : EReal) ∧ I.act 1 5 (ix3 0 p f) = (((R p).act (piece 1 f) : ℝ) : EReal)
    ∧ I.act 2 6 (ix3 0 p f) = (((R p).act (piece 2 f) : ℝ) : EReal) ∧ I.act 3 7 (ix3 0 p f) = (((R p).act (piece 3 f) : ℝ) : EReal) :=
  ⟨act H p 0 f, act H p 1 f, act H p 2 f, act H p 3 f⟩

theorem y (p : Fin 256) (d : Fin 1024) : k0_pay44 I.y3 (I.act 3 7) (I.wO 3) (ix2 p d) = (((R p).y d : ℝ) : EReal) := by
  pointwise [k0_pay44, In.y3, In.y2, In.y1, k0_pay23, k0_pay16, In.wO]
  simp only [(act4 H p _).1, (act4 H p _).2.1, (act4 H p _).2.2.1, (act4 H p _).2.2.2, H.wo p, zero_add, lit_eps, lit_half, lit_one, lit_zero, lit_1024, lit_inv_1024, ← EReal.coe_one, ← EReal.coe_zero, ← EReal.coe_mul, ← EReal.coe_add, ← EReal.coe_sub,
    ← EReal.coe_neg, coe_sum, div_1024]
  exact congrArg _ (sum_pieces fun f => (R p).act f * (R p).V f d).symm

theorem ry (p : Fin 256) : I.ry (ix2 p 0) = ((inv (R p).y : ℝ) : EReal) := by
  pointwise [In.ry, k0_pay45]
  simp only [y H, lit_eps, lit_half, lit_one, lit_zero, lit_1024, lit_inv_1024, ← EReal.coe_one, ← EReal.coe_zero, ← EReal.coe_mul, ← EReal.coe_add, ← EReal.coe_sub,
    ← EReal.coe_neg, coe_sum, div_1024]
  exact rsqrt_ms _

theorem yh (p : Fin 256) (d : Fin 1024) : I.yh (ix2 p d) = (((R p).yh d : ℝ) : EReal) := by
  pointwise [In.yh, k0_pay46]
  simp only [y H, lit_eps, lit_half, lit_one, lit_zero, lit_1024, lit_inv_1024, ← EReal.coe_one, ← EReal.coe_zero, ← EReal.coe_mul, ← EReal.coe_add, ← EReal.coe_sub,
    ← EReal.coe_neg, coe_sum, div_1024]
  rw [show k0_pay45 I.y3 (I.act 3 7) (I.wO 3) (ix2 p 0) = _ from ry H p]
  rfl

theorem pn (p : Fin 256) (d : Fin 1024) : k0_pay47 I.g2 I.y3 (I.act 3 7) (I.wO 3) (ix2 p d) = (((R p).pn d : ℝ) : EReal) := by
  pointwise [k0_pay47, In.g2, k0_pay9, In.gvRow]
  simp only [H.g2 p, lit_eps, lit_half, lit_one, lit_zero, lit_1024, lit_inv_1024, ← EReal.coe_one, ← EReal.coe_zero, ← EReal.coe_mul, ← EReal.coe_add, ← EReal.coe_sub,
    ← EReal.coe_neg, coe_sum, div_1024]
  rw [show k0_pay46 I.y3 (I.act 3 7) (I.wO 3) (ix2 p d) = _ from yh H p d, ← EReal.coe_mul]
  rfl

end Forward

/-- The distance from the target and the loss's cotangent of the row. -/
def errR (R : Fin 256 → Row) (T : Fin 256 → Fin 1024 → ℝ) (p : Fin 256) (d : Fin 1024) : ℝ := (R p).out d - T p d
def cotR (R : Fin 256 → Row) (T : Fin 256 → Fin 1024 → ℝ) (p : Fin 256) (d : Fin 1024) : ℝ := errR R T p d / 1024

section Backward
include H

/-- The gradient, row by row. -/
theorem err (p : Fin 256) (d : Fin 1024) : I.err (ix2 p d) = ((errR R T p d : ℝ) : EReal) := by
  pointwise [In.err, k0_pay48, k0_pay5, In.gt, k0_pay7, In.mdRow]
  simp only [H.x, H.t, H.gt p, pn H, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem dxo (p : Fin 256) (d : Fin 1024) : I.dxo (ix2 p d) = ((cotR R T p d : ℝ) : EReal) := by
  pointwise [In.dxo, k0_pay49]
  simp only [lit_eps, lit_half, lit_one, lit_zero, lit_1024, lit_inv_1024, ← EReal.coe_one, ← EReal.coe_zero, ← EReal.coe_mul, ← EReal.coe_add, ← EReal.coe_sub,
    ← EReal.coe_neg, coe_sum, div_1024]
  rw [show k0_pay48 (k0_pay5 I.x) I.gt I.g2 I.y3 (I.act 3 7) (I.wO 3) I.t (ix2 p d) = _ from err H p d, ← EReal.coe_mul]
  refine congrArg _ ?_
  unfold cotR
  ring

theorem gt (p : Fin 256) (d : Fin 1024) : I.gt (ix2 0 d) = (((R p).gt d : ℝ) : EReal) := by
  pointwise [In.gt, k0_pay7, In.mdRow]
  simp only [H.gt p, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem dp (p : Fin 256) (d : Fin 1024) : I.dp (ix2 p d) = (((R p).dp (cotR R T p) d : ℝ) : EReal) := by
  pointwise [In.dp, k0_pay51]
  simp only [gt H p, lit_eps, lit_half, lit_one, lit_zero, lit_1024, lit_inv_1024, ← EReal.coe_one, ← EReal.coe_zero, ← EReal.coe_mul, ← EReal.coe_add, ← EReal.coe_sub,
    ← EReal.coe_neg, coe_sum, div_1024]
  rw [show k0_pay49 (k0_pay5 I.x) I.gt I.g2 I.y3 (I.act 3 7) (I.wO 3) I.t (ix2 p d) = _ from dxo H p d, ← EReal.coe_mul]
  rfl

theorem dy (p : Fin 256) (d : Fin 1024) : I.dy (ix2 p d) = (((R p).dy (cotR R T p) d : ℝ) : EReal) := by
  pointwise [In.dy, k0_pay53, In.g2, k0_pay9, In.gvRow]
  simp only [dp H, yh H, ry H, H.g2 p, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem dact (p : Fin 256) (c : Fin 4) (f : Fin 704) : k0_pay69 I.dy (I.wO c) (ix2 p f) = (((R p).dact (cotR R T p) (piece c f) : ℝ) : EReal) := by
  pointwise [k0_pay69, In.wO]
  simp only [dy H, H.wo p, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem g32 (p : Fin 256) (c : Fin 4) (f : Fin 704) : I.g32 (lo8 c) (ix2 p f) = (((R p).gate (piece c f) : ℝ) : EReal) := by
  pointwise [In.g32, k0_pay67]
  simp only [pj H, col_lo, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem sg (p : Fin 256) (c : Fin 4) (f : Fin 704) : k0_pay68 (I.g32 (lo8 c)) (ix2 p f) = ((sgm ((R p).gate (piece c f)) : ℝ) : EReal) := by
  pointwise [k0_pay68]
  simp only [g32 H, Ideal.tanh_coe, sgm_tanh, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem dup (p : Fin 256) (c : Fin 4) (f : Fin 704) : I.dup (lo8 c) c (ix2 p f) = (((R p).dup (cotR R T p) (piece c f) : ℝ) : EReal) := by
  pointwise [In.dup, k0_pay70]
  simp only [dact H, g32 H, sg H, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem dga (p : Fin 256) (c : Fin 4) (f : Fin 704) : I.dga (lo8 c) (hi8 c) c (ix2 p f) = (((R p).dgate (cotR R T p) (piece c f) : ℝ) : EReal) := by
  pointwise [In.dga, k0_pay71]
  simp only [dact H, pj H, g32 H, sg H, col_hi, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem dup4 (p : Fin 256) (f : Fin 704) :
    I.dup 0 0 (ix2 p f) = (((R p).dup (cotR R T p) (piece 0 f) : ℝ) : EReal) ∧ I.dup 1 1 (ix2 p f) = (((R p).dup (cotR R T p) (piece 1 f) : ℝ) : EReal)
    ∧ I.dup 2 2 (ix2 p f) = (((R p).dup (cotR R T p) (piece 2 f) : ℝ) : EReal) ∧ I.dup 3 3 (ix2 p f) = (((R p).dup (cotR R T p) (piece 3 f) : ℝ) : EReal) :=
  ⟨dup H p 0 f, dup H p 1 f, dup H p 2 f, dup H p 3 f⟩

theorem dga4 (p : Fin 256) (f : Fin 704) :
    I.dga 0 4 0 (ix2 p f) = (((R p).dgate (cotR R T p) (piece 0 f) : ℝ) : EReal) ∧ I.dga 1 5 1 (ix2 p f) = (((R p).dgate (cotR R T p) (piece 1 f) : ℝ) : EReal)
    ∧ I.dga 2 6 2 (ix2 p f) = (((R p).dgate (cotR R T p) (piece 2 f) : ℝ) : EReal) ∧ I.dga 3 7 3 (ix2 p f) = (((R p).dgate (cotR R T p) (piece 3 f) : ℝ) : EReal) :=
  ⟨dga H p 0 f, dga H p 1 f, dga H p 2 f, dga H p 3 f⟩

theorem dh (p : Fin 256) (d : Fin 1024) : I.dh (ix2 p d) = (((R p).dh (cotR R T p) d : ℝ) : EReal) := by
  have hr : (R p).dh (cotR R T p) d = (∑ f, (R p).dgate (cotR R T p) (piece 0 f) * (R p).W d (col 0 f)) + (∑ f, (R p).dup (cotR R T p) (piece 0 f) * (R p).W d (col 4 f))
      + (∑ f, (R p).dgate (cotR R T p) (piece 1 f) * (R p).W d (col 1 f)) + (∑ f, (R p).dup (cotR R T p) (piece 1 f) * (R p).W d (col 5 f))
      + (∑ f, (R p).dgate (cotR R T p) (piece 2 f) * (R p).W d (col 2 f)) + (∑ f, (R p).dup (cotR R T p) (piece 2 f) * (R p).W d (col 6 f))
      + (∑ f, (R p).dgate (cotR R T p) (piece 3 f) * (R p).W d (col 3 f)) + ∑ f, (R p).dup (cotR R T p) (piece 3 f) * (R p).W d (col 7 f) := by
    rw [Row.dh, sum_pieces, sum_pieces]
    simp only [(cols8 _).1.1, (cols8 _).1.2.1, (cols8 _).1.2.2.1, (cols8 _).1.2.2.2, (cols8 _).2.1, (cols8 _).2.2.1, (cols8 _).2.2.2.1, (cols8 _).2.2.2.2]
    ring
  rw [hr]
  pointwise [In.dh, k0_pay98, k0_pay97, In.dA3, In.dB3, In.addA, In.addB, In.stepA, k0_pay74, k0_pay75, k0_pay76, k0_pay54, k0_pay55, In.wA, In.wB]
  simp only [In.dga_text, (dga4 H p _).1, (dga4 H p _).2.1, (dga4 H p _).2.2.1, (dga4 H p _).2.2.2, (dup4 H p _).1, (dup4 H p _).2.1,
    (dup4 H p _).2.2.1, (dup4 H p _).2.2.2, H.wa p, H.wb p, ← EReal.coe_mul, coe_sum, ← EReal.coe_add]
  split_ifs with h h'
  · rfl
  · have e : colB ⟨d.val - 256, by omega⟩ = d := Fin.ext (by simp only [colB]; omega)
    simp only [e]
  · exact absurd rfl h'

theorem dn (p : Fin 256) (d : Fin 1024) : k0_pay101 I.sc I.dB3 (I.dup 3 3) (I.dga 3 7 3) (I.stepA I.dA3 3 7 3) (k0_pay97 (I.wA 7)) (I.wB 3) (I.wB 7) (ix2 p d) = (((R p).dn (cotR R T p) d : ℝ) : EReal) := by
  pointwise [k0_pay101, In.sc, k0_pay6, In.mdRow]
  simp only [In.dh_text, dh H, H.sc p, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

theorem dx (p : Fin 256) (d : Fin 1024) : I.dx (ix2 p d) = (((R p).dx (cotR R T p) d : ℝ) : EReal) := by
  pointwise [In.dx, k0_pay103, k0_pay8, In.gvRow]
  simp only [dn H, xh H, xinv H, H.g1 p, dxo H, lit_eps, lit_half, lit_one, lit_zero, lit_1024, lit_inv_1024, ← EReal.coe_one, ← EReal.coe_zero, ← EReal.coe_mul, ← EReal.coe_add, ← EReal.coe_sub,
    ← EReal.coe_neg, coe_sum, div_1024]
  all_goals rfl

/-- What the tile adds to the gradients of the shared arrays: sums over its rows. -/
theorem dsh (d : Fin 1024) : I.dsh (ix2 0 d) = ((∑ p, (R p).dh (cotR R T p) d : ℝ) : EReal) := by
  pointwise [In.dsh, k0_pay100]
  simp only [In.dh_text, dh H, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem dsc (d : Fin 1024) : I.dsc (ix2 0 d) = ((∑ p, (R p).dh (cotR R T p) d * (R p).n d : ℝ) : EReal) := by
  pointwise [In.dsc, k0_pay99]
  simp only [In.dh_text, dh H, n H, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem dgt (d : Fin 1024) : I.dgt (ix2 0 d) = ((∑ p, 1 / 2 * cotR R T p d * (R p).pn d : ℝ) : EReal) := by
  pointwise [In.dgt, k0_pay50]
  simp only [In.dxo_text, dxo H, pn H, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem dg2 (d : Fin 1024) : I.dg2 (ix2 0 d) = ((∑ p, (R p).dp (cotR R T p) d * (R p).yh d : ℝ) : EReal) := by
  pointwise [In.dg2, k0_pay52]
  simp only [In.dp_text, dp H, In.yh_text, yh H, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem dg1 (d : Fin 1024) : I.dg1 (ix2 0 d) = ((∑ p, (R p).dn (cotR R T p) d * (R p).xh d : ℝ) : EReal) := by
  pointwise [In.dg1, k0_pay102]
  simp only [dn H, xh H, lit_eps, lit_half, lit_one, lit_zero, lit_1024, lit_inv_1024, ← EReal.coe_one, ← EReal.coe_zero, ← EReal.coe_mul, ← EReal.coe_add, ← EReal.coe_sub,
    ← EReal.coe_neg, coe_sum, div_1024]

theorem loss (Z : Vec Ideal S8x1024 .f32) (r : Fin 8) (d : Fin 1024) :
    k0_pay4 I.err Z (ix2 r d) = Z (ix2 r d) + ((1 / 2 * ∑ p, (∑ d, errR R T p d * errR R T p d) / 1024 : ℝ) : EReal) := by
  pointwise [k0_pay4]
  simp only [err H, lit_eps, lit_half, lit_one, lit_zero, lit_1024, lit_inv_1024, ← EReal.coe_one, ← EReal.coe_zero, ← EReal.coe_mul, ← EReal.coe_add, ← EReal.coe_sub,
    ← EReal.coe_neg, coe_sum, div_1024]

end Backward

end Cert.KernelIdeal.Tile
end
-- ==== Proof.RefRow.lean ====
/- The reference's arrays at an index, as real numbers: forward rows. -/
module

public import proofs.«01_k».proof.Proof.Gen.ReferenceIdeal.Read
public import proofs.«01_k».proof.Proof.Model

@[expose] public section

set_option maxRecDepth 16384

noncomputable section

namespace Cert.ReferenceIdeal.Rows

open Cert.ReferenceIdeal Cert.ReferenceIdeal.Gen Cert.ReferenceIdeal.Read Idealize.ShloMosaic Ffn

variable {x0 x8 : FVec Ideal S2x2048x1024 .f32} {x1 x2 x3 : FVec Ideal S2x1024 .f32} {x4 x5 : FVec Ideal S1x1024 .f32}
  {x6 : FVec Ideal S1x1024x5632 .f32} {x7 : FVec Ideal S1x2816x1024 .f32} {A : Args}

/-- The arguments hold the real arrays `A`. -/
structure Reads (A : Args) (x0 : FVec Ideal S2x2048x1024 .f32) (x1 x2 x3 : FVec Ideal S2x1024 .f32) (x4 x5 : FVec Ideal S1x1024 .f32)
    (x6 : FVec Ideal S1x1024x5632 .f32) (x7 : FVec Ideal S1x2816x1024 .f32) (x8 : FVec Ideal S2x2048x1024 .f32) : Prop where
  x : ∀ b s d, x0 (ix3 b s d) = ((A.X b s d : ℝ) : EReal)
  sh : ∀ b d, x1 (ix2 b d) = ((A.Sh b d : ℝ) : EReal)
  sc : ∀ b d, x2 (ix2 b d) = ((A.Sc b d : ℝ) : EReal)
  gt : ∀ b d, x3 (ix2 b d) = ((A.Gt b d : ℝ) : EReal)
  g1 : ∀ d, x4 (ix2 0 d) = ((A.G1 d : ℝ) : EReal)
  g2 : ∀ d, x5 (ix2 0 d) = ((A.G2 d : ℝ) : EReal)
  w : ∀ d j, x6 (ix3 0 d j) = ((A.W d j : ℝ) : EReal)
  v : ∀ f d, x7 (ix3 0 f d) = ((A.V f d : ℝ) : EReal)
  t : ∀ b s d, x8 (ix3 b s d) = ((A.T b s d : ℝ) : EReal)

variable (H : Reads A x0 x1 x2 x3 x4 x5 x6 x7 x8)
include H

theorem v9 (b : Fin 2) (s : Fin 2048) : val_main_v9 (F := Ideal) x0 (ix3 b s 0) = ((ms (A.X b s) + eps : ℝ) : EReal) := by
  pointwise [val_main_v9, val_main_v7, val_main_v5, val_main_v4, val_main_v3, val_main_cst_1, val_main_v6, val_main_cst_2, val_main_v8, val_main_cst_3]
  simp only [H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v10 (b : Fin 2) (s : Fin 2048) : val_main_v10 (F := Ideal) x0 (ix3 b s 0) = ((inv (A.X b s) : ℝ) : EReal) := by
  pointwise [val_main_v10]
  simp only [v9 H, H.x, H.sh, H.sc, H.gt, H.g1, H.g2, H.w, H.v, H.t, rsqrt_ms, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v13 (b : Fin 2) (s : Fin 2048) : val_main_v13 (F := Ideal) x0 (ix3 b s 0) = ((-(1 / 2) * (inv (A.X b s) / (ms (A.X b s) + eps)) : ℝ) : EReal) := by
  pointwise [val_main_v13, val_main_v12, val_main_cst_4, val_main_v11]
  simp only [v10 H, v9 H, H.x, H.sh, H.sc, H.gt, H.g1, H.g2, H.w, H.v, H.t, div_pos_real _ _ (ms_eps_pos _), lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v15 (b : Fin 2) (s : Fin 2048) (d : Fin 1024) : val_main_v15 (F := Ideal) x0 (ix3 b s d) = (((A.row b s).xh d : ℝ) : EReal) := by
  pointwise [val_main_v15, val_main_v14]
  simp only [v10 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v18 (b : Fin 2) (s : Fin 2048) (d : Fin 1024) : val_main_v18 (F := Ideal) x0 x4 (ix3 b s d) = (((A.row b s).n d : ℝ) : EReal) := by
  pointwise [val_main_v18, val_main_v17, val_main_v16, val_main_v2]
  simp only [v15 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v21 (b : Fin 2) (d : Fin 1024) : val_main_v21 (F := Ideal) x2 (ix3 b 0 d) = ((1 + A.Sc b d : ℝ) : EReal) := by
  pointwise [val_main_v21, val_main_v20, val_main_cst_5, val_main_v19]
  simp only [H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v26 (b : Fin 2) (s : Fin 2048) (d : Fin 1024) : val_main_v26 (F := Ideal) x0 x1 x2 x4 (ix3 b s d) = (((A.row b s).h d : ℝ) : EReal) := by
  pointwise [val_main_v26, val_main_v23, val_main_v22, val_main_v25, val_main_v24]
  simp only [v18 H, v21 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v29 (b : Fin 2) (s : Fin 2048) (j : Fin 5632) : val_main_v29 (F := Ideal) x0 x1 x2 x4 x6 (ix3 b s j) = (((A.row b s).proj j : ℝ) : EReal) := by
  pointwise [val_main_v29, val_main_v28, val_main_v27, val_main_v0, val_main_cst]
  simp only [v26 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v30 (b : Fin 2) (s : Fin 2048) (f : Fin 2816) : val_main_v30 (F := Ideal) x0 x1 x2 x4 x6 (ix3 b s f) = (((A.row b s).gate f : ℝ) : EReal) := by
  pointwise [val_main_v30]
  simp only [v29 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v31 (b : Fin 2) (s : Fin 2048) (f : Fin 2816) : val_main_v31 (F := Ideal) x0 x1 x2 x4 x6 (ix3 b s f) = (((A.row b s).up f : ℝ) : EReal) := by
  pointwise [val_main_v31]
  simp only [v29 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v32_2 (b : Fin 2) (s : Fin 2048) (f : Fin 2816) : val_main_v32_2 (F := Ideal) x0 x1 x2 x4 x6 (ix3 b s f) = ((sgm ((A.row b s).gate f) : ℝ) : EReal) := by
  pointwise [val_main_v32_2, val_main_call0_v4, val_main_call0_cst_0, val_main_call0_v3, val_main_call0_v2, val_main_call0_cst, val_main_call0_v1, val_main_call0_v0]
  simp only [v30 H, H.x, H.sh, H.sc, H.gt, H.g1, H.g2, H.w, H.v, H.t, Ideal.exp_coe, div_pos_real _ _ (one_add_exp_pos _), one_div, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v32_1 (b : Fin 2) (s : Fin 2048) (f : Fin 2816) : val_main_v32_1 (F := Ideal) x0 x1 x2 x4 x6 (ix3 b s f) = ((sgm ((A.row b s).gate f) * (1 - sgm ((A.row b s).gate f)) : ℝ) : EReal) := by
  pointwise [val_main_v32_1, val_main_call0_v7, val_main_call0_v6, val_main_call0_cst_1]
  simp only [v32_2 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v32_0 (b : Fin 2) (s : Fin 2048) (f : Fin 2816) : val_main_v32_0 (F := Ideal) x0 x1 x2 x4 x6 (ix3 b s f) = (((A.row b s).silu f : ℝ) : EReal) := by
  pointwise [val_main_v32_0]
  simp only [v30 H, v32_2 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v33 (b : Fin 2) (s : Fin 2048) (f : Fin 2816) : val_main_v33 (F := Ideal) x0 x1 x2 x4 x6 (ix3 b s f) = (((A.row b s).act f : ℝ) : EReal) := by
  pointwise [val_main_v33]
  simp only [v31 H, v32_0 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v36 (b : Fin 2) (s : Fin 2048) (d : Fin 1024) : val_main_v36 (F := Ideal) x0 x1 x2 x4 x6 x7 (ix3 b s d) = (((A.row b s).y d : ℝ) : EReal) := by
  pointwise [val_main_v36, val_main_v35, val_main_v34, val_main_v1, val_main_cst_0]
  simp only [v33 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v47 (b : Fin 2) (s : Fin 2048) : val_main_v47 (F := Ideal) x0 x1 x2 x4 x6 x7 (ix3 b s 0) = ((ms (A.row b s).y + eps : ℝ) : EReal) := by
  pointwise [val_main_v47, val_main_v45, val_main_v43, val_main_v42, val_main_v41, val_main_cst_7, val_main_v44, val_main_cst_8, val_main_v46, val_main_cst_9]
  simp only [v36 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v48 (b : Fin 2) (s : Fin 2048) : val_main_v48 (F := Ideal) x0 x1 x2 x4 x6 x7 (ix3 b s 0) = ((inv (A.row b s).y : ℝ) : EReal) := by
  pointwise [val_main_v48]
  simp only [v47 H, H.x, H.sh, H.sc, H.gt, H.g1, H.g2, H.w, H.v, H.t, rsqrt_ms, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v51 (b : Fin 2) (s : Fin 2048) : val_main_v51 (F := Ideal) x0 x1 x2 x4 x6 x7 (ix3 b s 0) = ((-(1 / 2) * (inv (A.row b s).y / (ms (A.row b s).y + eps)) : ℝ) : EReal) := by
  pointwise [val_main_v51, val_main_v50, val_main_cst_10, val_main_v49]
  simp only [v47 H, v48 H, H.x, H.sh, H.sc, H.gt, H.g1, H.g2, H.w, H.v, H.t, div_pos_real _ _ (ms_eps_pos _), lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v53 (b : Fin 2) (s : Fin 2048) (d : Fin 1024) : val_main_v53 (F := Ideal) x0 x1 x2 x4 x6 x7 (ix3 b s d) = (((A.row b s).yh d : ℝ) : EReal) := by
  pointwise [val_main_v53, val_main_v52]
  simp only [v36 H, v48 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v56 (b : Fin 2) (s : Fin 2048) (d : Fin 1024) : val_main_v56 (F := Ideal) x0 x1 x2 x4 x5 x6 x7 (ix3 b s d) = (((A.row b s).pn d : ℝ) : EReal) := by
  pointwise [val_main_v56, val_main_v55, val_main_v54, val_main_v40]
  simp only [v53 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v39 (b : Fin 2) (d : Fin 1024) : val_main_v39 (F := Ideal) x3 (ix3 b 0 d) = ((1 / 2 * A.Gt b d : ℝ) : EReal) := by
  pointwise [val_main_v39, val_main_v38, val_main_cst_6, val_main_v37]
  simp only [H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v60 (b : Fin 2) (s : Fin 2048) (d : Fin 1024) : val_main_v60 (F := Ideal) x0 x1 x2 x3 x4 x5 x6 x7 x8 (ix3 b s d) = ((A.err b s d : ℝ) : EReal) := by
  pointwise [val_main_v60, val_main_v59, val_main_v58, val_main_v57]
  simp only [v39 H, v56 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v66 (b : Fin 2) (s : Fin 2048) : val_main_v66 (F := Ideal) x0 x1 x2 x3 x4 x5 x6 x7 x8 (ix2 b s) = (((∑ d, A.err b s d * A.err b s d) / 1024 : ℝ) : EReal) := by
  pointwise [val_main_v66, val_main_v64, val_main_v61, val_main_cst_12, val_main_v65, val_main_cst_13]
  simp only [v60 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v68  : val_main_v68 (F := Ideal) x0 x1 x2 x3 x4 x5 x6 x7 x8 ix0 = ((A.loss : ℝ) : EReal) := by
  pointwise [val_main_v68, val_main_cst_15, val_main_v67, val_main_cst_14]
  simp only [v66 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v74 (b : Fin 2) (s : Fin 2048) (d : Fin 1024) : val_main_v74 (F := Ideal) x0 x1 x2 x3 x4 x5 x6 x7 x8 (ix3 b s d) = (((A.cot b s) d : ℝ) : EReal) := by
  pointwise [val_main_v74, val_main_v73, val_main_v72, val_main_v70, val_main_v69, val_main_cst_16, val_main_cst_17, val_main_v71, val_main_cst_18, val_main_v63, val_main_v62, val_main_cst_11]
  simp only [v60 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  rw [Args.cot]
  congr 1
  ring

theorem v76 (b : Fin 2) (s : Fin 2048) (d : Fin 1024) : val_main_v76 (F := Ideal) x0 x1 x2 x3 x4 x5 x6 x7 x8 (ix3 b s d) = (((A.row b s).dp (A.cot b s) d : ℝ) : EReal) := by
  pointwise [val_main_v76, val_main_v75]
  simp only [v39 H, v74 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v84 (b : Fin 2) (s : Fin 2048) (d : Fin 1024) : val_main_v84 (F := Ideal) x0 x1 x2 x3 x4 x5 x6 x7 x8 (ix3 b s d) = (((A.row b s).dyh (A.cot b s) d : ℝ) : EReal) := by
  pointwise [val_main_v84, val_main_v83, val_main_v54, val_main_v40]
  simp only [v76 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v94 (b : Fin 2) (s : Fin 2048) : val_main_v94 (F := Ideal) x0 x1 x2 x3 x4 x5 x6 x7 x8 (ix2 b s) = (((∑ k, (A.row b s).y k * (A.row b s).dyh (A.cot b s) k) * (-(1 / 2) * (inv (A.row b s).y / (ms (A.row b s).y + eps))) / 1024 : ℝ) : EReal) := by
  pointwise [val_main_v94, val_main_v93, val_main_v91, val_main_v88, val_main_v87, val_main_v86, val_main_cst_22, val_main_v92, val_main_cst_23, val_main_cst_24]
  simp only [Fin.sum_univ_one, v36 H, v51 H, v84 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v99 (b : Fin 2) (s : Fin 2048) (d : Fin 1024) : val_main_v99 (F := Ideal) x0 x1 x2 x3 x4 x5 x6 x7 x8 (ix3 b s d) = (((A.row b s).dy (A.cot b s) d : ℝ) : EReal) := by
  pointwise [val_main_v99, val_main_v97, val_main_v90, val_main_v89, val_main_v96, val_main_v95, val_main_v98]
  simp only [v36 H, v48 H, v84 H, v94 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  exact congrArg _ (norm_grad _ _ _)

theorem v104 (b : Fin 2) (s : Fin 2048) (f : Fin 2816) : val_main_v104 (F := Ideal) x0 x1 x2 x3 x4 x5 x6 x7 x8 (ix3 b s f) = (((A.row b s).dact (A.cot b s) f : ℝ) : EReal) := by
  pointwise [val_main_v104, val_main_v34]
  simp only [v99 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v105 (b : Fin 2) (s : Fin 2048) (f : Fin 2816) : val_main_v105 (F := Ideal) x0 x1 x2 x3 x4 x5 x6 x7 x8 (ix3 b s f) = (((A.row b s).dup (A.cot b s) f : ℝ) : EReal) := by
  pointwise [val_main_v105]
  simp only [v104 H, v32_0 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  rw [mul_comm]
  rfl

theorem v107 (b : Fin 2) (s : Fin 2048) (f : Fin 2816) : val_main_v107 (F := Ideal) x0 x1 x2 x3 x4 x5 x6 x7 x8 (ix3 b s f) = (((A.row b s).dgate (A.cot b s) f : ℝ) : EReal) := by
  pointwise [val_main_v107, val_main_call1_v1, val_main_v106, val_main_call1_v2, val_main_call1_v0]
  simp only [v104 H, v30 H, v31 H, v32_1 H, v32_2 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  exact congrArg _ (silu_grad _ _)

theorem v108 (b : Fin 2) (s : Fin 2048) (j : Fin 5632) : val_main_v108 (F := Ideal) x0 x1 x2 x3 x4 x5 x6 x7 x8 (ix3 b s j) = (((A.row b s).dproj (A.cot b s) j : ℝ) : EReal) := by
  pointwise [val_main_v108]
  by_cases h : j.val < 2816
  · rw [dif_pos h, Row.dproj, dif_pos h]
    exact v107 H b s ⟨j.val, h⟩
  · rw [dif_neg h, Row.dproj, dif_neg h]
    exact v105 H b s ⟨j.val - 2816, by omega⟩

theorem v109 (b : Fin 2) (s : Fin 2048) (d : Fin 1024) : val_main_v109 (F := Ideal) x0 x1 x2 x3 x4 x5 x6 x7 x8 (ix3 b s d) = (((A.row b s).dh (A.cot b s) d : ℝ) : EReal) := by
  pointwise [val_main_v109, val_main_v27]
  simp only [v108 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  exact congrArg _ ((A.row b s).dh_eq _ d)

theorem v117 (b : Fin 2) (s : Fin 2048) (d : Fin 1024) : val_main_v117 (F := Ideal) x0 x1 x2 x3 x4 x5 x6 x7 x8 (ix3 b s d) = (((A.row b s).dn (A.cot b s) d : ℝ) : EReal) := by
  pointwise [val_main_v117, val_main_v116]
  simp only [v109 H, v21 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v123 (b : Fin 2) (s : Fin 2048) (d : Fin 1024) : val_main_v123 (F := Ideal) x0 x1 x2 x3 x4 x5 x6 x7 x8 (ix3 b s d) = (((A.row b s).dxh (A.cot b s) d : ℝ) : EReal) := by
  pointwise [val_main_v123, val_main_v122, val_main_v16, val_main_v2]
  simp only [v117 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v134 (b : Fin 2) (s : Fin 2048) : val_main_v134 (F := Ideal) x0 x1 x2 x3 x4 x5 x6 x7 x8 (ix2 b s) = (((∑ k, A.X b s k * (A.row b s).dxh (A.cot b s) k) * (-(1 / 2) * (inv (A.X b s) / (ms (A.X b s) + eps))) / 1024 : ℝ) : EReal) := by
  pointwise [val_main_v134, val_main_v133, val_main_v131, val_main_v127, val_main_v126, val_main_v125, val_main_cst_33, val_main_v132, val_main_cst_34, val_main_cst_35]
  simp only [Fin.sum_univ_one, v123 H, v13 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v139 (b : Fin 2) (s : Fin 2048) (d : Fin 1024) : val_main_v139 (F := Ideal) x0 x1 x2 x3 x4 x5 x6 x7 x8 (ix3 b s d) = (((A.row b s).dx (A.cot b s) d : ℝ) : EReal) := by
  pointwise [val_main_v139, val_main_v137, val_main_v130, val_main_v129, val_main_v128, val_main_v136, val_main_v135, val_main_v138]
  simp only [v10 H, v123 H, v134 H, v74 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  refine congrArg _ ?_
  rw [add_assoc, add_assoc, ← add_assoc (_ * inv _)]
  exact congrArg _ (norm_grad _ _ _)

theorem v112 (b : Fin 2) (d : Fin 1024) : val_main_v112 (F := Ideal) x0 x1 x2 x3 x4 x5 x6 x7 x8 (ix2 b d) = ((∑ s, (A.row b s).dh (A.cot b s) d : ℝ) : EReal) := by
  pointwise [val_main_v112, val_main_v111, val_main_v110, val_main_cst_27, val_main_cst_28]
  simp only [Fin.sum_univ_one, v109 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v118 (b : Fin 2) (d : Fin 1024) : val_main_v118 (F := Ideal) x0 x1 x2 x3 x4 x5 x6 x7 x8 (ix2 b d) = ((∑ s, (A.row b s).n d * (A.row b s).dh (A.cot b s) d : ℝ) : EReal) := by
  pointwise [val_main_v118, val_main_v115, val_main_v114, val_main_v113, val_main_cst_29, val_main_cst_30]
  simp only [Fin.sum_univ_one, v109 H, v18 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v103 (b : Fin 2) (d : Fin 1024) : val_main_v103 (F := Ideal) x0 x1 x2 x3 x4 x5 x6 x7 x8 (ix2 b d) = ((1 / 2 * ∑ s, (A.cot b s) d * (A.row b s).pn d : ℝ) : EReal) := by
  pointwise [val_main_v103, val_main_v102, val_main_v101, val_main_cst_25, val_main_v79, val_main_v78, val_main_v77, val_main_cst_19, val_main_cst_26]
  simp only [Fin.sum_univ_one, v56 H, v74 H, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v81 (d : Fin 1024) : val_main_v81 (F := Ideal) x0 x1 x2 x3 x4 x5 x6 x7 x8 (ix1 d) = ((∑ b, ∑ s, (A.row b s).yh d * (A.row b s).dp (A.cot b s) d : ℝ) : EReal) := by
  pointwise [val_main_v81, val_main_v80, val_main_cst_20]
  rw [hostSum_two]
  pointwise []
  simp only [v53 H, v76 H, Fin.sum_univ_one, zero_add, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v85 (d : Fin 1024) : val_main_v85 (F := Ideal) x0 x1 x2 x3 x4 x5 x6 x7 x8 (ix1 d) = ((∑ b, ∑ s, (A.row b s).yh d * (A.row b s).dp (A.cot b s) d : ℝ) : EReal) := by
  pointwise [val_main_v85, val_main_v82, val_main_cst_21]
  rw [hostSum_two]
  pointwise []
  simp only [v81 H, Fin.sum_univ_one, zero_add, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v120 (d : Fin 1024) : val_main_v120 (F := Ideal) x0 x1 x2 x3 x4 x5 x6 x7 x8 (ix1 d) = ((∑ b, ∑ s, (A.row b s).xh d * (A.row b s).dn (A.cot b s) d : ℝ) : EReal) := by
  pointwise [val_main_v120, val_main_v119, val_main_cst_31]
  rw [hostSum_two]
  pointwise []
  simp only [v15 H, v117 H, Fin.sum_univ_one, zero_add, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v124 (d : Fin 1024) : val_main_v124 (F := Ideal) x0 x1 x2 x3 x4 x5 x6 x7 x8 (ix1 d) = ((∑ b, ∑ s, (A.row b s).xh d * (A.row b s).dn (A.cot b s) d : ℝ) : EReal) := by
  pointwise [val_main_v124, val_main_v121, val_main_cst_32]
  rw [hostSum_two]
  pointwise []
  simp only [v120 H, Fin.sum_univ_one, zero_add, H.x, H.sh, H.sc, H.gt, H.g1, H.g2, H.w, H.v, H.t, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v100 (d : Fin 1024) : val_main_v100 (F := Ideal) x0 x1 x2 x3 x4 x5 x6 x7 x8 (ix2 0 d) = ((∑ b, ∑ s, (A.row b s).yh d * (A.row b s).dp (A.cot b s) d : ℝ) : EReal) := by
  pointwise [val_main_v100]
  exact v85 H d

theorem v140 (d : Fin 1024) : val_main_v140 (F := Ideal) x0 x1 x2 x3 x4 x5 x6 x7 x8 (ix2 0 d) = ((∑ b, ∑ s, (A.row b s).xh d * (A.row b s).dn (A.cot b s) d : ℝ) : EReal) := by
  pointwise [val_main_v140]
  exact v124 H d

end Cert.ReferenceIdeal.Rows
end
-- ==== Proof.Blocks.lean ====
/- The blocks a point reads, out of the arguments: rows `256·(t mod 8) + p` of sequence `t / 8`. -/
module

public import proofs.«01_k».proof.Proof.Opened
public import proofs.«01_k».proof.Proof.TileRows
public import proofs.«01_k».proof.Proof.RefRow

@[expose] public section

set_option maxRecDepth 16384

noncomputable section

namespace Cert.KernelIdeal.Opened

open Cert.KernelIdeal Cert.KernelIdeal.Gen Cert.KernelIdeal.Value Cert.KernelIdeal.Tile
open Idealize.ShloMosaic Idealize.ShloMosaic.TcCoe Idealize.SL.Sem Ffn Cert.ReferenceIdeal.Rows

variable (m : (ℓ : Loc nD τ sig) → Buf (Elt Ideal) ℓ)

/-- The sequence and the row of it that entry `p` of point `t` is. -/
def seq (t : Fin cfg0.N) : Fin 2 := ⟨t.val / 8, by have := t.isLt; have : cfg0.N = 16 := N_0; omega⟩
def pos (t : Fin cfg0.N) (p : Fin 256) : Fin 2048 := ⟨256 * (t.val % 8) + p.val, by omega⟩

/-- The arguments of device `c` hold the real arrays `A`. -/
def Given (c : Dev nD) (A : Args) : Prop :=
  Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem idx : ∀ t : Fin cfg0.N, win0_0.index t = ![t.val, 0] ∧ win0_1.index t = ![t.val, 0] ∧ win0_2.index t = ![t.val / 8, 0, 0] ∧ win0_3.index t = ![0, 0]
    ∧ win0_4.index t = ![0, 0, 0] ∧ win0_5.index t = ![0, 0, 0] ∧ win0_6.index t = ![0, 0, 0] :=
  (by decide +kernel : ∀ t : Fin grid0.N, _)

variable {m}
variable {c : Dev nD} {A : Args}

/-- Each array the host prepares, entry by entry. -/
theorem v7 (H : Given m c A) (q : Fin 4096) (d : Fin 1024) : V m c main_v7 (ix2 q d) = (A.X ⟨q.val / 2048, by omega⟩ ⟨q.val % 2048, by omega⟩ d : EReal) := by
  entry_read
  pointwise
  exact H.x ..

theorem v8 (H : Given m c A) (q : Fin 4096) (d : Fin 1024) : V m c main_v8 (ix2 q d) = (A.T ⟨q.val / 2048, by omega⟩ ⟨q.val % 2048, by omega⟩ d : EReal) := by
  entry_read
  pointwise
  exact H.t ..

theorem v13 (H : Given m c A) (b : Fin 2) (d : Fin 1024) :
    V m c main_v13 (ix3 b 0 d) = (A.Sh b d : EReal) ∧ V m c main_v13 (ix3 b 1 d) = (A.Sc b d : EReal) ∧ V m c main_v13 (ix3 b 2 d) = (A.Gt b d : EReal) := by
  unfold V hostOps0
  simp only [StableHlo.after_cons, StableHlo.after_nil]
  rw [StableHlo.unary_result_ne]; rotate_left; decide
  rw [StableHlo.unary_result_ne]; rotate_left; decide
  rw [StableHlo.nary_result_ne]; rotate_left; decide
  rw [StableHlo.unary_result_ne]; rotate_left; decide
  rw [StableHlo.nullary_result_ne]; rotate_left; decide
  rw [StableHlo.nary_result]
  refine ⟨?_, ?_, ?_⟩ <;> pointwise <;> after_region_results <;> pointwise
  · exact H.sh ..
  · exact H.sc ..
  · exact H.gt ..

theorem v15 (H : Given m c A) (d : Fin 1024) :
    V m c main_v15 (ix2 0 d) = (A.G1 d : EReal) ∧ V m c main_v15 (ix2 1 d) = (A.G2 d : EReal) := by
  unfold V hostOps0
  simp only [StableHlo.after_cons, StableHlo.after_nil]
  rw [StableHlo.unary_result_ne]; rotate_left; decide
  rw [StableHlo.unary_result_ne]; rotate_left; decide
  rw [StableHlo.nary_result]
  refine ⟨?_, ?_⟩ <;> pointwise <;> after_region_results
  · exact H.g1 ..
  · exact H.g2 ..

theorem v16 (H : Given m c A) (j : Fin 8) (f : Fin 704) (d : Fin 256) : V m c main_v16 (ix3 j f d) = (A.W (colA d) (col j f) : EReal) := by
  entry_read
  pointwise
  exact (H.w ..).trans (congrArg (fun k => ((A.W _ k : ℝ) : EReal)) (Fin.ext (by simp only [col]; omega)))

theorem v17 (H : Given m c A) (j : Fin 8) (f : Fin 704) (d : Fin 768) : V m c main_v17 (ix3 j f d) = (A.W (colB d) (col j f) : EReal) := by
  entry_read
  pointwise
  exact (H.w ..).trans (congrArg (fun k => ((A.W _ k : ℝ) : EReal)) (Fin.ext (by simp only [col]; omega)))

theorem v6 (H : Given m c A) (j : Fin 4) (f : Fin 704) (d : Fin 1024) : V m c main_v6 (ix3 j f d) = (A.V (piece j f) d : EReal) := by
  entry_read
  pointwise
  exact (H.v ..).trans (congrArg (fun k => ((A.V k _ : ℝ) : EReal)) (Fin.ext (by simp only [Ffn.piece]; omega)))

/-- A block of the modulations or of the gains is rows of the packed array. -/
theorem md_blk (t : Fin cfg0.N) (r : Fin 8) (d : Fin 1024) : (inp m c t).md (ix3 0 r d) = V m c main_v13 (ix3 (seq t) r d) := by
  show (V m c main_v13) _ = _
  generalize V m c main_v13 = Y
  blk_ext [idx t, seq]

theorem gv_blk (t : Fin cfg0.N) (r : Fin 8) (d : Fin 1024) : (inp m c t).gv (ix2 r d) = V m c main_v15 (ix2 r d) := by
  show (V m c main_v15) _ = _
  generalize V m c main_v15 = Y
  blk_ext [idx t]

set_option maxHeartbeats 1000000 in
/-- The blocks of point `t` are its rows of the arguments. -/
theorem holds (t : Fin cfg0.N) (H : Given m c A) :
    Holds (inp m c t) (fun p => A.row (seq t) (pos t p)) (fun p => A.T (seq t) (pos t p)) := by
  have ht : t.val < 16 := by have := t.isLt; have : cfg0.N = 16 := N_0; omega
  have hb (p : Fin 256) : (256 * t.val + p.val) / 2048 = t.val / 8 := by omega
  have hs (p : Fin 256) : (256 * t.val + p.val) % 2048 = 256 * (t.val % 8) + p.val := by omega
  refine ⟨fun p d => ?_, fun p d => ?_, fun p d => ?_, fun p d => ?_, fun p d => ?_, fun p d => ?_, fun p d => ?_, fun p j f d => ?_, fun p j f d => ?_,
    fun p j f d => ?_⟩
  · rw [show (inp m c t).x = iblk m c 0 t from rfl]
    refine Eq.trans ?_ ((v7 H ⟨256 * t.val + p.val, by omega⟩ d).trans ?_)
    · blk_ext [iblk, idx t]
    · exact congrArg (fun r : ℝ => (r : EReal)) (congrArg₂ (fun b s => A.X b s d) (Fin.ext (hb p)) (Fin.ext (hs p)))
  · rw [show (inp m c t).t = iblk m c 1 t from rfl]
    refine Eq.trans ?_ ((v8 H ⟨256 * t.val + p.val, by omega⟩ d).trans ?_)
    · blk_ext [iblk, idx t]
    · exact congrArg (fun r : ℝ => (r : EReal)) (congrArg₂ (fun b s => A.T b s d) (Fin.ext (hb p)) (Fin.ext (hs p)))
  · exact (md_blk t _ d).trans (v13 H (seq t) d).1
  · exact (md_blk t _ d).trans (v13 H (seq t) d).2.1
  · exact (md_blk t _ d).trans (v13 H (seq t) d).2.2
  · exact (gv_blk t _ d).trans (v15 H d).1
  · exact (gv_blk t _ d).trans (v15 H d).2
  · rw [show (inp m c t).wa = iblk m c 4 t from rfl]
    refine Eq.trans ?_ (v16 H j f d)
    blk_ext [iblk, idx t]
  · rw [show (inp m c t).wb = iblk m c 5 t from rfl]
    refine Eq.trans ?_ (v17 H j f d)
    blk_ext [iblk, idx t]
  · rw [show (inp m c t).wo = iblk m c 6 t from rfl]
    refine Eq.trans ?_ (v6 H j f d)
    blk_ext [iblk, idx t]

end Cert.KernelIdeal.Opened
end
-- ==== Proof.Out.lean ====
/- The eight results as arrays of real numbers: token `q` of the flattened `4096` is row `q mod 2048` of sequence `q / 2048`. -/
module

public import proofs.«01_k».proof.Proof.Model

@[expose] public section

noncomputable section

namespace Ffn.Args

variable (A : Args)

def qb (q : Fin 4096) : Fin 2 := ⟨q.val / 2048, by omega⟩
def qs (q : Fin 4096) : Fin 2048 := ⟨q.val % 2048, by omega⟩

def tok (q : Fin 4096) : Row := A.row (qb q) (qs q)
def tokCot (q : Fin 4096) : Fin 1024 → ℝ := A.cot (qb q) (qs q)

/-- What is kept per token: the input's gradient, the projection's, the activation, the modulated input, the output's gradient. -/
def dxAt (q : Fin 4096) (d : Fin 1024) : ℝ := (A.tok q).dx (A.tokCot q) d
def dprojAt (j : Fin 8) (q : Fin 4096) (f : Fin 704) : ℝ := (A.tok q).dproj (A.tokCot q) ⟨704 * j.val + f.val, by omega⟩
def actAt (j : Fin 4) (q : Fin 4096) (f : Fin 704) : ℝ := (A.tok q).act ⟨704 * j.val + f.val, by omega⟩
def hAt (q : Fin 4096) (d : Fin 1024) : ℝ := (A.tok q).h d
def dyAt (q : Fin 4096) (d : Fin 1024) : ℝ := (A.tok q).dy (A.tokCot q) d

/-- What one token adds to the gradients of the modulation and of the gains, by row of the packed array. -/
def modTerm (r : ℕ) (b : Fin 2) (s : Fin 2048) (d : Fin 1024) : ℝ :=
  if r = 0 then (A.row b s).dh (A.cot b s) d else if r = 1 then (A.row b s).dh (A.cot b s) d * (A.row b s).n d
  else if r = 2 then 1 / 2 * A.cot b s d * (A.row b s).pn d else 0
def gainTerm (r : ℕ) (b : Fin 2) (s : Fin 2048) (d : Fin 1024) : ℝ :=
  if r = 0 then (A.row b s).dn (A.cot b s) d * (A.row b s).xh d else if r = 1 then (A.row b s).dp (A.cot b s) d * (A.row b s).yh d else 0

def modAt (b : Fin 2) (r : Fin 8) (d : Fin 1024) : ℝ := ∑ s, A.modTerm r.val b s d
def gainAt (r : Fin 8) (d : Fin 1024) : ℝ := ∑ b, ∑ s, A.gainTerm r.val b s d

end Ffn.Args
end
-- ==== Proof.Arrays.lean ====
/- The kernel's eight result arrays: every point's blocks put in their places, and the three sums over the points. -/
module

public import proofs.«01_k».proof.Proof.Blocks
public import proofs.«01_k».proof.Proof.Out

@[expose] public section

set_option maxRecDepth 16384

noncomputable section

namespace Cert.KernelIdeal.Opened

open Cert.KernelIdeal Cert.KernelIdeal.Gen Cert.KernelIdeal.Value Cert.KernelIdeal.Tile
open Idealize.ShloMosaic Idealize.ShloMosaic.TcCoe Idealize.SL.Sem Ffn Cert.ReferenceIdeal.Rows

variable {m : (ℓ : Loc nD τ sig) → Buf (Elt Ideal) ℓ} {c : Dev nD} {A : Args}

theorem oidx : ∀ t : Fin cfg0.N, win0_7.index t = ![t.val, 0] ∧ win0_8.index t = ![0, t.val, 0] ∧ win0_9.index t = ![0, t.val, 0] ∧ win0_10.index t = ![t.val, 0]
    ∧ win0_11.index t = ![t.val, 0] ∧ win0_12.index t = ![t.val / 8, 0, 0] ∧ win0_13.index t = ![0, 0] ∧ win0_14.index t = ![0, 0] :=
  (by decide +kernel : ∀ t : Fin grid0.N, _)

/-- Entry `p` of point `t` is token `256·t + p`. -/
def tk (t : Fin cfg0.N) (p : Fin 256) : Fin 4096 := ⟨256 * t.val + p.val, by have := t.isLt; have : cfg0.N = 16 := N_0; omega⟩

theorem qb_tk (t : Fin cfg0.N) (p : Fin 256) : Args.qb (tk t p) = seq t := by
  have := t.isLt; have : cfg0.N = 16 := N_0
  exact Fin.ext (by show (256 * t.val + p.val) / 2048 = t.val / 8; omega)

theorem qs_tk (t : Fin cfg0.N) (p : Fin 256) : Args.qs (tk t p) = pos t p := by
  have := t.isLt; have : cfg0.N = 16 := N_0
  exact Fin.ext (by show (256 * t.val + p.val) % 2048 = 256 * (t.val % 8) + p.val; omega)

theorem tok_tk (t : Fin cfg0.N) (p : Fin 256) : A.tok (tk t p) = A.row (seq t) (pos t p) := by rw [Args.tok, qb_tk, qs_tk]
theorem cot_tk (t : Fin cfg0.N) (p : Fin 256) : A.tokCot (tk t p) = A.cot (seq t) (pos t p) := by rw [Args.tokCot, qb_tk, qs_tk]

theorem arr7 (H : Given m c A) : (dats m 0 c).arrAt 7 cfg0.N = (fun i => ((A.dxAt (i 0) (i 1) : ℝ) : EReal)) := by
  refine (dats m 0 c).arrAt_eq_of_covers 7 _ (by decide +kernel) fun t hf y => ?_
  blk_simp [oidx t]
  rw [after0_7, (opened m c t).1]
  obtain ⟨p, d, rfl⟩ : ∃ p : Fin 256, ∃ d : Fin 1024, y = ix2 p d := ⟨y 0, y 1, eq_ix2 y⟩
  have he : (win0_7.blk t).view.emb (ix2 p d) = ix2 (tk t p) d := by blk_ext [oidx t, tk]
  rw [he]
  refine (Tile.dx (holds t H) p d).trans ?_
  show _ = (((A.tok (tk t p)).dx (A.tokCot (tk t p)) d : ℝ) : EReal)
  rw [tok_tk, cot_tk]
  rfl

theorem arr10 (H : Given m c A) : (dats m 0 c).arrAt 10 cfg0.N = (fun i => ((A.hAt (i 0) (i 1) : ℝ) : EReal)) := by
  refine (dats m 0 c).arrAt_eq_of_covers 10 _ (by decide +kernel) fun t hf y => ?_
  blk_simp [oidx t]
  rw [after0_10, (opened m c t).2.2.2.1]
  obtain ⟨p, d, rfl⟩ : ∃ p : Fin 256, ∃ d : Fin 1024, y = ix2 p d := ⟨y 0, y 1, eq_ix2 y⟩
  have he : (win0_10.blk t).view.emb (ix2 p d) = ix2 (tk t p) d := by blk_ext [oidx t, tk]
  rw [he]
  refine (Tile.hT (holds t H) p d).trans ?_
  show _ = (((A.tok (tk t p)).h d : ℝ) : EReal)
  rw [tok_tk]

theorem arr11 (H : Given m c A) : (dats m 0 c).arrAt 11 cfg0.N = (fun i => ((A.dyAt (i 0) (i 1) : ℝ) : EReal)) := by
  refine (dats m 0 c).arrAt_eq_of_covers 11 _ (by decide +kernel) fun t hf y => ?_
  blk_simp [oidx t]
  rw [after0_11, (opened m c t).2.2.2.2.1]
  obtain ⟨p, d, rfl⟩ : ∃ p : Fin 256, ∃ d : Fin 1024, y = ix2 p d := ⟨y 0, y 1, eq_ix2 y⟩
  have he : (win0_11.blk t).view.emb (ix2 p d) = ix2 (tk t p) d := by blk_ext [oidx t, tk]
  rw [he]
  refine (Tile.dy (holds t H) p d).trans ?_
  show _ = (((A.tok (tk t p)).dy (A.tokCot (tk t p)) d : ℝ) : EReal)
  rw [tok_tk, cot_tk]
  rfl

theorem arr9 (H : Given m c A) : (dats m 0 c).arrAt 9 cfg0.N = (fun i => ((A.actAt (i 0) (i 1) (i 2) : ℝ) : EReal)) := by
  refine (dats m 0 c).arrAt_eq_of_covers 9 _ (by decide +kernel) fun t hf y => ?_
  blk_simp [oidx t]
  rw [after0_9, (opened m c t).2.2.1]
  obtain ⟨j, p, f, rfl⟩ : ∃ j : Fin 4, ∃ p : Fin 256, ∃ f : Fin 704, y = ix3 j p f := ⟨y 0, y 1, y 2, eq_ix3 y⟩
  have he : (win0_9.blk t).view.emb (ix3 j p f) = ix3 j (tk t p) f := by blk_ext [oidx t, tk]
  rw [he]
  refine (Tile.act (holds t H) p j f).trans ?_
  show _ = (((A.tok (tk t p)).act _ : ℝ) : EReal)
  rw [tok_tk]
  rfl

theorem arr8 (H : Given m c A) : (dats m 0 c).arrAt 8 cfg0.N = (fun i => ((A.dprojAt (i 0) (i 1) (i 2) : ℝ) : EReal)) := by
  refine (dats m 0 c).arrAt_eq_of_covers 8 _ (by decide +kernel) fun t hf y => ?_
  blk_simp [oidx t]
  rw [after0_8, (opened m c t).2.1]
  obtain ⟨j, p, f, rfl⟩ : ∃ j : Fin 8, ∃ p : Fin 256, ∃ f : Fin 704, y = ix3 j p f := ⟨y 0, y 1, y 2, eq_ix3 y⟩
  have he : (win0_8.blk t).view.emb (ix3 j p f) = ix3 j (tk t p) f := by blk_ext [oidx t, tk]
  rw [he]
  show _ = (((A.tok (tk t p)).dproj (A.tokCot (tk t p)) ⟨704 * j.val + f.val, _⟩ : ℝ) : EReal)
  rw [tok_tk, cot_tk]
  by_cases h : j.val < 4
  · refine (dif_pos h).trans ((Tile.dga (holds t H) p ⟨j.val, h⟩ f).trans (congrArg _ ?_))
    exact (Row.dproj_lo _ _ _).symm.trans (congrArg _ (Fin.ext rfl))
  · refine (dif_neg h).trans ((Tile.dup (holds t H) p ⟨j.val - 4, by omega⟩ f).trans (congrArg _ ?_))
    exact (Row.dproj_hi _ _ _).symm.trans (congrArg _ (Fin.ext (by show 2816 + (704 * (j.val - 4) + f.val) = 704 * j.val + f.val; omega)))

/-- What point `t` adds into the modulation's gradient and the gains', as the real terms of its 256 tokens. -/
theorem mg_term (H : Given m c A) (t : Fin cfg0.N) (r : Fin 8) (d : Fin 1024) :
    (inp m c t).mgT (ix3 0 r d) = ((∑ p, A.modTerm r.val (seq t) (pos t p) d : ℝ) : EReal) := by
  simp only [Args.modTerm]
  by_cases h0 : r.val = 0
  · simp only [if_pos h0]
    exact (if_pos h0).trans (Tile.dsh (holds t H) d)
  by_cases h1 : r.val = 1
  · simp only [if_neg h0, if_pos h1]
    exact (if_neg h0).trans ((if_pos h1).trans (Tile.dsc (holds t H) d))
  by_cases h2 : r.val = 2
  · simp only [if_neg h0, if_neg h1, if_pos h2]
    exact (if_neg h0).trans ((if_neg h1).trans ((if_pos h2).trans (Tile.dgt (holds t H) d)))
  · simp only [if_neg h0, if_neg h1, if_neg h2, Finset.sum_const_zero]
    exact (if_neg h0).trans ((if_neg h1).trans (if_neg h2))

theorem vg_term (H : Given m c A) (t : Fin cfg0.N) (r : Fin 8) (d : Fin 1024) :
    (inp m c t).vgT (ix2 r d) = ((∑ p, A.gainTerm r.val (seq t) (pos t p) d : ℝ) : EReal) := by
  simp only [Args.gainTerm]
  by_cases h0 : r.val = 0
  · simp only [if_pos h0]
    exact (if_pos h0).trans (Tile.dg1 (holds t H) d)
  by_cases h1 : r.val = 1
  · simp only [if_neg h0, if_pos h1]
    exact (if_neg h0).trans ((if_pos h1).trans (Tile.dg2 (holds t H) d))
  · simp only [if_neg h0, if_neg h1, Finset.sum_const_zero]
    exact (if_neg h0).trans (if_neg h1)

/-- The points of the grid and the 256 rows of each are the rows of the two sequences. -/
theorem sum_points (f : Fin 2 → Fin 2048 → ℝ) : ∑ t : Fin cfg0.N, ∑ p, f (seq t) (pos t p) = ∑ b, ∑ s, f b s :=
  Fin.sum_points_lanes_congr 8 (fun t p ha hl => congrArg₂ f rfl (Fin.ext (by show 256 * (t.val % 8) + p.val = t.val % 8 * 256 + p.val; omega))) N_0 rfl

theorem sum_run (f : Fin 2048 → ℝ) (g : Fin 8 → Fin 256 → Fin 2048) (hg : ∀ s p, (g s p).val = 256 * s.val + p.val) :
    ∑ s : Fin 8, ∑ p, f (g s p) = ∑ s, f s :=
  Fin.sum_mul_add_congr (fun s p hl => congrArg f (Fin.ext (by rw [hg]; show 256 * s.val + p.val = s.val * 256 + p.val; omega))) rfl

theorem arr12 (H : Given m c A) : (dats m 0 c).arrAt 12 cfg0.N = (fun i => ((A.modAt (i 0) (i 1) (i 2) : ℝ) : EReal)) := by
  refine (dats m 0 c).arrAt_eq_of_covers 12 _ (by decide +kernel) fun t hf y => ?_
  blk_simp [oidx t]
  rw [after0_12]
  obtain ⟨z, r, d, rfl⟩ : ∃ z : Fin 1, ∃ r : Fin 8, ∃ d : Fin 1024, y = ix3 z r d := ⟨y 0, y 1, y 2, eq_ix3 y⟩
  obtain rfl : z = 0 := Subsingleton.elim _ _
  have he : (win0_12.blk t).view.emb (ix3 0 r d) = ix3 (seq t) r d := by blk_ext [oidx t, seq]
  rw [he]
  rw [Pipeline.eq_sum_fin_of_reset_step_apply_of_flush (fun n h => (outsAt0 m c n h).2.2.2.2.2.1) 8 (fun _ => 0) (fun t => (inp m c t).mgT) ?_ ?_ t
    ((flush0_12 t).mp hf) _, zero_add]
  · have ht := t.isLt
    have hN : cfg0.N = 16 := N_0
    have ht' : t.val < 16 := by rw [← hN]; exact ht
    show _ = ((∑ s, A.modTerm r.val (seq t) s d : ℝ) : EReal)
    rw [← sum_run _ (fun s p => pos (⟨8 * (t.val / 8) + s.val, by rw [hN]; omega⟩ : Fin cfg0.N) p)
      (fun s p => by show 256 * ((8 * (t.val / 8) + s.val) % 8) + p.val = 256 * s.val + p.val; omega), ← coe_sum]
    refine Finset.sum_congr rfl fun s _ => (mg_term H _ r d).trans ?_
    rw [show seq (⟨8 * (t.val / 8) + s.val, by rw [hN]; omega⟩ : Fin cfg0.N) = seq t from
      Fin.ext (by show (8 * (t.val / 8) + s.val) / 8 = t.val / 8; omega)]
  · intro t h y
    exact (congrFun (opened m c t).2.2.2.2.2.1 y).trans (congrArg (· + _) ((if_pos h).trans (In.mg_zero y)))
  · intro t h y
    exact (congrFun (opened m c t).2.2.2.2.2.1 y).trans (congrArg (· + _) (if_neg h))

theorem arr13 (H : Given m c A) : (dats m 0 c).arrAt 13 cfg0.N = (fun i => ((A.gainAt (i 0) (i 1) : ℝ) : EReal)) := by
  refine (dats m 0 c).arrAt_eq_of_after_last 13 t0_15 (by decide +kernel) _ fun j => ?_
  blk_simp
  rw [after0_13]
  rw [Pipeline.eq_sum_fin_of_reset_step_apply_last (fun n h => (outsAt0 m c n h).2.2.2.2.2.2.1) 16 (fun _ => 0) (fun t => (inp m c t).vgT) ?_ ?_
    (le_of_eq N_0) t0_15 rfl j, zero_add]
  · obtain ⟨r, d, rfl⟩ : ∃ r : Fin 8, ∃ d : Fin 1024, j = ix2 r d := ⟨j 0, j 1, eq_ix2 j⟩
    show _ = ((∑ b, ∑ s, A.gainTerm r.val b s d : ℝ) : EReal)
    rw [← sum_points (fun b s => A.gainTerm r.val b s d), ← coe_sum]
    exact Finset.sum_congr rfl fun t _ => vg_term H t r d
  · intro t h y
    exact (congrFun (opened m c t).2.2.2.2.2.2.1 y).trans (congrArg (· + _) ((if_pos h).trans (In.vg_zero y)))
  · intro t h y
    exact (congrFun (opened m c t).2.2.2.2.2.2.1 y).trans (congrArg (· + _) (if_neg h))

theorem arr14 (H : Given m c A) : (dats m 0 c).arrAt 14 cfg0.N = (fun _ => ((A.loss : ℝ) : EReal)) := by
  refine (dats m 0 c).arrAt_eq_of_after_last 14 t0_15 (by decide +kernel) _ fun j => ?_
  blk_simp
  rw [after0_14]
  have hz : ∀ y, k0_pay106 (F := Ideal) y = 0 := fun y => by pointwise [k0_pay106]
  have hl (t : Fin cfg0.N) (Z : Vec Ideal S8x1024 .f32) (y : S8x1024.Idx) : k0_pay4 (inp m c t).err Z y
      = Z y + ((1 / 2 * ∑ p, (∑ d, A.err (seq t) (pos t p) d * A.err (seq t) (pos t p) d) / 1024 : ℝ) : EReal) := by
    obtain ⟨r, d, rfl⟩ : ∃ r : Fin 8, ∃ d : Fin 1024, y = ix2 r d := ⟨y 0, y 1, eq_ix2 y⟩
    exact Tile.loss (holds t H) Z r d
  rw [Pipeline.eq_sum_fin_of_reset_step_apply_last (fun n h => (outsAt0 m c n h).2.2.2.2.2.2.2) 16 (fun _ => 0)
    (fun t _ => ((1 / 2 * ∑ p, (∑ d, A.err (seq t) (pos t p) d * A.err (seq t) (pos t p) d) / 1024 : ℝ) : EReal)) ?_ ?_ (le_of_eq N_0) t0_15 rfl j, zero_add]
  · rw [coe_sum, ← Finset.mul_sum, sum_points (fun b s => (∑ d, A.err b s d * A.err b s d) / 1024)]
    rfl
  · intro t h y
    rw [(opened m c t).2.2.2.2.2.2.2, if_pos h, hl, hz]
  · intro t h y
    rw [(opened m c t).2.2.2.2.2.2.2, if_neg h, hl]

end Cert.KernelIdeal.Opened
end
-- ==== Proof.RefOut.lean ====
/- The reference's eight results, entry by entry. -/
module

public import proofs.«01_k».proof.Proof.RefRow
public import proofs.«01_k».proof.Proof.Out

@[expose] public section

set_option maxRecDepth 16384

noncomputable section

namespace Cert.ReferenceIdeal.Rows

open Cert.ReferenceIdeal Cert.ReferenceIdeal.Gen Cert.ReferenceIdeal.Read Idealize.ShloMosaic Ffn

variable {A : Args} {x0 : FVec Ideal S2x2048x1024 .f32} {x1 x2 x3 : FVec Ideal S2x1024 .f32} {x4 x5 : FVec Ideal S1x1024 .f32}
  {x6 : FVec Ideal S1x1024x5632 .f32} {x7 : FVec Ideal S1x2816x1024 .f32} {x8 : FVec Ideal S2x2048x1024 .f32}
variable (H : Reads A x0 x1 x2 x3 x4 x5 x6 x7 x8)
include H

theorem v153 (q : Fin 4096) (d : Fin 1024) : val_main_v153 (F := Ideal) x0 x1 x2 x3 x4 x5 x6 x7 x8 (ix2 q d) = ((A.dxAt q d : ℝ) : EReal) := by
  pointwise [val_main_v153]
  exact v139 H ..

theorem v156 (j : Fin 8) (q : Fin 4096) (f : Fin 704) : val_main_v156 (F := Ideal) x0 x1 x2 x3 x4 x5 x6 x7 x8 (ix3 j q f) = ((A.dprojAt j q f : ℝ) : EReal) := by
  pointwise [val_main_v156, val_main_v155, val_main_v154]
  exact (v108 H ..).trans (congrArg (fun k => (((A.tok q).dproj (A.tokCot q) k : ℝ) : EReal)) (Fin.ext (by show j.val * 704 + f.val = 704 * j.val + f.val; omega)))

theorem v159 (j : Fin 4) (q : Fin 4096) (f : Fin 704) : val_main_v159 (F := Ideal) x0 x1 x2 x4 x6 (ix3 j q f) = ((A.actAt j q f : ℝ) : EReal) := by
  pointwise [val_main_v159, val_main_v158, val_main_v157]
  exact (v33 H ..).trans (congrArg (fun k => (((A.tok q).act k : ℝ) : EReal)) (Fin.ext (by show j.val * 704 + f.val = 704 * j.val + f.val; omega)))

theorem v161 (q : Fin 4096) (d : Fin 1024) : val_main_v161 (F := Ideal) x0 x1 x2 x4 (ix2 q d) = ((A.hAt q d : ℝ) : EReal) := by
  pointwise [val_main_v161, val_main_v160]
  exact v26 H ..

theorem v163 (q : Fin 4096) (d : Fin 1024) : val_main_v163 (F := Ideal) x0 x1 x2 x3 x4 x5 x6 x7 x8 (ix2 q d) = ((A.dyAt q d : ℝ) : EReal) := by
  pointwise [val_main_v163, val_main_v162]
  exact v99 H ..

theorem v164 (r : Fin 8) (d : Fin 1024) : val_main_v164 (F := Ideal) x0 x1 x2 x3 x4 x5 x6 x7 x8 (ix2 r d) = ((A.loss : ℝ) : EReal) := by
  pointwise [val_main_v164]
  exact v68 H ..

omit H in
theorem v141 (b : Fin 2) (d : Fin 1024) : val_main_v141 (F := Ideal) (ix2 b d) = ((0 : ℝ) : EReal) := by
  pointwise [val_main_v141, val_main_cst_36]
  exact EReal.coe_zero.symm

theorem v150 (b : Fin 2) (r : Fin 8) (d : Fin 1024) : val_main_v150 (F := Ideal) x0 x1 x2 x3 x4 x5 x6 x7 x8 (ix3 b r d) = ((A.modAt b r d : ℝ) : EReal) := by
  pointwise [val_main_v150, val_main_v142, val_main_v143, val_main_v144, val_main_v145, val_main_v146, val_main_v147, val_main_v148, val_main_v149]
  simp only [v141, dite_eq_ite, ite_self, v112 H, v118 H, v103 H, Args.modAt, Args.modTerm]
  by_cases h0 : r.val = 0
  · simp only [if_pos h0]
    exact if_pos (by omega)
  rw [if_neg (by omega)]
  by_cases h1 : r.val = 1
  · simp only [if_neg h0, if_pos h1, mul_comm (Row.dh _ _ _)]
    exact if_pos (by omega)
  rw [if_neg (by omega)]
  by_cases h2 : r.val = 2
  · simp only [if_neg h0, if_neg h1, if_pos h2, mul_assoc, ← Finset.mul_sum]
    exact if_pos (by omega)
  · simp only [if_neg h0, if_neg h1, if_neg h2, Finset.sum_const_zero]
    exact if_neg (by omega)

theorem v152 (r : Fin 8) (d : Fin 1024) : val_main_v152 (F := Ideal) x0 x1 x2 x3 x4 x5 x6 x7 x8 (ix2 r d) = ((A.gainAt r d : ℝ) : EReal) := by
  pointwise [val_main_v152, val_main_v151, val_main_cst_37]
  have e1 (z : Fin 1) := (congrArg (fun z => val_main_v140 (F := Ideal) x0 x1 x2 x3 x4 x5 x6 x7 x8 (ix2 z d)) (Subsingleton.elim z 0)).trans (v140 H d)
  have e2 (z : Fin 1) := (congrArg (fun z => val_main_v100 (F := Ideal) x0 x1 x2 x3 x4 x5 x6 x7 x8 (ix2 z d)) (Subsingleton.elim z 0)).trans (v100 H d)
  simp only [e1, e2, dite_eq_ite, Args.gainAt, Args.gainTerm]
  by_cases h0 : r.val = 0
  · simp only [if_pos h0, mul_comm (Row.dn _ _ _)]
    exact if_pos (by omega)
  rw [if_neg (by omega)]
  by_cases h1 : r.val = 1
  · simp only [if_neg h0, if_pos h1, mul_comm (Row.dp _ _ _)]
    exact if_pos (by omega)
  · simp only [if_neg h0, if_neg h1, Finset.sum_const_zero]
    rw [if_neg (by omega)]
    exact EReal.coe_zero.symm

end Cert.ReferenceIdeal.Rows
end
-- ==== Proof.Finite.lean ====
/- Finite entries are real numbers. -/
module

public import Idealize.ShloMosaic.Lib.StableHlo.Run
public import proofs.«01_k».proof.Proof.Model

@[expose] public section

noncomputable section

namespace Ffn

open Idealize.ShloMosaic

/-- An entry whose distance from zero is below infinity is a real number. -/
theorem real_of_abs_lt {S S0 : Shape} (x : FVec Ideal S .f32) (bc : Fin S0.rank → Fin S.rank) (hb : S0.BroadcastsInDim S bc)
    (h : cmpf .olt (Host.absf x) (broadcastInDim S bc hb (constant S0 .f32 0x7F800000#32)) = fun _ => 1#1) (i : S.Idx) :
    x i = ((x i).toReal : EReal) := by
  have h1 := congrFun h i
  have h2 : max (x i) (-(x i)) < (Ideal.ofBits FTy.f32 0x7F800000#32 : EReal) := by
    by_contra hn
    have h3 : cmpf .olt (Host.absf x) (broadcastInDim S bc hb (constant S0 .f32 0x7F800000#32)) i = 0#1 := by
      exact congrArg BitVec.ofBool (decide_eq_false hn)
    rw [h1] at h3
    exact absurd h3 (by decide)
  have h4 : (Ideal.ofBits FTy.f32 0x7F800000#32 : EReal) = ⊤ := by
    simp [Ideal.ofBits, Ideal.ieee]
  rw [h4, max_lt_iff] at h2
  exact (EReal.coe_toReal h2.1.ne (fun e => by simp [e] at h2)).symm

end Ffn
end
-- ==== Proof.Pre.lean ====
/- Finite arguments hold real numbers. -/
module

public import proofs.«01_k».proof.Defs
public import proofs.«01_k».proof.Proof.RefRow
public import proofs.«01_k».proof.Proof.Finite

@[expose] public section

set_option maxRecDepth 16384

noncomputable section

namespace Ffn

open Idealize.ShloMosaic Idealize.SL.Sem

open Cert.ReferenceIdeal in
/-- The real arrays that finite arguments hold. -/
def argsOf (x0 : FVec Ideal S2x2048x1024 .f32) (x1 x2 x3 : FVec Ideal S2x1024 .f32) (x4 x5 : FVec Ideal S1x1024 .f32)
    (x6 : FVec Ideal S1x1024x5632 .f32) (x7 : FVec Ideal S1x2816x1024 .f32) (x8 : FVec Ideal S2x2048x1024 .f32) : Args where
  X b s d := (x0 (ix3 b s d)).toReal
  Sh b d := (x1 (ix2 b d)).toReal
  Sc b d := (x2 (ix2 b d)).toReal
  Gt b d := (x3 (ix2 b d)).toReal
  G1 d := (x4 (ix2 0 d)).toReal
  G2 d := (x5 (ix2 0 d)).toReal
  W d j := (x6 (ix3 0 d j)).toReal
  V f d := (x7 (ix3 0 f d)).toReal
  T b s d := (x8 (ix3 b s d)).toReal

open Cert.ReferenceIdeal Cert.ReferenceIdeal.Rows in
theorem reads_of_finite [Cert.Pre_finite.Facts] (x0 : FVec Ideal S2x2048x1024 .f32) (x1 x2 x3 : FVec Ideal S2x1024 .f32) (x4 x5 : FVec Ideal S1x1024 .f32)
    (x6 : FVec Ideal S1x1024x5632 .f32) (x7 : FVec Ideal S1x2816x1024 .f32) (x8 : FVec Ideal S2x2048x1024 .f32)
    (h : (Cert.Pre_finite.fn (F := Ideal) x0 x1 x2 x3 x4 x5 x6 x7 x8).1 = (fun _ => 1#1)
      ∧ (Cert.Pre_finite.fn (F := Ideal) x0 x1 x2 x3 x4 x5 x6 x7 x8).2.1 = (fun _ => 1#1)
      ∧ (Cert.Pre_finite.fn (F := Ideal) x0 x1 x2 x3 x4 x5 x6 x7 x8).2.2.1 = (fun _ => 1#1)
      ∧ (Cert.Pre_finite.fn (F := Ideal) x0 x1 x2 x3 x4 x5 x6 x7 x8).2.2.2.1 = (fun _ => 1#1)
      ∧ (Cert.Pre_finite.fn (F := Ideal) x0 x1 x2 x3 x4 x5 x6 x7 x8).2.2.2.2.1 = (fun _ => 1#1)
      ∧ (Cert.Pre_finite.fn (F := Ideal) x0 x1 x2 x3 x4 x5 x6 x7 x8).2.2.2.2.2.1 = (fun _ => 1#1)
      ∧ (Cert.Pre_finite.fn (F := Ideal) x0 x1 x2 x3 x4 x5 x6 x7 x8).2.2.2.2.2.2.1 = (fun _ => 1#1)
      ∧ (Cert.Pre_finite.fn (F := Ideal) x0 x1 x2 x3 x4 x5 x6 x7 x8).2.2.2.2.2.2.2.1 = (fun _ => 1#1)
      ∧ (Cert.Pre_finite.fn (F := Ideal) x0 x1 x2 x3 x4 x5 x6 x7 x8).2.2.2.2.2.2.2.2 = (fun _ => 1#1)) :
    Reads (argsOf x0 x1 x2 x3 x4 x5 x6 x7 x8) x0 x1 x2 x3 x4 x5 x6 x7 x8 :=
  ⟨fun _ _ _ => real_of_abs_lt x0 _ _ h.1 _, fun _ _ => real_of_abs_lt x1 _ _ h.2.1 _, fun _ _ => real_of_abs_lt x2 _ _ h.2.2.1 _,
    fun _ _ => real_of_abs_lt x3 _ _ h.2.2.2.1 _, fun _ => real_of_abs_lt x4 _ _ h.2.2.2.2.1 _, fun _ => real_of_abs_lt x5 _ _ h.2.2.2.2.2.1 _,
    fun _ _ => real_of_abs_lt x6 _ _ h.2.2.2.2.2.2.1 _, fun _ _ => real_of_abs_lt x7 _ _ h.2.2.2.2.2.2.2.1 _,
    fun _ _ _ => real_of_abs_lt x8 _ _ h.2.2.2.2.2.2.2.2 _⟩

end Ffn
end
-- ==== Proof.First.Fwd.lean ====
/- The forward call's tile: what a block of 256 rows leaves, as the model's rows. -/
module

public import proofs.«01_k».proof.Proof.Gen.Kernel1Ideal.Frame.Region0
public import proofs.«01_k».proof.Proof.Cols
public import Idealize.ShloMosaic.Lib.Pipeline.ValueKit

@[expose] public section

set_option maxRecDepth 16384

noncomputable section

namespace Cert.Kernel1Ideal.Fwd

open Cert.Kernel1Ideal Cert.Kernel1Ideal.Gen Idealize.ShloMosaic Ffn

/-- The blocks a point of the forward call reads. -/
structure In where
  x : Vec Ideal S256x1024 .f32
  md : Vec Ideal S1x8x1024 .f32
  gv : Vec Ideal S8x1024 .f32
  wi : Vec Ideal S8x704x1024 .bf16
  wo : Vec Ideal S4x704x1024 .bf16

/-- The blocks hold the rows `R p`. -/
structure Holds (I : In) (R : Fin 256 → Row) : Prop where
  x : ∀ p d, I.x (ix2 p d) = (((R p).x d : ℝ) : EReal)
  sh : ∀ p d, I.md (ix3 0 0 d) = (((R p).sh d : ℝ) : EReal)
  sc : ∀ p d, I.md (ix3 0 1 d) = (((R p).sc d : ℝ) : EReal)
  gt : ∀ p d, I.md (ix3 0 2 d) = (((R p).gt d : ℝ) : EReal)
  g1 : ∀ p d, I.gv (ix2 0 d) = (((R p).g1 d : ℝ) : EReal)
  g2 : ∀ p d, I.gv (ix2 1 d) = (((R p).g2 d : ℝ) : EReal)
  wi : ∀ p j f d, I.wi (ix3 j f d) = (((R p).W d (col j f) : ℝ) : EReal)
  wo : ∀ p c f d, I.wo (ix3 c f d) = (((R p).V (piece c f) d : ℝ) : EReal)

namespace In

variable (I : In)

/-- Piece `j` of each weight, the modulated row, a piece of the projection, and the four sums of the output projection. -/
def wI (j : Fin 8) : Vec Ideal S1x704x1024 .bf16 := View.ld I.wi (Rect.unit ![j.val, 0, 0] ![1, 704, 1024] (by revert j; decide))
def wO (c : Fin 4) : Vec Ideal S1x704x1024 .bf16 := View.ld I.wo (Rect.unit ![c.val, 0, 0] ![1, 704, 1024] (by revert c; decide))
def hT : FVec Ideal S256x1024 .bf16 := k0_pay28 I.x I.md I.gv I.wi I.wo
def pj (j : Fin 8) : FVec Ideal S256x704 .f32 := k0_pay8 I.hT (I.wI j)
def add (z : FVec Ideal S256x1024 .f32) (a b : Fin 8) (c : Fin 4) : FVec Ideal S256x1024 .f32 := k0_pay17 z (I.pj a) (I.pj b) (I.wO c)
def y : FVec Ideal S256x1024 .f32 := I.add (I.add (I.add (I.add k0_pay6 0 4 0) 1 5 1) 2 6 2) 3 7 3
def guT : Vec Ideal S8x256x704 .bf16 := fun y => I.pj (y 0) (ix2 (y 1) (y 2))
def xo : FVec Ideal S256x1024 .f32 := k0_pay2 (k0_pay3 I.x) (k0_pay4 (View.ld I.md r0_3)) (k0_pay31 I.x I.md I.gv I.wi I.wo)
  (k0_pay32 I.x I.md I.gv I.wi I.wo) (k0_pay33 I.x I.md I.gv I.wi I.wo) (k0_pay34 I.x I.md I.gv I.wi I.wo) (Scalar.ofBits .f32 0x3F000000#32) (View.ld I.wo r0_24) (View.ld I.gv r0_25)

theorem y_text : k0_pay1 (k0_pay31 I.x I.md I.gv I.wi I.wo) (k0_pay32 I.x I.md I.gv I.wi I.wo) (k0_pay33 I.x I.md I.gv I.wi I.wo)
    (k0_pay34 I.x I.md I.gv I.wi I.wo) (Ideal.ofBits .f32 0x3F000000#32) (View.ld I.wo r0_24) = I.y := rfl

theorem out5 : out0_5 I.x I.md I.gv I.wi I.wo = I.xo := by
  unfold out0_5
  frame_out
  rfl

theorem out7 : out0_7 I.x I.md I.gv I.wi I.wo = I.y := by
  unfold out0_7
  frame_out
  exact I.y_text

/-- A stored piece of the projection is the block's part there. -/
theorem gu_at (a : Fin 8) (x : S1x256x704.Idx) (y : S8x256x704.Idx) (h0 : (y 0).val = a.val) (h1 : (y 1).val = (x 1).val)
    (h2 : (y 2).val = (x 2).val) : k0_pay10 I.hT (I.wI a) x = I.guT y := by
  have e1 : y 1 = x 1 := Fin.ext h1
  have e2 : y 2 = x 2 := Fin.ext h2
  have e0 : y 0 = a := Fin.ext h0
  unfold guT
  rw [e0, e1, e2]
  pointwise [k0_pay10]
  rfl

theorem out6 : out0_6 I.x I.md I.gv I.wi I.wo = I.guT := by
  unfold out0_6
  funext y
  canon_tiles x h
  · exact I.gu_at 7 x y (by simp; omega) h1 h2
  · exact I.gu_at 3 x y (by simp; omega) h1 h2
  · exact I.gu_at 6 x y (by simp; omega) h1 h2
  · exact I.gu_at 2 x y (by simp; omega) h1 h2
  · exact I.gu_at 5 x y (by simp; omega) h1 h2
  · exact I.gu_at 1 x y (by simp; omega) h1 h2
  · exact I.gu_at 4 x y (by simp; omega) h1 h2
  · exact I.gu_at 0 x y (by simp; omega) h1 h2

end In

variable {I : In} {R : Fin 256 → Row} (H : Holds I R)

section
include H

theorem hT (p : Fin 256) (d : Fin 1024) : I.hT (ix2 p d) = (((R p).h d : ℝ) : EReal) := by
  pointwise [In.hT, k0_pay28, k0_pay5, k0_pay3]
  simp only [H.x, H.sc p, H.sh p, H.g1 p, lit_eps, lit_half, lit_one, lit_zero, lit_1024, ← EReal.coe_one, ← EReal.coe_zero, ← EReal.coe_mul, ← EReal.coe_add, ← EReal.coe_sub,
    ← EReal.coe_neg, coe_sum, div_1024]
  rw [show ((∑ k, (R p).x k * (R p).x k) / 1024 + eps) = ms (R p).x + eps from rfl, rsqrt_ms]
  simp only [← EReal.coe_mul, ← EReal.coe_add]
  rfl

theorem pj (p : Fin 256) (j : Fin 8) (f : Fin 704) : I.pj j (ix2 p f) = (((R p).proj (col j f) : ℝ) : EReal) := by
  pointwise [In.pj, k0_pay8, In.wI]
  simp only [hT H, H.wi p, lit_zero, ← EReal.coe_zero, ← EReal.coe_mul, ← EReal.coe_add, coe_sum]
  all_goals rfl

theorem add (p : Fin 256) (c : Fin 4) (z : FVec Ideal S256x1024 .f32) (r : ℝ) (d : Fin 1024) (hz : z (ix2 p d) = ((r : ℝ) : EReal)) :
    I.add z (lo8 c) (hi8 c) c (ix2 p d) = ((r + ∑ f, (R p).act (piece c f) * (R p).V (piece c f) d : ℝ) : EReal) := by
  pointwise [In.add, k0_pay17, In.wO]
  simp only [hz, pj H, H.wo p, Ideal.tanh_coe, sgm_tanh, col_lo, col_hi, lit_half, lit_zero, ← EReal.coe_zero, ← EReal.coe_mul, ← EReal.coe_add, coe_sum]
  all_goals rfl

theorem y (p : Fin 256) (d : Fin 1024) : I.y (ix2 p d) = (((R p).y d : ℝ) : EReal) := by
  have h0 : k0_pay6 (F := Ideal) (ix2 p d) = ((0 : ℝ) : EReal) := by
    pointwise [k0_pay6]
    exact EReal.coe_zero.symm
  refine (add H p 3 _ _ d (add H p 2 _ _ d (add H p 1 _ _ d (add H p 0 _ _ d h0)))).trans (congrArg _ ?_)
  rw [zero_add]
  exact (sum_pieces fun f => (R p).act f * (R p).V f d).symm

theorem gu (p : Fin 256) (j : Fin 8) (f : Fin 704) : I.guT (ix3 j p f) = (((R p).proj (col j f) : ℝ) : EReal) := pj H p j f

theorem xo (p : Fin 256) (d : Fin 1024) : I.xo (ix2 p d) = (((R p).out d : ℝ) : EReal) := by
  pointwise [In.xo, k0_pay2, k0_pay3, k0_pay4]
  simp only [In.y_text]
  simp only [y H, H.x, H.gt p, H.g2 p, lit_eps, lit_half, lit_one, lit_zero, lit_1024, ← EReal.coe_one, ← EReal.coe_zero, ← EReal.coe_mul, ← EReal.coe_add, ← EReal.coe_sub,
    ← EReal.coe_neg, coe_sum, div_1024]
  rw [show ((∑ k, (R p).y k * (R p).y k) / 1024 + eps) = ms (R p).y + eps from rfl, rsqrt_ms]
  simp only [← EReal.coe_mul, ← EReal.coe_add]
  rfl

end

end Cert.Kernel1Ideal.Fwd
end
-- ==== Proof.Added.lean ====
/- Rows added into a block: what the block holds after two or three of its rows were read, added to and stored back. -/
module

public import Idealize.ShloMosaic.Lib.Pointwise
public import Idealize.ShloMosaic.Lib.WritesUnit
public import Idealize.ShloMosaic.Lib.VecWindow
public import Idealize.ShloMosaic.Lib.Pipeline.ValueKit
public import Idealize.ShloMosaic.Lib.Pipeline.ReadBack

@[expose] public section

set_option maxRecDepth 16384

namespace Ffn

open Idealize.ShloMosaic Idealize.ShloMosaic.TcCoe Idealize.SL.Sem

local notation "B3" => (⟨3, ![1, 8, 1024]⟩ : Shape)
local notation "B2" => (⟨2, ![8, 1024]⟩ : Shape)

variable {sg : RefSig} {κ : Kind} {sp : Space}

/-- Three rows added into a block of eight. -/
theorem rows3_read (v : View sg κ sp B3 .f32) (f : v.ty.Contents (Elt Ideal)) (L : List (View.Piece (Elt Ideal) B3 .f32)) (Z : Vec Ideal B3 .f32)
    (hL : v.read (Elt Ideal) (v.writes (Elt Ideal) f L) = Z) (b0 b1 b2) (w0 w1 w2 : Vec Ideal (⟨3, ![1, 1, 1024]⟩ : Shape) .f32) (a0 a1 a2 : Fin 1024 → EReal)
    (h0 : ∀ d, w0 (ix3 0 0 d) = Z (ix3 0 0 d) + a0 d) (h1 : ∀ d, w1 (ix3 0 0 d) = Z (ix3 0 1 d) + a1 d) (h2 : ∀ d, w2 (ix3 0 0 d) = Z (ix3 0 2 d) + a2 d) :
    v.read (Elt Ideal) (v.writes (Elt Ideal) f (⟨Rect.unit ![0, 2, 0] ![1, 1, 1024] b2, w2⟩ :: ⟨Rect.unit ![0, 1, 0] ![1, 1, 1024] b1, w1⟩ ::
        ⟨Rect.unit ![0, 0, 0] ![1, 1, 1024] b0, w0⟩ :: L))
      = fun y => Z y + (if (y 1).val = 0 then a0 (y 2) else if (y 1).val = 1 then a1 (y 2) else if (y 1).val = 2 then a2 (y 2) else 0) := by
  funext y
  obtain ⟨b, r, d, rfl⟩ : ∃ (b : Fin 1) (r : Fin 8) (d : Fin 1024), y = ix3 b r d := ⟨_, _, _, eq_ix3 y⟩
  obtain rfl : b = 0 := Subsingleton.elim (α := Fin 1) _ _
  have hit : ∀ (q : ℕ) (hq : r.val = q) (inb) (w : Vec Ideal (⟨3, ![1, 1, 1024]⟩ : Shape) .f32) (L' : List (View.Piece (Elt Ideal) B3 .f32)),
      v.read (Elt Ideal) (v.writes (Elt Ideal) f (⟨Rect.unit ![0, q, 0] ![1, 1, 1024] inb, w⟩ :: L')) (ix3 0 r d) = w (ix3 0 0 d) := by
    intro q hq inb w L'
    refine View.read_writes_cons_unit_of_mem v f inb w L' (ix3 0 r d) (ix3 0 0 d) rfl fun a => ?_
    match a with
    | ⟨0, _⟩ => rfl
    | ⟨1, _⟩ => exact hq
    | ⟨2, _⟩ => exact (Nat.zero_add _).symm
  have miss : ∀ (q : ℕ) (hq : r.val ≠ q) (inb) (w : Vec Ideal (⟨3, ![1, 1, 1024]⟩ : Shape) .f32) (L' : List (View.Piece (Elt Ideal) B3 .f32)),
      v.read (Elt Ideal) (v.writes (Elt Ideal) f (⟨Rect.unit ![0, q, 0] ![1, 1, 1024] inb, w⟩ :: L')) (ix3 0 r d)
        = v.read (Elt Ideal) (v.writes (Elt Ideal) f L') (ix3 0 r d) := by
    intro q hq inb w L'
    refine View.read_writes_cons_unit_of_not_mem v f inb w L' (ix3 0 r d) rfl 1 ?_
    show r.val < q ∨ q + 1 ≤ r.val
    omega
  show _ = Z (ix3 0 r d) + (if r.val = 0 then a0 d else if r.val = 1 then a1 d else if r.val = 2 then a2 d else 0)
  by_cases e2 : r.val = 2
  · rw [hit 2 e2, if_neg (by omega), if_neg (by omega), if_pos e2, h2]
    obtain rfl : r = 2 := Fin.ext e2
    rfl
  rw [miss 2 e2]
  by_cases e1 : r.val = 1
  · rw [hit 1 e1, if_neg (by omega), if_pos e1, h1]
    obtain rfl : r = 1 := Fin.ext e1
    rfl
  rw [miss 1 e1]
  by_cases e0 : r.val = 0
  · rw [hit 0 e0, if_pos e0, h0]
    obtain rfl : r = 0 := Fin.ext e0
    rfl
  rw [miss 0 e0, hL, if_neg e0, if_neg e1, if_neg e2]
  exact (add_zero _).symm

/-- Two rows added into a block of eight. -/
theorem rows2_read (v : View sg κ sp B2 .f32) (f : v.ty.Contents (Elt Ideal)) (L : List (View.Piece (Elt Ideal) B2 .f32)) (Z : Vec Ideal B2 .f32)
    (hL : v.read (Elt Ideal) (v.writes (Elt Ideal) f L) = Z) (b0 b1) (w0 w1 : Vec Ideal (⟨2, ![1, 1024]⟩ : Shape) .f32) (a0 a1 : Fin 1024 → EReal)
    (h0 : ∀ d, w0 (ix2 0 d) = Z (ix2 0 d) + a0 d) (h1 : ∀ d, w1 (ix2 0 d) = Z (ix2 1 d) + a1 d) :
    v.read (Elt Ideal) (v.writes (Elt Ideal) f (⟨Rect.unit ![1, 0] ![1, 1024] b1, w1⟩ :: ⟨Rect.unit ![0, 0] ![1, 1024] b0, w0⟩ :: L))
      = fun y => Z y + (if (y 0).val = 0 then a0 (y 1) else if (y 0).val = 1 then a1 (y 1) else 0) := by
  funext y
  obtain ⟨r, d, rfl⟩ : ∃ (r : Fin 8) (d : Fin 1024), y = ix2 r d := ⟨_, _, eq_ix2 y⟩
  have hit : ∀ (q : ℕ) (hq : r.val = q) (inb) (w : Vec Ideal (⟨2, ![1, 1024]⟩ : Shape) .f32) (L' : List (View.Piece (Elt Ideal) B2 .f32)),
      v.read (Elt Ideal) (v.writes (Elt Ideal) f (⟨Rect.unit ![q, 0] ![1, 1024] inb, w⟩ :: L')) (ix2 r d) = w (ix2 0 d) := by
    intro q hq inb w L'
    refine View.read_writes_cons_unit_of_mem v f inb w L' (ix2 r d) (ix2 0 d) rfl fun a => ?_
    match a with
    | ⟨0, _⟩ => exact hq
    | ⟨1, _⟩ => exact (Nat.zero_add _).symm
  have miss : ∀ (q : ℕ) (hq : r.val ≠ q) (inb) (w : Vec Ideal (⟨2, ![1, 1024]⟩ : Shape) .f32) (L' : List (View.Piece (Elt Ideal) B2 .f32)),
      v.read (Elt Ideal) (v.writes (Elt Ideal) f (⟨Rect.unit ![q, 0] ![1, 1024] inb, w⟩ :: L')) (ix2 r d)
        = v.read (Elt Ideal) (v.writes (Elt Ideal) f L') (ix2 r d) := by
    intro q hq inb w L'
    refine View.read_writes_cons_unit_of_not_mem v f inb w L' (ix2 r d) rfl 0 ?_
    show r.val < q ∨ q + 1 ≤ r.val
    omega
  show _ = Z (ix2 r d) + (if r.val = 0 then a0 d else if r.val = 1 then a1 d else 0)
  by_cases e1 : r.val = 1
  · rw [hit 1 e1, if_neg (by omega), if_pos e1, h1]
    obtain rfl : r = 1 := Fin.ext e1
    rfl
  rw [miss 1 e1]
  by_cases e0 : r.val = 0
  · rw [hit 0 e0, if_pos e0, h0]
    obtain rfl : r = 0 := Fin.ext e0
    rfl
  rw [miss 0 e0, hL, if_neg e0, if_neg e1]
  exact (add_zero _).symm

/-- The same where the block was first filled with `Z`. -/
theorem rows3_first (v : View sg κ sp B3 .f32) (Z : Vec Ideal B3 .f32) (b0 b1 b2 bz) (w0 w1 w2 : Vec Ideal (⟨3, ![1, 1, 1024]⟩ : Shape) .f32)
    (a0 a1 a2 : Fin 1024 → EReal) (h0 : ∀ d, w0 (ix3 0 0 d) = Z (ix3 0 0 d) + a0 d) (h1 : ∀ d, w1 (ix3 0 0 d) = Z (ix3 0 1 d) + a1 d)
    (h2 : ∀ d, w2 (ix3 0 0 d) = Z (ix3 0 2 d) + a2 d) :
    View.canon (Val := Elt Ideal) (s := B3) (e := .f32) [⟨Rect.unit ![0, 2, 0] ![1, 1, 1024] b2, w2⟩, ⟨Rect.unit ![0, 1, 0] ![1, 1, 1024] b1, w1⟩,
        ⟨Rect.unit ![0, 0, 0] ![1, 1, 1024] b0, w0⟩, ⟨Rect.unit ![0, 0, 0] ![1, 8, 1024] bz, Z⟩]
      = fun y => Z y + (if (y 1).val = 0 then a0 (y 2) else if (y 1).val = 1 then a1 (y 2) else if (y 1).val = 2 then a2 (y 2) else 0) := by
  rw [← View.read_writes_junk_eq_canon v]
  exact rows3_read v v.junk [_] Z (View.read_writes_full (s := B3) v _ _ Z _) _ _ _ _ _ _ _ _ _ h0 h1 h2

theorem rows2_first (v : View sg κ sp B2 .f32) (Z : Vec Ideal B2 .f32) (b0 b1 bz) (w0 w1 : Vec Ideal (⟨2, ![1, 1024]⟩ : Shape) .f32)
    (a0 a1 : Fin 1024 → EReal) (h0 : ∀ d, w0 (ix2 0 d) = Z (ix2 0 d) + a0 d) (h1 : ∀ d, w1 (ix2 0 d) = Z (ix2 1 d) + a1 d) :
    View.canon (Val := Elt Ideal) (s := B2) (e := .f32) [⟨Rect.unit ![1, 0] ![1, 1024] b1, w1⟩, ⟨Rect.unit ![0, 0] ![1, 1024] b0, w0⟩,
        ⟨Rect.unit ![0, 0] ![8, 1024] bz, Z⟩]
      = fun y => Z y + (if (y 0).val = 0 then a0 (y 1) else if (y 0).val = 1 then a1 (y 1) else 0) := by
  rw [← View.read_writes_junk_eq_canon v]
  exact rows2_read v v.junk [_] Z (View.read_writes_full (s := B2) v _ _ Z _) _ _ _ _ _ _ h0 h1

end Ffn
end
-- ==== Proof.First.Tile.lean ====
/- The backward call's tile, stage by stage: what a block of 256 rows computes from the blocks it reads. -/
module

public import proofs.«01_k».proof.Proof.Gen.Kernel1Ideal.Frame.Region1
public import proofs.«01_k».proof.Proof.Added

@[expose] public section

set_option maxRecDepth 16384

noncomputable section

namespace Cert.Kernel1Ideal.Bwd

open Cert.Kernel1Ideal Cert.Kernel1Ideal.Gen Idealize.ShloMosaic Idealize.ShloMosaic.TcCoe Idealize.SL.Sem

/-- The blocks a point reads: the output's cotangent, the rows, the two saved arrays, modulation, gains and the weights in pieces. -/
structure In where
  e : Vec Ideal S256x1024 .f32
  x : Vec Ideal S256x1024 .f32
  y : Vec Ideal S256x1024 .f32
  gu : Vec Ideal S8x256x704 .bf16
  md : Vec Ideal S1x8x1024 .f32
  gv : Vec Ideal S8x1024 .f32
  wi : Vec Ideal S8x704x1024 .bf16
  wo : Vec Ideal S4x704x1024 .bf16

namespace In

variable (I : In)

/-- Row `j` of the modulation, of the gains; piece `j` of the saved projection and of each weight. -/
def mdRow (j : Fin 8) : Vec Ideal S1x1x1024 .f32 := View.ld I.md (Rect.unit ![0, j.val, 0] ![1, 1, 1024] (by revert j; decide))
def gvRow (j : Fin 8) : Vec Ideal S1x1024 .f32 := View.ld I.gv (Rect.unit ![j.val, 0] ![1, 1024] (by revert j; decide))
def gP (j : Fin 8) : Vec Ideal S1x256x704 .bf16 := View.ld I.gu (Rect.unit ![j.val, 0, 0] ![1, 256, 704] (by revert j; decide))
def wI (j : Fin 8) : Vec Ideal S1x704x1024 .bf16 := View.ld I.wi (Rect.unit ![j.val, 0, 0] ![1, 704, 1024] (by revert j; decide))
def wO (c : Fin 4) : Vec Ideal S1x704x1024 .bf16 := View.ld I.wo (Rect.unit ![c.val, 0, 0] ![1, 704, 1024] (by revert c; decide))

/-- The modulated row, and the gradient down to the output projection. -/
def hT : FVec Ideal S256x1024 .bf16 := k1_pay14 I.x (I.mdRow 0) (I.mdRow 1) (I.gvRow 0)
def dgt : FVec Ideal S1x1024 .f32 := k1_pay17 (k1_pay5 I.e) (k1_pay6 I.y) (k1_pay10 (I.gvRow 1))
def dg2 : FVec Ideal S1x1024 .f32 := k1_pay19 (k1_pay5 I.e) (k1_pay6 I.y) (k1_pay8 (I.mdRow 2))
def dy : FVec Ideal S256x1024 .bf16 := k1_pay20 (k1_pay5 I.e) (k1_pay6 I.y) (k1_pay8 (I.mdRow 2)) (k1_pay10 (I.gvRow 1))

/-- The gated activation from gate piece `a` and up piece `b`, and the gradients of the two through piece `c` of the output projection. -/
def act (a b : Fin 8) : FVec Ideal S1x256x704 .bf16 := k1_pay65 (I.gP a) (I.gP b)
def dup (a : Fin 8) (c : Fin 4) : FVec Ideal S256x704 .bf16 := k1_pay67 I.dy (I.gP a) (I.wO c)
def dga (a b : Fin 8) (c : Fin 4) : FVec Ideal S256x704 .bf16 := k1_pay68 I.dy (I.gP a) (I.gP b) (I.wO c)
def dupS (a : Fin 8) (c : Fin 4) : FVec Ideal S1x256x704 .bf16 := k1_pay70 (I.dup a c)
def dgaS (a b : Fin 8) (c : Fin 4) : FVec Ideal S1x256x704 .bf16 := k1_pay69 I.dy (I.gP a) (I.gP b) (I.wO c)

/-- One piece's contribution to the row's gradient; the first three; and what follows from all four. -/
def add (z : FVec Ideal S256x1024 .f32) (a b : Fin 8) (c : Fin 4) : FVec Ideal S256x1024 .f32 := k1_pay71 z (I.dup a c) (I.dga a b c) (I.wI a) (I.wI b)
def z3 : FVec Ideal S256x1024 .f32 := I.add (I.add (I.add k1_pay21 0 4 0) 1 5 1) 2 6 2
def dsc : FVec Ideal S1x1024 .f32 := k1_pay72 (k1_pay13 I.x (I.gvRow 0)) I.z3 (I.dup 3 3) (I.dga 3 7 3) (I.wI 3) (I.wI 7)
def dsh : FVec Ideal S1x1024 .f32 := k1_pay73 I.z3 (I.dup 3 3) (I.dga 3 7 3) (I.wI 3) (I.wI 7)
def dg1 : FVec Ideal S1x1024 .f32 := k1_pay75 (k1_pay7 (I.mdRow 1)) (k1_pay12 I.x) I.z3 (I.dup 3 3) (I.dga 3 7 3) (I.wI 3) (I.wI 7)
def dx : FVec Ideal S256x1024 .f32 := k1_pay76 (k1_pay5 I.e) (k1_pay7 (I.mdRow 1)) (k1_pay9 (I.gvRow 0)) (k1_pay11 I.x) (k1_pay12 I.x) I.z3 (I.dup 3 3)
  (I.dga 3 7 3) (I.wI 3) (I.wI 7)

/-- The arrays a point leaves, entry by entry: the projection's gradient in eight pieces (gate pieces first), the activation in four. -/
def dgT : Vec Ideal S8x256x704 .bf16 := fun y =>
  if h : (y 0).val < 4 then I.dga ⟨(y 0).val, by omega⟩ ⟨4 + (y 0).val, by omega⟩ ⟨(y 0).val, h⟩ (ix2 (y 1) (y 2))
  else I.dup ⟨(y 0).val - 4, by have := (y 0).isLt; simp at this; omega⟩ ⟨(y 0).val - 4, by have := (y 0).isLt; simp at this; omega⟩ (ix2 (y 1) (y 2))
def actT : Vec Ideal S4x256x704 .bf16 := fun y =>
  I.act ⟨(y 0).val, by have := (y 0).isLt; simp at this; omega⟩ ⟨4 + (y 0).val, by have := (y 0).isLt; simp at this; omega⟩ (ix3 0 (y 1) (y 2))

/-- What a point adds to the modulation's gradient and the gains'. -/
def mgT : Vec Ideal S1x8x1024 .f32 := fun y =>
  if (y 1).val = 0 then I.dsh (ix2 0 (y 2)) else if (y 1).val = 1 then I.dsc (ix2 0 (y 2)) else if (y 1).val = 2 then I.dgt (ix2 0 (y 2)) else 0
def vgT : Vec Ideal S8x1024 .f32 := fun y =>
  if (y 0).val = 0 then I.dg1 (ix2 0 (y 1)) else if (y 0).val = 1 then I.dg2 (ix2 0 (y 1)) else 0

/-- A stored piece of the projection's gradient, of the activation, is the block's part there. -/
theorem dupS_at (a : Fin 4) (x : S1x256x704.Idx) (y : S8x256x704.Idx) (h0 : (y 0).val = 4 + a.val) (h1 : (y 1).val = (x 1).val)
    (h2 : (y 2).val = (x 2).val) : I.dupS (a.castLE (by decide)) a x = I.dgT y := by
  have e1 : y 1 = x 1 := Fin.ext h1
  have e2 : y 2 = x 2 := Fin.ext h2
  have e0 : ((y 0).val - 4) = a.val := by omega
  unfold dgT
  rw [dif_neg (by omega)]
  simp only [e0, e1, e2]
  pointwise [dupS, k1_pay70]
  all_goals rfl

theorem dgaS_at (a : Fin 4) (b : Fin 8) (hb : b.val = 4 + a.val) (x : S1x256x704.Idx) (y : S8x256x704.Idx) (h0 : (y 0).val = a.val) (h1 : (y 1).val = (x 1).val)
    (h2 : (y 2).val = (x 2).val) : I.dgaS (a.castLE (by decide)) b a x = I.dgT y := by
  have e1 : y 1 = x 1 := Fin.ext h1
  have e2 : y 2 = x 2 := Fin.ext h2
  have eb : b = ⟨4 + a.val, by clear hb; omega⟩ := Fin.ext hb
  unfold dgT
  rw [dif_pos (by omega)]
  subst eb
  simp only [h0, e1, e2]
  pointwise [dgaS, dga, k1_pay69]
  all_goals rfl

theorem act_at (a : Fin 4) (b : Fin 8) (hb : b.val = 4 + a.val) (x : S1x256x704.Idx) (y : S4x256x704.Idx) (h0 : (y 0).val = a.val) (h1 : (y 1).val = (x 1).val)
    (h2 : (y 2).val = (x 2).val) : I.act (a.castLE (by decide)) b x = I.actT y := by
  have e1 : y 1 = x 1 := Fin.ext h1
  have e2 : y 2 = x 2 := Fin.ext h2
  have eb : b = ⟨4 + a.val, by clear hb; omega⟩ := Fin.ext hb
  have ex : x = ix3 0 (x 1) (x 2) := by
    funext k
    match k with
    | ⟨0, _⟩ => exact Subsingleton.elim (α := Fin 1) _ _
    | ⟨1, _⟩ => rfl
    | ⟨2, _⟩ => rfl
  unfold actT
  subst eb
  simp only [h0, e1, e2]
  exact congrArg (I.act _ _) ex

/-- The added rows, and the zero fills. -/
theorem row_sh (Z : Vec Ideal S1x8x1024 .f32) (d : Fin 1024) :
    k1_pay79 I.dsh (View.ld Z (Rect.unit ![0, 0, 0] ![1, 1, 1024] inb_S1x8x1024_S1x1x1024_0_0_0)) (ix3 0 0 d) = Z (ix3 0 0 d) + I.dsh (ix2 0 d) := by
  pointwise [k1_pay79]
theorem row_sc (Z : Vec Ideal S1x8x1024 .f32) (d : Fin 1024) :
    k1_pay80 I.dsc (View.ld Z (Rect.unit ![0, 1, 0] ![1, 1, 1024] inb_S1x8x1024_S1x1x1024_0_1_0)) (ix3 0 0 d) = Z (ix3 0 1 d) + I.dsc (ix2 0 d) := by
  pointwise [k1_pay80]
theorem row_gt (Z : Vec Ideal S1x8x1024 .f32) (d : Fin 1024) :
    k1_pay1 (k1_pay81 I.dgt (View.ld Z (Rect.unit ![0, 2, 0] ![1, 1, 1024] inb_S1x8x1024_S1x1x1024_0_2_0))) (ix3 0 0 d) = Z (ix3 0 2 d) + I.dgt (ix2 0 d) := by
  pointwise [k1_pay1, k1_pay81]
theorem row_g1 (Z : Vec Ideal S8x1024 .f32) (d : Fin 1024) :
    k1_pay2 I.dg1 (View.ld Z (Rect.unit ![0, 0] ![1, 1024] inb_S8x1024_S1x1024_0_0)) (ix2 0 d) = Z (ix2 0 d) + I.dg1 (ix2 0 d) := by
  pointwise [k1_pay2]
theorem row_g2 (Z : Vec Ideal S8x1024 .f32) (d : Fin 1024) :
    k1_pay3 I.dg2 (View.ld Z (Rect.unit ![1, 0] ![1, 1024] inb_S8x1024_S1x1024_1_0)) (ix2 0 d) = Z (ix2 1 d) + I.dg2 (ix2 0 d) := by
  pointwise [k1_pay3]
theorem mg_zero (y : S1x8x1024.Idx) : k1_pay77 (F := Ideal) y = 0 := by
  pointwise [k1_pay77]
theorem vg_zero (y : S8x1024.Idx) : k1_pay78 (F := Ideal) y = 0 := by
  pointwise [k1_pay78]

end In
end Cert.Kernel1Ideal.Bwd
end
-- ==== Proof.First.Opened.lean ====
/- What a point of the backward call leaves in each of its output blocks, over the blocks it read. -/
module

public import proofs.«01_k».proof.Proof.First.Tile

@[expose] public section

set_option maxRecDepth 16384

noncomputable section

namespace Cert.Kernel1Ideal.Bwd

open Cert.Kernel1Ideal Cert.Kernel1Ideal.Gen Ffn
open Idealize.ShloMosaic Idealize.ShloMosaic.TcCoe Idealize.SL.Sem

variable (V : (c : Dev nD) → (b : Ref sig .tc) → Buf (Elt Ideal) ((c : Thread nD τ).loc b))

/-- The blocks point `t` reads. -/
def inp (c : Dev nD) (t : Fin cfg1.N) : In :=
  ⟨iblk1 V c 0 t, iblk1 V c 1 t, iblk1 V c 2 t, iblk1 V c 3 t, iblk1 V c 4 t, iblk1 V c 5 t, iblk1 V c 6 t, iblk1 V c 7 t⟩

namespace In

variable (I : In)

/-- The eight, the four pieces together. -/
theorem dg_read :
   View.canon (Val := Elt Ideal)
      [⟨Rect.unit ![7, 0, 0] ![1, 256, 704] inb_S8x256x704_S1x256x704_7_0_0, I.dupS 3 3⟩,
        ⟨Rect.unit ![3, 0, 0] ![1, 256, 704] inb_S8x256x704_S1x256x704_3_0_0, I.dgaS 3 7 3⟩,
        ⟨Rect.unit ![6, 0, 0] ![1, 256, 704] inb_S8x256x704_S1x256x704_6_0_0, I.dupS 2 2⟩,
        ⟨Rect.unit ![2, 0, 0] ![1, 256, 704] inb_S8x256x704_S1x256x704_2_0_0, I.dgaS 2 6 2⟩,
        ⟨Rect.unit ![5, 0, 0] ![1, 256, 704] inb_S8x256x704_S1x256x704_5_0_0, I.dupS 1 1⟩,
        ⟨Rect.unit ![1, 0, 0] ![1, 256, 704] inb_S8x256x704_S1x256x704_1_0_0, I.dgaS 1 5 1⟩,
        ⟨Rect.unit ![4, 0, 0] ![1, 256, 704] inb_S8x256x704_S1x256x704_4_0_0, I.dupS 0 0⟩,
        ⟨Rect.unit ![0, 0, 0] ![1, 256, 704] inb_S8x256x704_S1x256x704_0_0_0, I.dgaS 0 4 0⟩] = I.dgT := by
  funext y
  canon_tiles x h
  · exact I.dupS_at 3 x y (by simp; omega) h1 h2
  · exact I.dgaS_at 3 7 rfl x y (by simp; omega) h1 h2
  · exact I.dupS_at 2 x y (by simp; omega) h1 h2
  · exact I.dgaS_at 2 6 rfl x y (by simp; omega) h1 h2
  · exact I.dupS_at 1 x y (by simp; omega) h1 h2
  · exact I.dgaS_at 1 5 rfl x y (by simp; omega) h1 h2
  · exact I.dupS_at 0 x y (by simp; omega) h1 h2
  · exact I.dgaS_at 0 4 rfl x y (by simp; omega) h1 h2

theorem act_read :
   View.canon (Val := Elt Ideal)
      [⟨Rect.unit ![3, 0, 0] ![1, 256, 704] inb_S4x256x704_S1x256x704_3_0_0, I.act 3 7⟩,
        ⟨Rect.unit ![2, 0, 0] ![1, 256, 704] inb_S4x256x704_S1x256x704_2_0_0, I.act 2 6⟩,
        ⟨Rect.unit ![1, 0, 0] ![1, 256, 704] inb_S4x256x704_S1x256x704_1_0_0, I.act 1 5⟩,
        ⟨Rect.unit ![0, 0, 0] ![1, 256, 704] inb_S4x256x704_S1x256x704_0_0_0, I.act 0 4⟩] = I.actT := by
  funext y
  canon_tiles x h
  · exact I.act_at 3 7 rfl x y (by simp; omega) h1 h2
  · exact I.act_at 2 6 rfl x y (by simp; omega) h1 h2
  · exact I.act_at 1 5 rfl x y (by simp; omega) h1 h2
  · exact I.act_at 0 4 rfl x y (by simp; omega) h1 h2

end In

set_option maxHeartbeats 1600000 in
/-- The five blocks of its own, and the two it adds into: those start at zero at the first point of a sequence, of the grid. -/
theorem opened (c : Dev nD) (t : Fin cfg1.N) :
    (outsAt1 V c t.val t.isLt).1 = (inp V c t).dx
    ∧ (outsAt1 V c t.val t.isLt).2.1 = (inp V c t).dgT
    ∧ (outsAt1 V c t.val t.isLt).2.2.1 = (inp V c t).actT
    ∧ (outsAt1 V c t.val t.isLt).2.2.2.1 = (inp V c t).hT
    ∧ (outsAt1 V c t.val t.isLt).2.2.2.2.1 = (inp V c t).dy
    ∧ (outsAt1 V c t.val t.isLt).2.2.2.2.2.1
      = (fun y => (if t.val % 8 = 0 then k1_pay77 (F := Ideal) y else (outsAt1 V c (t.val - 1) (by omega)).2.2.2.2.2.1 y) + (inp V c t).mgT y)
    ∧ (outsAt1 V c t.val t.isLt).2.2.2.2.2.2
      = (fun y => (if t.val % 16 = 0 then k1_pay78 (F := Ideal) y else (outsAt1 V c (t.val - 1) (by omega)).2.2.2.2.2.2 y) + (inp V c t).vgT y) := by
  have e0 : iblk1 V c 0 t = (inp V c t).e := rfl
  have e1 : iblk1 V c 1 t = (inp V c t).x := rfl
  have e2 : iblk1 V c 2 t = (inp V c t).y := rfl
  have e3 : iblk1 V c 3 t = (inp V c t).gu := rfl
  have e4 : iblk1 V c 4 t = (inp V c t).md := rfl
  have e5 : iblk1 V c 5 t = (inp V c t).gv := rfl
  have e6 : iblk1 V c 6 t = (inp V c t).wi := rfl
  have e7 : iblk1 V c 7 t = (inp V c t).wo := rfl
  obtain ⟨h1, h2⟩ | ⟨h1, h2⟩ | ⟨h1, h2⟩ : (t.val % 8 = 0 ∧ t.val % 16 = 0) ∨ (¬ t.val % 8 = 0 ∧ ¬ t.val % 16 = 0)
      ∨ (t.val % 8 = 0 ∧ ¬ t.val % 16 = 0) := by omega
  rw [outsAt1_A V c t h1 h2]; simp only [if_pos h1, if_pos h2]
  rotate_left 1
  rw [outsAt1_B V c t h1 h2]; simp only [if_neg h1, if_neg h2]
  rotate_left 1
  rw [outsAt1_C V c t h1 h2]; simp only [if_pos h1, if_neg h2]
  all_goals refine ⟨?_, ?_, ?_, ?_, ?_, ?_, ?_⟩
  all_goals frame_open
  all_goals simp (disch := decide) only [↓ View.readCov_skip, ↓ View.readCov_cons_toLoadRect, ↓ View.readCov_fill]
  all_goals frame_out
  all_goals simp only [e0, e1, e2, e3, e4, e5, e6, e7]
  all_goals generalize inp V c t = I
  · rfl
  · exact I.dg_read
  · exact I.act_read
  · rfl
  · rfl
  · exact rows3_first (ms1_13 t).view _ _ _ _ _ _ _ _ _ _ _ (I.row_sh _) (I.row_sc _) (I.row_gt _)
  · exact rows2_read _ _ [] _ (Memref.IsWhole.read_unread (hs1_14 t) _) _ _ _ _ _ _ (I.row_g1 _) (I.row_g2 _)
  · rfl
  · exact I.dg_read
  · exact I.act_read
  · rfl
  · rfl
  · exact rows3_first (ms1_13 t).view _ _ _ _ _ _ _ _ _ _ _ (I.row_sh _) (I.row_sc _) (I.row_gt _)
  · exact rows2_first (ms1_14 t).view _ _ _ _ _ _ _ _ (I.row_g1 _) (I.row_g2 _)
  · rfl
  · exact I.dg_read
  · exact I.act_read
  · rfl
  · rfl
  · exact rows3_read _ _ [] _ (Memref.IsWhole.read_unread (hs1_13 t) _) _ _ _ _ _ _ _ _ _ (I.row_sh _) (I.row_sc _) (I.row_gt _)
  · exact rows2_read _ _ [] _ (Memref.IsWhole.read_unread (hs1_14 t) _) _ _ _ _ _ _ (I.row_g1 _) (I.row_g2 _)

end Cert.Kernel1Ideal.Bwd
end
-- ==== Proof.First.TileRows.lean ====
/- The backward call's tile as real numbers: each stage at row `p` is the model's row there. -/
module

public import proofs.«01_k».proof.Proof.First.Tile
public import proofs.«01_k».proof.Proof.Cols

@[expose] public section

set_option maxRecDepth 16384

noncomputable section

namespace Cert.Kernel1Ideal.Bwd

open Cert.Kernel1Ideal Cert.Kernel1Ideal.Gen Idealize.ShloMosaic Ffn

/-- The blocks of a point hold the rows `R p` with the cotangents `E p`, and what the forward call saved of those rows. -/
structure Holds (I : In) (R : Fin 256 → Row) (E : Fin 256 → Fin 1024 → ℝ) : Prop where
  e : ∀ p d, I.e (ix2 p d) = ((E p d : ℝ) : EReal)
  x : ∀ p d, I.x (ix2 p d) = (((R p).x d : ℝ) : EReal)
  y : ∀ p d, I.y (ix2 p d) = (((R p).y d : ℝ) : EReal)
  gu : ∀ p j f, I.gu (ix3 j p f) = (((R p).proj (col j f) : ℝ) : EReal)
  sh : ∀ p d, I.md (ix3 0 0 d) = (((R p).sh d : ℝ) : EReal)
  sc : ∀ p d, I.md (ix3 0 1 d) = (((R p).sc d : ℝ) : EReal)
  gt : ∀ p d, I.md (ix3 0 2 d) = (((R p).gt d : ℝ) : EReal)
  g1 : ∀ p d, I.gv (ix2 0 d) = (((R p).g1 d : ℝ) : EReal)
  g2 : ∀ p d, I.gv (ix2 1 d) = (((R p).g2 d : ℝ) : EReal)
  wi : ∀ p j f d, I.wi (ix3 j f d) = (((R p).W d (col j f) : ℝ) : EReal)
  wo : ∀ p c f d, I.wo (ix3 c f d) = (((R p).V (piece c f) d : ℝ) : EReal)

variable {I : In} {R : Fin 256 → Row} {E : Fin 256 → Fin 1024 → ℝ} (H : Holds I R E)

section
include H

/-- The normalised row, and the modulated row. -/
theorem xinv (p : Fin 256) : k1_pay11 I.x (ix2 p 0) = ((inv (R p).x : ℝ) : EReal) := by
  pointwise [k1_pay11, k1_pay4]
  simp only [H.x, lit_eps, lit_half, lit_one, lit_zero, lit_1024, ← EReal.coe_one, ← EReal.coe_zero, ← EReal.coe_mul, ← EReal.coe_add, ← EReal.coe_sub,
    ← EReal.coe_neg, coe_sum, div_1024]
  exact rsqrt_ms _

theorem xh (p : Fin 256) (d : Fin 1024) : k1_pay12 I.x (ix2 p d) = (((R p).xh d : ℝ) : EReal) := by
  pointwise [k1_pay12, k1_pay4]
  simp only [H.x, xinv H, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem n (p : Fin 256) (d : Fin 1024) : k1_pay13 I.x (I.gvRow 0) (ix2 p d) = (((R p).n d : ℝ) : EReal) := by
  pointwise [k1_pay13, k1_pay9, In.gvRow]
  simp only [xh H, H.g1 p, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem hT (p : Fin 256) (d : Fin 1024) : I.hT (ix2 p d) = (((R p).h d : ℝ) : EReal) := by
  pointwise [In.hT, k1_pay14, k1_pay7, In.mdRow]
  simp only [n H, H.sc p, H.sh p, lit_eps, lit_half, lit_one, lit_zero, lit_1024, ← EReal.coe_one, ← EReal.coe_zero, ← EReal.coe_mul, ← EReal.coe_add, ← EReal.coe_sub,
    ← EReal.coe_neg, coe_sum, div_1024]
  all_goals rfl

/-- The second norm, of the saved array. -/
theorem y6 (p : Fin 256) (d : Fin 1024) : k1_pay6 I.y (ix2 p d) = (((R p).y d : ℝ) : EReal) := by
  pointwise [k1_pay6]
  simp only [H.y, lit_eps, lit_half, lit_one, lit_zero, lit_1024, ← EReal.coe_one, ← EReal.coe_zero, ← EReal.coe_mul, ← EReal.coe_add, ← EReal.coe_sub,
    ← EReal.coe_neg, coe_sum, div_1024]

theorem yinv (p : Fin 256) : k1_pay15 (k1_pay6 I.y) (ix2 p 0) = ((inv (R p).y : ℝ) : EReal) := by
  pointwise [k1_pay15]
  simp only [y6 H, lit_eps, lit_half, lit_one, lit_zero, lit_1024, ← EReal.coe_one, ← EReal.coe_zero, ← EReal.coe_mul, ← EReal.coe_add, ← EReal.coe_sub,
    ← EReal.coe_neg, coe_sum, div_1024]
  exact rsqrt_ms _

theorem yh (p : Fin 256) (d : Fin 1024) : k1_pay16 (k1_pay6 I.y) (ix2 p d) = (((R p).yh d : ℝ) : EReal) := by
  pointwise [k1_pay16]
  simp only [y6 H, yinv H, lit_eps, lit_half, lit_one, lit_zero, lit_1024, ← EReal.coe_one, ← EReal.coe_zero, ← EReal.coe_mul, ← EReal.coe_add, ← EReal.coe_sub,
    ← EReal.coe_neg, coe_sum, div_1024]
  all_goals rfl

/-- The gradient down to the output projection. -/
theorem dp (p : Fin 256) (d : Fin 1024) : k1_pay18 (k1_pay5 I.e) (k1_pay8 (I.mdRow 2)) (ix2 p d) = (((R p).dp (E p) d : ℝ) : EReal) := by
  pointwise [k1_pay18, k1_pay5, k1_pay8, In.mdRow]
  simp only [H.e, H.gt p, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem dy (p : Fin 256) (d : Fin 1024) : I.dy (ix2 p d) = (((R p).dy (E p) d : ℝ) : EReal) := by
  pointwise [In.dy, k1_pay20, k1_pay10, In.gvRow]
  simp only [dp H, yh H, yinv H, H.g2 p, lit_eps, lit_half, lit_one, lit_zero, lit_1024, ← EReal.coe_one, ← EReal.coe_zero, ← EReal.coe_mul, ← EReal.coe_add, ← EReal.coe_sub,
    ← EReal.coe_neg, coe_sum, div_1024]
  all_goals rfl

/-- The gate and the up projection, as saved. -/
theorem gate (p : Fin 256) (c : Fin 4) (f : Fin 704) : k1_pay61 (I.gP (lo8 c)) (ix2 p f) = (((R p).gate (piece c f) : ℝ) : EReal) := by
  pointwise [k1_pay61, In.gP]
  simp only [H.gu, col_lo, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem up (p : Fin 256) (c : Fin 4) (f : Fin 704) : k1_pay62 (I.gP (hi8 c)) (ix2 p f) = (((R p).up (piece c f) : ℝ) : EReal) := by
  pointwise [k1_pay62, In.gP]
  simp only [H.gu, col_hi, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem sg (p : Fin 256) (c : Fin 4) (f : Fin 704) : k1_pay63 (I.gP (lo8 c)) (ix2 p f) = ((sgm ((R p).gate (piece c f)) : ℝ) : EReal) := by
  pointwise [k1_pay63]
  simp only [gate H, Ideal.tanh_coe, sgm_tanh, lit_eps, lit_half, lit_one, lit_zero, lit_1024, ← EReal.coe_one, ← EReal.coe_zero, ← EReal.coe_mul, ← EReal.coe_add, ← EReal.coe_sub,
    ← EReal.coe_neg, coe_sum, div_1024]

theorem silu (p : Fin 256) (c : Fin 4) (f : Fin 704) : k1_pay64 (I.gP (lo8 c)) (ix2 p f) = (((R p).silu (piece c f) : ℝ) : EReal) := by
  pointwise [k1_pay64]
  simp only [gate H, sg H, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem act (p : Fin 256) (c : Fin 4) (f : Fin 704) : I.act (lo8 c) (hi8 c) (ix3 0 p f) = (((R p).act (piece c f) : ℝ) : EReal) := by
  pointwise [In.act, k1_pay65]
  simp only [silu H, up H, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem dact (p : Fin 256) (c : Fin 4) (f : Fin 704) : k1_pay66 I.dy (I.wO c) (ix2 p f) = (((R p).dact (E p) (piece c f) : ℝ) : EReal) := by
  pointwise [k1_pay66, In.wO]
  simp only [dy H, H.wo p, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem dup (p : Fin 256) (c : Fin 4) (f : Fin 704) : I.dup (lo8 c) c (ix2 p f) = (((R p).dup (E p) (piece c f) : ℝ) : EReal) := by
  pointwise [In.dup, k1_pay67]
  simp only [dact H, silu H, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem dga (p : Fin 256) (c : Fin 4) (f : Fin 704) : I.dga (lo8 c) (hi8 c) c (ix2 p f) = (((R p).dgate (E p) (piece c f) : ℝ) : EReal) := by
  pointwise [In.dga, k1_pay68]
  simp only [dact H, up H, gate H, sg H, lit_eps, lit_half, lit_one, lit_zero, lit_1024, ← EReal.coe_one, ← EReal.coe_zero, ← EReal.coe_mul, ← EReal.coe_add, ← EReal.coe_sub,
    ← EReal.coe_neg, coe_sum, div_1024]
  all_goals rfl

/-- One piece's contribution, and the four together. -/
theorem add (p : Fin 256) (c : Fin 4) (z : FVec Ideal S256x1024 .f32) (r : ℝ) (d : Fin 1024) (hz : z (ix2 p d) = ((r : ℝ) : EReal)) :
    I.add z (lo8 c) (hi8 c) c (ix2 p d)
      = ((r + (∑ f, (R p).dgate (E p) (piece c f) * (R p).W d (Row.lo (piece c f))) + ∑ f, (R p).dup (E p) (piece c f) * (R p).W d (Row.hi (piece c f)) : ℝ) : EReal) := by
  pointwise [In.add, k1_pay71, In.wI]
  simp only [hz, dga H, dup H, H.wi p, col_lo, col_hi, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem dh (p : Fin 256) (d : Fin 1024) : k1_pay71 I.z3 (I.dup 3 3) (I.dga 3 7 3) (I.wI 3) (I.wI 7) (ix2 p d) = (((R p).dh (E p) d : ℝ) : EReal) := by
  have h0 : k1_pay21 (F := Ideal) (ix2 p d) = ((0 : ℝ) : EReal) := by
    pointwise [k1_pay21]
    exact EReal.coe_zero.symm
  refine (add H p 3 _ _ d (add H p 2 _ _ d (add H p 1 _ _ d (add H p 0 _ _ d h0)))).trans (congrArg _ ?_)
  rw [Row.dh, sum_pieces, sum_pieces]
  ring

theorem dn (p : Fin 256) (d : Fin 1024) : k1_pay74 (k1_pay7 (I.mdRow 1)) I.z3 (I.dup 3 3) (I.dga 3 7 3) (I.wI 3) (I.wI 7) (ix2 p d) = (((R p).dn (E p) d : ℝ) : EReal) := by
  pointwise [k1_pay74, k1_pay7, In.mdRow]
  simp only [dh H, H.sc p, lit_eps, lit_half, lit_one, lit_zero, lit_1024, ← EReal.coe_one, ← EReal.coe_zero, ← EReal.coe_mul, ← EReal.coe_add, ← EReal.coe_sub,
    ← EReal.coe_neg, coe_sum, div_1024]
  all_goals rfl

theorem dx (p : Fin 256) (d : Fin 1024) : I.dx (ix2 p d) = (((R p).dx (E p) d : ℝ) : EReal) := by
  pointwise [In.dx, k1_pay76, k1_pay9, k1_pay5, In.gvRow]
  simp only [dn H, xh H, xinv H, H.g1 p, H.e, lit_eps, lit_half, lit_one, lit_zero, lit_1024, ← EReal.coe_one, ← EReal.coe_zero, ← EReal.coe_mul, ← EReal.coe_add, ← EReal.coe_sub,
    ← EReal.coe_neg, coe_sum, div_1024]
  all_goals rfl

/-- What the tile adds to the gradients of the shared arrays: sums over its rows. -/
theorem dsh (d : Fin 1024) : I.dsh (ix2 0 d) = ((∑ p, (R p).dh (E p) d : ℝ) : EReal) := by
  pointwise [In.dsh, k1_pay73]
  simp only [dh H, lit_eps, lit_half, lit_one, lit_zero, lit_1024, ← EReal.coe_one, ← EReal.coe_zero, ← EReal.coe_mul, ← EReal.coe_add, ← EReal.coe_sub,
    ← EReal.coe_neg, coe_sum, div_1024]

theorem dsc (d : Fin 1024) : I.dsc (ix2 0 d) = ((∑ p, (R p).dh (E p) d * (R p).n d : ℝ) : EReal) := by
  pointwise [In.dsc, k1_pay72]
  simp only [dh H, n H, lit_eps, lit_half, lit_one, lit_zero, lit_1024, ← EReal.coe_one, ← EReal.coe_zero, ← EReal.coe_mul, ← EReal.coe_add, ← EReal.coe_sub,
    ← EReal.coe_neg, coe_sum, div_1024]

theorem dgt (d : Fin 1024) : I.dgt (ix2 0 d) = ((∑ p, 1 / 2 * E p d * (R p).pn d : ℝ) : EReal) := by
  pointwise [In.dgt, k1_pay17, k1_pay5, k1_pay10, In.gvRow]
  rw [← coe_sum]
  refine Finset.sum_congr rfl fun p _ => ?_
  simp only [H.e, yh H, H.g2 p, lit_eps, lit_half, lit_one, lit_zero, lit_1024, ← EReal.coe_one, ← EReal.coe_zero, ← EReal.coe_mul, ← EReal.coe_add, ← EReal.coe_sub,
    ← EReal.coe_neg, coe_sum, div_1024]
  rfl

theorem dg2 (d : Fin 1024) : I.dg2 (ix2 0 d) = ((∑ p, (R p).dp (E p) d * (R p).yh d : ℝ) : EReal) := by
  pointwise [In.dg2, k1_pay19]
  simp only [dp H, yh H, lit_eps, lit_half, lit_one, lit_zero, lit_1024, ← EReal.coe_one, ← EReal.coe_zero, ← EReal.coe_mul, ← EReal.coe_add, ← EReal.coe_sub,
    ← EReal.coe_neg, coe_sum, div_1024]

theorem dg1 (d : Fin 1024) : I.dg1 (ix2 0 d) = ((∑ p, (R p).dn (E p) d * (R p).xh d : ℝ) : EReal) := by
  pointwise [In.dg1, k1_pay75]
  simp only [dn H, xh H, lit_eps, lit_half, lit_one, lit_zero, lit_1024, ← EReal.coe_one, ← EReal.coe_zero, ← EReal.coe_mul, ← EReal.coe_add, ← EReal.coe_sub,
    ← EReal.coe_neg, coe_sum, div_1024]

end

end Cert.Kernel1Ideal.Bwd
end
-- ==== Proof.First.Blocks.lean ====
/- The blocks the two calls read: rows `256·(t mod 8) + p` of sequence `t / 8`, out of the arguments and of what the first call saved. -/
module

public import proofs.«01_k».proof.Proof.First.Fwd
public import proofs.«01_k».proof.Proof.First.Opened
public import proofs.«01_k».proof.Proof.First.TileRows
public import proofs.«01_k».proof.Proof.Out

@[expose] public section

set_option maxRecDepth 16384

noncomputable section

namespace Cert.Kernel1Ideal.Whole

open Cert.Kernel1Ideal Cert.Kernel1Ideal.Gen
open Idealize.ShloMosaic Idealize.ShloMosaic.TcCoe Idealize.SL.Sem Ffn

variable {c : Dev nD} {A : Args}

/-- The sequence, and the row of it, that entry `p` of point `n` is; its place among all tokens. -/
def seq (n : Fin 16) : Fin 2 := ⟨n.val / 8, by omega⟩
def pos (n : Fin 16) (p : Fin 256) : Fin 2048 := ⟨256 * (n.val % 8) + p.val, by omega⟩
def tk (n : Fin 16) (p : Fin 256) : Fin 4096 := ⟨256 * n.val + p.val, by omega⟩

theorem qb_tk (n : Fin 16) (p : Fin 256) : Args.qb (tk n p) = seq n :=
  Fin.ext (by show (256 * n.val + p.val) / 2048 = n.val / 8; omega)
theorem qs_tk (n : Fin 16) (p : Fin 256) : Args.qs (tk n p) = pos n p :=
  Fin.ext (by show (256 * n.val + p.val) % 2048 = 256 * (n.val % 8) + p.val; omega)
theorem tok_tk (n : Fin 16) (p : Fin 256) : A.tok (tk n p) = A.row (seq n) (pos n p) := by rw [Args.tok, qb_tk, qs_tk]
theorem cot_tk (n : Fin 16) (p : Fin 256) : A.tokCot (tk n p) = A.cot (seq n) (pos n p) := by rw [Args.tokCot, qb_tk, qs_tk]

/-- A point of either grid, as a number below 16. -/
def pt0 (t : Fin cfg0.N) : Fin 16 := ⟨t.val, by have := t.isLt; have : cfg0.N = 16 := N_0; omega⟩
def pt1 (t : Fin cfg1.N) : Fin 16 := ⟨t.val, by have := t.isLt; have : cfg1.N = 16 := N_1; omega⟩

/-- A block of the forward call is its part of the array it is cut from. -/
theorem idx0 : ∀ t : Fin cfg0.N, win0_0.index t = ![t.val, 0] ∧ win0_1.index t = ![t.val / 8, 0, 0] ∧ win0_2.index t = ![0, 0]
    ∧ win0_3.index t = ![0, 0, 0] ∧ win0_4.index t = ![0, 0, 0] ∧ win0_5.index t = ![t.val, 0] ∧ win0_6.index t = ![0, t.val, 0] ∧ win0_7.index t = ![t.val, 0] :=
  (by decide +kernel : ∀ t : Fin grid0.N, _)

section
variable (V : (c : Dev nD) → (b : Ref sig .tc) → Buf (Elt Ideal) ((c : Thread nD τ).loc b))

theorem blk0_0 (t : Fin cfg0.N) (p : Fin 256) (d : Fin 1024) : iblk0 V c 0 t (ix2 p d) = V c main_v14 (ix2 (tk (pt0 t) p) d) := by
  show (V c main_v14) _ = _
  generalize V c main_v14 = Y
  blk_ext [idx0 t, tk, pt0]

theorem blk0_1 (t : Fin cfg0.N) (r : Fin 8) (d : Fin 1024) : iblk0 V c 1 t (ix3 0 r d) = V c main_v4 (ix3 (seq (pt0 t)) r d) := by
  show (V c main_v4) _ = _
  generalize V c main_v4 = Y
  blk_ext [idx0 t, seq, pt0]

theorem blk0_2 (t : Fin cfg0.N) (r : Fin 8) (d : Fin 1024) : iblk0 V c 2 t (ix2 r d) = V c main_v6 (ix2 r d) := by
  show (V c main_v6) _ = _
  generalize V c main_v6 = Y
  blk_ext [idx0 t]

theorem blk0_3 (t : Fin cfg0.N) (j : Fin 8) (f : Fin 704) (d : Fin 1024) : iblk0 V c 3 t (ix3 j f d) = V c main_v10 (ix3 j f d) := by
  show (V c main_v10) _ = _
  generalize V c main_v10 = Y
  blk_ext [idx0 t]

theorem blk0_4 (t : Fin cfg0.N) (j : Fin 4) (f : Fin 704) (d : Fin 1024) : iblk0 V c 4 t (ix3 j f d) = V c main_v13 (ix3 j f d) := by
  show (V c main_v13) _ = _
  generalize V c main_v13 = Y
  blk_ext [idx0 t]

/-- Likewise of the backward call. -/
theorem idx1 : ∀ t : Fin cfg1.N, win1_0.index t = ![t.val, 0] ∧ win1_1.index t = ![t.val, 0] ∧ win1_2.index t = ![t.val, 0] ∧ win1_3.index t = ![0, t.val, 0]
    ∧ win1_4.index t = ![t.val / 8, 0, 0] ∧ win1_5.index t = ![0, 0] ∧ win1_6.index t = ![0, 0, 0] ∧ win1_7.index t = ![0, 0, 0] :=
  (by decide +kernel : ∀ t : Fin grid1.N, _)

theorem oidx1 : ∀ t : Fin cfg1.N, win1_8.index t = ![t.val, 0] ∧ win1_9.index t = ![0, t.val, 0] ∧ win1_10.index t = ![0, t.val, 0] ∧ win1_11.index t = ![t.val, 0]
    ∧ win1_12.index t = ![t.val, 0] ∧ win1_13.index t = ![t.val / 8, 0, 0] ∧ win1_14.index t = ![0, 0] :=
  (by decide +kernel : ∀ t : Fin grid1.N, _)

theorem blk1_0 (t : Fin cfg1.N) (p : Fin 256) (d : Fin 1024) : iblk1 V c 0 t (ix2 p d) = V c main_v16 (ix2 (tk (pt1 t) p) d) := by
  show (V c main_v16) _ = _
  generalize V c main_v16 = Y
  blk_ext [idx1 t, tk, pt1]

theorem blk1_1 (t : Fin cfg1.N) (p : Fin 256) (d : Fin 1024) : iblk1 V c 1 t (ix2 p d) = V c main_v14 (ix2 (tk (pt1 t) p) d) := by
  show (V c main_v14) _ = _
  generalize V c main_v14 = Y
  blk_ext [idx1 t, tk, pt1]

theorem blk1_2 (t : Fin cfg1.N) (p : Fin 256) (d : Fin 1024) : iblk1 V c 2 t (ix2 p d) = V c (Pipeline.arrRef spec0 7) (ix2 (tk (pt1 t) p) d) := by
  show (V c (Pipeline.arrRef spec0 7)) _ = _
  generalize V c (Pipeline.arrRef spec0 7) = Y
  blk_ext [idx1 t, tk, pt1]

theorem blk1_3 (t : Fin cfg1.N) (j : Fin 8) (p : Fin 256) (f : Fin 704) :
    iblk1 V c 3 t (ix3 j p f) = V c (Pipeline.arrRef spec0 6) (ix3 j (tk (pt1 t) p) f) := by
  show (V c (Pipeline.arrRef spec0 6)) _ = _
  generalize V c (Pipeline.arrRef spec0 6) = Y
  blk_ext [idx1 t, tk, pt1]

theorem blk1_4 (t : Fin cfg1.N) (r : Fin 8) (d : Fin 1024) : iblk1 V c 4 t (ix3 0 r d) = V c main_v4 (ix3 (seq (pt1 t)) r d) := by
  show (V c main_v4) _ = _
  generalize V c main_v4 = Y
  blk_ext [idx1 t, seq, pt1]

theorem blk1_5 (t : Fin cfg1.N) (r : Fin 8) (d : Fin 1024) : iblk1 V c 5 t (ix2 r d) = V c main_v6 (ix2 r d) := by
  show (V c main_v6) _ = _
  generalize V c main_v6 = Y
  blk_ext [idx1 t]

theorem blk1_6 (t : Fin cfg1.N) (j : Fin 8) (f : Fin 704) (d : Fin 1024) : iblk1 V c 6 t (ix3 j f d) = V c main_v10 (ix3 j f d) := by
  show (V c main_v10) _ = _
  generalize V c main_v10 = Y
  blk_ext [idx1 t]

theorem blk1_7 (t : Fin cfg1.N) (j : Fin 4) (f : Fin 704) (d : Fin 1024) : iblk1 V c 7 t (ix3 j f d) = V c main_v13 (ix3 j f d) := by
  show (V c main_v13) _ = _
  generalize V c main_v13 = Y
  blk_ext [idx1 t]

end

/-- What the forward call is entered with, and what the backward call is, as entries of the arrays each reads. -/
structure Ent0 (V : (c : Dev nD) → (b : Ref sig .tc) → Buf (Elt Ideal) ((c : Thread nD τ).loc b)) (c : Dev nD) (A : Args) : Prop where
  x : ∀ q d, (V c main_v14 : FVec Ideal S4096x1024 .f32) (ix2 q d) = (((A.tok q).x d : ℝ) : EReal)
  sh : ∀ b d, (V c main_v4 : FVec Ideal S2x8x1024 .f32) (ix3 b 0 d) = ((A.Sh b d : ℝ) : EReal)
  sc : ∀ b d, (V c main_v4 : FVec Ideal S2x8x1024 .f32) (ix3 b 1 d) = ((A.Sc b d : ℝ) : EReal)
  gt : ∀ b d, (V c main_v4 : FVec Ideal S2x8x1024 .f32) (ix3 b 2 d) = ((A.Gt b d : ℝ) : EReal)
  g1 : ∀ d, (V c main_v6 : FVec Ideal S8x1024 .f32) (ix2 0 d) = ((A.G1 d : ℝ) : EReal)
  g2 : ∀ d, (V c main_v6 : FVec Ideal S8x1024 .f32) (ix2 1 d) = ((A.G2 d : ℝ) : EReal)
  wi : ∀ j f d, (V c main_v10 : FVec Ideal S8x704x1024 .bf16) (ix3 j f d) = ((A.W d (col j f) : ℝ) : EReal)
  wo : ∀ j f d, (V c main_v13 : FVec Ideal S4x704x1024 .bf16) (ix3 j f d) = ((A.V (Ffn.piece j f) d : ℝ) : EReal)

structure Ent1 (V : (c : Dev nD) → (b : Ref sig .tc) → Buf (Elt Ideal) ((c : Thread nD τ).loc b)) (c : Dev nD) (A : Args) : Prop extends Ent0 V c A where
  e : ∀ q d, (V c main_v16 : FVec Ideal S4096x1024 .f32) (ix2 q d) = ((A.tokCot q d : ℝ) : EReal)
  y : ∀ q d, (V c (Pipeline.arrRef spec0 7) : FVec Ideal S4096x1024 .f32) (ix2 q d) = (((A.tok q).y d : ℝ) : EReal)
  gu : ∀ j q f, (V c (Pipeline.arrRef spec0 6) : FVec Ideal S8x4096x704 .bf16) (ix3 j q f) = (((A.tok q).proj (col j f) : ℝ) : EReal)

section
variable {V : (c : Dev nD) → (b : Ref sig .tc) → Buf (Elt Ideal) ((c : Thread nD τ).loc b)}

/-- The rows a point holds. -/
abbrev rows (A : Args) (n : Fin 16) (p : Fin 256) : Row := A.row (seq n) (pos n p)

/-- The blocks of point `t` of the forward call. -/
def inp0 (V : (c : Dev nD) → (b : Ref sig .tc) → Buf (Elt Ideal) ((c : Thread nD τ).loc b)) (c : Dev nD) (t : Fin cfg0.N) : Fwd.In :=
  ⟨iblk0 V c 0 t, iblk0 V c 1 t, iblk0 V c 2 t, iblk0 V c 3 t, iblk0 V c 4 t⟩

theorem holds0 (t : Fin cfg0.N) (H : Ent0 V c A) : Fwd.Holds (inp0 V c t) (rows A (pt0 t)) where
  x p d := (blk0_0 V t p d).trans ((H.x _ d).trans (congrArg (fun R : Row => ((R.x d : ℝ) : EReal)) (tok_tk _ p)))
  sh _ d := (blk0_1 V t 0 d).trans (H.sh _ d)
  sc _ d := (blk0_1 V t 1 d).trans (H.sc _ d)
  gt _ d := (blk0_1 V t 2 d).trans (H.gt _ d)
  g1 _ d := (blk0_2 V t 0 d).trans (H.g1 d)
  g2 _ d := (blk0_2 V t 1 d).trans (H.g2 d)
  wi _ j f d := (blk0_3 V t j f d).trans (H.wi j f d)
  wo _ j f d := (blk0_4 V t j f d).trans (H.wo j f d)

theorem holds1 (t : Fin cfg1.N) (H : Ent1 V c A) :
    Bwd.Holds (Bwd.inp V c t) (rows A (pt1 t)) (fun p => A.cot (seq (pt1 t)) (pos (pt1 t) p)) where
  e p d := (blk1_0 V t p d).trans ((H.e _ d).trans (congrArg (fun e : Fin 1024 → ℝ => ((e d : ℝ) : EReal)) (cot_tk _ p)))
  x p d := (blk1_1 V t p d).trans ((H.x _ d).trans (congrArg (fun R : Row => ((R.x d : ℝ) : EReal)) (tok_tk _ p)))
  y p d := (blk1_2 V t p d).trans ((H.y _ d).trans (congrArg (fun R : Row => ((R.y d : ℝ) : EReal)) (tok_tk _ p)))
  gu p j f := (blk1_3 V t j p f).trans ((H.gu j _ f).trans (congrArg (fun R : Row => ((R.proj (col j f) : ℝ) : EReal)) (tok_tk _ p)))
  sh _ d := (blk1_4 V t 0 d).trans (H.sh _ d)
  sc _ d := (blk1_4 V t 1 d).trans (H.sc _ d)
  gt _ d := (blk1_4 V t 2 d).trans (H.gt _ d)
  g1 _ d := (blk1_5 V t 0 d).trans (H.g1 d)
  g2 _ d := (blk1_5 V t 1 d).trans (H.g2 d)
  wi _ j f d := (blk1_6 V t j f d).trans (H.wi j f d)
  wo _ j f d := (blk1_7 V t j f d).trans (H.wo j f d)

end

end Cert.Kernel1Ideal.Whole
end
-- ==== Proof.First.Arrays.lean ====
/- The arrays the two calls leave: every point's blocks put in their places, and the two sums over the points. -/
module

public import proofs.«01_k».proof.Proof.First.Blocks

@[expose] public section

set_option maxRecDepth 16384

noncomputable section

namespace Cert.Kernel1Ideal.Whole

open Cert.Kernel1Ideal Cert.Kernel1Ideal.Gen
open Idealize.ShloMosaic Idealize.ShloMosaic.TcCoe Idealize.SL.Sem Ffn

variable {c : Dev nD} {A : Args} {V : (c : Dev nD) → (b : Ref sig .tc) → Buf (Elt Ideal) ((c : Thread nD τ).loc b)}

/-- What the forward call leaves: the output, the projection in pieces, and the array the second norm is of. -/
theorem arr0_5 (H : Ent0 V c A) : (dat0 V c).arrAt 5 cfg0.N = (fun i => (((A.tok (i 0)).out (i 1) : ℝ) : EReal)) := by
  refine (dat0 V c).arrAt_eq_of_covers 5 _ (by decide +kernel) fun t hf y => ?_
  blk_simp [idx0 t]
  rw [after0_5]
  obtain ⟨p, d, rfl⟩ : ∃ p : Fin 256, ∃ d : Fin 1024, y = ix2 p d := ⟨y 0, y 1, eq_ix2 y⟩
  have he : (win0_5.blk t).view.emb (ix2 p d) = ix2 (tk (pt0 t) p) d := by blk_ext [idx0 t, tk, pt0]
  rw [he]
  refine ((congrFun (inp0 V c t).out5 _).trans (Fwd.xo (holds0 t H) p d)).trans ?_
  show _ = (((A.tok (tk (pt0 t) p)).out d : ℝ) : EReal)
  rw [tok_tk]

theorem arr0_6 (H : Ent0 V c A) : (dat0 V c).arrAt 6 cfg0.N = (fun i => (((A.tok (i 1)).proj (col (i 0) (i 2)) : ℝ) : EReal)) := by
  refine (dat0 V c).arrAt_eq_of_covers 6 _ (by decide +kernel) fun t hf y => ?_
  blk_simp [idx0 t]
  rw [after0_6]
  obtain ⟨j, p, f, rfl⟩ : ∃ j : Fin 8, ∃ p : Fin 256, ∃ f : Fin 704, y = ix3 j p f := ⟨y 0, y 1, y 2, eq_ix3 y⟩
  have he : (win0_6.blk t).view.emb (ix3 j p f) = ix3 j (tk (pt0 t) p) f := by blk_ext [idx0 t, tk, pt0]
  rw [he]
  refine ((congrFun (inp0 V c t).out6 _).trans (Fwd.gu (holds0 t H) p j f)).trans ?_
  show _ = (((A.tok (tk (pt0 t) p)).proj (col j f) : ℝ) : EReal)
  rw [tok_tk]

theorem arr0_7 (H : Ent0 V c A) : (dat0 V c).arrAt 7 cfg0.N = (fun i => (((A.tok (i 0)).y (i 1) : ℝ) : EReal)) := by
  refine (dat0 V c).arrAt_eq_of_covers 7 _ (by decide +kernel) fun t hf y => ?_
  blk_simp [idx0 t]
  rw [after0_7]
  obtain ⟨p, d, rfl⟩ : ∃ p : Fin 256, ∃ d : Fin 1024, y = ix2 p d := ⟨y 0, y 1, eq_ix2 y⟩
  have he : (win0_7.blk t).view.emb (ix2 p d) = ix2 (tk (pt0 t) p) d := by blk_ext [idx0 t, tk, pt0]
  rw [he]
  refine ((congrFun (inp0 V c t).out7 _).trans (Fwd.y (holds0 t H) p d)).trans ?_
  show _ = (((A.tok (tk (pt0 t) p)).y d : ℝ) : EReal)
  rw [tok_tk]

/-- What the backward call leaves, of its own rows. -/
theorem arr1_8 (H : Ent1 V c A) : (dat1 V c).arrAt 8 cfg1.N = (fun i => ((A.dxAt (i 0) (i 1) : ℝ) : EReal)) := by
  refine (dat1 V c).arrAt_eq_of_covers 8 _ (by decide +kernel) fun t hf y => ?_
  blk_simp [oidx1 t]
  rw [after1_8, (Bwd.opened V c t).1]
  obtain ⟨p, d, rfl⟩ : ∃ p : Fin 256, ∃ d : Fin 1024, y = ix2 p d := ⟨y 0, y 1, eq_ix2 y⟩
  have he : (win1_8.blk t).view.emb (ix2 p d) = ix2 (tk (pt1 t) p) d := by blk_ext [oidx1 t, tk, pt1]
  rw [he]
  refine (Bwd.dx (holds1 t H) p d).trans ?_
  show _ = (((A.tok (tk (pt1 t) p)).dx (A.tokCot (tk (pt1 t) p)) d : ℝ) : EReal)
  rw [tok_tk, cot_tk]

theorem arr1_11 (H : Ent1 V c A) : (dat1 V c).arrAt 11 cfg1.N = (fun i => ((A.hAt (i 0) (i 1) : ℝ) : EReal)) := by
  refine (dat1 V c).arrAt_eq_of_covers 11 _ (by decide +kernel) fun t hf y => ?_
  blk_simp [oidx1 t]
  rw [after1_11, (Bwd.opened V c t).2.2.2.1]
  obtain ⟨p, d, rfl⟩ : ∃ p : Fin 256, ∃ d : Fin 1024, y = ix2 p d := ⟨y 0, y 1, eq_ix2 y⟩
  have he : (win1_11.blk t).view.emb (ix2 p d) = ix2 (tk (pt1 t) p) d := by blk_ext [oidx1 t, tk, pt1]
  rw [he]
  refine (Bwd.hT (holds1 t H) p d).trans ?_
  show _ = (((A.tok (tk (pt1 t) p)).h d : ℝ) : EReal)
  rw [tok_tk]

theorem arr1_12 (H : Ent1 V c A) : (dat1 V c).arrAt 12 cfg1.N = (fun i => ((A.dyAt (i 0) (i 1) : ℝ) : EReal)) := by
  refine (dat1 V c).arrAt_eq_of_covers 12 _ (by decide +kernel) fun t hf y => ?_
  blk_simp [oidx1 t]
  rw [after1_12, (Bwd.opened V c t).2.2.2.2.1]
  obtain ⟨p, d, rfl⟩ : ∃ p : Fin 256, ∃ d : Fin 1024, y = ix2 p d := ⟨y 0, y 1, eq_ix2 y⟩
  have he : (win1_12.blk t).view.emb (ix2 p d) = ix2 (tk (pt1 t) p) d := by blk_ext [oidx1 t, tk, pt1]
  rw [he]
  refine (Bwd.dy (holds1 t H) p d).trans ?_
  show _ = (((A.tok (tk (pt1 t) p)).dy (A.tokCot (tk (pt1 t) p)) d : ℝ) : EReal)
  rw [tok_tk, cot_tk]

theorem arr1_10 (H : Ent1 V c A) : (dat1 V c).arrAt 10 cfg1.N = (fun i => ((A.actAt (i 0) (i 1) (i 2) : ℝ) : EReal)) := by
  refine (dat1 V c).arrAt_eq_of_covers 10 _ (by decide +kernel) fun t hf y => ?_
  blk_simp [oidx1 t]
  rw [after1_10, (Bwd.opened V c t).2.2.1]
  obtain ⟨j, p, f, rfl⟩ : ∃ j : Fin 4, ∃ p : Fin 256, ∃ f : Fin 704, y = ix3 j p f := ⟨y 0, y 1, y 2, eq_ix3 y⟩
  have he : (win1_10.blk t).view.emb (ix3 j p f) = ix3 j (tk (pt1 t) p) f := by blk_ext [oidx1 t, tk, pt1]
  rw [he]
  refine (Bwd.act (holds1 t H) p j f).trans ?_
  show _ = (((A.tok (tk (pt1 t) p)).act _ : ℝ) : EReal)
  rw [tok_tk]
  rfl

theorem arr1_9 (H : Ent1 V c A) : (dat1 V c).arrAt 9 cfg1.N = (fun i => ((A.dprojAt (i 0) (i 1) (i 2) : ℝ) : EReal)) := by
  refine (dat1 V c).arrAt_eq_of_covers 9 _ (by decide +kernel) fun t hf y => ?_
  blk_simp [oidx1 t]
  rw [after1_9, (Bwd.opened V c t).2.1]
  obtain ⟨j, p, f, rfl⟩ : ∃ j : Fin 8, ∃ p : Fin 256, ∃ f : Fin 704, y = ix3 j p f := ⟨y 0, y 1, y 2, eq_ix3 y⟩
  have he : (win1_9.blk t).view.emb (ix3 j p f) = ix3 j (tk (pt1 t) p) f := by blk_ext [oidx1 t, tk, pt1]
  rw [he]
  show _ = (((A.tok (tk (pt1 t) p)).dproj (A.tokCot (tk (pt1 t) p)) ⟨704 * j.val + f.val, _⟩ : ℝ) : EReal)
  rw [tok_tk, cot_tk]
  by_cases h : j.val < 4
  · refine (dif_pos h).trans ((Bwd.dga (holds1 t H) p ⟨j.val, h⟩ f).trans (congrArg _ ?_))
    exact (Row.dproj_lo _ _ _).symm.trans (congrArg _ (Fin.ext rfl))
  · refine (dif_neg h).trans ((Bwd.dup (holds1 t H) p ⟨j.val - 4, by omega⟩ f).trans (congrArg _ ?_))
    exact (Row.dproj_hi _ _ _).symm.trans (congrArg _ (Fin.ext (by show 2816 + (704 * (j.val - 4) + f.val) = 704 * j.val + f.val; omega)))

/-- What point `t` adds into the modulation's gradient and the gains', as the real terms of its 256 tokens. -/
theorem mg_term (H : Ent1 V c A) (t : Fin cfg1.N) (r : Fin 8) (d : Fin 1024) :
    (Bwd.inp V c t).mgT (ix3 0 r d) = ((∑ p, A.modTerm r.val (seq (pt1 t)) (pos (pt1 t) p) d : ℝ) : EReal) := by
  simp only [Args.modTerm]
  by_cases h0 : r.val = 0
  · simp only [if_pos h0]
    exact (if_pos h0).trans (Bwd.dsh (holds1 t H) d)
  by_cases h1 : r.val = 1
  · simp only [if_neg h0, if_pos h1]
    exact (if_neg h0).trans ((if_pos h1).trans (Bwd.dsc (holds1 t H) d))
  by_cases h2 : r.val = 2
  · simp only [if_neg h0, if_neg h1, if_pos h2]
    exact (if_neg h0).trans ((if_neg h1).trans ((if_pos h2).trans (Bwd.dgt (holds1 t H) d)))
  · simp only [if_neg h0, if_neg h1, if_neg h2, Finset.sum_const_zero]
    exact (if_neg h0).trans ((if_neg h1).trans (if_neg h2))

theorem vg_term (H : Ent1 V c A) (t : Fin cfg1.N) (r : Fin 8) (d : Fin 1024) :
    (Bwd.inp V c t).vgT (ix2 r d) = ((∑ p, A.gainTerm r.val (seq (pt1 t)) (pos (pt1 t) p) d : ℝ) : EReal) := by
  simp only [Args.gainTerm]
  by_cases h0 : r.val = 0
  · simp only [if_pos h0]
    exact (if_pos h0).trans (Bwd.dg1 (holds1 t H) d)
  by_cases h1 : r.val = 1
  · simp only [if_neg h0, if_pos h1]
    exact (if_neg h0).trans ((if_pos h1).trans (Bwd.dg2 (holds1 t H) d))
  · simp only [if_neg h0, if_neg h1, Finset.sum_const_zero]
    exact (if_neg h0).trans (if_neg h1)

/-- The points of the grid and the 256 rows of each are the rows of the two sequences. -/
theorem sum_points (f : Fin 2 → Fin 2048 → ℝ) : ∑ t : Fin cfg1.N, ∑ p, f (seq (pt1 t)) (pos (pt1 t) p) = ∑ b, ∑ s, f b s :=
  Fin.sum_points_lanes_congr 8 (fun t p ha hl => congrArg₂ f rfl (Fin.ext (by show 256 * (t.val % 8) + p.val = t.val % 8 * 256 + p.val; omega))) N_1 rfl

theorem sum_run (f : Fin 2048 → ℝ) (g : Fin 8 → Fin 256 → Fin 2048) (hg : ∀ s p, (g s p).val = 256 * s.val + p.val) :
    ∑ s : Fin 8, ∑ p, f (g s p) = ∑ s, f s :=
  Fin.sum_mul_add_congr (fun s p hl => congrArg f (Fin.ext (by rw [hg]; show 256 * s.val + p.val = s.val * 256 + p.val; omega))) rfl

theorem arr1_13 (H : Ent1 V c A) : (dat1 V c).arrAt 13 cfg1.N = (fun i => ((A.modAt (i 0) (i 1) (i 2) : ℝ) : EReal)) := by
  refine (dat1 V c).arrAt_eq_of_covers 13 _ (by decide +kernel) fun t hf y => ?_
  blk_simp [oidx1 t]
  rw [after1_13]
  obtain ⟨z, r, d, rfl⟩ : ∃ z : Fin 1, ∃ r : Fin 8, ∃ d : Fin 1024, y = ix3 z r d := ⟨y 0, y 1, y 2, eq_ix3 y⟩
  obtain rfl : z = 0 := Subsingleton.elim _ _
  have he : (win1_13.blk t).view.emb (ix3 0 r d) = ix3 (seq (pt1 t)) r d := by blk_ext [oidx1 t, seq, pt1]
  rw [he]
  rw [Pipeline.eq_sum_fin_of_reset_step_apply_of_flush (fun n h => (outsAt1 V c n h).2.2.2.2.2.1) 8 (fun _ => 0) (fun t => (Bwd.inp V c t).mgT) ?_ ?_ t
    ((flush1_13 t).mp hf) _, zero_add]
  · have ht := t.isLt
    have hN : cfg1.N = 16 := N_1
    have ht' : t.val < 16 := by rw [← hN]; exact ht
    show _ = ((∑ s, A.modTerm r.val (seq (pt1 t)) s d : ℝ) : EReal)
    rw [← sum_run _ (fun s p => pos (pt1 ⟨8 * (t.val / 8) + s.val, by rw [hN]; omega⟩) p)
      (fun s p => by show 256 * ((8 * (t.val / 8) + s.val) % 8) + p.val = 256 * s.val + p.val; omega), ← coe_sum]
    refine Finset.sum_congr rfl fun s _ => (mg_term H _ r d).trans ?_
    rw [show seq (pt1 ⟨8 * (t.val / 8) + s.val, by rw [hN]; omega⟩) = seq (pt1 t) from
      Fin.ext (by show (8 * (t.val / 8) + s.val) / 8 = t.val / 8; omega)]
  · intro t h y
    exact (congrFun (Bwd.opened V c t).2.2.2.2.2.1 y).trans (congrArg (· + _) ((if_pos h).trans (Bwd.In.mg_zero y)))
  · intro t h y
    exact (congrFun (Bwd.opened V c t).2.2.2.2.2.1 y).trans (congrArg (· + _) (if_neg h))

theorem arr1_14 (H : Ent1 V c A) : (dat1 V c).arrAt 14 cfg1.N = (fun i => ((A.gainAt (i 0) (i 1) : ℝ) : EReal)) := by
  refine (dat1 V c).arrAt_eq_of_after_last 14 t1_15 (by decide +kernel) _ fun j => ?_
  blk_simp
  rw [after1_14]
  rw [Pipeline.eq_sum_fin_of_reset_step_apply_last (fun n h => (outsAt1 V c n h).2.2.2.2.2.2) 16 (fun _ => 0) (fun t => (Bwd.inp V c t).vgT) ?_ ?_
    (le_of_eq N_1) t1_15 rfl j, zero_add]
  · obtain ⟨r, d, rfl⟩ : ∃ r : Fin 8, ∃ d : Fin 1024, j = ix2 r d := ⟨j 0, j 1, eq_ix2 j⟩
    show _ = ((∑ b, ∑ s, A.gainTerm r.val b s d : ℝ) : EReal)
    rw [← sum_points (fun b s => A.gainTerm r.val b s d), ← coe_sum]
    exact Finset.sum_congr rfl fun t _ => vg_term H t r d
  · intro t h y
    exact (congrFun (Bwd.opened V c t).2.2.2.2.2.2 y).trans (congrArg (· + _) ((if_pos h).trans (Bwd.In.vg_zero y)))
  · intro t h y
    exact (congrFun (Bwd.opened V c t).2.2.2.2.2.2 y).trans (congrArg (· + _) (if_neg h))

end Cert.Kernel1Ideal.Whole
end
-- ==== Proof.First.Entry.lean ====
/- What each call is entered with: the arrays the host prepares from the arguments, and what the forward call saved. -/
module

public import proofs.«01_k».proof.Proof.Gen.Kernel1Ideal.Frame.Fold0
public import proofs.«01_k».proof.Proof.First.Arrays
public import proofs.«01_k».proof.Proof.RefRow
public import Idealize.ShloMosaic.Lib.StableHlo.RunRead
public import Idealize.ShloMosaic.Lib.Claim

@[expose] public section

set_option maxRecDepth 16384

noncomputable section

namespace Cert.Kernel1Ideal.Whole

open Cert.Kernel1Ideal Cert.Kernel1Ideal.Gen
open Idealize.ShloMosaic Idealize.ShloMosaic.TcCoe Idealize.SL.Sem Ffn
open Cert.ReferenceIdeal.Rows (Reads)

variable {m : (ℓ : Loc nD τ sig) → Buf (Elt Ideal) ℓ} {ρ : Dev nD → PrngReg} {c : Dev nD} {A : Args}

/-- The arguments of device `c` hold the real arrays `A`; the last is the cotangent of the output. -/
structure Given (m : (ℓ : Loc nD τ sig) → Buf (Elt Ideal) ℓ) (c : Dev nD) (A : Args) : Prop where
  reads : Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (fun i => ((A.T (i 0) (i 1) (i 2) : ℝ) : EReal))
  dxo : ∀ b s d, (m ((c : Thread nD τ).loc main_arg8) : FVec Ideal S2x2048x1024 .f32) (ix3 b s d) = ((A.cot b s d : ℝ) : EReal)

/-- Each array the host prepares, entry by entry. -/
theorem v14 (H : Given m c A) (q : Fin 4096) (d : Fin 1024) :
    StableHlo.after hostOps0 (W0 m ρ c) (Proc.devRef .tc main_v14) (ix2 q d) = ((A.tok q).x d : EReal) := by
  entry_read
  pointwise
  exact H.reads.x ..

theorem v4 (H : Given m c A) (b : Fin 2) (d : Fin 1024) :
    StableHlo.after hostOps0 (W0 m ρ c) (Proc.devRef .tc main_v4) (ix3 b 0 d) = (A.Sh b d : EReal)
    ∧ StableHlo.after hostOps0 (W0 m ρ c) (Proc.devRef .tc main_v4) (ix3 b 1 d) = (A.Sc b d : EReal)
    ∧ StableHlo.after hostOps0 (W0 m ρ c) (Proc.devRef .tc main_v4) (ix3 b 2 d) = (A.Gt b d : EReal) := by
  unfold hostOps0
  simp only [StableHlo.after_cons, StableHlo.after_nil]
  iterate 11
    first
      | rw [StableHlo.unary_result_ne]; rotate_left; decide
      | rw [StableHlo.reshape_result_ne]; rotate_left; decide
      | rw [StableHlo.nullary_result_ne]; rotate_left; decide
      | rw [StableHlo.nary_result_ne]; rotate_left; decide
  rw [StableHlo.nary_result]
  refine ⟨?_, ?_, ?_⟩ <;> pointwise <;> after_region_results <;> pointwise
  · exact H.reads.sh ..
  · exact H.reads.sc ..
  · exact H.reads.gt ..

theorem v6 (H : Given m c A) (d : Fin 1024) :
    StableHlo.after hostOps0 (W0 m ρ c) (Proc.devRef .tc main_v6) (ix2 0 d) = (A.G1 d : EReal)
    ∧ StableHlo.after hostOps0 (W0 m ρ c) (Proc.devRef .tc main_v6) (ix2 1 d) = (A.G2 d : EReal) := by
  unfold hostOps0
  simp only [StableHlo.after_cons, StableHlo.after_nil]
  iterate 8
    first
      | rw [StableHlo.unary_result_ne]; rotate_left; decide
      | rw [StableHlo.reshape_result_ne]; rotate_left; decide
  rw [StableHlo.nary_result]
  refine ⟨?_, ?_⟩ <;> pointwise <;> after_region_results
  · exact H.reads.g1 ..
  · exact H.reads.g2 ..

theorem v10 (H : Given m c A) (j : Fin 8) (f : Fin 704) (d : Fin 1024) :
    StableHlo.after hostOps0 (W0 m ρ c) (Proc.devRef .tc main_v10) (ix3 j f d) = (A.W d (col j f) : EReal) := by
  entry_read
  pointwise
  exact (H.reads.w ..).trans (congrArg (fun k => ((A.W _ k : ℝ) : EReal)) (Fin.ext (by simp only [col]; omega)))

theorem v13 (H : Given m c A) (j : Fin 4) (f : Fin 704) (d : Fin 1024) :
    StableHlo.after hostOps0 (W0 m ρ c) (Proc.devRef .tc main_v13) (ix3 j f d) = (A.V (Ffn.piece j f) d : EReal) := by
  entry_read
  pointwise
  exact (H.reads.v ..).trans (congrArg (fun k => ((A.V k _ : ℝ) : EReal)) (Fin.ext (by simp only [Ffn.piece]; omega)))

/-- What the backward call is entered with. -/
theorem in16 (H : Given m c A) (q : Fin 4096) (d : Fin 1024) : V3 m ρ c main_v16 (ix2 q d) = (A.tokCot q d : EReal) := by
  show StableHlo.after hostOps1 (W2 m ρ c) (Proc.devRef .tc main_v16) (ix2 q d) = _
  have h8 : W2 m ρ c (Proc.devRef .tc main_arg8) = m ((c : Thread nD τ).loc main_arg8) := W2_args m ρ c main_arg8 (by decide)
  unfold hostOps1
  simp only [StableHlo.after_cons, StableHlo.after_nil]
  rw [StableHlo.reshape_result, h8]
  pointwise
  exact H.dxo ..

theorem kept (c : Dev nD) (b : Ref sig .tc) (h1 : b ∉ hostOps1_W) (h0 : ∀ w : Fin cfg0.W, Pipeline.arrRef spec0 w = b → (cfg0.win w).isOut = false) :
    V3 m ρ c b = StableHlo.after hostOps0 (W0 m ρ c) (Proc.devRef .tc b) := (W3_of m ρ c b h1).trans (W2_of m ρ c b h0)

theorem ent0 (H : Given m c A) : Ent0 (V1 m ρ) c A where
  x q d := v14 H q d
  sh b d := (v4 H b d).1
  sc b d := (v4 H b d).2.1
  gt b d := (v4 H b d).2.2
  g1 d := (v6 H d).1
  g2 d := (v6 H d).2
  wi j f d := v10 H j f d
  wo j f d := v13 H j f d

theorem ent1 (H : Given m c A) : Ent1 (V3 m ρ) c A where
  x q d := (congrFun (kept c main_v14 (by decide) (by decide)) _).trans (v14 H q d)
  sh b d := (congrFun (kept c main_v4 (by decide) (by decide)) _).trans (v4 H b d).1
  sc b d := (congrFun (kept c main_v4 (by decide) (by decide)) _).trans (v4 H b d).2.1
  gt b d := (congrFun (kept c main_v4 (by decide) (by decide)) _).trans (v4 H b d).2.2
  g1 d := (congrFun (kept c main_v6 (by decide) (by decide)) _).trans (v6 H d).1
  g2 d := (congrFun (kept c main_v6 (by decide) (by decide)) _).trans (v6 H d).2
  wi j f d := (congrFun (kept c main_v10 (by decide) (by decide)) _).trans (v10 H j f d)
  wo j f d := (congrFun (kept c main_v13 (by decide) (by decide)) _).trans (v13 H j f d)
  e q d := in16 H q d
  y q d := congrFun ((W3_of m ρ c (Pipeline.arrRef spec0 7) (by decide)).trans ((W2_arr m ρ c 7).trans (arr0_7 (ent0 H)))) (ix2 q d)
  gu j q f := congrFun ((W3_of m ρ c (Pipeline.arrRef spec0 6) (by decide)).trans ((W2_arr m ρ c 6).trans (arr0_6 (ent0 H)))) (ix3 j q f)

end Cert.Kernel1Ideal.Whole
end
-- ==== Proof.First.Run.lean ====
/- The whole run: what both calls leave, and the arguments unchanged. -/
module

public import proofs.«01_k».proof.Proof.Gen.Kernel1Ideal.Frame

@[expose] public section

set_option maxRecDepth 16384

noncomputable section

namespace Cert.Kernel1Ideal.Whole

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The forward call's output is written by nothing after it. -/
theorem end0 (c : Dev nD) : W4 m ρ c (Proc.devRef .tc main_v15_0) = (dat0 (V1 m ρ) c).arrAt 5 cfg0.N :=
  (W4_of m ρ c main_v15_0 (by decide)).trans ((W3_of m ρ c main_v15_0 (by decide)).trans (W2_arr m ρ c 5))

set_option backward.isDefEq.respectTransparency.types false in
theorem run : θ_run defs (onTc (τ := τ) (main (F := F))) ⟨m, fun _ => 0, ρ⟩ (fun r => ∀ c : Dev nD,
      r.2.mem ((c.tc : Thread nD τ).loc main_v15_0) = (dat0 (V1 m ρ) c).arrAt 5 cfg0.N
      ∧ r.2.mem ((c.tc : Thread nD τ).loc main_v17_0) = (dat1 (V3 m ρ) c).arrAt 8 cfg1.N
      ∧ r.2.mem ((c.tc : Thread nD τ).loc main_v17_1) = (dat1 (V3 m ρ) c).arrAt 9 cfg1.N
      ∧ r.2.mem ((c.tc : Thread nD τ).loc main_v17_2) = (dat1 (V3 m ρ) c).arrAt 10 cfg1.N
      ∧ r.2.mem ((c.tc : Thread nD τ).loc main_v17_3) = (dat1 (V3 m ρ) c).arrAt 11 cfg1.N
      ∧ r.2.mem ((c.tc : Thread nD τ).loc main_v17_4) = (dat1 (V3 m ρ) c).arrAt 12 cfg1.N
      ∧ r.2.mem ((c.tc : Thread nD τ).loc main_v17_5) = (dat1 (V3 m ρ) c).arrAt 13 cfg1.N
      ∧ r.2.mem ((c.tc : Thread nD τ).loc main_v17_6) = (dat1 (V3 m ρ) c).arrAt 14 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v15_0 (by decide))).trans (end0 m ρ c),
       (h c _ (mem_uc main_v17_0 (by decide))).trans (W4_arr m ρ c 8),
       (h c _ (mem_uc main_v17_1 (by decide))).trans (W4_arr m ρ c 9),
       (h c _ (mem_uc main_v17_2 (by decide))).trans (W4_arr m ρ c 10),
       (h c _ (mem_uc main_v17_3 (by decide))).trans (W4_arr m ρ c 11),
       (h c _ (mem_uc main_v17_4 (by decide))).trans (W4_arr m ρ c 12),
       (h c _ (mem_uc main_v17_5 (by decide))).trans (W4_arr m ρ c 13),
       (h c _ (mem_uc main_v17_6 (by decide))).trans (W4_arr m ρ c 14),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel1Ideal.Whole
end
-- ==== Proof.First.RefRow.lean ====
/- The first layer's reference at an index, as real numbers. Its forward lines are those of the last layer's reference, so
   their readings are shared; the gradient starts from the cotangent `x8` of the layer's output. -/
module

public import proofs.«01_k».proof.Proof.Gen.Reference1Ideal.Read
public import proofs.«01_k».proof.Proof.RefRow

@[expose] public section

set_option maxRecDepth 16384

noncomputable section

namespace Cert.Reference1Ideal.Rows

open Cert.Reference1Ideal Cert.Reference1Ideal.Gen Cert.Reference1Ideal.Read Idealize.ShloMosaic Ffn
open Cert.ReferenceIdeal.Rows (Reads)

variable {x0 x8 t : FVec Ideal S2x2048x1024 .f32} {x1 x2 x3 : FVec Ideal S2x1024 .f32} {x4 x5 : FVec Ideal S1x1024 .f32}
  {x6 : FVec Ideal S1x1024x5632 .f32} {x7 : FVec Ideal S1x2816x1024 .f32} {A : Args}

variable (H : Reads A x0 x1 x2 x3 x4 x5 x6 x7 t)
include H

theorem v10 (b : Fin 2) (s : Fin 2048) : val_main_v10 (F := Ideal) x0 (ix3 b s 0) = ((inv (A.X b s) : ℝ) : EReal) := Cert.ReferenceIdeal.Rows.v10 H b s

theorem v13 (b : Fin 2) (s : Fin 2048) : val_main_v13 (F := Ideal) x0 (ix3 b s 0) = ((-(1 / 2) * (inv (A.X b s) / (ms (A.X b s) + eps)) : ℝ) : EReal) := Cert.ReferenceIdeal.Rows.v13 H b s

theorem v15 (b : Fin 2) (s : Fin 2048) (d : Fin 1024) : val_main_v15 (F := Ideal) x0 (ix3 b s d) = (((A.row b s).xh d : ℝ) : EReal) := Cert.ReferenceIdeal.Rows.v15 H b s d

theorem v18 (b : Fin 2) (s : Fin 2048) (d : Fin 1024) : val_main_v18 (F := Ideal) x0 x4 (ix3 b s d) = (((A.row b s).n d : ℝ) : EReal) := Cert.ReferenceIdeal.Rows.v18 H b s d

theorem v21 (b : Fin 2) (d : Fin 1024) : val_main_v21 (F := Ideal) x2 (ix3 b 0 d) = ((1 + A.Sc b d : ℝ) : EReal) := Cert.ReferenceIdeal.Rows.v21 H b d

theorem v26 (b : Fin 2) (s : Fin 2048) (d : Fin 1024) : val_main_v26 (F := Ideal) x0 x1 x2 x4 (ix3 b s d) = (((A.row b s).h d : ℝ) : EReal) := Cert.ReferenceIdeal.Rows.v26 H b s d

theorem v30 (b : Fin 2) (s : Fin 2048) (f : Fin 2816) : val_main_v30 (F := Ideal) x0 x1 x2 x4 x6 (ix3 b s f) = (((A.row b s).gate f : ℝ) : EReal) := Cert.ReferenceIdeal.Rows.v30 H b s f

theorem v31 (b : Fin 2) (s : Fin 2048) (f : Fin 2816) : val_main_v31 (F := Ideal) x0 x1 x2 x4 x6 (ix3 b s f) = (((A.row b s).up f : ℝ) : EReal) := Cert.ReferenceIdeal.Rows.v31 H b s f

theorem v32_2 (b : Fin 2) (s : Fin 2048) (f : Fin 2816) : val_main_v32_2 (F := Ideal) x0 x1 x2 x4 x6 (ix3 b s f) = ((sgm ((A.row b s).gate f) : ℝ) : EReal) := Cert.ReferenceIdeal.Rows.v32_2 H b s f

theorem v32_1 (b : Fin 2) (s : Fin 2048) (f : Fin 2816) : val_main_v32_1 (F := Ideal) x0 x1 x2 x4 x6 (ix3 b s f) = ((sgm ((A.row b s).gate f) * (1 - sgm ((A.row b s).gate f)) : ℝ) : EReal) := Cert.ReferenceIdeal.Rows.v32_1 H b s f

theorem v32_0 (b : Fin 2) (s : Fin 2048) (f : Fin 2816) : val_main_v32_0 (F := Ideal) x0 x1 x2 x4 x6 (ix3 b s f) = (((A.row b s).silu f : ℝ) : EReal) := Cert.ReferenceIdeal.Rows.v32_0 H b s f

theorem v33 (b : Fin 2) (s : Fin 2048) (f : Fin 2816) : val_main_v33 (F := Ideal) x0 x1 x2 x4 x6 (ix3 b s f) = (((A.row b s).act f : ℝ) : EReal) := Cert.ReferenceIdeal.Rows.v33 H b s f

theorem v36 (b : Fin 2) (s : Fin 2048) (d : Fin 1024) : val_main_v36 (F := Ideal) x0 x1 x2 x4 x6 x7 (ix3 b s d) = (((A.row b s).y d : ℝ) : EReal) := Cert.ReferenceIdeal.Rows.v36 H b s d

theorem v48 (b : Fin 2) (s : Fin 2048) : val_main_v48 (F := Ideal) x0 x1 x2 x4 x6 x7 (ix3 b s 0) = ((inv (A.row b s).y : ℝ) : EReal) := Cert.ReferenceIdeal.Rows.v48 H b s

theorem v51 (b : Fin 2) (s : Fin 2048) : val_main_v51 (F := Ideal) x0 x1 x2 x4 x6 x7 (ix3 b s 0) = ((-(1 / 2) * (inv (A.row b s).y / (ms (A.row b s).y + eps)) : ℝ) : EReal) := Cert.ReferenceIdeal.Rows.v51 H b s

theorem v53 (b : Fin 2) (s : Fin 2048) (d : Fin 1024) : val_main_v53 (F := Ideal) x0 x1 x2 x4 x6 x7 (ix3 b s d) = (((A.row b s).yh d : ℝ) : EReal) := Cert.ReferenceIdeal.Rows.v53 H b s d

theorem v56 (b : Fin 2) (s : Fin 2048) (d : Fin 1024) : val_main_v56 (F := Ideal) x0 x1 x2 x4 x5 x6 x7 (ix3 b s d) = (((A.row b s).pn d : ℝ) : EReal) := Cert.ReferenceIdeal.Rows.v56 H b s d

theorem v39 (b : Fin 2) (d : Fin 1024) : val_main_v39 (F := Ideal) x3 (ix3 b 0 d) = ((1 / 2 * A.Gt b d : ℝ) : EReal) := Cert.ReferenceIdeal.Rows.v39 H b d

theorem v59 (b : Fin 2) (s : Fin 2048) (d : Fin 1024) : val_main_v59 (F := Ideal) x0 x1 x2 x3 x4 x5 x6 x7 (ix3 b s d) = (((A.row b s).out d : ℝ) : EReal) := by
  pointwise [val_main_v59, val_main_v58, val_main_v57]
  simp only [v39 H, v56 H, H.x, ← EReal.coe_mul, ← EReal.coe_add]
  all_goals rfl

variable (HD : ∀ b s d, x8 (ix3 b s d) = ((A.cot b s d : ℝ) : EReal))
include HD

omit H in
theorem v60 (b : Fin 2) (s : Fin 2048) (d : Fin 1024) : val_main_v60 (F := Ideal) x8 (ix3 b s d) = ((A.cot b s d : ℝ) : EReal) := by
  pointwise [val_main_v60]
  exact HD b s d

theorem v62 (b : Fin 2) (s : Fin 2048) (d : Fin 1024) : val_main_v62 (F := Ideal) x3 x8 (ix3 b s d) = (((A.row b s).dp (A.cot b s) d : ℝ) : EReal) := by
  pointwise [val_main_v62, val_main_v61]
  simp only [v39 H, v60 (x8 := x8) HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v70 (b : Fin 2) (s : Fin 2048) (d : Fin 1024) : val_main_v70 (F := Ideal) x3 x5 x8 (ix3 b s d) = (((A.row b s).dyh (A.cot b s) d : ℝ) : EReal) := by
  pointwise [val_main_v70, val_main_v69, val_main_v54, val_main_v40]
  simp only [v62 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v80 (b : Fin 2) (s : Fin 2048) : val_main_v80 (F := Ideal) x0 x1 x2 x3 x4 x5 x6 x7 x8 (ix2 b s) = (((∑ k, (A.row b s).y k * (A.row b s).dyh (A.cot b s) k) * (-(1 / 2) * (inv (A.row b s).y / (ms (A.row b s).y + eps))) / 1024 : ℝ) : EReal) := by
  pointwise [val_main_v80, val_main_v79, val_main_v77, val_main_v74, val_main_v73, val_main_v72, val_main_cst_14, val_main_v78, val_main_cst_15, val_main_cst_16]
  simp only [Fin.sum_univ_one, v36 H, v51 H, v70 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v85 (b : Fin 2) (s : Fin 2048) (d : Fin 1024) : val_main_v85 (F := Ideal) x0 x1 x2 x3 x4 x5 x6 x7 x8 (ix3 b s d) = (((A.row b s).dy (A.cot b s) d : ℝ) : EReal) := by
  pointwise [val_main_v85, val_main_v83, val_main_v76, val_main_v75, val_main_v82, val_main_v81, val_main_v84]
  simp only [v36 H, v48 H, v70 H HD, v80 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  exact congrArg _ (norm_grad _ _ _)

theorem v90 (b : Fin 2) (s : Fin 2048) (f : Fin 2816) : val_main_v90 (F := Ideal) x0 x1 x2 x3 x4 x5 x6 x7 x8 (ix3 b s f) = (((A.row b s).dact (A.cot b s) f : ℝ) : EReal) := by
  pointwise [val_main_v90, val_main_v34]
  simp only [v85 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v91 (b : Fin 2) (s : Fin 2048) (f : Fin 2816) : val_main_v91 (F := Ideal) x0 x1 x2 x3 x4 x5 x6 x7 x8 (ix3 b s f) = (((A.row b s).dup (A.cot b s) f : ℝ) : EReal) := by
  pointwise [val_main_v91]
  simp only [v90 H HD, v32_0 H, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  rw [mul_comm]
  rfl

theorem v93 (b : Fin 2) (s : Fin 2048) (f : Fin 2816) : val_main_v93 (F := Ideal) x0 x1 x2 x3 x4 x5 x6 x7 x8 (ix3 b s f) = (((A.row b s).dgate (A.cot b s) f : ℝ) : EReal) := by
  pointwise [val_main_v93, val_main_call1_v1, val_main_v92, val_main_call1_v2, val_main_call1_v0]
  simp only [v90 H HD, v30 H, v31 H, v32_1 H, v32_2 H, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  exact congrArg _ (silu_grad _ _)

theorem v94 (b : Fin 2) (s : Fin 2048) (j : Fin 5632) : val_main_v94 (F := Ideal) x0 x1 x2 x3 x4 x5 x6 x7 x8 (ix3 b s j) = (((A.row b s).dproj (A.cot b s) j : ℝ) : EReal) := by
  pointwise [val_main_v94]
  by_cases h : j.val < 2816
  · rw [dif_pos h, Row.dproj, dif_pos h]
    exact v93 H HD b s ⟨j.val, h⟩
  · rw [dif_neg h, Row.dproj, dif_neg h]
    exact v91 H HD b s ⟨j.val - 2816, by omega⟩

theorem v95 (b : Fin 2) (s : Fin 2048) (d : Fin 1024) : val_main_v95 (F := Ideal) x0 x1 x2 x3 x4 x5 x6 x7 x8 (ix3 b s d) = (((A.row b s).dh (A.cot b s) d : ℝ) : EReal) := by
  pointwise [val_main_v95, val_main_v27]
  simp only [v94 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  exact congrArg _ ((A.row b s).dh_eq _ d)

theorem v103 (b : Fin 2) (s : Fin 2048) (d : Fin 1024) : val_main_v103 (F := Ideal) x0 x1 x2 x3 x4 x5 x6 x7 x8 (ix3 b s d) = (((A.row b s).dn (A.cot b s) d : ℝ) : EReal) := by
  pointwise [val_main_v103, val_main_v102]
  simp only [v95 H HD, v21 H, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v109 (b : Fin 2) (s : Fin 2048) (d : Fin 1024) : val_main_v109 (F := Ideal) x0 x1 x2 x3 x4 x5 x6 x7 x8 (ix3 b s d) = (((A.row b s).dxh (A.cot b s) d : ℝ) : EReal) := by
  pointwise [val_main_v109, val_main_v108, val_main_v16, val_main_v2]
  simp only [v103 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v120 (b : Fin 2) (s : Fin 2048) : val_main_v120 (F := Ideal) x0 x1 x2 x3 x4 x5 x6 x7 x8 (ix2 b s) = (((∑ k, A.X b s k * (A.row b s).dxh (A.cot b s) k) * (-(1 / 2) * (inv (A.X b s) / (ms (A.X b s) + eps))) / 1024 : ℝ) : EReal) := by
  pointwise [val_main_v120, val_main_v119, val_main_v117, val_main_v113, val_main_v112, val_main_v111, val_main_cst_25, val_main_v118, val_main_cst_26, val_main_cst_27]
  simp only [Fin.sum_univ_one, v109 H HD, v13 H, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v125 (b : Fin 2) (s : Fin 2048) (d : Fin 1024) : val_main_v125 (F := Ideal) x0 x1 x2 x3 x4 x5 x6 x7 x8 (ix3 b s d) = (((A.row b s).dx (A.cot b s) d : ℝ) : EReal) := by
  pointwise [val_main_v125, val_main_v123, val_main_v116, val_main_v115, val_main_v114, val_main_v122, val_main_v121, val_main_v124]
  simp only [v10 H, v109 H HD, v120 H HD, v60 (x8 := x8) HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  refine congrArg _ ?_
  rw [add_assoc, add_assoc, ← add_assoc (_ * inv _)]
  exact congrArg _ (norm_grad _ _ _)

theorem v98 (b : Fin 2) (d : Fin 1024) : val_main_v98 (F := Ideal) x0 x1 x2 x3 x4 x5 x6 x7 x8 (ix2 b d) = ((∑ s, (A.row b s).dh (A.cot b s) d : ℝ) : EReal) := by
  pointwise [val_main_v98, val_main_v97, val_main_v96, val_main_cst_19, val_main_cst_20]
  simp only [Fin.sum_univ_one, v95 H HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v104 (b : Fin 2) (d : Fin 1024) : val_main_v104 (F := Ideal) x0 x1 x2 x3 x4 x5 x6 x7 x8 (ix2 b d) = ((∑ s, (A.row b s).n d * (A.row b s).dh (A.cot b s) d : ℝ) : EReal) := by
  pointwise [val_main_v104, val_main_v101, val_main_v100, val_main_v99, val_main_cst_21, val_main_cst_22]
  simp only [Fin.sum_univ_one, v95 H HD, v18 H, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v89 (b : Fin 2) (d : Fin 1024) : val_main_v89 (F := Ideal) x0 x1 x2 x4 x5 x6 x7 x8 (ix2 b d) = ((1 / 2 * ∑ s, (A.cot b s) d * (A.row b s).pn d : ℝ) : EReal) := by
  pointwise [val_main_v89, val_main_v88, val_main_v87, val_main_cst_17, val_main_v65, val_main_v64, val_main_v63, val_main_cst_11, val_main_cst_18]
  simp only [Fin.sum_univ_one, v56 H, v60 (x8 := x8) HD, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v67 (d : Fin 1024) : val_main_v67 (F := Ideal) x0 x1 x2 x3 x4 x6 x7 x8 (ix1 d) = ((∑ b, ∑ s, (A.row b s).yh d * (A.row b s).dp (A.cot b s) d : ℝ) : EReal) := by
  pointwise [val_main_v67, val_main_v66, val_main_cst_12]
  rw [hostSum_two]
  pointwise []
  simp only [v53 H, v62 H HD, Fin.sum_univ_one, zero_add, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v71 (d : Fin 1024) : val_main_v71 (F := Ideal) x0 x1 x2 x3 x4 x6 x7 x8 (ix1 d) = ((∑ b, ∑ s, (A.row b s).yh d * (A.row b s).dp (A.cot b s) d : ℝ) : EReal) := by
  pointwise [val_main_v71, val_main_v68, val_main_cst_13]
  rw [hostSum_two]
  pointwise []
  simp only [v67 H HD, Fin.sum_univ_one, zero_add, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v106 (d : Fin 1024) : val_main_v106 (F := Ideal) x0 x1 x2 x3 x4 x5 x6 x7 x8 (ix1 d) = ((∑ b, ∑ s, (A.row b s).xh d * (A.row b s).dn (A.cot b s) d : ℝ) : EReal) := by
  pointwise [val_main_v106, val_main_v105, val_main_cst_23]
  rw [hostSum_two]
  pointwise []
  simp only [v15 H, v103 H HD, Fin.sum_univ_one, zero_add, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v110 (d : Fin 1024) : val_main_v110 (F := Ideal) x0 x1 x2 x3 x4 x5 x6 x7 x8 (ix1 d) = ((∑ b, ∑ s, (A.row b s).xh d * (A.row b s).dn (A.cot b s) d : ℝ) : EReal) := by
  pointwise [val_main_v110, val_main_v107, val_main_cst_24]
  rw [hostSum_two]
  pointwise []
  simp only [v106 H HD, Fin.sum_univ_one, zero_add, H.x, H.sh, H.sc, H.gt, H.g1, H.g2, H.w, H.v, HD, lit_eps, lit_half, lit_neg_half, lit_two, lit_one, lit_zero, lit_1024, ← EReal.coe_one, ← EReal.coe_zero, ← EReal.coe_mul, ← EReal.coe_add, ← EReal.coe_sub, ← EReal.coe_neg, coe_sum, div_1024]
  all_goals rfl

theorem v86 (d : Fin 1024) : val_main_v86 (F := Ideal) x0 x1 x2 x3 x4 x6 x7 x8 (ix2 0 d) = ((∑ b, ∑ s, (A.row b s).yh d * (A.row b s).dp (A.cot b s) d : ℝ) : EReal) := by
  pointwise [val_main_v86]
  exact v71 H HD d

theorem v126 (d : Fin 1024) : val_main_v126 (F := Ideal) x0 x1 x2 x3 x4 x5 x6 x7 x8 (ix2 0 d) = ((∑ b, ∑ s, (A.row b s).xh d * (A.row b s).dn (A.cot b s) d : ℝ) : EReal) := by
  pointwise [val_main_v126]
  exact v110 H HD d

end Cert.Reference1Ideal.Rows
end
-- ==== Proof.First.RefOut.lean ====
/- The first layer's reference: its eight results, entry by entry. -/
module

public import proofs.«01_k».proof.Proof.First.RefRow
public import proofs.«01_k».proof.Proof.Out

@[expose] public section

set_option maxRecDepth 16384

noncomputable section

namespace Cert.Reference1Ideal.Rows

open Cert.ReferenceIdeal.Rows (Reads)
open Cert.Reference1Ideal Cert.Reference1Ideal.Gen Cert.Reference1Ideal.Read Idealize.ShloMosaic Ffn

variable {A : Args} {x0 : FVec Ideal S2x2048x1024 .f32} {x1 x2 x3 : FVec Ideal S2x1024 .f32} {x4 x5 : FVec Ideal S1x1024 .f32}
  {x6 : FVec Ideal S1x1024x5632 .f32} {x7 : FVec Ideal S1x2816x1024 .f32} {x8 : FVec Ideal S2x2048x1024 .f32}
variable {t : FVec Ideal S2x2048x1024 .f32} (H : Reads A x0 x1 x2 x3 x4 x5 x6 x7 t)
include H

theorem v139 (q : Fin 4096) (d : Fin 1024) : val_main_v139 (F := Ideal) x0 x1 x2 x3 x4 x5 x6 x7 (ix2 q d) = (((A.tok q).out d : ℝ) : EReal) := by
  pointwise [val_main_v139]
  exact v59 H ..

variable (HD : ∀ b s d, x8 (ix3 b s d) = ((A.cot b s d : ℝ) : EReal))
include HD

theorem v140 (q : Fin 4096) (d : Fin 1024) : val_main_v140 (F := Ideal) x0 x1 x2 x3 x4 x5 x6 x7 x8 (ix2 q d) = ((A.dxAt q d : ℝ) : EReal) := by
  pointwise [val_main_v140]
  exact v125 H HD ..

theorem v143 (j : Fin 8) (q : Fin 4096) (f : Fin 704) : val_main_v143 (F := Ideal) x0 x1 x2 x3 x4 x5 x6 x7 x8 (ix3 j q f) = ((A.dprojAt j q f : ℝ) : EReal) := by
  pointwise [val_main_v143, val_main_v142, val_main_v141]
  exact (v94 H HD ..).trans (congrArg (fun k => (((A.tok q).dproj (A.tokCot q) k : ℝ) : EReal)) (Fin.ext (by show j.val * 704 + f.val = 704 * j.val + f.val; omega)))

theorem v146 (j : Fin 4) (q : Fin 4096) (f : Fin 704) : val_main_v146 (F := Ideal) x0 x1 x2 x4 x6 (ix3 j q f) = ((A.actAt j q f : ℝ) : EReal) := by
  pointwise [val_main_v146, val_main_v145, val_main_v144]
  exact (v33 H ..).trans (congrArg (fun k => (((A.tok q).act k : ℝ) : EReal)) (Fin.ext (by show j.val * 704 + f.val = 704 * j.val + f.val; omega)))

theorem v148 (q : Fin 4096) (d : Fin 1024) : val_main_v148 (F := Ideal) x0 x1 x2 x4 (ix2 q d) = ((A.hAt q d : ℝ) : EReal) := by
  pointwise [val_main_v148, val_main_v147]
  exact v26 H ..

theorem v150 (q : Fin 4096) (d : Fin 1024) : val_main_v150 (F := Ideal) x0 x1 x2 x3 x4 x5 x6 x7 x8 (ix2 q d) = ((A.dyAt q d : ℝ) : EReal) := by
  pointwise [val_main_v150, val_main_v149]
  exact v85 H HD ..

omit H HD in
theorem v127 (b : Fin 2) (d : Fin 1024) : val_main_v127 (F := Ideal) (ix2 b d) = ((0 : ℝ) : EReal) := by
  pointwise [val_main_v127, val_main_cst_28]
  exact EReal.coe_zero.symm

theorem v136 (b : Fin 2) (r : Fin 8) (d : Fin 1024) : val_main_v136 (F := Ideal) x0 x1 x2 x3 x4 x5 x6 x7 x8 (ix3 b r d) = ((A.modAt b r d : ℝ) : EReal) := by
  pointwise [val_main_v136, val_main_v128, val_main_v129, val_main_v130, val_main_v131, val_main_v132, val_main_v133, val_main_v134, val_main_v135]
  simp only [v127, dite_eq_ite, ite_self, v98 H HD, v104 H HD, v89 H HD, Args.modAt, Args.modTerm]
  by_cases h0 : r.val = 0
  · simp only [if_pos h0]
    exact if_pos (by omega)
  rw [if_neg (by omega)]
  by_cases h1 : r.val = 1
  · simp only [if_neg h0, if_pos h1, mul_comm (Row.dh _ _ _)]
    exact if_pos (by omega)
  rw [if_neg (by omega)]
  by_cases h2 : r.val = 2
  · simp only [if_neg h0, if_neg h1, if_pos h2, mul_assoc, ← Finset.mul_sum]
    exact if_pos (by omega)
  · simp only [if_neg h0, if_neg h1, if_neg h2, Finset.sum_const_zero]
    exact if_neg (by omega)

theorem v138 (r : Fin 8) (d : Fin 1024) : val_main_v138 (F := Ideal) x0 x1 x2 x3 x4 x5 x6 x7 x8 (ix2 r d) = ((A.gainAt r d : ℝ) : EReal) := by
  pointwise [val_main_v138, val_main_v137, val_main_cst_29]
  have e1 (z : Fin 1) := (congrArg (fun z => val_main_v126 (F := Ideal) x0 x1 x2 x3 x4 x5 x6 x7 x8 (ix2 z d)) (Subsingleton.elim z 0)).trans (v126 H HD d)
  have e2 (z : Fin 1) := (congrArg (fun z => val_main_v86 (F := Ideal) x0 x1 x2 x3 x4 x6 x7 x8 (ix2 z d)) (Subsingleton.elim z 0)).trans (v86 H HD d)
  simp only [e1, e2, dite_eq_ite, Args.gainAt, Args.gainTerm]
  by_cases h0 : r.val = 0
  · simp only [if_pos h0, mul_comm (Row.dn _ _ _)]
    exact if_pos (by omega)
  rw [if_neg (by omega)]
  by_cases h1 : r.val = 1
  · simp only [if_neg h0, if_pos h1, mul_comm (Row.dp _ _ _)]
    exact if_pos (by omega)
  · simp only [if_neg h0, if_neg h1, Finset.sum_const_zero]
    rw [if_neg (by omega)]
    exact EReal.coe_zero.symm

end Cert.Reference1Ideal.Rows
end
-- ==== Proof.First.Equal.lean ====
/- The first layer's pair: both programs end holding the same eight arrays. -/
module

public import proofs.«01_k».proof.Defs
public import proofs.«01_k».proof.Proof.First.Entry
public import proofs.«01_k».proof.Proof.First.Run
public import proofs.«01_k».proof.Proof.First.RefOut
public import proofs.«01_k».proof.Proof.Finite
public import proofs.«01_k».proof.Proof.Gen.Reference1Ideal.Run
public import proofs.«01_k».proof.Proof.Gen.Pre_finite1
public import Idealize.ShloMosaic.Adequacy
public import Idealize.ShloMosaic.Init

@[expose] public section

set_option maxRecDepth 16384

noncomputable section

namespace Cert.Proof.First

open Idealize.ShloMosaic Idealize.SL.Sem Ffn Cert.Reference1Ideal.Rows Cert.Reference1Ideal.Read
open Cert.ReferenceIdeal.Rows (Reads)
open Cert.Kernel1Ideal.Whole (Given ent0 ent1 arr0_5 arr1_8 arr1_9 arr1_10 arr1_11 arr1_12 arr1_13 arr1_14)

/-- The reference leaves its arguments alone; it declares no semaphore. -/
theorem quiet : Cert.quiescent_Reference1Ideal (hReference1Ideal := Cert.Reference1Ideal.Gen.facts) := fun m g _ =>
  (θ_run Cert.Reference1Ideal.defs _ _).mono (fun r h => ⟨fun c => (h c).2.2.2.2.2.2.2.2, sem_eq_zero_of_no_sems (by decide) r.2⟩) (Cert.Reference1Ideal.Value.run m g)

theorem quiet_finite : Cert.quiescent_Reference1Ideal_pre_finite1 (hReference1Ideal := Cert.Reference1Ideal.Gen.facts) (hPre_finite1 := Cert.Pre_finite1.Gen.facts) :=
  fun m g _ => quiet m g trivial

section
open Cert.Reference1Ideal

variable (x0 : FVec Ideal S2x2048x1024 .f32) (x1 x2 x3 : FVec Ideal S2x1024 .f32) (x4 x5 : FVec Ideal S1x1024 .f32)
  (x6 : FVec Ideal S1x1024x5632 .f32) (x7 : FVec Ideal S1x2816x1024 .f32) (x8 : FVec Ideal S2x2048x1024 .f32)

/-- The real arrays finite arguments hold; the target is the one whose loss has the given cotangent. -/
def argsOf (t : Fin 2 → Fin 2048 → Fin 1024 → ℝ) : Args where
  X b s d := (x0 (ix3 b s d)).toReal
  Sh b d := (x1 (ix2 b d)).toReal
  Sc b d := (x2 (ix2 b d)).toReal
  Gt b d := (x3 (ix2 b d)).toReal
  G1 d := (x4 (ix2 0 d)).toReal
  G2 d := (x5 (ix2 0 d)).toReal
  W d j := (x6 (ix3 0 d j)).toReal
  V f d := (x7 (ix3 0 f d)).toReal
  T := t

def args : Args := argsOf x0 x1 x2 x3 x4 x5 x6 x7 fun b s d =>
  ((argsOf x0 x1 x2 x3 x4 x5 x6 x7 fun _ _ _ => 0).row b s).out d - 1024 * (x8 (ix3 b s d)).toReal

theorem args_cot (b : Fin 2) (s : Fin 2048) (d : Fin 1024) : (args x0 x1 x2 x3 x4 x5 x6 x7 x8).cot b s d = (x8 (ix3 b s d)).toReal := by
  have h : (args x0 x1 x2 x3 x4 x5 x6 x7 x8).cot b s d
      = ((((argsOf x0 x1 x2 x3 x4 x5 x6 x7 fun _ _ _ => 0).row b s).out d
        - (((argsOf x0 x1 x2 x3 x4 x5 x6 x7 fun _ _ _ => 0).row b s).out d - 1024 * (x8 (ix3 b s d)).toReal)) / 1024) := rfl
  rw [h]
  ring

/-- What the finiteness of all nine arguments says. -/
abbrev Fin9 [Cert.Pre_finite1.Facts] : Prop :=
  (Cert.Pre_finite1.fn (F := Ideal) x0 x1 x2 x3 x4 x5 x6 x7 x8).1 = (fun _ => 1#1)
    ∧ (Cert.Pre_finite1.fn (F := Ideal) x0 x1 x2 x3 x4 x5 x6 x7 x8).2.1 = (fun _ => 1#1)
    ∧ (Cert.Pre_finite1.fn (F := Ideal) x0 x1 x2 x3 x4 x5 x6 x7 x8).2.2.1 = (fun _ => 1#1)
    ∧ (Cert.Pre_finite1.fn (F := Ideal) x0 x1 x2 x3 x4 x5 x6 x7 x8).2.2.2.1 = (fun _ => 1#1)
    ∧ (Cert.Pre_finite1.fn (F := Ideal) x0 x1 x2 x3 x4 x5 x6 x7 x8).2.2.2.2.1 = (fun _ => 1#1)
    ∧ (Cert.Pre_finite1.fn (F := Ideal) x0 x1 x2 x3 x4 x5 x6 x7 x8).2.2.2.2.2.1 = (fun _ => 1#1)
    ∧ (Cert.Pre_finite1.fn (F := Ideal) x0 x1 x2 x3 x4 x5 x6 x7 x8).2.2.2.2.2.2.1 = (fun _ => 1#1)
    ∧ (Cert.Pre_finite1.fn (F := Ideal) x0 x1 x2 x3 x4 x5 x6 x7 x8).2.2.2.2.2.2.2.1 = (fun _ => 1#1)
    ∧ (Cert.Pre_finite1.fn (F := Ideal) x0 x1 x2 x3 x4 x5 x6 x7 x8).2.2.2.2.2.2.2.2 = (fun _ => 1#1)

theorem reads [Cert.Pre_finite1.Facts] (h : Fin9 x0 x1 x2 x3 x4 x5 x6 x7 x8) :
    Reads (args x0 x1 x2 x3 x4 x5 x6 x7 x8) x0 x1 x2 x3 x4 x5 x6 x7
        (fun i => (((args x0 x1 x2 x3 x4 x5 x6 x7 x8).T (i 0) (i 1) (i 2) : ℝ) : EReal))
      ∧ ∀ b s d, x8 (ix3 b s d) = (((args x0 x1 x2 x3 x4 x5 x6 x7 x8).cot b s d : ℝ) : EReal) :=
  ⟨⟨fun _ _ _ => real_of_abs_lt x0 _ _ h.1 _, fun _ _ => real_of_abs_lt x1 _ _ h.2.1 _, fun _ _ => real_of_abs_lt x2 _ _ h.2.2.1 _,
    fun _ _ => real_of_abs_lt x3 _ _ h.2.2.2.1 _, fun _ => real_of_abs_lt x4 _ _ h.2.2.2.2.1 _, fun _ => real_of_abs_lt x5 _ _ h.2.2.2.2.2.1 _,
    fun _ _ => real_of_abs_lt x6 _ _ h.2.2.2.2.2.2.1 _, fun _ _ => real_of_abs_lt x7 _ _ h.2.2.2.2.2.2.2.1 _, fun _ _ _ => rfl⟩,
    fun _ _ _ => (real_of_abs_lt x8 _ _ h.2.2.2.2.2.2.2.2 _).trans (congrArg _ (args_cot x0 x1 x2 x3 x4 x5 x6 x7 x8 _ _ _).symm)⟩

end

/-- The eight arrays, of the real arrays `A`. -/
def results (A : Args) : FVec Ideal Cert.Reference1Ideal.S4096x1024 .f32 × FVec Ideal Cert.Reference1Ideal.S4096x1024 .f32
    × FVec Ideal Cert.Reference1Ideal.S8x4096x704 .bf16 × FVec Ideal Cert.Reference1Ideal.S4x4096x704 .bf16
    × FVec Ideal Cert.Reference1Ideal.S4096x1024 .bf16 × FVec Ideal Cert.Reference1Ideal.S4096x1024 .bf16 × FVec Ideal Cert.Reference1Ideal.S2x8x1024 .f32
    × FVec Ideal Cert.Reference1Ideal.S8x1024 .f32 :=
  (fun i => (((A.tok (i 0)).out (i 1) : ℝ) : EReal), fun i => ((A.dxAt (i 0) (i 1) : ℝ) : EReal), fun i => ((A.dprojAt (i 0) (i 1) (i 2) : ℝ) : EReal),
    fun i => ((A.actAt (i 0) (i 1) (i 2) : ℝ) : EReal), fun i => ((A.hAt (i 0) (i 1) : ℝ) : EReal), fun i => ((A.dyAt (i 0) (i 1) : ℝ) : EReal),
    fun i => ((A.modAt (i 0) (i 1) (i 2) : ℝ) : EReal), fun i => ((A.gainAt (i 0) (i 1) : ℝ) : EReal))

/-- The real arrays of device `c`. -/
def real (m : (ℓ : Loc Cert.Kernel1Ideal.nD Cert.Kernel1Ideal.τ Cert.Kernel1Ideal.sig) → Buf (Elt Ideal) ℓ) (c : Dev Cert.Kernel1Ideal.nD) : Args :=
  args (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))

/-- On finite arguments both programs end holding the same eight arrays: those of the real computation. -/
theorem equal : Cert.algebraic_Kernel1Ideal_Reference1Ideal_pre_finite1 (hKernel1Ideal := Cert.Kernel1Ideal.Gen.facts)
    (hReference1Ideal := Cert.Reference1Ideal.Gen.facts) (hPre_finite1 := Cert.Pre_finite1.Gen.facts) := by
  intro m g m' g' hpre hagree
  have HR (c : Dev Cert.Kernel1Ideal.nD) := reads (x0 := (m ((c.tc : Thread Cert.Kernel1Ideal.nD Cert.Kernel1Ideal.τ).loc Cert.Kernel1Ideal.main_arg0))) (x1 := (m ((c.tc : Thread Cert.Kernel1Ideal.nD Cert.Kernel1Ideal.τ).loc Cert.Kernel1Ideal.main_arg1))) (x2 := (m ((c.tc : Thread Cert.Kernel1Ideal.nD Cert.Kernel1Ideal.τ).loc Cert.Kernel1Ideal.main_arg2))) (x3 := (m ((c.tc : Thread Cert.Kernel1Ideal.nD Cert.Kernel1Ideal.τ).loc Cert.Kernel1Ideal.main_arg3)))
    (x4 := (m ((c.tc : Thread Cert.Kernel1Ideal.nD Cert.Kernel1Ideal.τ).loc Cert.Kernel1Ideal.main_arg4))) (x5 := (m ((c.tc : Thread Cert.Kernel1Ideal.nD Cert.Kernel1Ideal.τ).loc Cert.Kernel1Ideal.main_arg5))) (x6 := (m ((c.tc : Thread Cert.Kernel1Ideal.nD Cert.Kernel1Ideal.τ).loc Cert.Kernel1Ideal.main_arg6))) (x7 := (m ((c.tc : Thread Cert.Kernel1Ideal.nD Cert.Kernel1Ideal.τ).loc Cert.Kernel1Ideal.main_arg7))) (x8 := (m ((c.tc : Thread Cert.Kernel1Ideal.nD Cert.Kernel1Ideal.τ).loc Cert.Kernel1Ideal.main_arg8))) (hpre c)
  have H (c : Dev Cert.Kernel1Ideal.nD) : Given m c (real m c) := ⟨(HR c).1, (HR c).2⟩
  have H' (c : Dev Cert.Kernel1Ideal.nD) : Reads (real m c)
      (m' ((c.tc : Thread Cert.Reference1Ideal.nD Cert.Reference1Ideal.τ).loc Cert.Reference1Ideal.main_arg0)) (m' ((c.tc : Thread Cert.Reference1Ideal.nD Cert.Reference1Ideal.τ).loc Cert.Reference1Ideal.main_arg1)) (m' ((c.tc : Thread Cert.Reference1Ideal.nD Cert.Reference1Ideal.τ).loc Cert.Reference1Ideal.main_arg2)) (m' ((c.tc : Thread Cert.Reference1Ideal.nD Cert.Reference1Ideal.τ).loc Cert.Reference1Ideal.main_arg3)) (m' ((c.tc : Thread Cert.Reference1Ideal.nD Cert.Reference1Ideal.τ).loc Cert.Reference1Ideal.main_arg4)) (m' ((c.tc : Thread Cert.Reference1Ideal.nD Cert.Reference1Ideal.τ).loc Cert.Reference1Ideal.main_arg5)) (m' ((c.tc : Thread Cert.Reference1Ideal.nD Cert.Reference1Ideal.τ).loc Cert.Reference1Ideal.main_arg6)) (m' ((c.tc : Thread Cert.Reference1Ideal.nD Cert.Reference1Ideal.τ).loc Cert.Reference1Ideal.main_arg7)) (fun i => (((real m c).T (i 0) (i 1) (i 2) : ℝ) : EReal))
      ∧ ∀ b s d, ((m' ((c.tc : Thread Cert.Reference1Ideal.nD Cert.Reference1Ideal.τ).loc Cert.Reference1Ideal.main_arg8)) : FVec Ideal Cert.Reference1Ideal.S2x2048x1024 .f32) (ix3 b s d) = (((real m c).cot b s d : ℝ) : EReal) := by
    obtain ⟨h0, h1, h2, h3, h4, h5, h6, h7, h8⟩ := hagree c
    rw [h0, h1, h2, h3, h4, h5, h6, h7, h8]
    exact HR c
  refine ⟨fun c => (results (real m c)).1, fun c => (results (real m c)).2.1, fun c => (results (real m c)).2.2.1, fun c => (results (real m c)).2.2.2.1,
    fun c => (results (real m c)).2.2.2.2.1, fun c => (results (real m c)).2.2.2.2.2.1, fun c => (results (real m c)).2.2.2.2.2.2.1,
    fun c => (results (real m c)).2.2.2.2.2.2.2, ?_, ?_⟩
  · refine (θ_run Cert.Kernel1Ideal.defs _ _).mono (fun r h c => ?_) (Cert.Kernel1Ideal.Whole.run m g)
    obtain ⟨h0, h1, h2, h3, h4, h5, h6, h7, hk⟩ := h c
    exact ⟨h0.trans (arr0_5 (ent0 (H c))), h1.trans (arr1_8 (ent1 (H c))), h2.trans (arr1_9 (ent1 (H c))), h3.trans (arr1_10 (ent1 (H c))),
      h4.trans (arr1_11 (ent1 (H c))), h5.trans (arr1_12 (ent1 (H c))), h6.trans (arr1_13 (ent1 (H c))), h7.trans (arr1_14 (ent1 (H c))), hk⟩
  · refine (θ_run Cert.Reference1Ideal.defs _ _).mono (fun r h c => ?_) (Cert.Reference1Ideal.Value.run m' g')
    obtain ⟨h0, h1, h2, h3, h4, h5, h6, h7, hk⟩ := h c
    exact ⟨h0.trans ((val_main_v139_eq _).trans (funext fun i => (congrArg _ (eq_ix2 i)).trans (v139 (H' c).1 _ _))),
      h1.trans ((val_main_v140_eq _).trans (funext fun i => (congrArg _ (eq_ix2 i)).trans (v140 (H' c).1 (H' c).2 _ _))),
      h2.trans ((val_main_v143_eq _).trans (funext fun i => (congrArg _ (eq_ix3 i)).trans (v143 (H' c).1 (H' c).2 _ _ _))),
      h3.trans ((val_main_v146_eq _).trans (funext fun i => (congrArg _ (eq_ix3 i)).trans (v146 (H' c).1 (H' c).2 _ _ _))),
      h4.trans ((val_main_v148_eq _).trans (funext fun i => (congrArg _ (eq_ix2 i)).trans (v148 (H' c).1 (H' c).2 _ _))),
      h5.trans ((val_main_v150_eq _).trans (funext fun i => (congrArg _ (eq_ix2 i)).trans (v150 (H' c).1 (H' c).2 _ _))),
      h6.trans ((val_main_v136_eq _).trans (funext fun i => (congrArg _ (eq_ix3 i)).trans (v136 (H' c).1 (H' c).2 _ _ _))),
      h7.trans ((val_main_v138_eq _).trans (funext fun i => (congrArg _ (eq_ix2 i)).trans (v138 (H' c).1 (H' c).2 _ _))), hk⟩

end Cert.Proof.First

end
-- ==== Proof.Mixer.Tile.lean ====
/- The kernel's tile, stage by stage: what a block of 256 rows computes from the blocks it reads. -/
module

public import proofs.«01_k».proof.Proof.Gen.Kernel2Ideal.Value
public import Idealize.ShloMosaic.Lib.Pointwise

@[expose] public section

set_option maxRecDepth 16384

noncomputable section

namespace Cert.Kernel2Ideal.Tile

open Cert.Kernel2Ideal Cert.Kernel2Ideal.Gen Idealize.ShloMosaic

/-- The blocks a point reads: the output's cotangent, the projected rows before their norm, the two branch inputs of the gate,
    the convolution with its bias, the modulation, the gains, the output weights, the norms' vectors, the spatial weights, their
    bias spread over the features, and the heads' indicator. -/
structure In where
  dx : Vec Ideal S256x1024 .f32
  ym : Vec Ideal S256x1024 .f32
  pj : Vec Ideal S256x1024 .f32
  cv : Vec Ideal S256x512 .f32
  md : Vec Ideal S1x8x1024 .f32
  gv : Vec Ideal S8x1024 .f32
  wo : Vec Ideal S1024x1024 .bf16
  vv : Vec Ideal S8x512 .f32
  ws : Vec Ideal S8x128x128 .f32
  bf : Vec Ideal S128x512 .f32
  es : Vec Ideal S8x512 .f32

namespace In

variable (I : In)

/-- Row `j` of the modulation, of the gains, of the vectors; head `h` of the spatial weights; the two branch inputs. -/
def mdRow (j : Fin 8) : Vec Ideal S1x1x1024 .f32 := View.ld I.md (Rect.unit ![0, j.val, 0] ![1, 1, 1024] (by revert j; decide))
def gvRow (j : Fin 8) : Vec Ideal S1x1024 .f32 := View.ld I.gv (Rect.unit ![j.val, 0] ![1, 1024] (by revert j; decide))
def vRow (j : Fin 8) : Vec Ideal S1x512 .f32 := View.ld I.vv (Rect.unit ![j.val, 0] ![1, 512] (by revert j; decide))
def wsH (h : Fin 8) : Vec Ideal S1x128x128 .f32 := View.ld I.ws (Rect.unit ![h.val, 0, 0] ![1, 128, 128] (by revert h; decide))
def u0 : Vec Ideal S256x512 .f32 := View.ld I.pj (Rect.unit ![0, 0] ![256, 512] (by decide))
def v0 : Vec Ideal S256x512 .f32 := View.ld I.pj (Rect.unit ![0, 512] ![256, 512] (by decide))

theorem ld_md (j : ℕ) (h : j < 8) (hb) : View.ld I.md (Rect.unit ![0, j, 0] ![1, 1, 1024] hb) = I.mdRow ⟨j, h⟩ := rfl
theorem ld_gv (j : ℕ) (h : j < 8) (hb) : View.ld I.gv (Rect.unit ![j, 0] ![1, 1024] hb) = I.gvRow ⟨j, h⟩ := rfl
theorem ld_vv (j : ℕ) (h : j < 8) (hb) : View.ld I.vv (Rect.unit ![j, 0] ![1, 512] hb) = I.vRow ⟨j, h⟩ := rfl
theorem ld_ws (j : ℕ) (h : j < 8) (hb) : View.ld I.ws (Rect.unit ![j, 0, 0] ![1, 128, 128] hb) = I.wsH ⟨j, h⟩ := rfl
theorem ld_u (hb) : View.ld I.pj (Rect.unit ![0, 0] ![256, 512] hb) = I.u0 := rfl
theorem ld_v (hb) : View.ld I.pj (Rect.unit ![0, 512] ![256, 512] hb) = I.v0 := rfl

/-! ### The stages -/

/-- The post-norm's side: what the gate of the residual and the post-norm's gain receive, the gradient at the output projection,
    and through its weights. -/
def dGt : FVec Ideal S1x1024 .f32 := k0_pay19 I.dx I.ym (I.gvRow 1)
def dG2 : FVec Ideal S1x1024 .f32 := k0_pay21 I.dx I.ym (I.mdRow 2)
def dy : FVec Ideal S256x1024 .bf16 := k0_pay22 I.dx I.ym (I.mdRow 2) (I.gvRow 1)
def dyc : FVec Ideal S256x1024 .f32 := k0_pay23 I.dy I.wo
/-- The gate: `u`, the reciprocal deviation of `v`, the normalised `v` before and after its gain, head `h` of the masked weights. -/
def u : FVec Ideal S256x512 .f32 := k0_pay24 I.u0
def rv : FVec Ideal S256x1 .f32 := k0_pay26 I.v0
def vh : FVec Ideal S256x512 .f32 := k0_pay27 I.v0
def vb : FVec Ideal S256x512 .bf16 := k0_pay28 I.v0 (I.vRow 0) (I.vRow 1)
def wm (h : Fin 8) : FVec Ideal S128x128 .bf16 := k0_pay33 k0_pay29 (I.wsH h)
/-- The mixed rows of the first chunk, of both chunks, and the gated rows' norm. -/
def zA : FVec Ideal S128x512 .f32 := k0_pay40 I.vb k0_pay29 (I.wm 0) (I.wm 1) (I.wm 2) (I.wm 3) (I.wm 4) (I.wm 5) (I.wm 6) (I.wsH
      7) I.bf
def z : FVec Ideal S256x512 .f32 := k0_pay47 (I.wm 5) (I.wm 6) (I.wm 7) I.zA (k0_pay41 I.vb) k0_pay42 (k0_pay43 I.vb (I.wm 0)
      (I.wm 1)) (k0_pay44 I.vb (I.wm 2) (I.wm 3)) (k0_pay45 I.vb) (k0_pay46 I.vb (I.wm 4)) I.bf
def ra : FVec Ideal S256x1 .f32 := k0_pay49 I.u (I.wm 5) (I.wm 6) (I.wm 7) I.zA (k0_pay41 I.vb) k0_pay42 (k0_pay43 I.vb (I.wm 0)
      (I.wm 1)) (k0_pay44 I.vb (I.wm 2) (I.wm 3)) (k0_pay45 I.vb) (k0_pay46 I.vb (I.wm 4)) I.bf
def yah : FVec Ideal S256x512 .f32 := k0_pay50 I.u (I.wm 5) (I.wm 6) (I.wm 7) I.zA (k0_pay41 I.vb) k0_pay42 (k0_pay43 I.vb (I.wm
      0) (I.wm 1)) (k0_pay44 I.vb (I.wm 2) (I.wm 3)) (k0_pay45 I.vb) (k0_pay46 I.vb (I.wm 4)) I.bf
/-- The convolution's branch: its layer norm, the gain spread over the rows, the logistic, and the branch's norm. -/
def rc : FVec Ideal S256x1 .f32 := k0_pay52 I.cv
def ch : FVec Ideal S256x512 .f32 := k0_pay53 I.cv
def c0 : FVec Ideal S256x512 .f32 := k0_pay54 (I.vRow 3)
def cn : FVec Ideal S256x512 .f32 := k0_pay55 I.ch I.c0 (I.vRow 4)
def sg : FVec Ideal S256x512 .f32 := k0_pay56 I.ch I.c0 (I.vRow 4)
def rb : FVec Ideal S256x1 .f32 := k0_pay58 I.ch I.c0 (I.vRow 4)
def ybh : FVec Ideal S256x512 .f32 := k0_pay59 I.ch I.c0 (I.vRow 4)
def yc : FVec Ideal S256x1024 .bf16 := k0_pay60 I.yah I.ch I.c0 (I.vRow 4) (I.vRow 5) (I.vRow 6)
/-- The gradients at both branches, at the gate's factors, and what the two norms' gains receive. -/
def dpa : FVec Ideal S256x512 .f32 := k0_pay61 I.dyc
def dpb : FVec Ideal S256x512 .f32 := k0_pay62 I.dyc
def dOa : FVec Ideal S1x512 .f32 := k0_pay63 I.dyc I.yah
def dOb : FVec Ideal S1x512 .f32 := k0_pay64 I.dyc I.ch I.c0 (I.vRow 4)
def dyb : FVec Ideal S256x512 .f32 := k0_pay66 I.rb I.ybh I.dpb (I.vRow 6)
def du : FVec Ideal S256x512 .f32 := k0_pay67 I.z I.ra I.yah I.dpa (I.vRow 5)
def dz : FVec Ideal S256x512 .f32 := k0_pay68 I.u I.ra I.yah I.dpa (I.vRow 5)
/-- Chunk by chunk: the gradient at the mixed rows and the normalised rows. -/
def dzA : FVec Ideal S128x512 .f32 := k0_pay74 I.u I.ra I.yah I.dpa (I.vRow 5)
def dzAb : FVec Ideal S128x512 .bf16 := k0_pay78 I.dzA
def dzBb : FVec Ideal S128x512 .bf16 := k0_pay95 I.dz
def vbA : FVec Ideal S128x512 .bf16 := k0_pay75 I.vb
def vbB : FVec Ideal S128x512 .bf16 := k0_pay93 I.vb
/-- The gradient at the normalised rows, and of `v`. -/
def dvA : FVec Ideal S128x512 .f32 := k0_pay79 (I.wm 0) (I.wm 1) (I.wm 2) (I.wm 3) (I.wm 4) (I.wm 5) (I.wm 6) (I.wm 7) I.dzA
def dvB : FVec Ideal S128x512 .f32 := k0_pay102 (I.wm 7) k0_pay96 (k0_pay97 (I.wm 0) (I.wm 1) I.dz) (k0_pay98 (I.wm 2) (I.wm 3)
      I.dz) (k0_pay99 (I.wm 4) (I.wm 5) I.dz) (k0_pay100 I.dz) (k0_pay101 (I.wm 6) I.dz) (constant S128x128 .f32 0x00000000#32)
def dvn : FVec Ideal S256x512 .f32 := k0_pay115 I.dvA I.dvB
def dNg : FVec Ideal S1x512 .f32 := k0_pay116 I.vh I.dvA I.dvB
def dNb : FVec Ideal S1x512 .f32 := k0_pay117 I.dvA I.dvB
def dv : FVec Ideal S256x512 .f32 := k0_pay118 I.rv I.vh I.dvn (I.vRow 0)
/-- The convolution branch's gradient. -/
def dCg : FVec Ideal S1x512 .f32 := k0_pay120 I.ch I.cn I.sg I.dyb
def dCb : FVec Ideal S1x512 .f32 := k0_pay121 I.cn I.sg I.dyb
def cA : FVec Ideal S256x512 .f32 := k0_pay123 I.cn I.sg I.dyb (I.vRow 3)
def cB : FVec Ideal S256x512 .f32 := k0_pay124 I.ch I.cn I.sg I.dyb (I.vRow 3)
def dc : FVec Ideal S256x512 .f32 := k0_pay125 I.rc I.ch I.cA I.cB
def dBc : FVec Ideal S1x512 .f32 := k0_pay127 I.rc I.ch I.cA I.cB

/-- Head `h` of the spatial weights' gradient after the first chunk and after the second, from what it was before. -/
def gA (h : Fin 8) (X : Vec Ideal S1x128x128 .f32) : FVec Ideal S1x128x128 .f32 :=
  match h with
  | 0 => k0_pay80 k0_pay73 I.dzA I.vbA X
  | 1 => k0_pay82 I.vbA (k0_pay81 k0_pay73 I.dzA) X
  | 2 => k0_pay83 k0_pay73 I.vbA I.dzAb X
  | 3 => k0_pay84 k0_pay73 I.vbA I.dzAb X
  | 4 => k0_pay87 k0_pay73 I.vbA (k0_pay85 I.dzAb) k0_pay86 X
  | 5 => k0_pay88 k0_pay73 I.vbA I.dzAb X
  | 6 => k0_pay89 k0_pay73 I.vbA I.dzAb X
  | 7 => k0_pay91 k0_pay73 I.vbA (k0_pay90 I.dzAb) X
def gB (h : Fin 8) (X : Vec Ideal S1x128x128 .f32) : FVec Ideal S1x128x128 .f32 :=
  match h with
  | 0 => k0_pay103 k0_pay73 I.vbB I.dzBb X
  | 1 => k0_pay104 k0_pay73 I.vbB I.dzBb X
  | 2 => k0_pay106 (k0_pay105 k0_pay73 I.vbB I.dzBb X)
  | 3 => k0_pay107 k0_pay73 I.vbB I.dzBb X
  | 4 => k0_pay108 k0_pay73 I.vbB I.dzBb X
  | 5 => k0_pay112 (k0_pay109 k0_pay73 I.dzBb) (k0_pay110 X) (k0_pay111 I.vbB) (constant S128x128 .f32 0x00000000#32)
  | 6 => k0_pay113 k0_pay73 I.vbB I.dzBb X
  | 7 => k0_pay114 k0_pay73 I.vbB I.dzBb X

/-- Its causal part. -/
def gM (h : Fin 8) (X : Vec Ideal S1x128x128 .f32) : FVec Ideal S1x128x128 .f32 :=
  match h with
  | 0 => k0_pay4 X
  | 1 => k0_pay5 X
  | 2 => k0_pay6 X
  | 3 => k0_pay8 (k0_pay7 X)
  | 4 => k0_pay9 (iota Kind.tc S128x128 32 [0] iota_S128x128_d0_w32) (iota Kind.tc S128x128 32 [1] iota_S128x128_d1_w32) X
  | 5 => k0_pay10 (iota Kind.tc S128x128 32 [0] iota_S128x128_d0_w32) (iota Kind.tc S128x128 32 [1] iota_S128x128_d1_w32) X
  | 6 => k0_pay11 (iota Kind.tc S128x128 32 [0] iota_S128x128_d0_w32) (iota Kind.tc S128x128 32 [1] iota_S128x128_d1_w32) X
  | 7 => k0_pay2 (k0_pay12 (iota Kind.tc S128x128 32 [0] iota_S128x128_d0_w32) (iota Kind.tc S128x128 32 [1]
      iota_S128x128_d1_w32)) (k0_pay13 X)

/-- The bias's gradient, feature by feature, after both chunks. -/
def dbs (X : Vec Ideal S128x512 .f32) : FVec Ideal S128x512 .f32 := k0_pay94 I.dz (k0_pay77 (k0_pay76 I.u I.ra I.yah I.dpa
      (I.vRow 5) X))

/-! ### Their texts -/

theorem wm0_text : k0_pay32 k0_pay29 (k0_pay30 (I.wsH 0)) k0_pay31 = I.wm 0 := rfl
theorem wm1_text : k0_pay33 k0_pay29 (I.wsH 1) = I.wm 1 := rfl
theorem wm2_text : k0_pay34 k0_pay29 (I.wsH 2) = I.wm 2 := rfl
theorem wm3_text : k0_pay35 k0_pay29 (I.wsH 3) = I.wm 3 := rfl
theorem wm4_text : k0_pay36 k0_pay29 (I.wsH 4) = I.wm 4 := rfl
theorem wm5_text : k0_pay37 k0_pay29 (I.wsH 5) = I.wm 5 := rfl
theorem wm6_text : k0_pay38 k0_pay29 (I.wsH 6) = I.wm 6 := rfl
theorem wm7_text : k0_pay39 k0_pay29 (I.wsH 7) = I.wm 7 := rfl
theorem dGt_text : k0_pay19 I.dx I.ym (I.gvRow 1) = I.dGt := rfl
theorem dG2_text : k0_pay21 I.dx I.ym (I.mdRow 2) = I.dG2 := rfl
theorem dy_text : k0_pay22 I.dx I.ym (I.mdRow 2) (I.gvRow 1) = I.dy := rfl
theorem dyc_text : k0_pay23 I.dy I.wo = I.dyc := rfl
theorem u_text : k0_pay24 I.u0 = I.u := rfl
theorem rv_text : k0_pay26 I.v0 = I.rv := rfl
theorem vh_text : k0_pay27 I.v0 = I.vh := rfl
theorem vb_text : k0_pay28 I.v0 (I.vRow 0) (I.vRow 1) = I.vb := rfl
theorem zA_text : k0_pay40 I.vb k0_pay29 (I.wm 0) (I.wm 1) (I.wm 2) (I.wm 3) (I.wm 4) (I.wm 5) (I.wm 6) (I.wsH 7) I.bf = I.zA := rfl
theorem z_text : k0_pay47 (I.wm 5) (I.wm 6) (I.wm 7) I.zA (k0_pay41 I.vb) k0_pay42 (k0_pay43 I.vb (I.wm 0) (I.wm 1)) (k0_pay44
      I.vb (I.wm 2) (I.wm 3)) (k0_pay45 I.vb) (k0_pay46 I.vb (I.wm 4)) I.bf = I.z := rfl
theorem ra_text : k0_pay49 I.u (I.wm 5) (I.wm 6) (I.wm 7) I.zA (k0_pay41 I.vb) k0_pay42 (k0_pay43 I.vb (I.wm 0) (I.wm 1))
      (k0_pay44 I.vb (I.wm 2) (I.wm 3)) (k0_pay45 I.vb) (k0_pay46 I.vb (I.wm 4)) I.bf = I.ra := rfl
theorem yah_text : k0_pay50 I.u (I.wm 5) (I.wm 6) (I.wm 7) I.zA (k0_pay41 I.vb) k0_pay42 (k0_pay43 I.vb (I.wm 0) (I.wm 1))
      (k0_pay44 I.vb (I.wm 2) (I.wm 3)) (k0_pay45 I.vb) (k0_pay46 I.vb (I.wm 4)) I.bf = I.yah := rfl
theorem rc_text : k0_pay52 I.cv = I.rc := rfl
theorem ch_text : k0_pay53 I.cv = I.ch := rfl
theorem c0_text : k0_pay54 (I.vRow 3) = I.c0 := rfl
theorem cn_text : k0_pay55 I.ch I.c0 (I.vRow 4) = I.cn := rfl
theorem sg_text : k0_pay56 I.ch I.c0 (I.vRow 4) = I.sg := rfl
theorem rb_text : k0_pay58 I.ch I.c0 (I.vRow 4) = I.rb := rfl
theorem ybh_text : k0_pay59 I.ch I.c0 (I.vRow 4) = I.ybh := rfl
theorem yc_text : k0_pay60 I.yah I.ch I.c0 (I.vRow 4) (I.vRow 5) (I.vRow 6) = I.yc := rfl
theorem dpa_text : k0_pay61 I.dyc = I.dpa := rfl
theorem dpb_text : k0_pay62 I.dyc = I.dpb := rfl
theorem dOa_text : k0_pay63 I.dyc I.yah = I.dOa := rfl
theorem dOb_text : k0_pay64 I.dyc I.ch I.c0 (I.vRow 4) = I.dOb := rfl
theorem dyb_text : k0_pay66 I.rb I.ybh I.dpb (I.vRow 6) = I.dyb := rfl
theorem du_text : k0_pay67 I.z I.ra I.yah I.dpa (I.vRow 5) = I.du := rfl
theorem dz_text : k0_pay68 I.u I.ra I.yah I.dpa (I.vRow 5) = I.dz := rfl
theorem dzA_text : k0_pay74 I.u I.ra I.yah I.dpa (I.vRow 5) = I.dzA := rfl
theorem dzAb_text : k0_pay78 I.dzA = I.dzAb := rfl
theorem dzBb_text : k0_pay95 I.dz = I.dzBb := rfl
theorem vbA_text : k0_pay75 I.vb = I.vbA := rfl
theorem vbB_text : k0_pay93 I.vb = I.vbB := rfl
theorem dvA_text : k0_pay79 (I.wm 0) (I.wm 1) (I.wm 2) (I.wm 3) (I.wm 4) (I.wm 5) (I.wm 6) (I.wm 7) I.dzA = I.dvA := rfl
theorem dvB_text : k0_pay102 (I.wm 7) k0_pay96 (k0_pay97 (I.wm 0) (I.wm 1) I.dz) (k0_pay98 (I.wm 2) (I.wm 3) I.dz) (k0_pay99
      (I.wm 4) (I.wm 5) I.dz) (k0_pay100 I.dz) (k0_pay101 (I.wm 6) I.dz) (constant S128x128 .f32 0x00000000#32) = I.dvB := rfl
theorem dvn_text : k0_pay115 I.dvA I.dvB = I.dvn := rfl
theorem dNg_text : k0_pay116 I.vh I.dvA I.dvB = I.dNg := rfl
theorem dNb_text : k0_pay117 I.dvA I.dvB = I.dNb := rfl
theorem dv_text : k0_pay118 I.rv I.vh I.dvn (I.vRow 0) = I.dv := rfl
theorem dCg_text : k0_pay120 I.ch I.cn I.sg I.dyb = I.dCg := rfl
theorem dCb_text : k0_pay121 I.cn I.sg I.dyb = I.dCb := rfl
theorem cA_text : k0_pay123 I.cn I.sg I.dyb (I.vRow 3) = I.cA := rfl
theorem cB_text : k0_pay124 I.ch I.cn I.sg I.dyb (I.vRow 3) = I.cB := rfl
theorem dc_text : k0_pay125 I.rc I.ch I.cA I.cB = I.dc := rfl
theorem dBc_text : k0_pay127 I.rc I.ch I.cA I.cB = I.dBc := rfl
theorem gA0_text (X) : k0_pay80 k0_pay73 I.dzA I.vbA X = I.gA 0 X := rfl
theorem gA1_text (X) : k0_pay82 I.vbA (k0_pay81 k0_pay73 I.dzA) X = I.gA 1 X := rfl
theorem gA2_text (X) : k0_pay83 k0_pay73 I.vbA I.dzAb X = I.gA 2 X := rfl
theorem gA3_text (X) : k0_pay84 k0_pay73 I.vbA I.dzAb X = I.gA 3 X := rfl
theorem gA4_text (X) : k0_pay87 k0_pay73 I.vbA (k0_pay85 I.dzAb) k0_pay86 X = I.gA 4 X := rfl
theorem gA5_text (X) : k0_pay88 k0_pay73 I.vbA I.dzAb X = I.gA 5 X := rfl
theorem gA6_text (X) : k0_pay89 k0_pay73 I.vbA I.dzAb X = I.gA 6 X := rfl
theorem gA7_text (X) : k0_pay91 k0_pay73 I.vbA (k0_pay90 I.dzAb) X = I.gA 7 X := rfl
theorem gB0_text (X) : k0_pay103 k0_pay73 I.vbB I.dzBb X = I.gB 0 X := rfl
theorem gB1_text (X) : k0_pay104 k0_pay73 I.vbB I.dzBb X = I.gB 1 X := rfl
theorem gB2_text (X) : k0_pay106 (k0_pay105 k0_pay73 I.vbB I.dzBb X) = I.gB 2 X := rfl
theorem gB3_text (X) : k0_pay107 k0_pay73 I.vbB I.dzBb X = I.gB 3 X := rfl
theorem gB4_text (X) : k0_pay108 k0_pay73 I.vbB I.dzBb X = I.gB 4 X := rfl
theorem gB5_text (X) : k0_pay112 (k0_pay109 k0_pay73 I.dzBb) (k0_pay110 X) (k0_pay111 I.vbB) (constant S128x128 .f32
      0x00000000#32) = I.gB 5 X := rfl
theorem gB6_text (X) : k0_pay113 k0_pay73 I.vbB I.dzBb X = I.gB 6 X := rfl
theorem gB7_text (X) : k0_pay114 k0_pay73 I.vbB I.dzBb X = I.gB 7 X := rfl
theorem gM0_text (X) : k0_pay4 X = gM 0 X := rfl
theorem gM1_text (X) : k0_pay5 X = gM 1 X := rfl
theorem gM2_text (X) : k0_pay6 X = gM 2 X := rfl
theorem gM3_text (X) : k0_pay8 (k0_pay7 X) = gM 3 X := rfl
theorem gM4_text (X) : k0_pay9 (iota Kind.tc S128x128 32 [0] iota_S128x128_d0_w32) (iota Kind.tc S128x128 32 [1]
      iota_S128x128_d1_w32) X = gM 4 X := rfl
theorem gM5_text (X) : k0_pay10 (iota Kind.tc S128x128 32 [0] iota_S128x128_d0_w32) (iota Kind.tc S128x128 32 [1]
      iota_S128x128_d1_w32) X = gM 5 X := rfl
theorem gM6_text (X) : k0_pay11 (iota Kind.tc S128x128 32 [0] iota_S128x128_d0_w32) (iota Kind.tc S128x128 32 [1]
      iota_S128x128_d1_w32) X = gM 6 X := rfl
theorem gM7_text (X) : k0_pay2 (k0_pay12 (iota Kind.tc S128x128 32 [0] iota_S128x128_d0_w32) (iota Kind.tc S128x128 32 [1]
      iota_S128x128_d1_w32)) (k0_pay13 X) = gM 7 X := rfl
theorem dbs_text (X) : k0_pay94 I.dz (k0_pay77 (k0_pay76 I.u I.ra I.yah I.dpa (I.vRow 5) X)) = I.dbs X := rfl

end In
end Cert.Kernel2Ideal.Tile
end
-- ==== Proof.Mixer.Model.lean ====
/- The token mixer between its two branches' inputs and its output, over the reals: forward values and gradient of all
   tokens. A token is numbered through both sequences; a chunk is 128 consecutive tokens. -/
module

public import proofs.«01_k».proof.Proof.Model

@[expose] public section

set_option maxRecDepth 16384

noncomputable section

namespace Mix

open Idealize.ShloMosaic Ffn

theorem lit_512 : Ideal.ofBits .f32 0x44000000#32 = ((512 : ℝ) : EReal) := by
  simp [Ideal.ofBits, Ideal.ieee]
  rw [← EReal.coe_mul]
  norm_num

theorem lit_zero16 : Ideal.ofBits .bf16 0x0000#16 = ((0 : ℝ) : EReal) := by
  simp [Ideal.ofBits, Ideal.ieee]

theorem div_512 (x : ℝ) : Ideal.div (x : EReal) ((512 : ℝ) : EReal) = ((x / 512 : ℝ) : EReal) := div_pos_real x 512 (by norm_num)

/-! ### Norms of a row of 512 -/

def mean (x : Fin 512 → ℝ) : ℝ := (∑ d, x d) / 512
def ms5 (x : Fin 512 → ℝ) : ℝ := (∑ d, x d * x d) / 512
def inv5 (x : Fin 512 → ℝ) : ℝ := (Real.sqrt (ms5 x + eps))⁻¹

theorem ms5_eps_pos (x : Fin 512 → ℝ) : 0 < ms5 x + eps :=
  add_pos_of_nonneg_of_pos (div_nonneg (Finset.sum_nonneg fun d _ => mul_self_nonneg (x d)) (by norm_num)) eps_pos

theorem rsqrt_ms5 (x : Fin 512 → ℝ) : Ideal.rsqrt ((ms5 x + eps : ℝ) : EReal) = ((inv5 x : ℝ) : EReal) := rsqrt_pos _ (ms5_eps_pos x)

/-- The row divided by its root mean square; the row less its mean; the two together. -/
def rms (x : Fin 512 → ℝ) (d : Fin 512) : ℝ := x d * inv5 x
def cen (x : Fin 512 → ℝ) (d : Fin 512) : ℝ := x d - mean x
def ln (x : Fin 512 → ℝ) (d : Fin 512) : ℝ := cen x d * inv5 (cen x)

/-- Their gradients at the cotangent `g`. -/
def rmsB (x g : Fin 512 → ℝ) (d : Fin 512) : ℝ := inv5 x * (g d - rms x d * ((∑ k, g k * rms x k) / 512))
def lnB (x g : Fin 512 → ℝ) (d : Fin 512) : ℝ :=
  inv5 (cen x) * (g d - (∑ k, g k) / 512 - ln x d * ((∑ k, g k * ln x k) / 512))

/-- The gradient of the division by the root mean square as automatic differentiation writes it. -/
def rmsV (x g : Fin 512 → ℝ) (d : Fin 512) : ℝ :=
  g d * inv5 x + x d * ((∑ k, x k * g k) * (-(1 / 2) * (inv5 x / (ms5 x + eps))) / 512)
    + (∑ k, x k * g k) * (-(1 / 2) * (inv5 x / (ms5 x + eps))) / 512 * x d

theorem rmsV_eq (x g : Fin 512 → ℝ) (d : Fin 512) : rmsV x g d = rmsB x g d := by
  have hs : ∑ k, g k * rms x k = (∑ k, x k * g k) * inv5 x := by
    rw [Finset.sum_mul]
    exact Finset.sum_congr rfl fun k _ => by rw [rms]; ring
  have hp := ms5_eps_pos x
  have hi : inv5 x * inv5 x = (ms5 x + eps)⁻¹ := by
    rw [inv5, ← mul_inv, Real.mul_self_sqrt hp.le]
  have hd : inv5 x / (ms5 x + eps) = inv5 x * (inv5 x * inv5 x) := by rw [hi, div_eq_mul_inv]
  rw [rmsV, rmsB, hs, hd, rms]
  ring

theorem sum_cen (x : Fin 512 → ℝ) : ∑ d, cen x d = 0 := by
  simp only [cen, Finset.sum_sub_distrib, mean, Finset.sum_const, Finset.card_univ, Fintype.card_fin, nsmul_eq_mul]
  push_cast
  ring

/-- The layer norm's: the mean's own gradient is added, and a centred row has mean zero. -/
theorem lnV_eq (x g : Fin 512 → ℝ) (d : Fin 512) :
    rmsV (cen x) g d + (∑ k, -rmsV (cen x) g k) / 512 = lnB x g d := by
  have hr : ∀ k, rms (cen x) k = ln x k := fun _ => rfl
  have hs : ∑ k, rmsB (cen x) g k = inv5 (cen x) * ∑ k, g k := by
    have hz : ∑ k, ln x k = 0 := by
      simp only [ln, ← Finset.sum_mul, sum_cen, zero_mul]
    simp only [rmsB, hr]
    rw [← Finset.mul_sum, Finset.sum_sub_distrib, ← Finset.sum_mul, hz]
    ring
  simp only [rmsV_eq]
  rw [Finset.sum_neg_distrib, hs, rmsB, lnB]
  simp only [hr]
  ring

/-! ### The arrays -/

/-- The real arrays: the projection, the convolution with its bias, the gate of the residual, the gains and biases of the
    norms, the spatial weights with their bias, the output weights, and the cotangent of the block's output. -/
structure Args where
  P : Fin 4096 → Fin 2048 → ℝ
  C : Fin 4096 → Fin 512 → ℝ
  Gt : Fin 2 → Fin 1024 → ℝ
  G2 : Fin 1024 → ℝ
  ng : Fin 512 → ℝ
  nb : Fin 512 → ℝ
  cg : Fin 512 → ℝ
  cb : Fin 512 → ℝ
  oa : Fin 512 → ℝ
  ob : Fin 512 → ℝ
  Ws : Fin 8 → Fin 128 → Fin 128 → ℝ
  Bs : Fin 8 → Fin 128 → ℝ
  Wo : Fin 1024 → Fin 1024 → ℝ
  E : Fin 4096 → Fin 1024 → ℝ

/-- Token `s` of sequence `b`, row `p` of tile `t`, position `j` of chunk `c`. -/
def tok (b : Fin 2) (s : Fin 2048) : Fin 4096 := ⟨2048 * b.val + s.val, by omega⟩
def tile (t : Fin 16) (p : Fin 256) : Fin 4096 := ⟨256 * t.val + p.val, by omega⟩
def chk (c : Fin 32) (j : Fin 128) : Fin 4096 := ⟨128 * c.val + j.val, by omega⟩

/-- A token's sequence, chunk, and position in its chunk. -/
def seq (n : Fin 4096) : Fin 2 := ⟨n.val / 2048, by omega⟩
def chunk (n : Fin 4096) : Fin 32 := ⟨n.val / 128, by omega⟩
def pos (n : Fin 4096) : Fin 128 := ⟨n.val % 128, by omega⟩

/-- Feature `l` of head `h`, a feature's head; the first and second 512 of a longer row. -/
def feat (h : Fin 8) (l : Fin 64) : Fin 512 := ⟨64 * h.val + l.val, by omega⟩
def head (d : Fin 512) : Fin 8 := ⟨d.val / 64, by omega⟩
def cA (d : Fin 512) : Fin 1024 := ⟨d.val, by omega⟩
def cB (d : Fin 512) : Fin 1024 := ⟨512 + d.val, by omega⟩
def cU (d : Fin 512) : Fin 2048 := ⟨d.val, by omega⟩
def cV (d : Fin 512) : Fin 2048 := ⟨512 + d.val, by omega⟩

namespace Args

variable (A : Args) (n : Fin 4096)

/-- The gate: normalised `v`, mixed over its chunk with the causal part of the spatial weights, times `u`. -/
def u (d : Fin 512) : ℝ := A.P n (cU d)
def v (d : Fin 512) : ℝ := A.P n (cV d)
def vh : Fin 512 → ℝ := ln (A.v n)
def vn (d : Fin 512) : ℝ := A.vh n d * A.ng d + A.nb d
def wm (h : Fin 8) (t j : Fin 128) : ℝ := if j ≤ t then A.Ws h t j else 0
def z (d : Fin 512) : ℝ := (∑ j, A.wm (head d) (pos n) j * A.vn (chk (chunk n) j) d) + A.Bs (head d) (pos n)
def ya (d : Fin 512) : ℝ := A.u n d * A.z n d

/-- The convolution's branch: its layer norm, and the logistic gate of that. -/
def ch : Fin 512 → ℝ := ln (A.C n)
def cn (d : Fin 512) : ℝ := A.ch n d * A.cg d + A.cb d
def yb (d : Fin 512) : ℝ := A.cn n d * sgm (A.cn n d)

/-- Both branches normalised, side by side, and their output projection with its norm. -/
def ycat (k : Fin 1024) : ℝ :=
  if h : k.val < 512 then rms (A.ya n) ⟨k.val, h⟩ * A.oa ⟨k.val, h⟩
  else rms (A.yb n) ⟨k.val - 512, by omega⟩ * A.ob ⟨k.val - 512, by omega⟩
def y (d : Fin 1024) : ℝ := ∑ k, A.ycat n k * A.Wo k d
def yh (d : Fin 1024) : ℝ := A.y n d * inv (A.y n)

/-- The gradient down to both branches. -/
def dp (d : Fin 1024) : ℝ := A.Gt (seq n) d * A.E n d
def dyh (d : Fin 1024) : ℝ := A.dp n d * A.G2 d
def dy (d : Fin 1024) : ℝ := inv (A.y n) * (A.dyh n d - A.yh n d * ((∑ k, A.dyh n k * A.yh n k) / 1024))
def dyc (k : Fin 1024) : ℝ := ∑ d, A.dy n d * A.Wo k d
def dya : Fin 512 → ℝ := rmsB (A.ya n) fun d => A.dyc n (cA d) * A.oa d
def dyb : Fin 512 → ℝ := rmsB (A.yb n) fun d => A.dyc n (cB d) * A.ob d

/-- The gate's. -/
def du (d : Fin 512) : ℝ := A.dya n d * A.z n d
def dz (d : Fin 512) : ℝ := A.dya n d * A.u n d
def dvn (d : Fin 512) : ℝ := ∑ t, A.wm (head d) t (pos n) * A.dz (chk (chunk n) t) d
def dv : Fin 512 → ℝ := lnB (A.v n) fun d => A.dvn n d * A.ng d

/-- The convolution branch's. -/
def dcn (d : Fin 512) : ℝ := A.dyb n d * (sgm (A.cn n d) * (1 + A.cn n d * (1 - sgm (A.cn n d))))
def dc : Fin 512 → ℝ := lnB (A.C n) fun d => A.dcn n d * A.cg d

/-- The four column ranges of the projection's gradient as this call leaves them. -/
def part (j : Fin 2048) : ℝ :=
  if h : j.val < 512 then A.du n ⟨j.val, h⟩
  else if h : j.val < 1024 then A.dv n ⟨j.val - 512, by omega⟩
  else if h : j.val < 1536 then A.dc n ⟨j.val - 1024, by omega⟩
  else 0

/-- What a token adds to the gradient of the residual's gate, of the post-norm's gain, and of the norms' vectors. -/
def tGt (d : Fin 1024) : ℝ := A.E n d * (A.yh n d * A.G2 d)
def tG2 (d : Fin 1024) : ℝ := A.dp n d * A.yh n d
def tVec (r : Fin 8) (d : Fin 512) : ℝ :=
  if r.val = 0 then A.dvn n d * A.vh n d
  else if r.val = 1 then A.dvn n d
  else if r.val = 2 then A.dc n d
  else if r.val = 3 then A.dcn n d * A.ch n d
  else if r.val = 4 then A.dcn n d
  else if r.val = 5 then A.dyc n (cA d) * rms (A.ya n) d
  else if r.val = 6 then A.dyc n (cB d) * rms (A.yb n) d
  else 0

/-- The same added over the tokens, in the rows of the arrays that hold them. -/
def mod (b : Fin 2) (r : Fin 8) (d : Fin 1024) : ℝ := if r.val = 2 then ∑ s, A.tGt (tok b s) d else 0
def gain (r : Fin 8) (d : Fin 1024) : ℝ := if r.val = 1 then ∑ n, A.tG2 n d else 0
def vec (r : Fin 8) (d : Fin 512) : ℝ := ∑ n, A.tVec n r d

/-- The gradient of the spatial weights, which only their causal part has, and of their bias. -/
def gw (h : Fin 8) (t j : Fin 128) : ℝ :=
  if j ≤ t then ∑ c, ∑ l, A.dz (chk c t) (feat h l) * A.vn (chk c j) (feat h l) else 0
def gb (h : Fin 8) (t : Fin 128) : ℝ := ∑ c, ∑ l, A.dz (chk c t) (feat h l)

end Args

/-- A choice by a decided proposition. -/
theorem select_bit (p : Prop) [Decidable p] (x y : ℝ) :
    Scalar.select (BitVec.ofBool (decide p)) (x : EReal) (y : EReal) = ((if p then x else y : ℝ) : EReal) := by
  by_cases h : p <;> simp [h, Scalar.select]

/-! ### A token by its numbers -/

theorem seq_tok (b : Fin 2) (s : Fin 2048) : seq (tok b s) = b := Fin.ext (by simp only [seq, tok]; omega)

theorem chunk_tok (b : Fin 2) (s : Fin 2048) (h : b.val * 16 + s.val / 128 < 32) : chunk (tok b s) = ⟨b.val * 16 + s.val / 128, h⟩ :=
  Fin.ext (by simp only [chunk, tok]; omega)

theorem pos_tok (b : Fin 2) (s : Fin 2048) (h : s.val % 128 < 128) : pos (tok b s) = ⟨s.val % 128, h⟩ :=
  Fin.ext (by simp only [pos, tok]; omega)

theorem feat_head (d : Fin 512) (h : d.val / 64 < 8) (l : d.val % 64 < 64) : feat ⟨d.val / 64, h⟩ ⟨d.val % 64, l⟩ = d :=
  Fin.ext (by simp only [feat]; omega)

namespace Args

variable (A : Args) (b : Fin 2) (s : Fin 2048) (d : Fin 512) (h1 : d.val / 64 < 8) (h2 : s.val % 128 < 128)
  (h3 : b.val * 16 + s.val / 128 < 32) (h4 : d.val % 64 < 64)

theorem z_at : (∑ j, A.wm ⟨d.val / 64, h1⟩ ⟨s.val % 128, h2⟩ j
      * A.vn (chk ⟨b.val * 16 + s.val / 128, h3⟩ j) (feat ⟨d.val / 64, h1⟩ ⟨d.val % 64, h4⟩))
    + A.Bs ⟨d.val / 64, h1⟩ ⟨s.val % 128, h2⟩ = A.z (tok b s) d := by
  rw [z, chunk_tok b s h3, pos_tok b s h2, feat_head]
  rfl

theorem dvn_at : ∑ t, A.wm ⟨d.val / 64, h1⟩ t ⟨s.val % 128, h2⟩
      * A.dz (chk ⟨b.val * 16 + s.val / 128, h3⟩ t) (feat ⟨d.val / 64, h1⟩ ⟨d.val % 64, h4⟩) = A.dvn (tok b s) d := by
  rw [dvn, chunk_tok b s h3, pos_tok b s h2, feat_head]
  rfl

end Args

/-! ### Sums over the tokens -/

theorem sum_tok (f : Fin 4096 → ℝ) : ∑ b, ∑ s, f (tok b s) = ∑ n, f n := by
  rw [← Fintype.sum_prod_type' fun b s => f (tok b s)]
  refine Fintype.sum_equiv (finProdFinEquiv (m := 2) (n := 2048)) _ _ fun q => ?_
  refine congrArg f (Fin.ext ?_)
  simp [tok, finProdFinEquiv]
  omega

theorem sum_tile (f : Fin 4096 → ℝ) : ∑ t, ∑ p, f (tile t p) = ∑ n, f n := by
  rw [← Fintype.sum_prod_type' fun t p => f (tile t p)]
  refine Fintype.sum_equiv (finProdFinEquiv (m := 16) (n := 256)) _ _ fun q => ?_
  refine congrArg f (Fin.ext ?_)
  simp [tile, finProdFinEquiv]
  omega

end Mix
end
-- ==== Proof.Mixer.Heads.lean ====
/- The spatial weights' gradient, head by head: a head is half of a pair's 128 lanes, and each chunk adds its own sum over
   that half. -/
module

public import proofs.«01_k».proof.Proof.Mixer.Tile
public import proofs.«01_k».proof.Proof.Mixer.Model
public import Idealize.ShloMosaic.Lib.WritesUnit
public import Idealize.ShloMosaic.Lib.VecWindow
public import Idealize.ShloMosaic.Lib.Pipeline.ValueKit
public import Idealize.ShloMosaic.Lib.Pipeline.ReadBack

@[expose] public section

set_option maxRecDepth 16384

noncomputable section

namespace Cert.Kernel2Ideal.Tile

open Cert.Kernel2Ideal Cert.Kernel2Ideal.Gen Idealize.ShloMosaic Idealize.ShloMosaic.TcCoe Idealize.SL.Sem Mix
open Ffn hiding Args

/-- The two halves of a pair's lanes. -/
theorem lane_lo (f : Fin 128 → EReal) :
    ∑ x : Fin 128, Scalar.select (IntOp.cmpi .slt (BitVec.ofNat 32 x.val) 64#32) (f x) 0 = ∑ l : Fin 64, f ⟨l.val, by omega⟩ := by
  have hb : ∀ x : Fin 128, IntOp.cmpi .slt (BitVec.ofNat 32 x.val) 64#32 = if x.val < 64 then 1#1 else 0#1 := by decide
  simp only [hb]
  rw [Fin.sum_univ_two_halves 64 64 rfl]
  have h1 : ∀ l : Fin 64, (if l.val < 64 then (1#1 : BitVec 1) else 0#1) = 1#1 := fun l => if_pos l.isLt
  have h2 : ∀ l : Fin 64, (if 64 + l.val < 64 then (1#1 : BitVec 1) else 0#1) = 0#1 := fun l => if_neg (by omega)
  simp only [h1, h2]
  simp [Scalar.select]

theorem lane_hi (f : Fin 128 → EReal) :
    ∑ x : Fin 128, Scalar.select (IntOp.xori (IntOp.cmpi .slt (BitVec.ofNat 32 x.val) 64#32) 1#1) (f x) 0
      = ∑ l : Fin 64, f ⟨64 + l.val, by omega⟩ := by
  have hb : ∀ x : Fin 128, IntOp.xori (IntOp.cmpi .slt (BitVec.ofNat 32 x.val) 64#32) 1#1 = if x.val < 64 then 0#1 else 1#1 := by decide
  simp only [hb]
  rw [Fin.sum_univ_two_halves 64 64 rfl]
  have h1 : ∀ l : Fin 64, (if l.val < 64 then (0#1 : BitVec 1) else 1#1) = 0#1 := fun l => if_pos l.isLt
  have h2 : ∀ l : Fin 64, (if 64 + l.val < 64 then (0#1 : BitVec 1) else 1#1) = 1#1 := fun l => if_neg (by omega)
  simp only [h1, h2]
  simp [Scalar.select]

variable (I : In)
namespace In

/-- The rows the two chunks' gradients are read from, in the same number. -/
theorem dzAb_eq (y : S128x512.Idx) : I.dzAb y = I.dzA y := by
  obtain ⟨t, d, rfl⟩ : ∃ t d, y = ix2 t d := ⟨_, _, eq_ix2 y⟩
  pointwise [dzAb, k0_pay78]

/-- What the first chunk adds to head `h`, and the second. -/
def sA (h : Fin 8) (t j : Fin 128) : EReal := ∑ l : Fin 64, I.dzA (ix2 t (feat h l)) * I.vbA (ix2 j (feat h l))
def sB (h : Fin 8) (t j : Fin 128) : EReal := ∑ l : Fin 64, I.dzBb (ix2 t (feat h l)) * I.vbB (ix2 j (feat h l))

theorem gA_at (h : Fin 8) (X : Vec Ideal S1x128x128 .f32) (t j : Fin 128) :
    I.gA h X (ix3 0 t j) = X (ix3 0 t j) + I.sA h t j := by
  fin_cases h
  all_goals pointwise [gA, sA, k0_pay73, k0_pay78, k0_pay80, k0_pay81, k0_pay82, k0_pay83, k0_pay84, k0_pay85, k0_pay86, k0_pay87, k0_pay88,
    k0_pay89, k0_pay90, k0_pay91]
  all_goals try simp only [dzAb_eq, show k0_pay78 I.dzA = I.dzAb from rfl]
  all_goals first | rw [lane_lo] | rw [lane_hi]
  all_goals refine congrArg _ (Finset.sum_congr rfl fun l _ => ?_)
  all_goals congr 2
  all_goals exact congrArg (ix2 _) (Fin.ext (by simp only [feat, Fin.isValue]; omega))

theorem gB_at (h : Fin 8) (X : Vec Ideal S1x128x128 .f32) (t j : Fin 128) :
    I.gB h X (ix3 0 t j) = X (ix3 0 t j) + I.sB h t j := by
  fin_cases h
  all_goals pointwise [gB, sB, k0_pay73, k0_pay103, k0_pay104, k0_pay105, k0_pay106, k0_pay107, k0_pay108, k0_pay109, k0_pay110, k0_pay111,
    k0_pay112, k0_pay113, k0_pay114]
  all_goals first | rw [lane_lo] | rw [lane_hi]
  all_goals refine congrArg _ (Finset.sum_congr rfl fun l _ => ?_)
  all_goals congr 2
  all_goals exact congrArg (ix2 _) (Fin.ext (by simp only [feat, Fin.isValue]; omega))

theorem gM_at (h : Fin 8) (X : Vec Ideal S1x128x128 .f32) (t j : Fin 128) :
    gM h X (ix3 0 t j) = if j ≤ t then X (ix3 0 t j) else 0 := by
  have hb : IntOp.cmpi .sle (BitVec.ofNat 32 j.val) (BitVec.ofNat 32 t.val) = if j ≤ t then 1#1 else 0#1 := by
    have hs : ∀ n : Fin 128, (BitVec.ofNat 32 n.val).toInt = n.val := by decide
    by_cases hh : j ≤ t
    · simp [IntOp.cmpi, BitVec.sle, hs, hh]
    · simp [IntOp.cmpi, BitVec.sle, hs, hh]
  fin_cases h
  all_goals pointwise [gM, k0_pay2, k0_pay4, k0_pay5, k0_pay6, k0_pay7, k0_pay8, k0_pay9, k0_pay10, k0_pay11, k0_pay12, k0_pay13]
  all_goals rw [hb]
  all_goals by_cases hh : j ≤ t
  all_goals simp [hh, Scalar.select]

/-- The block of all heads, from its eight pieces. -/
theorem heads_read (V : Fin 8 → Vec Ideal S1x128x128 .f32) (L : List (View.Piece (Elt Ideal) S8x128x128 .f32)) :
    View.canon (Val := Elt Ideal)
      (⟨Rect.unit ![7, 0, 0] ![1, 128, 128] inb_S8x128x128_S1x128x128_7_0_0, V 7⟩ ::
        ⟨Rect.unit ![6, 0, 0] ![1, 128, 128] inb_S8x128x128_S1x128x128_6_0_0, V 6⟩ ::
        ⟨Rect.unit ![5, 0, 0] ![1, 128, 128] inb_S8x128x128_S1x128x128_5_0_0, V 5⟩ ::
        ⟨Rect.unit ![4, 0, 0] ![1, 128, 128] inb_S8x128x128_S1x128x128_4_0_0, V 4⟩ ::
        ⟨Rect.unit ![3, 0, 0] ![1, 128, 128] inb_S8x128x128_S1x128x128_3_0_0, V 3⟩ ::
        ⟨Rect.unit ![2, 0, 0] ![1, 128, 128] inb_S8x128x128_S1x128x128_2_0_0, V 2⟩ ::
        ⟨Rect.unit ![1, 0, 0] ![1, 128, 128] inb_S8x128x128_S1x128x128_1_0_0, V 1⟩ ::
        ⟨Rect.unit ![0, 0, 0] ![1, 128, 128] inb_S8x128x128_S1x128x128_0_0_0, V 0⟩ :: L)
      = fun y => V (y 0) (ix3 0 (y 1) (y 2)) := by
  rw [← View.read_writes_junk_eq_canon (ms0_17 t0_0).view]
  funext y
  obtain ⟨h, t, j, rfl⟩ : ∃ h t j, y = ix3 h t j := ⟨_, _, _, eq_ix3 y⟩
  generalize (ms0_17 t0_0).view = v
  have hit : ∀ (q : ℕ) (hq : h.val = q) (inb) (w : Vec Ideal S1x128x128 .f32) (L' : List (View.Piece (Elt Ideal) S8x128x128 .f32)),
      v.read (Elt Ideal) (v.writes (Elt Ideal) v.junk (⟨Rect.unit ![q, 0, 0] ![1, 128, 128] inb, w⟩ :: L')) (ix3 h t j) = w (ix3 0 t j) := by
    intro q hq inb w L'
    refine View.read_writes_cons_unit_of_mem v v.junk inb w L' (ix3 h t j) (ix3 0 t j) rfl fun a => ?_
    match a with
    | ⟨0, _⟩ => exact hq
    | ⟨1, _⟩ => exact (Nat.zero_add _).symm
    | ⟨2, _⟩ => exact (Nat.zero_add _).symm
  have miss : ∀ (q : ℕ) (hq : h.val ≠ q) (inb) (w : Vec Ideal S1x128x128 .f32) (L' : List (View.Piece (Elt Ideal) S8x128x128 .f32)),
      v.read (Elt Ideal) (v.writes (Elt Ideal) v.junk (⟨Rect.unit ![q, 0, 0] ![1, 128, 128] inb, w⟩ :: L')) (ix3 h t j)
        = v.read (Elt Ideal) (v.writes (Elt Ideal) v.junk L') (ix3 h t j) := by
    intro q hq inb w L'
    refine View.read_writes_cons_unit_of_not_mem v v.junk inb w L' (ix3 h t j) rfl 0 ?_
    show h.val < q ∨ q + 1 ≤ h.val
    omega
  show _ = V h (ix3 0 t j)
  fin_cases h
  all_goals repeat rw [miss _ (by decide)]
  all_goals exact hit _ rfl _ _ _

end In
end Cert.Kernel2Ideal.Tile
end
-- ==== Proof.Mixer.Stores.lean ====
/- The stores of a point, piece by piece, read back as whole blocks. -/
module

public import proofs.«01_k».proof.Proof.Mixer.Heads

@[expose] public section

set_option maxRecDepth 16384

noncomputable section

namespace Cert.Kernel2Ideal.Tile

open Cert.Kernel2Ideal Cert.Kernel2Ideal.Gen Idealize.ShloMosaic Idealize.ShloMosaic.TcCoe Idealize.SL.Sem

variable (I : In)

namespace In

/-- The projection's gradient in its four column ranges; a point's rows of the gradients it adds into; a head's two chunks. -/
def dpT : Vec Ideal S256x2048 .f32 := fun y =>
  if h : (y 1).val < 512 then I.du (ix2 (y 0) ⟨(y 1).val, h⟩)
  else if h : (y 1).val < 1024 then I.dv (ix2 (y 0) ⟨(y 1).val - 512, by omega⟩)
  else if h : (y 1).val < 1536 then I.dc (ix2 (y 0) ⟨(y 1).val - 1024, by omega⟩)
  else 0
def mgT : Vec Ideal S1x8x1024 .f32 := fun y => if (y 1).val = 2 then I.dGt (ix2 0 (y 2)) else 0
def vgT : Vec Ideal S8x1024 .f32 := fun y => if (y 0).val = 1 then I.dG2 (ix2 0 (y 1)) else 0
def v5T : Vec Ideal S8x512 .f32 := fun y =>
  if (y 0).val = 0 then I.dNg (ix2 0 (y 1))
  else if (y 0).val = 1 then I.dNb (ix2 0 (y 1))
  else if (y 0).val = 2 then I.dBc (ix2 0 (y 1))
  else if (y 0).val = 3 then I.dCg (ix2 0 (y 1))
  else if (y 0).val = 4 then I.dCb (ix2 0 (y 1))
  else if (y 0).val = 5 then I.dOa (ix2 0 (y 1))
  else if (y 0).val = 6 then I.dOb (ix2 0 (y 1))
  else 0
def gwT : Vec Ideal S8x128x128 .f32 := fun y => I.sA (y 0) (y 1) (y 2) + I.sB (y 0) (y 1) (y 2)

/-- A block of rows, or of columns, read after a stored piece: in the piece, or beside it. -/
theorem col_hit {sg : RefSig} {κ : Kind} {sp : Space} (v : View sg κ sp S256x2048 .f32) (f : v.ty.Contents (Elt Ideal)) (q : ℕ)
    (inb) (w : Vec Ideal S256x512 .f32) (L : List (View.Piece (Elt Ideal) S256x2048 .f32)) (p : Fin 256) (j : Fin 2048) (d : Fin 512)
    (hj : j.val = q + d.val) :
    v.read (Elt Ideal) (v.writes (Elt Ideal) f (⟨Rect.unit ![0, q] ![256, 512] inb, w⟩ :: L)) (ix2 p j) = w (ix2 p d) := by
  refine View.read_writes_cons_unit_of_mem v f inb w L (ix2 p j) (ix2 p d) rfl fun a => ?_
  match a with
  | ⟨0, _⟩ => exact (Nat.zero_add _).symm
  | ⟨1, _⟩ => exact hj

theorem col_miss {sg : RefSig} {κ : Kind} {sp : Space} (v : View sg κ sp S256x2048 .f32) (f : v.ty.Contents (Elt Ideal)) (q : ℕ)
    (inb) (w : Vec Ideal S256x512 .f32) (L : List (View.Piece (Elt Ideal) S256x2048 .f32)) (p : Fin 256) (j : Fin 2048)
    (hj : j.val < q ∨ q + 512 ≤ j.val) :
    v.read (Elt Ideal) (v.writes (Elt Ideal) f (⟨Rect.unit ![0, q] ![256, 512] inb, w⟩ :: L)) (ix2 p j)
      = v.read (Elt Ideal) (v.writes (Elt Ideal) f L) (ix2 p j) :=
  View.read_writes_cons_unit_of_not_mem v f inb w L (ix2 p j) rfl 1 hj

theorem row_hit {sg : RefSig} {κ : Kind} {sp : Space} {W : ℕ} (v : View sg κ sp ⟨2, ![8, W]⟩ .f32) (f : v.ty.Contents (Elt Ideal)) (q : ℕ)
    (inb) (w : Vec Ideal ⟨2, ![1, W]⟩ .f32) (L : List (View.Piece (Elt Ideal) ⟨2, ![8, W]⟩ .f32)) (r : Fin 8) (d : Fin W) (hr : r.val = q) :
    v.read (Elt Ideal) (v.writes (Elt Ideal) f (⟨Rect.unit ![q, 0] ![1, W] inb, w⟩ :: L)) (ix2 r d) = w (ix2 0 d) := by
  refine View.read_writes_cons_unit_of_mem v f inb w L (ix2 r d) (ix2 0 d) rfl fun a => ?_
  match a with
  | ⟨0, _⟩ => exact hr
  | ⟨1, _⟩ => exact (Nat.zero_add _).symm

theorem row_miss {sg : RefSig} {κ : Kind} {sp : Space} {W : ℕ} (v : View sg κ sp ⟨2, ![8, W]⟩ .f32) (f : v.ty.Contents (Elt Ideal)) (q : ℕ)
    (inb) (w : Vec Ideal ⟨2, ![1, W]⟩ .f32) (L : List (View.Piece (Elt Ideal) ⟨2, ![8, W]⟩ .f32)) (r : Fin 8) (d : Fin W) (hr : r.val ≠ q) :
    v.read (Elt Ideal) (v.writes (Elt Ideal) f (⟨Rect.unit ![q, 0] ![1, W] inb, w⟩ :: L)) (ix2 r d)
      = v.read (Elt Ideal) (v.writes (Elt Ideal) f L) (ix2 r d) := by
  refine View.read_writes_cons_unit_of_not_mem v f inb w L (ix2 r d) rfl 0 ?_
  show r.val < q ∨ q + 1 ≤ r.val
  omega

theorem dpT_at (p : Fin 256) (j : Fin 2048) :
    I.dpT (ix2 p j) = if h : j.val < 512 then I.du (ix2 p ⟨j.val, h⟩)
      else if h : j.val < 1024 then I.dv (ix2 p ⟨j.val - 512, by omega⟩)
      else if h : j.val < 1536 then I.dc (ix2 p ⟨j.val - 1024, by omega⟩) else 0 := rfl

/-- The projection's gradient, the four pieces together. -/
theorem dp_read :
    View.canon (Val := Elt Ideal)
      [⟨Rect.unit ![0, 1536] ![256, 512] inb_S256x2048_S256x512_0_1536, k0_pay126 (F := Ideal)⟩,
        ⟨Rect.unit ![0, 1024] ![256, 512] inb_S256x2048_S256x512_0_1024, I.dc⟩,
        ⟨Rect.unit ![0, 512] ![256, 512] inb_S256x2048_S256x512_0_512, I.dv⟩,
        ⟨Rect.unit ![0, 0] ![256, 512] inb_S256x2048_S256x512_0_0, I.du⟩] = I.dpT := by
  rw [← View.read_writes_junk_eq_canon (ms0_11 t0_0).view]
  funext y
  obtain ⟨p, j, rfl⟩ : ∃ p j, y = ix2 p j := ⟨_, _, eq_ix2 y⟩
  rw [dpT_at]
  by_cases h0 : j.val < 512
  · rw [col_miss _ _ _ _ _ _ _ _ (by omega), col_miss _ _ _ _ _ _ _ _ (by omega), col_miss _ _ _ _ _ _ _ _ (by omega),
      col_hit _ _ _ _ _ _ p j ⟨j.val, h0⟩ (Nat.zero_add _).symm, dif_pos h0]
  rw [dif_neg h0]
  by_cases h1 : j.val < 1024
  · rw [col_miss _ _ _ _ _ _ _ _ (by omega), col_miss _ _ _ _ _ _ _ _ (by omega),
      col_hit _ _ _ _ _ _ p j ⟨j.val - 512, by omega⟩ (by show j.val = 512 + (j.val - 512); omega), dif_pos h1]
  rw [dif_neg h1]
  by_cases h2 : j.val < 1536
  · rw [col_miss _ _ _ _ _ _ _ _ (by omega),
      col_hit _ _ _ _ _ _ p j ⟨j.val - 1024, by omega⟩ (by show j.val = 1024 + (j.val - 1024); omega), dif_pos h2]
  rw [col_hit _ _ _ _ _ _ p j ⟨j.val - 1536, by omega⟩ (by show j.val = 1536 + (j.val - 1536); omega), dif_neg h2]
  pointwise [k0_pay126]

/-- One row added into the block of the modulation's gradient. -/
theorem mg_read {sg : RefSig} {κ : Kind} {sp : Space} (v : View sg κ sp S1x8x1024 .f32) (f : v.ty.Contents (Elt Ideal))
    (L : List (View.Piece (Elt Ideal) S1x8x1024 .f32)) (Z : Vec Ideal S1x8x1024 .f32) (hL : v.read (Elt Ideal) (v.writes (Elt Ideal) f L) = Z) :
    v.read (Elt Ideal) (v.writes (Elt Ideal) f (
      ⟨Rect.unit ![0, 2, 0] ![1, 1, 1024] inb_S1x8x1024_S1x1x1024_0_2_0,
        k0_pay129 I.dGt (View.ld Z (Rect.unit ![0, 2, 0] ![1, 1, 1024] inb_S1x8x1024_S1x1x1024_0_2_0))⟩ :: L))
      = fun y => Z y + I.mgT y := by
  funext y
  obtain ⟨b, r, d, rfl⟩ : ∃ b r d, y = ix3 b r d := ⟨_, _, _, eq_ix3 y⟩
  obtain rfl : b = 0 := Subsingleton.elim (α := Fin 1) _ _
  by_cases h : r.val = 2
  · refine (View.read_writes_cons_unit_of_mem v f _ _ L (ix3 0 r d) (ix3 0 0 d) rfl fun a => ?_).trans ?_
    rotate_left 1
    · obtain rfl : r = 2 := Fin.ext h
      pointwise [k0_pay129, mgT]
    · match a with
      | ⟨0, _⟩ => rfl
      | ⟨1, _⟩ => exact h
      | ⟨2, _⟩ => exact (Nat.zero_add _).symm
  · rw [View.read_writes_cons_unit_of_not_mem v f _ _ L (ix3 0 r d) rfl 1 (show r.val < 2 ∨ 2 + 1 ≤ r.val by omega), hL]
    exact (((congrArg (Z (ix3 0 r d) + ·) (if_neg h : I.mgT (ix3 0 r d) = 0)).trans (add_zero _))).symm

/-- One row added into the block of the gains' gradient. -/
theorem vg_read {sg : RefSig} {κ : Kind} {sp : Space} (v : View sg κ sp S8x1024 .f32) (f : v.ty.Contents (Elt Ideal))
    (L : List (View.Piece (Elt Ideal) S8x1024 .f32)) (Z : Vec Ideal S8x1024 .f32) (hL : v.read (Elt Ideal) (v.writes (Elt Ideal) f L) = Z) :
    v.read (Elt Ideal) (v.writes (Elt Ideal) f (
      ⟨Rect.unit ![1, 0] ![1, 1024] inb_S8x1024_S1x1024_1_0,
        k0_pay130 I.dG2 (View.ld Z (Rect.unit ![1, 0] ![1, 1024] inb_S8x1024_S1x1024_1_0))⟩ :: L))
      = fun y => Z y + I.vgT y := by
  funext y
  obtain ⟨r, d, rfl⟩ : ∃ r d, y = ix2 r d := ⟨_, _, eq_ix2 y⟩
  by_cases h : r.val = 1
  · rw [row_hit (W := 1024) v f 1 _ _ L r d h]
    obtain rfl : r = 1 := Fin.ext h
    pointwise [k0_pay130, vgT]
  · rw [row_miss (W := 1024) v f 1 _ _ L r d h, hL]
    exact (((congrArg (Z (ix2 r d) + ·) (if_neg h : I.vgT (ix2 r d) = 0)).trans (add_zero _))).symm

/-- Seven rows added into the block of the vectors' gradient. -/
theorem v5_read {sg : RefSig} {κ : Kind} {sp : Space} (v : View sg κ sp S8x512 .f32) (f : v.ty.Contents (Elt Ideal))
    (L : List (View.Piece (Elt Ideal) S8x512 .f32)) (Z : Vec Ideal S8x512 .f32) (hL : v.read (Elt Ideal) (v.writes (Elt Ideal) f L) = Z) :
    v.read (Elt Ideal) (v.writes (Elt Ideal) f (
      ⟨Rect.unit ![6, 0] ![1, 512] inb_S8x512_S1x512_6_0, k0_pay1 I.dOb (View.ld Z (Rect.unit ![6, 0] ![1, 512] inb_S8x512_S1x512_6_0))⟩ ::
      ⟨Rect.unit ![5, 0] ![1, 512] inb_S8x512_S1x512_5_0, k0_pay136 I.dOa (View.ld Z (Rect.unit ![5, 0] ![1, 512] inb_S8x512_S1x512_5_0))⟩ ::
      ⟨Rect.unit ![4, 0] ![1, 512] inb_S8x512_S1x512_4_0, k0_pay135 I.dCb (View.ld Z (Rect.unit ![4, 0] ![1, 512] inb_S8x512_S1x512_4_0))⟩ ::
      ⟨Rect.unit ![3, 0] ![1, 512] inb_S8x512_S1x512_3_0, k0_pay134 I.dCg (View.ld Z (Rect.unit ![3, 0] ![1, 512] inb_S8x512_S1x512_3_0))⟩ ::
      ⟨Rect.unit ![2, 0] ![1, 512] inb_S8x512_S1x512_2_0, k0_pay133 I.dBc (View.ld Z (Rect.unit ![2, 0] ![1, 512] inb_S8x512_S1x512_2_0))⟩ ::
      ⟨Rect.unit ![1, 0] ![1, 512] inb_S8x512_S1x512_1_0, k0_pay132 I.dNb (View.ld Z (Rect.unit ![1, 0] ![1, 512] inb_S8x512_S1x512_1_0))⟩ ::
      ⟨Rect.unit ![0, 0] ![1, 512] inb_S8x512_S1x512_0_0, k0_pay131 I.dNg (View.ld Z (Rect.unit ![0, 0] ![1, 512] inb_S8x512_S1x512_0_0))⟩ :: L))
      = fun y => Z y + I.v5T y := by
  funext y
  obtain ⟨r, d, rfl⟩ : ∃ r d, y = ix2 r d := ⟨_, _, eq_ix2 y⟩
  have hm := fun q inb w L' => row_miss (W := 512) v f q inb w L' r d
  have hh := fun q inb w L' => row_hit (W := 512) v f q inb w L' r d
  fin_cases r
  all_goals repeat rw [hm _ _ _ _ (by decide)]
  rotate_right 1
  · rw [hL]
    exact (add_zero _).symm
  all_goals rw [hh _ _ _ _ rfl]
  all_goals pointwise [v5T, k0_pay1, k0_pay131, k0_pay132, k0_pay133, k0_pay134, k0_pay135, k0_pay136]

/-- The same into a zero fill. -/
theorem mg_first (Z : Vec Ideal S1x8x1024 .f32) :
    View.canon (Val := Elt Ideal)
      [⟨Rect.unit ![0, 2, 0] ![1, 1, 1024] inb_S1x8x1024_S1x1x1024_0_2_0,
          k0_pay129 I.dGt (View.ld Z (Rect.unit ![0, 2, 0] ![1, 1, 1024] inb_S1x8x1024_S1x1x1024_0_2_0))⟩,
        ⟨Rect.unit ![0, 0, 0] ![1, 8, 1024] inb_S1x8x1024_S1x8x1024_0_0_0, Z⟩] = fun y => Z y + I.mgT y := by
  rw [← View.read_writes_junk_eq_canon (ms0_14 t0_0).view]
  exact I.mg_read _ _ [_] Z (View.read_writes_full (s := S1x8x1024) _ _ _ Z _)

theorem vg_first (Z : Vec Ideal S8x1024 .f32) :
    View.canon (Val := Elt Ideal)
      [⟨Rect.unit ![1, 0] ![1, 1024] inb_S8x1024_S1x1024_1_0,
          k0_pay130 I.dG2 (View.ld Z (Rect.unit ![1, 0] ![1, 1024] inb_S8x1024_S1x1024_1_0))⟩,
        ⟨Rect.unit ![0, 0] ![8, 1024] inb_S8x1024_S8x1024_0_0, Z⟩] = fun y => Z y + I.vgT y := by
  rw [← View.read_writes_junk_eq_canon (ms0_15 t0_0).view]
  exact I.vg_read _ _ [_] Z (View.read_writes_full (s := S8x1024) _ _ _ Z _)

theorem v5_first (Z : Vec Ideal S8x512 .f32) :
    View.canon (Val := Elt Ideal)
      [⟨Rect.unit ![6, 0] ![1, 512] inb_S8x512_S1x512_6_0, k0_pay1 I.dOb (View.ld Z (Rect.unit ![6, 0] ![1, 512] inb_S8x512_S1x512_6_0))⟩,
        ⟨Rect.unit ![5, 0] ![1, 512] inb_S8x512_S1x512_5_0, k0_pay136 I.dOa (View.ld Z (Rect.unit ![5, 0] ![1, 512] inb_S8x512_S1x512_5_0))⟩,
        ⟨Rect.unit ![4, 0] ![1, 512] inb_S8x512_S1x512_4_0, k0_pay135 I.dCb (View.ld Z (Rect.unit ![4, 0] ![1, 512] inb_S8x512_S1x512_4_0))⟩,
        ⟨Rect.unit ![3, 0] ![1, 512] inb_S8x512_S1x512_3_0, k0_pay134 I.dCg (View.ld Z (Rect.unit ![3, 0] ![1, 512] inb_S8x512_S1x512_3_0))⟩,
        ⟨Rect.unit ![2, 0] ![1, 512] inb_S8x512_S1x512_2_0, k0_pay133 I.dBc (View.ld Z (Rect.unit ![2, 0] ![1, 512] inb_S8x512_S1x512_2_0))⟩,
        ⟨Rect.unit ![1, 0] ![1, 512] inb_S8x512_S1x512_1_0, k0_pay132 I.dNb (View.ld Z (Rect.unit ![1, 0] ![1, 512] inb_S8x512_S1x512_1_0))⟩,
        ⟨Rect.unit ![0, 0] ![1, 512] inb_S8x512_S1x512_0_0, k0_pay131 I.dNg (View.ld Z (Rect.unit ![0, 0] ![1, 512] inb_S8x512_S1x512_0_0))⟩,
        ⟨Rect.unit ![0, 0] ![8, 512] inb_S8x512_S8x512_0_0, Z⟩] = fun y => Z y + I.v5T y := by
  rw [← View.read_writes_junk_eq_canon (ms0_16 t0_0).view]
  exact I.v5_read _ _ [_] Z (View.read_writes_full (s := S8x512) _ _ _ Z _)

/-- Head `h` of what the block held, and the heads' pieces added into it; at the last point only their causal part stays. -/
def wH (Z : Vec Ideal S8x128x128 .f32) (h : Fin 8) : Vec Ideal S1x128x128 .f32 :=
  View.ld Z (Rect.unit ![h.val, 0, 0] ![1, 128, 128] (by revert h; decide))

theorem ws_at (Z : Vec Ideal S8x128x128 .f32) (h : Fin 8) (t j : Fin 128) :
    I.gB h (I.gA h (wH Z h)) (ix3 0 t j) = Z (ix3 h t j) + I.gwT (ix3 h t j) := by
  show _ = Z (ix3 h t j) + (I.sA h t j + I.sB h t j)
  rw [gB_at, gA_at, add_assoc]
  refine congrArg (· + _) (congrArg Z ?_)
  funext a
  match a with
  | ⟨0, _⟩ => exact Fin.ext (Nat.add_zero _)
  | ⟨1, _⟩ => exact Fin.ext ((Nat.zero_add _).trans (Nat.one_mul _))
  | ⟨2, _⟩ => exact Fin.ext ((Nat.zero_add _).trans (Nat.one_mul _))

theorem ws_step (Z : Vec Ideal S8x128x128 .f32) :
    (fun y : S8x128x128.Idx => I.gB (y 0) (I.gA (y 0) (wH Z (y 0))) (ix3 0 (y 1) (y 2))) = fun y => Z y + I.gwT y := by
  funext y
  obtain ⟨h, t, j, rfl⟩ : ∃ h t j, y = ix3 h t j := ⟨_, _, _, eq_ix3 y⟩
  exact I.ws_at Z h t j

theorem ws_last (Z : Vec Ideal S8x128x128 .f32) :
    (fun y : S8x128x128.Idx => gM (y 0) (I.gB (y 0) (I.gA (y 0) (wH Z (y 0)))) (ix3 0 (y 1) (y 2)))
      = fun y : S8x128x128.Idx => if (y 1).val < (y 2).val then 0 else Z y + I.gwT y := by
  funext y
  obtain ⟨h, t, j, rfl⟩ : ∃ h t j, y = ix3 h t j := ⟨_, _, _, eq_ix3 y⟩
  refine (gM_at h _ t j).trans ?_
  show (if j ≤ t then I.gB h (I.gA h (wH Z h)) (ix3 0 t j) else 0) = if t.val < j.val then 0 else Z (ix3 h t j) + I.gwT (ix3 h t j)
  rw [ws_at]
  by_cases hh : j ≤ t
  · rw [if_pos hh, if_neg (by have := Fin.le_def.mp hh; omega)]
  · rw [if_neg hh, if_pos (by have := fun h => hh (Fin.le_def.mpr h); omega)]

end In
end Cert.Kernel2Ideal.Tile
end
-- ==== Proof.Mixer.Opened.lean ====
/- What the kernel's point leaves in each of its output blocks, over the blocks it read. -/
module

public import proofs.«01_k».proof.Proof.Mixer.Stores

@[expose] public section

set_option maxRecDepth 16384

noncomputable section

namespace Cert.Kernel2Ideal.Opened

open Cert.Kernel2Ideal Cert.Kernel2Ideal.Gen Cert.Kernel2Ideal.Value Cert.Kernel2Ideal.Tile
open Idealize.ShloMosaic Idealize.ShloMosaic.TcCoe Idealize.SL.Sem

variable (m : (ℓ : Loc nD τ sig) → Buf (Elt Ideal) ℓ)

/-- The blocks point `t` reads. -/
def inp (c : Dev nD) (t : Fin cfg0.N) : In :=
  ⟨iblk m c 0 t, iblk m c 1 t, iblk m c 2 t, iblk m c 3 t, iblk m c 4 t, iblk m c 5 t, iblk m c 6 t, iblk m c 7 t, iblk m c 8 t,
    iblk m c 9 t, iblk m c 10 t⟩

/-- The blocks of its own, and those it adds into: these start at zero at the first point of a sequence or of the grid, and the
    last point leaves the causal part of the heads' block and the bias's gradient summed over a head's features. -/
structure Leaves (c : Dev nD) (t : Fin cfg0.N) : Prop where
  dp : (outsAt0 m c t.val t.isLt).1 = (inp m c t).dpT
  dy : (outsAt0 m c t.val t.isLt).2.1 = (inp m c t).dy
  yc : (outsAt0 m c t.val t.isLt).2.2.1 = (inp m c t).yc
  mg : (outsAt0 m c t.val t.isLt).2.2.2.1 = fun y => (if t.val % 8 = 0 then k0_pay128 (F := Ideal) y else (outsAt0 m c (t.val - 1) (by omega)).2.2.2.1 y) + (inp m c t).mgT y
  vg : (outsAt0 m c t.val t.isLt).2.2.2.2.1 = fun y => (if t.val % 16 = 0 then k0_pay71 (F := Ideal) y else (outsAt0 m c (t.val - 1) (by omega)).2.2.2.2.1 y) + (inp m c t).vgT y
  v5 : (outsAt0 m c t.val t.isLt).2.2.2.2.2.1 = fun y => (if t.val % 16 = 0 then k0_pay72 (F := Ideal) y else (outsAt0 m c (t.val - 1) (by omega)).2.2.2.2.2.1 y) + (inp m c t).v5T y
  gw : (outsAt0 m c t.val t.isLt).2.2.2.2.2.2.1 = fun y =>
    if t.val % 16 = 15 ∧ (y 1).val < (y 2).val then 0
    else (if t.val % 16 = 0 then k0_pay69 (F := Ideal) y else (outsAt0 m c (t.val - 1) (by omega)).2.2.2.2.2.2.1 y) + (inp m c t).gwT y
  gb : t.val % 16 = 15 → (outsAt0 m c t.val t.isLt).2.2.2.2.2.2.2.1
    = k0_pay3 (F := Ideal) (inp m c t).es ((inp m c t).dbs (outsAt0 m c (t.val - 1) (by omega)).2.2.2.2.2.2.2.2)
  bs : (outsAt0 m c t.val t.isLt).2.2.2.2.2.2.2.2 = (inp m c t).dbs (if t.val % 16 = 0 then k0_pay70 (F := Ideal) else (outsAt0 m c (t.val - 1) (by omega)).2.2.2.2.2.2.2.2)

set_option maxHeartbeats 16000000 in
theorem leaves (c : Dev nD) (t : Fin cfg0.N) : Leaves m c t := by
  have e0 : iblk m c 0 t = (inp m c t).dx := rfl
  have e1 : iblk m c 1 t = (inp m c t).ym := rfl
  have e2 : iblk m c 2 t = (inp m c t).pj := rfl
  have e3 : iblk m c 3 t = (inp m c t).cv := rfl
  have e4 : iblk m c 4 t = (inp m c t).md := rfl
  have e5 : iblk m c 5 t = (inp m c t).gv := rfl
  have e6 : iblk m c 6 t = (inp m c t).wo := rfl
  have e7 : iblk m c 7 t = (inp m c t).vv := rfl
  have e8 : iblk m c 8 t = (inp m c t).ws := rfl
  have e9 : iblk m c 9 t = (inp m c t).bf := rfl
  have e10 : iblk m c 10 t = (inp m c t).es := rfl
  obtain ⟨h0, h1, h2⟩ | ⟨h0, h1, h2⟩ | ⟨h0, h1, h2⟩ | ⟨h0, h1, h2⟩ :
      (t.val % 16 = 0 ∧ t.val % 8 = 0 ∧ ¬t.val % 16 = 15) ∨ (¬t.val % 16 = 0 ∧ ¬t.val % 8 = 0 ∧ ¬t.val % 16 = 15)
      ∨ (¬t.val % 16 = 0 ∧ t.val % 8 = 0 ∧ ¬t.val % 16 = 15) ∨ (¬t.val % 16 = 0 ∧ ¬t.val % 8 = 0 ∧ t.val % 16 = 15) := by omega
  all_goals constructor
  all_goals try intro hl
  all_goals try exact absurd hl h2
  all_goals first
    | rw [outsAt0_A m c t h0 h1 h2]
    | rw [outsAt0_B m c t h0 h1 h2]
    | rw [outsAt0_C m c t h0 h1 h2]
    | rw [outsAt0_D m c t h0 h1 h2]
  all_goals first
    | simp only [if_neg h0, if_neg h1, h2, false_and, true_and, if_true, if_false]
    | simp only [if_neg h0, if_pos h1, h2, false_and, if_false]
    | simp only [if_pos h0, if_pos h1, h2, false_and, if_false]
    | skip
  all_goals frame_open
  all_goals try simp (disch := decide) only [↓ View.readCov_skip, ↓ View.readCov_cons_toLoadRect, ↓ View.readCov_fill]
  all_goals frame_out
  all_goals try simp only [e0, e1, e2, e3, e4, e5, e6, e7, e8, e9, e10]
  all_goals generalize inp m c t = I
  all_goals try simp (disch := decide) only [In.ld_md, In.ld_gv, In.ld_vv, In.ld_ws, In.ld_u, In.ld_v, Fin.reduceFinMk]
  all_goals try simp only [In.dp_read,
    In.wm0_text, In.wm1_text, In.wm2_text, In.wm3_text, In.wm4_text, In.wm5_text, In.wm6_text, In.wm7_text, In.dGt_text, In.dG2_text,
    In.dy_text, In.dyc_text, In.u_text, In.rv_text, In.vh_text, In.vb_text, In.zA_text, In.z_text, In.ra_text, In.yah_text, In.rc_text,
    In.ch_text, In.c0_text, In.cn_text, In.sg_text, In.rb_text, In.ybh_text, In.yc_text, In.dpa_text, In.dpb_text, In.dOa_text, In.dOb_text,
    In.dyb_text, In.du_text, In.dz_text, In.dzA_text, In.dzAb_text, In.dzBb_text, In.vbA_text, In.vbB_text, In.dvA_text, In.dvB_text,
    In.dvn_text, In.dNg_text, In.dNb_text, In.dv_text, In.dCg_text, In.dCb_text, In.cA_text, In.cB_text, In.dc_text, In.dBc_text,
    In.gA0_text, In.gA1_text, In.gA2_text, In.gA3_text, In.gA4_text, In.gA5_text, In.gA6_text, In.gA7_text, In.gB0_text, In.gB1_text,
    In.gB2_text, In.gB3_text, In.gB4_text, In.gB5_text, In.gB6_text, In.gB7_text, In.gM0_text, In.gM1_text, In.gM2_text, In.gM3_text,
    In.gM4_text, In.gM5_text, In.gM6_text, In.gM7_text, In.dbs_text]
  · exact I.mg_first _
  · exact I.vg_first _
  · exact I.v5_first _
  · exact (In.heads_read (fun h => I.gB h (I.gA h (In.wH _ h))) _).trans (I.ws_step _)
  · exact I.mg_read _ _ [] _ (Memref.IsWhole.read_unread _ _)
  · exact I.vg_read _ _ [] _ (Memref.IsWhole.read_unread _ _)
  · exact I.v5_read _ _ [] _ (Memref.IsWhole.read_unread _ _)
  · exact (In.heads_read (fun h => I.gB h (I.gA h (In.wH _ h))) _).trans (I.ws_step _)
  · exact congrArg I.dbs (Memref.IsWhole.read_unread _ _)
  · exact I.mg_first _
  · exact I.vg_read _ _ [] _ (Memref.IsWhole.read_unread _ _)
  · exact I.v5_read _ _ [] _ (Memref.IsWhole.read_unread _ _)
  · exact (In.heads_read (fun h => I.gB h (I.gA h (In.wH _ h))) _).trans (I.ws_step _)
  · exact congrArg I.dbs (Memref.IsWhole.read_unread _ _)
  · exact I.mg_read _ _ [] _ (Memref.IsWhole.read_unread _ _)
  · exact I.vg_read _ _ [] _ (Memref.IsWhole.read_unread _ _)
  · exact I.v5_read _ _ [] _ (Memref.IsWhole.read_unread _ _)
  · exact (In.heads_read (fun h => In.gM h (I.gB h (I.gA h (In.wH _ h)))) _).trans (I.ws_last _)
  · exact congrArg (fun X => k0_pay3 (F := Ideal) I.es (I.dbs X)) (Memref.IsWhole.read_unread _ _)
  · exact congrArg I.dbs (Memref.IsWhole.read_unread _ _)

end Cert.Kernel2Ideal.Opened
end
-- ==== Proof.Mixer.RefForward.lean ====
/- The reference's arrays at an index, as real numbers: from the projection to the normalised output. -/
module

public import proofs.«01_k».proof.Proof.Gen.Reference2Ideal.Read
public import proofs.«01_k».proof.Proof.Mixer.Model

@[expose] public section

set_option maxRecDepth 16384

noncomputable section

namespace Cert.Reference2Ideal.Rows

open Cert.Reference2Ideal Cert.Reference2Ideal.Gen Cert.Reference2Ideal.Read Idealize.ShloMosaic Mix
open Ffn hiding Args

variable {x0 x18 : FVec Ideal S2x2048x1024 .f32} {x1 x2 x3 : FVec Ideal S2x1024 .f32} {x4 x5 : FVec Ideal S1x1024 .f32}
  {x6 : FVec Ideal S1x1024x2048 .f32} {x7 x8 x12 x13 x14 x15 x16 : FVec Ideal S1x512 .f32} {x9 : FVec Ideal S1x8x128x128 .f32}
  {x10 : FVec Ideal S1x8x128 .f32} {x11 : FVec Ideal S1x31x512 .f32} {x17 : FVec Ideal S1x1024x1024 .f32} {A : Args}

/-- The projection, the convolution with its bias, and the arguments hold the real arrays `A`. -/
structure Reads (A : Args) (x0 : FVec Ideal S2x2048x1024 .f32) (x1 : FVec Ideal S2x1024 .f32) (x2 : FVec Ideal S2x1024 .f32) (x3 : FVec Ideal S2x1024 .f32) (x4 : FVec Ideal S1x1024 .f32) (x5 : FVec Ideal S1x1024 .f32) (x6 : FVec Ideal S1x1024x2048 .f32) (x7 : FVec Ideal S1x512 .f32) (x8 : FVec Ideal S1x512 .f32) (x9 : FVec Ideal S1x8x128x128 .f32) (x10 : FVec Ideal S1x8x128 .f32) (x11 : FVec Ideal S1x31x512 .f32) (x12 : FVec Ideal S1x512 .f32) (x13 : FVec Ideal S1x512 .f32) (x14 : FVec Ideal S1x512 .f32) (x15 : FVec Ideal S1x512 .f32) (x16 : FVec Ideal S1x512 .f32) (x17 : FVec Ideal S1x1024x1024 .f32) (x18 : FVec Ideal S2x2048x1024 .f32) : Prop where
  p : ∀ b s e, val_main_v23 (F := Ideal) x0 x1 x2 x4 x6 (ix3 b s e) = ((A.P (tok b s) e : ℝ) : EReal)
  c : ∀ b s d, val_main_v99 (F := Ideal) x0 x1 x2 x4 x6 x11 x12 (ix3 b s d) = ((A.C (tok b s) d : ℝ) : EReal)
  gt : ∀ b d, x3 (ix2 b d) = ((A.Gt b d : ℝ) : EReal)
  g2 : ∀ d, x5 (ix2 0 d) = ((A.G2 d : ℝ) : EReal)
  ng : ∀ d, x7 (ix2 0 d) = ((A.ng d : ℝ) : EReal)
  nb : ∀ d, x8 (ix2 0 d) = ((A.nb d : ℝ) : EReal)
  ws : ∀ h t j, x9 (ix4 0 h t j) = ((A.Ws h t j : ℝ) : EReal)
  bs : ∀ h t, x10 (ix3 0 h t) = ((A.Bs h t : ℝ) : EReal)
  cg : ∀ d, x13 (ix2 0 d) = ((A.cg d : ℝ) : EReal)
  cb : ∀ d, x14 (ix2 0 d) = ((A.cb d : ℝ) : EReal)
  oa : ∀ d, x15 (ix2 0 d) = ((A.oa d : ℝ) : EReal)
  ob : ∀ d, x16 (ix2 0 d) = ((A.ob d : ℝ) : EReal)
  wo : ∀ k d, x17 (ix3 0 k d) = ((A.Wo k d : ℝ) : EReal)
  e : ∀ b s d, x18 (ix3 b s d) = ((A.E (tok b s) d : ℝ) : EReal)

/-- The comparison of two positions as the signed comparison of their words. -/
theorem causal_bit (t j : Fin 128) : Scalar.select (Scalar.cmpi .sge (BitVec.ofNat 32 t.val + 0#32) (BitVec.ofNat 32 j.val)) 1#1 0#1 = BitVec.ofBool (decide (j ≤ t)) := by
  revert t j; decide +kernel

variable (H : Reads A x0 x1 x2 x3 x4 x5 x6 x7 x8 x9 x10 x11 x12 x13 x14 x15 x16 x17 x18)
include H

theorem v24 (b : Fin 2) (s : Fin 2048) (d : Fin 512) : val_main_v24 (F := Ideal) x0 x1 x2 x4 x6 (ix3 b s d) = ((A.u (tok b s) d : ℝ) : EReal) := by
  pointwise [val_main_v24]
  simp only [H.p, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v25 (b : Fin 2) (s : Fin 2048) (d : Fin 512) : val_main_v25 (F := Ideal) x0 x1 x2 x4 x6 (ix3 b s d) = ((A.v (tok b s) d : ℝ) : EReal) := by
  pointwise [val_main_v25]
  simp only [H.p, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v57 (b : Fin 2) (s : Fin 2048) (d : Fin 512) : val_main_v57 (F := Ideal) x0 x1 x2 x4 x6 (ix3 b s d) = ((cen (A.v (tok b s)) d : ℝ) : EReal) := by
  pointwise [val_main_v57, val_main_v56, val_main_v55, val_main_v53, val_main_v52, val_main_cst_7, val_main_v54, val_main_cst_8]
  simp only [v25 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v64 (b : Fin 2) (s : Fin 2048) : val_main_v64 (F := Ideal) x0 x1 x2 x4 x6 (ix3 b s 0) = ((ms5 (cen (A.v (tok b s))) + eps : ℝ) : EReal) := by
  pointwise [val_main_v64, val_main_v62, val_main_v60, val_main_v59, val_main_v58, val_main_cst_9, val_main_v61, val_main_cst_10, val_main_v63, val_main_cst_11]
  simp only [v57 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v65 (b : Fin 2) (s : Fin 2048) : val_main_v65 (F := Ideal) x0 x1 x2 x4 x6 (ix3 b s 0) = ((inv5 (cen (A.v (tok b s))) : ℝ) : EReal) := by
  pointwise [val_main_v65]
  simp only [v64 H, H.gt, H.g2, H.ng, H.nb, H.ws, H.bs, H.cg, H.cb, H.oa, H.ob, H.wo, H.e, rsqrt_ms5, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v68 (b : Fin 2) (s : Fin 2048) : val_main_v68 (F := Ideal) x0 x1 x2 x4 x6 (ix3 b s 0) = ((-(1 / 2) * (inv5 (cen (A.v (tok b s))) / (ms5 (cen (A.v (tok b s))) + eps)) : ℝ) : EReal) := by
  pointwise [val_main_v68, val_main_v67, val_main_cst_12, val_main_v66]
  simp only [v65 H, v64 H, H.gt, H.g2, H.ng, H.nb, H.ws, H.bs, H.cg, H.cb, H.oa, H.ob, H.wo, H.e, div_pos_real _ _ (ms5_eps_pos _), lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v70 (b : Fin 2) (s : Fin 2048) (d : Fin 512) : val_main_v70 (F := Ideal) x0 x1 x2 x4 x6 (ix3 b s d) = ((A.vh (tok b s) d : ℝ) : EReal) := by
  pointwise [val_main_v70, val_main_v69]
  simp only [v57 H, v65 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v76 (b : Fin 2) (s : Fin 2048) (d : Fin 512) : val_main_v76 (F := Ideal) x0 x1 x2 x4 x6 x7 x8 (ix3 b s d) = ((A.vn (tok b s) d : ℝ) : EReal) := by
  pointwise [val_main_v76, val_main_v73, val_main_v72, val_main_v71, val_main_v50, val_main_v75, val_main_v74, val_main_v51]
  simp only [v70 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v77 (c : Fin 32) (j : Fin 128) (h : Fin 8) (l : Fin 64) : val_main_v77 (F := Ideal) x0 x1 x2 x4 x6 x7 x8 (ix4 c j h l) = ((A.vn (chk c j) (feat h l) : ℝ) : EReal) := by
  pointwise [val_main_v77]
  refine (v76 H ..).trans (congrArg₂ (fun n d => ((A.vn n d : ℝ) : EReal)) (Fin.ext ?_) (Fin.ext ?_))
  · dsimp only [tok, chk]; omega
  · dsimp only [feat]; omega

omit H in
theorem v84_1 (h : Fin 8) (t j : Fin 128) : val_main_v84_1 (F := Ideal) (ix3 h t j) = BitVec.ofBool (decide (j ≤ t)) := by
  pointwise [val_main_v84_1, val_main_v80, val_main_v79, val_main_call2_v4, val_main_call2_v2, val_main_call2_v0, val_main_call2_v1, val_main_call2_c, val_main_call2_v3, val_main_v78, val_main_c_13, val_main_call2_v5, val_main_call2_c_0]
  exact causal_bit t j

theorem v84_0 (h : Fin 8) (t j : Fin 128) : val_main_v84_0 (F := Ideal) x9 (ix3 h t j) = ((A.wm h t j : ℝ) : EReal) := by
  pointwise [val_main_v84_0, val_main_v81, val_main_v83, val_main_cst_14]
  rw [v84_1, H.ws]
  exact select_bit _ _ (0 : ℝ)

theorem v86 (c : Fin 32) (t : Fin 128) (h : Fin 8) (l : Fin 64) : val_main_v86 (F := Ideal) x0 x1 x2 x4 x6 x7 x8 x9 (ix4 c t h l) = ((∑ j : Fin 128, A.wm h t j * A.vn (chk c j) (feat h l) : ℝ) : EReal) := by
  pointwise [val_main_v86, val_main_v85]
  simp only [v77 H, v84_0 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals simp only [mul_comm]

theorem v94 (b : Fin 2) (s : Fin 2048) (d : Fin 512) : val_main_v94 (F := Ideal) x0 x1 x2 x4 x6 x7 x8 x9 x10 (ix3 b s d) = ((A.z (tok b s) d : ℝ) : EReal) := by
  pointwise [val_main_v94, val_main_v93, val_main_v92, val_main_v91, val_main_v90, val_main_v89, val_main_v88, val_main_v87]
  refine (congrArg₂ (· + ·) (v86 H ..) (H.bs ..)).trans ?_
  rw [← EReal.coe_add]
  exact congrArg _ (A.z_at b s d _ _ _ _)

theorem v95 (b : Fin 2) (s : Fin 2048) (d : Fin 512) : val_main_v95 (F := Ideal) x0 x1 x2 x4 x6 x7 x8 x9 x10 (ix3 b s d) = ((A.ya (tok b s) d : ℝ) : EReal) := by
  pointwise [val_main_v95]
  simp only [v24 H, v94 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v107 (b : Fin 2) (s : Fin 2048) (d : Fin 512) : val_main_v107 (F := Ideal) x0 x1 x2 x4 x6 x11 x12 (ix3 b s d) = ((cen (A.C (tok b s)) d : ℝ) : EReal) := by
  pointwise [val_main_v107, val_main_v106, val_main_v105, val_main_v103, val_main_v102, val_main_cst_15, val_main_v104, val_main_cst_16]
  simp only [H.c, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v114 (b : Fin 2) (s : Fin 2048) : val_main_v114 (F := Ideal) x0 x1 x2 x4 x6 x11 x12 (ix3 b s 0) = ((ms5 (cen (A.C (tok b s))) + eps : ℝ) : EReal) := by
  pointwise [val_main_v114, val_main_v112, val_main_v110, val_main_v109, val_main_v108, val_main_cst_17, val_main_v111, val_main_cst_18, val_main_v113, val_main_cst_19]
  simp only [v107 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v115 (b : Fin 2) (s : Fin 2048) : val_main_v115 (F := Ideal) x0 x1 x2 x4 x6 x11 x12 (ix3 b s 0) = ((inv5 (cen (A.C (tok b s))) : ℝ) : EReal) := by
  pointwise [val_main_v115]
  simp only [v114 H, H.gt, H.g2, H.ng, H.nb, H.ws, H.bs, H.cg, H.cb, H.oa, H.ob, H.wo, H.e, rsqrt_ms5, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v118 (b : Fin 2) (s : Fin 2048) : val_main_v118 (F := Ideal) x0 x1 x2 x4 x6 x11 x12 (ix3 b s 0) = ((-(1 / 2) * (inv5 (cen (A.C (tok b s))) / (ms5 (cen (A.C (tok b s))) + eps)) : ℝ) : EReal) := by
  pointwise [val_main_v118, val_main_v117, val_main_cst_20, val_main_v116]
  simp only [v115 H, v114 H, H.gt, H.g2, H.ng, H.nb, H.ws, H.bs, H.cg, H.cb, H.oa, H.ob, H.wo, H.e, div_pos_real _ _ (ms5_eps_pos _), lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v120 (b : Fin 2) (s : Fin 2048) (d : Fin 512) : val_main_v120 (F := Ideal) x0 x1 x2 x4 x6 x11 x12 (ix3 b s d) = ((A.ch (tok b s) d : ℝ) : EReal) := by
  pointwise [val_main_v120, val_main_v119]
  simp only [v107 H, v115 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v126 (b : Fin 2) (s : Fin 2048) (d : Fin 512) : val_main_v126 (F := Ideal) x0 x1 x2 x4 x6 x11 x12 x13 x14 (ix3 b s d) = ((A.cn (tok b s) d : ℝ) : EReal) := by
  pointwise [val_main_v126, val_main_v123, val_main_v122, val_main_v121, val_main_v100, val_main_v125, val_main_v124, val_main_v101]
  simp only [v120 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v127_2 (b : Fin 2) (s : Fin 2048) (d : Fin 512) : val_main_v127_2 (F := Ideal) x0 x1 x2 x4 x6 x11 x12 x13 x14 (ix3 b s d) = ((sgm (A.cn (tok b s) d) : ℝ) : EReal) := by
  pointwise [val_main_v127_2, val_main_call4_v4, val_main_call4_cst_0, val_main_call4_v3, val_main_call4_v2, val_main_call4_cst, val_main_call4_v1, val_main_call4_v0]
  simp only [v126 H, H.gt, H.g2, H.ng, H.nb, H.ws, H.bs, H.cg, H.cb, H.oa, H.ob, H.wo, H.e, Ideal.exp_coe, div_pos_real _ _ (one_add_exp_pos _), one_div, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v127_1 (b : Fin 2) (s : Fin 2048) (d : Fin 512) : val_main_v127_1 (F := Ideal) x0 x1 x2 x4 x6 x11 x12 x13 x14 (ix3 b s d) = ((sgm (A.cn (tok b s) d) * (1 - sgm (A.cn (tok b s) d)) : ℝ) : EReal) := by
  pointwise [val_main_v127_1, val_main_call4_v7, val_main_call4_v6, val_main_call4_cst_1]
  simp only [v127_2 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v127_0 (b : Fin 2) (s : Fin 2048) (d : Fin 512) : val_main_v127_0 (F := Ideal) x0 x1 x2 x4 x6 x11 x12 x13 x14 (ix3 b s d) = ((A.yb (tok b s) d : ℝ) : EReal) := by
  pointwise [val_main_v127_0]
  simp only [v126 H, v127_2 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v135 (b : Fin 2) (s : Fin 2048) : val_main_v135 (F := Ideal) x0 x1 x2 x4 x6 x7 x8 x9 x10 (ix3 b s 0) = ((ms5 (A.ya (tok b s)) + eps : ℝ) : EReal) := by
  pointwise [val_main_v135, val_main_v133, val_main_v131, val_main_v130, val_main_v129, val_main_cst_21, val_main_v132, val_main_cst_22, val_main_v134, val_main_cst_23]
  simp only [v95 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v136 (b : Fin 2) (s : Fin 2048) : val_main_v136 (F := Ideal) x0 x1 x2 x4 x6 x7 x8 x9 x10 (ix3 b s 0) = ((inv5 (A.ya (tok b s)) : ℝ) : EReal) := by
  pointwise [val_main_v136]
  simp only [v135 H, H.gt, H.g2, H.ng, H.nb, H.ws, H.bs, H.cg, H.cb, H.oa, H.ob, H.wo, H.e, rsqrt_ms5, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v139 (b : Fin 2) (s : Fin 2048) : val_main_v139 (F := Ideal) x0 x1 x2 x4 x6 x7 x8 x9 x10 (ix3 b s 0) = ((-(1 / 2) * (inv5 (A.ya (tok b s)) / (ms5 (A.ya (tok b s)) + eps)) : ℝ) : EReal) := by
  pointwise [val_main_v139, val_main_v138, val_main_cst_24, val_main_v137]
  simp only [v136 H, v135 H, H.gt, H.g2, H.ng, H.nb, H.ws, H.bs, H.cg, H.cb, H.oa, H.ob, H.wo, H.e, div_pos_real _ _ (ms5_eps_pos _), lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v141 (b : Fin 2) (s : Fin 2048) (d : Fin 512) : val_main_v141 (F := Ideal) x0 x1 x2 x4 x6 x7 x8 x9 x10 (ix3 b s d) = ((rms (A.ya (tok b s)) d : ℝ) : EReal) := by
  pointwise [val_main_v141, val_main_v140]
  simp only [v95 H, v136 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v152 (b : Fin 2) (s : Fin 2048) : val_main_v152 (F := Ideal) x0 x1 x2 x4 x6 x11 x12 x13 x14 (ix3 b s 0) = ((ms5 (A.yb (tok b s)) + eps : ℝ) : EReal) := by
  pointwise [val_main_v152, val_main_v150, val_main_v148, val_main_v147, val_main_v146, val_main_cst_25, val_main_v149, val_main_cst_26, val_main_v151, val_main_cst_27]
  simp only [v127_0 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v153 (b : Fin 2) (s : Fin 2048) : val_main_v153 (F := Ideal) x0 x1 x2 x4 x6 x11 x12 x13 x14 (ix3 b s 0) = ((inv5 (A.yb (tok b s)) : ℝ) : EReal) := by
  pointwise [val_main_v153]
  simp only [v152 H, H.gt, H.g2, H.ng, H.nb, H.ws, H.bs, H.cg, H.cb, H.oa, H.ob, H.wo, H.e, rsqrt_ms5, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v156 (b : Fin 2) (s : Fin 2048) : val_main_v156 (F := Ideal) x0 x1 x2 x4 x6 x11 x12 x13 x14 (ix3 b s 0) = ((-(1 / 2) * (inv5 (A.yb (tok b s)) / (ms5 (A.yb (tok b s)) + eps)) : ℝ) : EReal) := by
  pointwise [val_main_v156, val_main_v155, val_main_cst_28, val_main_v154]
  simp only [v153 H, v152 H, H.gt, H.g2, H.ng, H.nb, H.ws, H.bs, H.cg, H.cb, H.oa, H.ob, H.wo, H.e, div_pos_real _ _ (ms5_eps_pos _), lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v158 (b : Fin 2) (s : Fin 2048) (d : Fin 512) : val_main_v158 (F := Ideal) x0 x1 x2 x4 x6 x11 x12 x13 x14 (ix3 b s d) = ((rms (A.yb (tok b s)) d : ℝ) : EReal) := by
  pointwise [val_main_v158, val_main_v157]
  simp only [v127_0 H, v153 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v162 (b : Fin 2) (s : Fin 2048) (k : Fin 1024) : val_main_v162 (F := Ideal) x0 x1 x2 x4 x6 x7 x8 x9 x10 x11 x12 x13 x14 x15 x16 (ix3 b s k) = ((A.ycat (tok b s) k : ℝ) : EReal) := by
  pointwise [val_main_v162, val_main_v144, val_main_v143, val_main_v142, val_main_v128, val_main_v161, val_main_v160, val_main_v159, val_main_v145]
  unfold Args.ycat
  split_ifs with h1
  · exact (congrArg₂ (· * ·) (v141 H ..) (H.oa _)).trans (EReal.coe_mul _ _).symm
  all_goals exact (congrArg₂ (· * ·) (v158 H ..) (H.ob _)).trans (EReal.coe_mul _ _).symm

theorem v165 (b : Fin 2) (s : Fin 2048) (d : Fin 1024) : val_main_v165 (F := Ideal) x0 x1 x2 x4 x6 x7 x8 x9 x10 x11 x12 x13 x14 x15 x16 x17 (ix3 b s d) = ((A.y (tok b s) d : ℝ) : EReal) := by
  pointwise [val_main_v165, val_main_v164]
  simp only [v162 H, H.gt, H.g2, H.ng, H.nb, H.ws, H.bs, H.cg, H.cb, H.oa, H.ob, H.wo, H.e, add_zero, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v166 (b : Fin 2) (s : Fin 2048) (d : Fin 1024) : val_main_v166 (F := Ideal) x0 x1 x2 x4 x6 x7 x8 x9 x10 x11 x12 x13 x14 x15 x16 x17 (ix3 b s d) = ((A.y (tok b s) d : ℝ) : EReal) := by
  pointwise [val_main_v166, val_main_v49, val_main_cst_6]
  simp only [v165 H, H.gt, H.g2, H.ng, H.nb, H.ws, H.bs, H.cg, H.cb, H.oa, H.ob, H.wo, H.e, add_zero, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v174 (b : Fin 2) (s : Fin 2048) : val_main_v174 (F := Ideal) x0 x1 x2 x4 x6 x7 x8 x9 x10 x11 x12 x13 x14 x15 x16 x17 (ix3 b s 0) = ((ms (A.y (tok b s)) + eps : ℝ) : EReal) := by
  pointwise [val_main_v174, val_main_v172, val_main_v170, val_main_v169, val_main_v168, val_main_cst_29, val_main_v171, val_main_cst_30, val_main_v173, val_main_cst_31]
  simp only [v166 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v175 (b : Fin 2) (s : Fin 2048) : val_main_v175 (F := Ideal) x0 x1 x2 x4 x6 x7 x8 x9 x10 x11 x12 x13 x14 x15 x16 x17 (ix3 b s 0) = ((inv (A.y (tok b s)) : ℝ) : EReal) := by
  pointwise [val_main_v175]
  simp only [v174 H, H.gt, H.g2, H.ng, H.nb, H.ws, H.bs, H.cg, H.cb, H.oa, H.ob, H.wo, H.e, rsqrt_ms, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v178 (b : Fin 2) (s : Fin 2048) : val_main_v178 (F := Ideal) x0 x1 x2 x4 x6 x7 x8 x9 x10 x11 x12 x13 x14 x15 x16 x17 (ix3 b s 0) = ((-(1 / 2) * (inv (A.y (tok b s)) / (ms (A.y (tok b s)) + eps)) : ℝ) : EReal) := by
  pointwise [val_main_v178, val_main_v177, val_main_cst_32, val_main_v176]
  simp only [v175 H, v174 H, H.gt, H.g2, H.ng, H.nb, H.ws, H.bs, H.cg, H.cb, H.oa, H.ob, H.wo, H.e, div_pos_real _ _ (ms_eps_pos _), lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v180 (b : Fin 2) (s : Fin 2048) (d : Fin 1024) : val_main_v180 (F := Ideal) x0 x1 x2 x4 x6 x7 x8 x9 x10 x11 x12 x13 x14 x15 x16 x17 (ix3 b s d) = ((A.yh (tok b s) d : ℝ) : EReal) := by
  pointwise [val_main_v180, val_main_v179]
  simp only [v166 H, v175 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v183 (b : Fin 2) (s : Fin 2048) (d : Fin 1024) : val_main_v183 (F := Ideal) x0 x1 x2 x4 x5 x6 x7 x8 x9 x10 x11 x12 x13 x14 x15 x16 x17 (ix3 b s d) = ((A.yh (tok b s) d * A.G2 d : ℝ) : EReal) := by
  pointwise [val_main_v183, val_main_v182, val_main_v181, val_main_v167]
  simp only [v180 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

end Cert.Reference2Ideal.Rows
end
-- ==== Proof.Mixer.Host.lean ====
/- What the kernel's host lines prepare: the projection, the convolution and the output projection are the reference's arrays. -/
module

public import proofs.«01_k».proof.Proof.Mixer.Opened
public import proofs.«01_k».proof.Proof.Mixer.RefForward
public import Idealize.ShloMosaic.Lib.StableHlo.RunRead

@[expose] public section

set_option maxRecDepth 16384

noncomputable section

namespace Cert.Kernel2Ideal.Opened

open Cert.Kernel2Ideal Cert.Kernel2Ideal.Gen Cert.Kernel2Ideal.Value Cert.Kernel2Ideal.Tile
open Idealize.ShloMosaic Idealize.ShloMosaic.TcCoe Idealize.SL.Sem Cert.Reference2Ideal.Rows Mix
open Ffn hiding Args

variable (m : (ℓ : Loc nD τ sig) → Buf (Elt Ideal) ℓ)

/-- The arguments of device `c` hold the real arrays `A`. -/
def Given (c : Dev nD) (A : Args) : Prop :=
  Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18))

/-- The buffers before the gate's product over a chunk, and once the gate's sum is there. -/
def V7 (c : Dev nD) : Valuation τ sig (Elt Ideal) :=
  StableHlo.after (List.flatten [hostOps0, hostOps0_1, hostOps0_2, hostOps0_3, hostOps0_4, hostOps0_5, hostOps0_6, hostOps0_7]) (fun b => m (c, b))
def V8 (c : Dev nD) : Valuation τ sig (Elt Ideal) := StableHlo.after (hostOps0_8.take 16) (V7 m c)

/-- And once both branches are normalised, before they are put side by side. -/
def V10 (c : Dev nD) : Valuation τ sig (Elt Ideal) :=
  StableHlo.after (hostOps0_8.drop 16 ++ hostOps0_9 ++ hostOps0_10.take 34) (V8 m c)

theorem V_eq (c : Dev nD) (b : Ref sig .tc) :
    V m c b = StableHlo.after (hostOps0_10.drop 34 ++ List.flatten [hostOps0_11, hostOps0_12]) (V10 m c) b := by
  rw [V10, V8, V7, ← StableHlo.after_append, ← StableHlo.after_append, ← StableHlo.after_append]
  rfl

set_option maxHeartbeats 1000000

/-- The gate's second input normalised and the causal part of the spatial weights. -/
theorem v72 (c : Dev nD) : V7 m c (Proc.devRef .tc main_v72) = Cert.Reference2Ideal.Read.val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) := by
  unfold V7
  after_reads_simp
  rfl

theorem v74 (c : Dev nD) : V7 m c (Proc.devRef .tc main_v74) = transpose S32x8x128x64 [0, 2, 1, 3]
    (Cert.Reference2Ideal.Read.val_main_v77 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8))) transposes_S32x128x8x64_S32x8x128x64_0_2_1_3 := by
  unfold V7
  after_reads_simp
  rfl

theorem v81 (c : Dev nD) : V7 m c (Proc.devRef .tc main_v81) = Cert.Reference2Ideal.Read.val_main_v84_0 (F := Ideal) (m ((c : Thread nD τ).loc main_arg9)) := by
  unfold V7
  after_reads_simp
  rfl

/-- The gate's first input, the convolution, and the gate's sum with its bias. -/
theorem v24 (c : Dev nD) : V8 m c (Proc.devRef .tc main_v24) = Cert.Reference2Ideal.Read.val_main_v24 (F := Ideal) (m ((c : Thread nD τ).loc main_arg0)) (m ((c : Thread nD τ).loc main_arg1)) (m ((c : Thread nD τ).loc main_arg2)) (m ((c : Thread nD τ).loc main_arg4)) (m ((c : Thread nD τ).loc main_arg6)) := by
  unfold V8 V7
  after_reads_simp
  rfl

theorem v48 (c : Dev nD) : V8 m c (Proc.devRef .tc main_v48) = Cert.Reference2Ideal.Read.val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg11)) := by
  unfold V8 V7
  after_reads_simp
  rfl

theorem v96 (c : Dev nD) (A : Args) (H : Given m c A) :
    V8 m c (Proc.devRef .tc main_v96) = Cert.Reference2Ideal.Read.val_main_v94 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨b, s, d, rfl⟩ : ∃ b s d, i = ix3 b s d := ⟨_, _, _, eq_ix3 i⟩
  rw [Cert.Reference2Ideal.Rows.v94 H b s d, V8]
  after_reads_simp
  rw [v74, v81]
  pointwise
  have e1 := Cert.Reference2Ideal.Rows.v84_0 H
  have e2 := Cert.Reference2Ideal.Rows.v77 H
  have h10 : V7 m c (Proc.devRef .tc main_arg10) = m ((c : Thread nD τ).loc main_arg10) := by unfold V7; after_reads_simp
  have e3 : ∀ h t, V7 m c (Proc.devRef .tc main_arg10) (ix3 0 h t) = ((A.Bs h t : ℝ) : EReal) := fun h t => (congrFun h10 _).trans (H.bs h t)
  simp only [e1, e2, ← EReal.coe_mul, coe_sum]
  refine (congrArg (_ + ·) (e3 _ _)).trans ?_
  refine (EReal.coe_add _ _).symm.trans ?_
  exact congrArg _ (A.z_at b s d (by omega) (by omega) (by omega) (by omega))

/-- The arrays the call is given: the projection, the convolution with its bias, and the output projection. -/
theorem v171 (c : Dev nD) : V m c main_v171 = shapeCast _ (Cert.Reference2Ideal.Read.val_main_v23 (F := Ideal) (m ((c : Thread nD τ).loc main_arg0)) (m ((c : Thread nD τ).loc main_arg1)) (m ((c : Thread nD τ).loc main_arg2)) (m ((c : Thread nD τ).loc main_arg4)) (m ((c : Thread nD τ).loc main_arg6))) shapeCasts_S2x2048x2048_S4096x2048 := by
  after_reads_simp
  rfl

theorem v176 (c : Dev nD) : V m c main_v176 = shapeCast _ (Cert.Reference2Ideal.Read.val_main_v99 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg11)) (m ((c : Thread nD τ).loc main_arg12))) shapeCasts_S2x2048x512_S4096x512 := by
  after_reads_simp
  rfl

theorem v140 (c : Dev nD) (A : Args) (H : Given m c A) :
    V10 m c (Proc.devRef .tc main_v140) = Cert.Reference2Ideal.Read.val_main_v144 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) := by
  rw [V10]
  after_reads_simp
  rw [v24, v96 m c A H, show V8 m c (Proc.devRef .tc main_arg15) = m ((c : Thread nD τ).loc main_arg15) by unfold V8 V7; after_reads_simp]
  rfl

theorem v154 (c : Dev nD) :
    V10 m c (Proc.devRef .tc main_v154) = Cert.Reference2Ideal.Read.val_main_v161 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg16)) := by
  rw [V10]
  after_reads_simp
  rw [v48, show V8 m c (Proc.devRef .tc main_arg16) = m ((c : Thread nD τ).loc main_arg16) by unfold V8 V7; after_reads_simp,
    show V8 m c (Proc.devRef .tc main_arg12) = m ((c : Thread nD τ).loc main_arg12) by unfold V8 V7; after_reads_simp,
    show V8 m c (Proc.devRef .tc main_arg13) = m ((c : Thread nD τ).loc main_arg13) by unfold V8 V7; after_reads_simp,
    show V8 m c (Proc.devRef .tc main_arg14) = m ((c : Thread nD τ).loc main_arg14) by unfold V8 V7; after_reads_simp]
  rfl

theorem v170 (c : Dev nD) (A : Args) (H : Given m c A) : V m c main_v170 = shapeCast _ (Cert.Reference2Ideal.Read.val_main_v165 (F := Ideal)
    (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) shapeCasts_S2x2048x1024_S4096x1024 := by
  rw [V_eq]
  after_reads_simp
  rw [show V10 m c (Proc.devRef .tc main_arg17) = m ((c : Thread nD τ).loc main_arg17) by unfold V10 V8 V7; after_reads_simp]
  exact congrArg₂ (fun a b => shapeCast S4096x1024 (Host.dotGeneral (F := Ideal) dot_S2x2048x1024_S1024x1024_S2x2048x1024_2_0_01_1_n_n none
    (concatenate S2x2048x1024 2 [⟨S2x2048x512, a⟩, ⟨S2x2048x512, b⟩] concatenates_S2x2048x512_S2x2048x512_S2x2048x1024_d2)
    (shapeCast S1024x1024 (m ((c : Thread nD τ).loc main_arg17)) shapeCasts_S1x1024x1024_S1024x1024)) shapeCasts_S2x2048x1024_S4096x1024) (v140 m c A H) (v154 m c)

end Cert.Kernel2Ideal.Opened
end
-- ==== Proof.Mixer.HostB.lean ====
/- The other arrays the kernel's host lines prepare, entry by entry. -/
module

public import proofs.«01_k».proof.Proof.Mixer.Host
public import Idealize.ShloMosaic.Lib.StableHlo.RunRead

@[expose] public section

set_option maxRecDepth 16384

noncomputable section

namespace Cert.Kernel2Ideal.Opened

open Cert.Kernel2Ideal Cert.Kernel2Ideal.Gen Cert.Kernel2Ideal.Value Cert.Kernel2Ideal.Tile
open Idealize.ShloMosaic Idealize.ShloMosaic.TcCoe Idealize.SL.Sem Cert.Reference2Ideal.Rows Mix
open Ffn hiding Args

variable {m : (ℓ : Loc nD τ sig) → Buf (Elt Ideal) ℓ}

variable {c : Dev nD} {A : Args}

theorem tok_split (n : Fin 4096) (h1 : n.val / 2048 < 2) (h2 : n.val % 2048 < 2048) : tok ⟨n.val / 2048, h1⟩ ⟨n.val % 2048, h2⟩ = n :=
  Fin.ext (by simp only [tok]; omega)

set_option maxHeartbeats 400000

theorem v169 (H : Given m c A) (n : Fin 4096) (d : Fin 1024) : V m c main_v169 (ix2 n d) = ((A.E n d : ℝ) : EReal) := by
  after_reads_simp
  pointwise
  refine (H.e _ _ d).trans ?_
  rw [tok_split]

theorem v185 (H : Given m c A) (k d : Fin 1024) : V m c main_v185 (ix2 k d) = ((A.Wo k d : ℝ) : EReal) := by
  after_reads_simp
  pointwise
  exact H.wo k d

theorem v186 (H : Given m c A) (h : Fin 8) (t j : Fin 128) : V m c main_v186 (ix3 h t j) = ((A.Ws h t j : ℝ) : EReal) := by
  after_reads_simp
  pointwise
  exact H.ws h t j

theorem v163 (H : Given m c A) (t : Fin 128) (d : Fin 512) : V m c main_v163 (ix2 t d) = ((A.Bs (head d) t : ℝ) : EReal) := by
  after_reads_simp
  pointwise
  exact H.bs (head d) t

/-- The number of a lane divided by sixty-four, as the host's lines find it from signs, quotients and remainders of words, is the lane's head. -/
theorem head_bit : ∀ (d : Fin 512) (h : Fin 8), IntOp.cmpi CmpIPredicate.eq
      (Scalar.select
        (IntOp.andi
          (IntOp.cmpi CmpIPredicate.ne
            (if BitVec.ofNat 32 d.val = 0 then 0 else if (BitVec.ofNat 32 d.val).msb = true then -1 else 1 : BitVec 32)
            (if 64#32 = 0 then 0 else if (64#32).msb = true then -1 else 1 : BitVec 32))
          (IntOp.cmpi CmpIPredicate.ne (IntOp.remsi ArithUnit.host (BitVec.ofNat 32 d.val) 64#32) 0#32))
        (IntOp.subi (IntOp.divsi ArithUnit.host (BitVec.ofNat 32 d.val) 64#32) 1#32)
        (IntOp.divsi ArithUnit.host (BitVec.ofNat 32 d.val) 64#32))
      (BitVec.ofNat 32 h.val) = if head d = h then 1#1 else 0#1 := by
  decide +kernel

theorem bit_one_zero (p : Prop) [Decidable p] : FloatOps.uitofp (F := Ideal) .f32 (if p then 1#1 else 0#1) = ((if p then 1 else 0 : ℝ) : EReal) := by
  split
  · show (((1#1 : BitVec 1).toNat : ℝ) : EReal) = _
    norm_num
  · show (((0#1 : BitVec 1).toNat : ℝ) : EReal) = _
    norm_num

theorem v168 (h : Fin 8) (d : Fin 512) : V m c main_v168 (ix2 h d) = ((if head d = h then 1 else 0 : ℝ) : EReal) := by
  after_reads_simp
  simp only [StableHlo.TRef.ofBuf, StableHlo.TRef.toBuf, StableHlo.TRef.of, cast_cast, cast_eq, id]
  pointwise
  exact (congrArg (FloatOps.uitofp (F := Ideal) .f32) (head_bit d h)).trans (bit_one_zero _)

theorem v159_0 (H : Given m c A) (d : Fin 512) : V m c main_v159 (ix2 0 d) = ((A.ng d : ℝ) : EReal) := by
  after_reads_simp
  pointwise
  exact H.ng d

theorem v159_1 (H : Given m c A) (d : Fin 512) : V m c main_v159 (ix2 1 d) = ((A.nb d : ℝ) : EReal) := by
  after_reads_simp
  pointwise
  exact H.nb d

theorem v159_3 (H : Given m c A) (d : Fin 512) : V m c main_v159 (ix2 3 d) = ((A.cg d : ℝ) : EReal) := by
  after_reads_simp
  pointwise
  exact H.cg d

theorem v159_4 (H : Given m c A) (d : Fin 512) : V m c main_v159 (ix2 4 d) = ((A.cb d : ℝ) : EReal) := by
  after_reads_simp
  pointwise
  exact H.cb d

theorem v159_5 (H : Given m c A) (d : Fin 512) : V m c main_v159 (ix2 5 d) = ((A.oa d : ℝ) : EReal) := by
  after_reads_simp
  pointwise
  exact H.oa d

theorem v159_6 (H : Given m c A) (d : Fin 512) : V m c main_v159 (ix2 6 d) = ((A.ob d : ℝ) : EReal) := by
  after_reads_simp
  pointwise
  exact H.ob d

theorem v181 (H : Given m c A) (b : Fin 2) (d : Fin 1024) : V m c main_v181 (ix3 b 2 d) = ((A.Gt b d : ℝ) : EReal) := by
  after_reads_simp
  pointwise
  rw [StableHlo.unary_result]
  after_region_results
  pointwise
  exact H.gt b d

theorem v183 (H : Given m c A) (d : Fin 1024) : V m c main_v183 (ix2 1 d) = ((A.G2 d : ℝ) : EReal) := by
  after_reads_simp
  pointwise
  exact H.g2 d

theorem v171_at (H : Given m c A) (n : Fin 4096) (e : Fin 2048) : V m c main_v171 (ix2 n e) = ((A.P n e : ℝ) : EReal) := by
  rw [v171]
  pointwise
  refine (H.p _ _ e).trans ?_
  rw [tok_split]

theorem v176_at (H : Given m c A) (n : Fin 4096) (d : Fin 512) : V m c main_v176 (ix2 n d) = ((A.C n d : ℝ) : EReal) := by
  rw [v176]
  pointwise
  refine (H.c _ _ d).trans ?_
  rw [tok_split]

theorem v170_at (H : Given m c A) (n : Fin 4096) (d : Fin 1024) : V m c main_v170 (ix2 n d) = ((A.y n d : ℝ) : EReal) := by
  rw [v170 m c A H]
  pointwise
  refine (Cert.Reference2Ideal.Rows.v165 H _ _ d).trans ?_
  rw [tok_split]

end Cert.Kernel2Ideal.Opened
end
-- ==== Proof.Mixer.TileRows.lean ====
/- The kernel's tile as real numbers: each stage at row `p` of tile `t` is the model's row there. -/
module

public import proofs.«01_k».proof.Proof.Mixer.Stores

@[expose] public section

set_option maxRecDepth 16384

noncomputable section

namespace Cert.Kernel2Ideal.Tile

open Cert.Kernel2Ideal Cert.Kernel2Ideal.Gen Idealize.ShloMosaic Mix
open Ffn hiding Args

/-- The blocks of point `t` hold tile `t` of the arrays. -/
structure Holds (I : In) (A : Args) (t : Fin 16) : Prop where
  dx : ∀ p d, I.dx (ix2 p d) = ((A.E (tile t p) d : ℝ) : EReal)
  ym : ∀ p d, I.ym (ix2 p d) = ((A.y (tile t p) d : ℝ) : EReal)
  pj : ∀ p (d : Fin 1024), I.pj (ix2 p d) = ((A.P (tile t p) ⟨d.val, by omega⟩ : ℝ) : EReal)
  cv : ∀ p d, I.cv (ix2 p d) = ((A.C (tile t p) d : ℝ) : EReal)
  gt : ∀ p d, I.md (ix3 0 2 d) = ((A.Gt (seq (tile t p)) d : ℝ) : EReal)
  g2 : ∀ d, I.gv (ix2 1 d) = ((A.G2 d : ℝ) : EReal)
  wo : ∀ k d, I.wo (ix2 k d) = ((A.Wo k d : ℝ) : EReal)
  ng : ∀ d, I.vv (ix2 0 d) = ((A.ng d : ℝ) : EReal)
  nb : ∀ d, I.vv (ix2 1 d) = ((A.nb d : ℝ) : EReal)
  cg : ∀ d, I.vv (ix2 3 d) = ((A.cg d : ℝ) : EReal)
  cb : ∀ d, I.vv (ix2 4 d) = ((A.cb d : ℝ) : EReal)
  oa : ∀ d, I.vv (ix2 5 d) = ((A.oa d : ℝ) : EReal)
  ob : ∀ d, I.vv (ix2 6 d) = ((A.ob d : ℝ) : EReal)
  ws : ∀ h s j, I.ws (ix3 h s j) = ((A.Ws h s j : ℝ) : EReal)
  bf : ∀ s d, I.bf (ix2 s d) = ((A.Bs (head d) s : ℝ) : EReal)
  es : ∀ h d, I.es (ix2 h d) = ((if head d = h then 1 else 0 : ℝ) : EReal)

/-- Row `s` of the tile's first chunk and of its second; the chunks of the grid they are. -/
def r0 (s : Fin 128) : Fin 256 := ⟨s.val, by omega⟩
def r1 (s : Fin 128) : Fin 256 := ⟨128 + s.val, by omega⟩
def c0 (t : Fin 16) : Fin 32 := ⟨2 * t.val, by omega⟩
def c1 (t : Fin 16) : Fin 32 := ⟨2 * t.val + 1, by omega⟩

theorem tile_r0 (t : Fin 16) (s : Fin 128) : tile t (r0 s) = chk (c0 t) s := Fin.ext (by simp only [tile, r0, chk, c0]; omega)
theorem tile_r1 (t : Fin 16) (s : Fin 128) : tile t (r1 s) = chk (c1 t) s := Fin.ext (by simp only [tile, r1, chk, c1]; omega)
theorem chunk_chk (c : Fin 32) (s : Fin 128) : chunk (chk c s) = c := Fin.ext (by simp only [chunk, chk]; omega)
theorem pos_chk (c : Fin 32) (s : Fin 128) : pos (chk c s) = s := Fin.ext (by simp only [pos, chk]; omega)

/-- The mask of a pair's first half of the lanes. -/
theorem lane (n : ℕ) (h : n < 128) : IntOp.cmpi .slt (BitVec.ofNat 32 n) 64#32 = if n < 64 then 1#1 else 0#1 := by
  have hb : ∀ x : Fin 128, IntOp.cmpi .slt (BitVec.ofNat 32 x.val) 64#32 = if x.val < 64 then 1#1 else 0#1 := by decide
  exact hb ⟨n, h⟩

theorem causal_bit (s j : Fin 128) :
    IntOp.cmpi .sle (BitVec.ofNat 32 j.val) (BitVec.ofNat 32 s.val) = if j ≤ s then 1#1 else 0#1 := by
  have hs : ∀ n : Fin 128, (BitVec.ofNat 32 n.val).toInt = n.val := by decide
  by_cases hh : j ≤ s <;> simp [IntOp.cmpi, BitVec.sle, hs, hh]

/-- A sum over the features that keeps one head's. -/
theorem sum_head (g : Fin 512 → ℝ) (h : Fin 8) : ∑ d, (if head d = h then 1 else 0) * g d = ∑ l, g (feat h l) := by
  have hp : ∑ d, (if head d = h then 1 else 0) * g d = ∑ k : Fin 8, ∑ l : Fin 64, (if k = h then 1 else 0) * g (feat k l) := by
    rw [← Fintype.sum_prod_type' fun (k : Fin 8) (l : Fin 64) => (if k = h then 1 else 0) * g (feat k l)]
    refine (Fintype.sum_equiv (finProdFinEquiv (m := 8) (n := 64)) _ _ fun q => ?_).symm
    have h1 : (finProdFinEquiv q : Fin 512) = feat q.1 q.2 := Fin.ext (by simp [feat, finProdFinEquiv]; omega)
    have h2 : head (feat q.1 q.2) = q.1 := Fin.ext (by simp only [head, feat]; omega)
    rw [h1, h2]
  rw [hp, Finset.sum_eq_single h (fun k _ hk => by simp [hk]) (fun hh => absurd (Finset.mem_univ h) hh)]
  simp

/-- A row of the tile is in its first chunk or in its second. -/
theorem row_cases (p : Fin 256) : (∃ s, p = r0 s) ∨ ∃ s, p = r1 s := by
  by_cases h : p.val < 128
  · exact .inl ⟨⟨p.val, h⟩, rfl⟩
  · exact .inr ⟨⟨p.val - 128, by omega⟩, Fin.ext (by simp only [r1]; omega)⟩

theorem pick (n : ℕ) (h : n < 128) (x y : ℝ) :
    Scalar.select (IntOp.cmpi .slt (BitVec.ofNat 32 n) 64#32) (x : EReal) (y : EReal) = ((if n < 64 then x else y : ℝ) : EReal) := by
  rw [lane n h]
  by_cases hh : n < 64 <;> simp [hh, Scalar.select]

/-- Four pairs of heads side by side: a column holds its own head's number. -/
theorem ladder (G : Fin 8 → Fin 512 → ℝ) (d : Fin 512) :
    (if h : d.val < 128 then
        Scalar.select (IntOp.cmpi .slt (BitVec.ofNat 32 d.val) 64#32) ((G 0 d : ℝ) : EReal) ((G 1 d : ℝ) : EReal)
      else if h : d.val - 128 < 128 then
        Scalar.select (IntOp.cmpi .slt (BitVec.ofNat 32 (d.val - 128)) 64#32) ((G 2 ⟨128 + (d.val - 128), by omega⟩ : ℝ) : EReal)
          ((G 3 ⟨128 + (d.val - 128), by omega⟩ : ℝ) : EReal)
      else if h : d.val - 128 - 128 < 128 then
        Scalar.select (IntOp.cmpi .slt (BitVec.ofNat 32 (d.val - 128 - 128)) 64#32)
          ((G 4 ⟨256 + (d.val - 128 - 128), by omega⟩ : ℝ) : EReal) ((G 5 ⟨256 + (d.val - 128 - 128), by omega⟩ : ℝ) : EReal)
      else
        Scalar.select (IntOp.cmpi .slt (BitVec.ofNat 32 (d.val - 128 - 128 - 128)) 64#32)
          ((G 6 ⟨384 + (d.val - 128 - 128 - 128), by omega⟩ : ℝ) : EReal) ((G 7 ⟨384 + (d.val - 128 - 128 - 128), by omega⟩ : ℝ) : EReal))
      = ((G (head d) d : ℝ) : EReal) := by
  have hg : ∀ (h : Fin 8) (e : Fin 512), h.val = d.val / 64 → e.val = d.val → G h e = G (head d) d := fun h e h1 h2 => by
    rw [Fin.ext (a := h) (b := head d) h1, Fin.ext (a := e) (b := d) h2]
  by_cases a : d.val < 128
  · rw [dif_pos a, pick _ a]
    split_ifs with l
    · rw [hg 0 d (by simp; omega) rfl]
    · rw [hg 1 d (by simp; omega) rfl]
  rw [dif_neg a]
  by_cases b : d.val - 128 < 128
  · rw [dif_pos b, pick _ b]
    split_ifs with l
    · rw [hg 2 _ (by simp; omega) (by simp; omega)]
    · rw [hg 3 _ (by simp; omega) (by simp; omega)]
  rw [dif_neg b]
  by_cases c : d.val - 128 - 128 < 128
  · rw [dif_pos c, pick _ c]
    split_ifs with l
    · rw [hg 4 _ (by simp; omega) (by simp; omega)]
    · rw [hg 5 _ (by simp; omega) (by simp; omega)]
  rw [dif_neg c, pick _ (by omega)]
  split_ifs with l
  · rw [hg 6 _ (by simp; omega) (by simp; omega)]
  · rw [hg 7 _ (by simp; omega) (by simp; omega)]

variable {I : In} {A : Args} {t : Fin 16} (H : Holds I A t)
include H

theorem yr (p : Fin 256) : k0_pay17 I.ym (ix2 p 0) = ((inv (A.y (tile t p)) : ℝ) : EReal) := by
  pointwise [k0_pay17, k0_pay15]
  simp only [H.ym, lit_eps, lit_half, lit_one, lit_zero, lit_1024, lit_512, ← EReal.coe_one, ← EReal.coe_zero, ← EReal.coe_mul, ← EReal.coe_add, ← EReal.coe_sub,
    ← EReal.coe_neg, coe_sum, div_1024, div_512]
  exact rsqrt_ms _

theorem yh (p : Fin 256)(d : Fin 1024) : k0_pay18 I.ym (ix2 p d) = ((A.yh (tile t p) d : ℝ) : EReal) := by
  pointwise [k0_pay18, k0_pay15]
  simp only [H.ym, yr H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dp (p : Fin 256)(d : Fin 1024) : k0_pay20 I.dx (I.mdRow 2) (ix2 p d) = ((A.dp (tile t p) d : ℝ) : EReal) := by
  pointwise [k0_pay20, k0_pay14, In.mdRow]
  simp only [H.dx, H.gt p, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dGt (d : Fin 1024) : I.dGt (ix2 0 d) = ((∑ p, A.tGt (tile t p) d : ℝ) : EReal) := by
  pointwise [In.dGt, k0_pay19, k0_pay14, k0_pay16, In.gvRow]
  simp only [H.dx, yh H, H.g2, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dG2 (d : Fin 1024) : I.dG2 (ix2 0 d) = ((∑ p, A.tG2 (tile t p) d : ℝ) : EReal) := by
  pointwise [In.dG2, k0_pay21]
  simp only [dp H, yh H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dy (p : Fin 256)(d : Fin 1024) : I.dy (ix2 p d) = ((A.dy (tile t p) d : ℝ) : EReal) := by
  pointwise [In.dy, k0_pay22, k0_pay16, In.gvRow]
  simp only [dp H, yh H, yr H, H.g2, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dyc (p : Fin 256) (k : Fin 1024) : I.dyc (ix2 p k) = ((A.dyc (tile t p) k : ℝ) : EReal) := by
  pointwise [In.dyc, k0_pay23]
  simp only [dy H, H.wo, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem u (p : Fin 256)(d : Fin 512) : I.u (ix2 p d) = ((A.u (tile t p) d : ℝ) : EReal) := by
  pointwise [In.u, In.u0, k0_pay24]
  simp only [H.pj, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem v (p : Fin 256)(d : Fin 512) : I.v0 (ix2 p d) = ((A.v (tile t p) d : ℝ) : EReal) := by
  pointwise [In.v0]
  simp only [H.pj, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem vc (p : Fin 256)(d : Fin 512) : k0_pay25 I.v0 (ix2 p d) = ((cen (A.v (tile t p)) d : ℝ) : EReal) := by
  pointwise [k0_pay25]
  simp only [v H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem rv (p : Fin 256) : I.rv (ix2 p 0) = ((inv5 (cen (A.v (tile t p))) : ℝ) : EReal) := by
  pointwise [In.rv, k0_pay26]
  simp only [vc H, lit_eps, lit_half, lit_one, lit_zero, lit_1024, lit_512, ← EReal.coe_one, ← EReal.coe_zero, ← EReal.coe_mul, ← EReal.coe_add, ← EReal.coe_sub,
    ← EReal.coe_neg, coe_sum, div_1024, div_512]
  exact rsqrt_ms5 _

theorem vh (p : Fin 256)(d : Fin 512) : I.vh (ix2 p d) = ((A.vh (tile t p) d : ℝ) : EReal) := by
  pointwise [In.vh, k0_pay27]
  simp only [vc H, In.rv_text, rv H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem vb (p : Fin 256)(d : Fin 512) : I.vb (ix2 p d) = ((A.vn (tile t p) d : ℝ) : EReal) := by
  pointwise [In.vb, k0_pay28, In.vRow]
  simp only [In.vh_text, vh H, H.ng, H.nb, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem wm (h : Fin 8) (s j : Fin 128) : I.wm h (ix2 s j) = ((A.wm h s j : ℝ) : EReal) := by
  pointwise [In.wm, k0_pay33, k0_pay29, In.wsH]
  rw [causal_bit, H.ws, Args.wm]
  by_cases hh : j ≤ s <;> simp [hh, Scalar.select]

theorem zA (s : Fin 128) (d : Fin 512) : I.zA (ix2 s d) = ((A.z (tile t (r0 s)) d : ℝ) : EReal) := by
  pointwise [In.zA, k0_pay40]
  simp only [In.wm7_text, wm H, vb H, H.bf, ← EReal.coe_mul, coe_sum]
  refine (congrArg (· + _) (ladder (fun h e => ∑ x, A.wm h s x * A.vn (tile t (r0 x)) e) d)).trans ?_
  rw [← EReal.coe_add, Args.z, tile_r0, chunk_chk, pos_chk]
  simp only [tile_r0]

theorem z1 (s : Fin 128) (d : Fin 512) : I.z (ix2 (r1 s) d) = ((A.z (tile t (r1 s)) d : ℝ) : EReal) := by
  have hs : ¬ 128 + s.val < 128 := by omega
  pointwise [In.z, k0_pay47, r1, k0_pay43, k0_pay44, k0_pay42, k0_pay46, k0_pay45, k0_pay41]
  simp only [wm H, vb H, H.bf, ← EReal.coe_mul, coe_sum]
  refine (congrArg (· + _) (ladder (fun h e => ∑ x, A.wm h s x * A.vn (tile t (r1 x)) e) d)).trans ?_
  rw [← EReal.coe_add]
  show _ = ((A.z (tile t (r1 s)) d : ℝ) : EReal)
  rw [Args.z, tile_r1, chunk_chk, pos_chk]
  simp only [tile_r1]

theorem z0 (s : Fin 128) (d : Fin 512) : I.z (ix2 (r0 s) d) = ((A.z (tile t (r0 s)) d : ℝ) : EReal) := by
  refine Eq.trans ?_ (zA H s d)
  pointwise [In.z, k0_pay47, r0]
  all_goals rfl

theorem z (p : Fin 256) (d : Fin 512) : I.z (ix2 p d) = ((A.z (tile t p) d : ℝ) : EReal) := by
  rcases row_cases p with ⟨s, rfl⟩ | ⟨s, rfl⟩
  · exact z0 H s d
  · exact z1 H s d

theorem ya (p : Fin 256)(d : Fin 512) : I.u (ix2 p d) * I.z (ix2 p d) = ((A.ya (tile t p) d : ℝ) : EReal) := by
  simp only [u H, z H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem ra (p : Fin 256) : I.ra (ix2 p 0) = ((inv5 (A.ya (tile t p)) : ℝ) : EReal) := by
  pointwise [In.ra, k0_pay49, k0_pay48]
  simp only [In.z_text, ya H, lit_eps, lit_half, lit_one, lit_zero, lit_1024, lit_512, ← EReal.coe_one, ← EReal.coe_zero, ← EReal.coe_mul, ← EReal.coe_add, ← EReal.coe_sub,
    ← EReal.coe_neg, coe_sum, div_1024, div_512]
  exact rsqrt_ms5 _

theorem yah (p : Fin 256)(d : Fin 512) : I.yah (ix2 p d) = ((rms (A.ya (tile t p)) d : ℝ) : EReal) := by
  pointwise [In.yah, k0_pay50, k0_pay48]
  simp only [In.z_text, In.ra_text, ra H, ya H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem cc (p : Fin 256)(d : Fin 512) : k0_pay51 I.cv (ix2 p d) = ((cen (A.C (tile t p)) d : ℝ) : EReal) := by
  pointwise [k0_pay51]
  simp only [H.cv, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem rc (p : Fin 256) : I.rc (ix2 p 0) = ((inv5 (cen (A.C (tile t p))) : ℝ) : EReal) := by
  pointwise [In.rc, k0_pay52]
  simp only [cc H, lit_eps, lit_half, lit_one, lit_zero, lit_1024, lit_512, ← EReal.coe_one, ← EReal.coe_zero, ← EReal.coe_mul, ← EReal.coe_add, ← EReal.coe_sub,
    ← EReal.coe_neg, coe_sum, div_1024, div_512]
  exact rsqrt_ms5 _

theorem ch (p : Fin 256)(d : Fin 512) : I.ch (ix2 p d) = ((A.ch (tile t p) d : ℝ) : EReal) := by
  pointwise [In.ch, k0_pay53]
  simp only [cc H, In.rc_text, rc H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem cn (p : Fin 256)(d : Fin 512) : I.cn (ix2 p d) = ((A.cn (tile t p) d : ℝ) : EReal) := by
  pointwise [In.cn, k0_pay55, In.c0, k0_pay54, In.vRow]
  simp only [ch H, H.cg, H.cb, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem sg (p : Fin 256)(d : Fin 512) : I.sg (ix2 p d) = ((sgm (A.cn (tile t p) d) : ℝ) : EReal) := by
  pointwise [In.sg, k0_pay56]
  simp only [In.cn_text, cn H, Ideal.tanh_coe, lit_eps, lit_half, lit_one, lit_zero, lit_1024, lit_512, ← EReal.coe_one, ← EReal.coe_zero, ← EReal.coe_mul, ← EReal.coe_add, ← EReal.coe_sub,
    ← EReal.coe_neg, coe_sum, div_1024, div_512]
  rw [sgm_tanh]

theorem yb (p : Fin 256)(d : Fin 512) : k0_pay57 I.ch I.c0 (I.vRow 4) (ix2 p d) = ((A.yb (tile t p) d : ℝ) : EReal) := by
  pointwise [k0_pay57]
  simp only [In.cn_text, In.sg_text, cn H, sg H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem rb (p : Fin 256) : I.rb (ix2 p 0) = ((inv5 (A.yb (tile t p)) : ℝ) : EReal) := by
  pointwise [In.rb, k0_pay58]
  simp only [yb H, lit_eps, lit_half, lit_one, lit_zero, lit_1024, lit_512, ← EReal.coe_one, ← EReal.coe_zero, ← EReal.coe_mul, ← EReal.coe_add, ← EReal.coe_sub,
    ← EReal.coe_neg, coe_sum, div_1024, div_512]
  exact rsqrt_ms5 _

theorem ybh (p : Fin 256)(d : Fin 512) : I.ybh (ix2 p d) = ((rms (A.yb (tile t p)) d : ℝ) : EReal) := by
  pointwise [In.ybh, k0_pay59]
  simp only [yb H, In.rb_text, rb H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem yc (p : Fin 256) (k : Fin 1024) : I.yc (ix2 p k) = ((A.ycat (tile t p) k : ℝ) : EReal) := by
  have h5 : ∀ d, I.vRow 5 (ix2 0 d) = ((A.oa d : ℝ) : EReal) := fun d => by
    pointwise [In.vRow]
    exact H.oa d
  have h6 : ∀ d, I.vRow 6 (ix2 0 d) = ((A.ob d : ℝ) : EReal) := fun d => by
    pointwise [In.vRow]
    exact H.ob d
  pointwise [In.yc, k0_pay60]
  simp only [In.ybh_text, yah H, ybh H, h5, h6, ← EReal.coe_mul]
  rw [Args.ycat]
  split_ifs <;> rfl

theorem dpa (p : Fin 256)(d : Fin 512) : I.dpa (ix2 p d) = ((A.dyc (tile t p) (Mix.cA d) : ℝ) : EReal) := by
  pointwise [In.dpa, k0_pay61]
  simp only [dyc H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dpb (p : Fin 256)(d : Fin 512) : I.dpb (ix2 p d) = ((A.dyc (tile t p) (Mix.cB d) : ℝ) : EReal) := by
  pointwise [In.dpb, k0_pay62]
  simp only [dyc H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dOa (d : Fin 512) : I.dOa (ix2 0 d) = ((∑ p, A.tVec (tile t p) 5 d : ℝ) : EReal) := by
  pointwise [In.dOa, k0_pay63]
  simp only [In.dpa_text, dpa H, yah H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dOb (d : Fin 512) : I.dOb (ix2 0 d) = ((∑ p, A.tVec (tile t p) 6 d : ℝ) : EReal) := by
  pointwise [In.dOb, k0_pay64]
  simp only [In.dpb_text, In.ybh_text, dpb H, ybh H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dya (p : Fin 256)(d : Fin 512) : k0_pay65 I.ra I.yah I.dpa (I.vRow 5) (ix2 p d) = ((A.dya (tile t p) d : ℝ) : EReal) := by
  pointwise [k0_pay65, In.vRow]
  simp only [dpa H, yah H, ra H, H.oa, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dyb (p : Fin 256)(d : Fin 512) : I.dyb (ix2 p d) = ((A.dyb (tile t p) d : ℝ) : EReal) := by
  pointwise [In.dyb, k0_pay66, In.vRow]
  simp only [dpb H, ybh H, rb H, H.ob, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem du (p : Fin 256)(d : Fin 512) : I.du (ix2 p d) = ((A.du (tile t p) d : ℝ) : EReal) := by
  pointwise [In.du, k0_pay67]
  simp only [dya H, z H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dz (p : Fin 256)(d : Fin 512) : I.dz (ix2 p d) = ((A.dz (tile t p) d : ℝ) : EReal) := by
  pointwise [In.dz, k0_pay68]
  simp only [dya H, u H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dzA (s : Fin 128) (d : Fin 512) : I.dzA (ix2 s d) = ((A.dz (tile t (r0 s)) d : ℝ) : EReal) := by
  pointwise [In.dzA, k0_pay74]
  simp only [In.dz_text, dz H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dzBb (s : Fin 128) (d : Fin 512) : I.dzBb (ix2 s d) = ((A.dz (tile t (r1 s)) d : ℝ) : EReal) := by
  pointwise [In.dzBb, k0_pay95, k0_pay92]
  simp only [dz H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem vbA (s : Fin 128) (d : Fin 512) : I.vbA (ix2 s d) = ((A.vn (tile t (r0 s)) d : ℝ) : EReal) := by
  pointwise [In.vbA, k0_pay75]
  simp only [vb H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem vbB (s : Fin 128) (d : Fin 512) : I.vbB (ix2 s d) = ((A.vn (tile t (r1 s)) d : ℝ) : EReal) := by
  pointwise [In.vbB, k0_pay93]
  simp only [vb H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dvA (s : Fin 128) (d : Fin 512) : I.dvA (ix2 s d) = ((A.dvn (tile t (r0 s)) d : ℝ) : EReal) := by
  pointwise [In.dvA, k0_pay79, k0_pay78]
  simp only [wm H, dzA H, ← EReal.coe_mul, coe_sum]
  refine (ladder (fun h e => ∑ x, A.wm h x s * A.dz (tile t (r0 x)) e) d).trans ?_
  rw [Args.dvn, tile_r0, chunk_chk, pos_chk]
  simp only [tile_r0]

theorem dvB (s : Fin 128) (d : Fin 512) : I.dvB (ix2 s d) = ((A.dvn (tile t (r1 s)) d : ℝ) : EReal) := by
  pointwise [In.dvB, k0_pay102, k0_pay97, k0_pay98, k0_pay96, k0_pay101, k0_pay100, k0_pay99, k0_pay95, k0_pay92]
  simp only [wm H, dz H, ← EReal.coe_mul, coe_sum]
  refine (ladder (fun h e => ∑ x, A.wm h x s * A.dz (tile t (r1 x)) e) d).trans ?_
  rw [Args.dvn, tile_r1, chunk_chk, pos_chk]
  simp only [tile_r1]

theorem dvn (p : Fin 256) (d : Fin 512) : I.dvn (ix2 p d) = ((A.dvn (tile t p) d : ℝ) : EReal) := by
  rcases row_cases p with ⟨s, rfl⟩ | ⟨s, rfl⟩
  · refine Eq.trans ?_ (dvA H s d)
    pointwise [In.dvn, k0_pay115, r0]
    all_goals rfl
  · have hs : ¬ 128 + s.val < 128 := by omega
    refine Eq.trans ?_ (dvB H s d)
    pointwise [In.dvn, k0_pay115, r1]
    all_goals rfl

theorem dNg (d : Fin 512) : I.dNg (ix2 0 d) = ((∑ p, A.tVec (tile t p) 0 d : ℝ) : EReal) := by
  pointwise [In.dNg, k0_pay116]
  simp only [In.dvn_text, dvn H, vh H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dNb (d : Fin 512) : I.dNb (ix2 0 d) = ((∑ p, A.tVec (tile t p) 1 d : ℝ) : EReal) := by
  pointwise [In.dNb, k0_pay117]
  simp only [In.dvn_text, dvn H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dv (p : Fin 256)(d : Fin 512) : I.dv (ix2 p d) = ((A.dv (tile t p) d : ℝ) : EReal) := by
  pointwise [In.dv, k0_pay118, In.vRow]
  simp only [dvn H, vh H, rv H, H.ng, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dcn (p : Fin 256)(d : Fin 512) : k0_pay119 I.cn I.sg I.dyb (ix2 p d) = ((A.dcn (tile t p) d : ℝ) : EReal) := by
  pointwise [k0_pay119]
  simp only [cn H, sg H, dyb H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dCg (d : Fin 512) : I.dCg (ix2 0 d) = ((∑ p, A.tVec (tile t p) 3 d : ℝ) : EReal) := by
  pointwise [In.dCg, k0_pay120]
  simp only [dcn H, ch H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dCb (d : Fin 512) : I.dCb (ix2 0 d) = ((∑ p, A.tVec (tile t p) 4 d : ℝ) : EReal) := by
  pointwise [In.dCb, k0_pay121]
  simp only [dcn H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem cG (p : Fin 256)(d : Fin 512) : k0_pay122 I.cn I.sg I.dyb (I.vRow 3) (ix2 p d) = ((A.dcn (tile t p) d * A.cg d : ℝ) : EReal) := by
  pointwise [k0_pay122, In.vRow]
  simp only [dcn H, H.cg, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem cA (p : Fin 256)(d : Fin 512) : I.cA (ix2 p d) = ((A.dcn (tile t p) d * A.cg d - (∑ k, A.dcn (tile t p) k * A.cg k) / 512 : ℝ) : EReal) := by
  pointwise [In.cA, k0_pay123]
  simp only [cG H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem cB (p : Fin 256)(d : Fin 512) : I.cB (ix2 p d) = ((A.dcn (tile t p) d * A.cg d * A.ch (tile t p) d : ℝ) : EReal) := by
  pointwise [In.cB, k0_pay124]
  simp only [cG H, ch H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dc (p : Fin 256)(d : Fin 512) : I.dc (ix2 p d) = ((A.dc (tile t p) d : ℝ) : EReal) := by
  pointwise [In.dc, k0_pay125]
  simp only [rc H, ch H, cA H, cB H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dBc (d : Fin 512) : I.dBc (ix2 0 d) = ((∑ p, A.tVec (tile t p) 2 d : ℝ) : EReal) := by
  pointwise [In.dBc, k0_pay127]
  simp only [In.dc_text, dc H, lit_eps, lit_half, lit_one, lit_zero, lit_1024, lit_512, ← EReal.coe_one, ← EReal.coe_zero, ← EReal.coe_mul, ← EReal.coe_add, ← EReal.coe_sub,
    ← EReal.coe_neg, coe_sum, div_1024, div_512]
  all_goals rfl

theorem dpT (p : Fin 256) (j : Fin 2048) : I.dpT (ix2 p j) = ((A.part (tile t p) j : ℝ) : EReal) := by
  rw [In.dpT_at, Args.part]
  simp only [du H, dv H, dc H]
  split_ifs <;> rfl

theorem mgT (r : Fin 8) (d : Fin 1024) :
    I.mgT (ix3 0 r d) = ((if r.val = 2 then ∑ p, A.tGt (tile t p) d else 0 : ℝ) : EReal) := by
  show (if r.val = 2 then I.dGt (ix2 0 d) else 0) = _
  rw [dGt H]
  split_ifs <;> rfl

theorem vgT (r : Fin 8) (d : Fin 1024) :
    I.vgT (ix2 r d) = ((if r.val = 1 then ∑ p, A.tG2 (tile t p) d else 0 : ℝ) : EReal) := by
  show (if r.val = 1 then I.dG2 (ix2 0 d) else 0) = _
  rw [dG2 H]
  split_ifs <;> rfl

theorem v5T (r : Fin 8) (d : Fin 512) : I.v5T (ix2 r d) = ((∑ p, A.tVec (tile t p) r d : ℝ) : EReal) := by
  fin_cases r
  · exact dNg H d
  · exact dNb H d
  · exact dBc H d
  · exact dCg H d
  · exact dCb H d
  · exact dOa H d
  · exact dOb H d
  · refine Eq.trans (b := (0 : EReal)) rfl ?_
    rw [Finset.sum_eq_zero fun p _ => ?_, EReal.coe_zero]
    rfl

/-- What chunk `c` gives the spatial weights' gradient before its causal part is taken, and their bias's. -/
def gwC (A : Args) (c : Fin 32) (h : Fin 8) (s j : Fin 128) : ℝ := ∑ l, A.dz (chk c s) (feat h l) * A.vn (chk c j) (feat h l)

theorem gwT (h : Fin 8) (s j : Fin 128) : I.gwT (ix3 h s j) = ((gwC A (c0 t) h s j + gwC A (c1 t) h s j : ℝ) : EReal) := by
  show I.sA h s j + I.sB h s j = _
  simp only [In.sA, In.sB, dzA H, vbA H, dzBb H, vbB H, ← EReal.coe_mul, coe_sum, ← EReal.coe_add, tile_r0, tile_r1, gwC]

theorem dbs (X : Vec Ideal S128x512 .f32) (s : Fin 128) (d : Fin 512) :
    I.dbs X (ix2 s d) = X (ix2 s d) + ((A.dz (chk (c0 t) s) d + A.dz (chk (c1 t) s) d : ℝ) : EReal) := by
  pointwise [In.dbs, k0_pay94, k0_pay92, k0_pay77, k0_pay76, k0_pay74]
  rw [In.dz_text, show (⟨s.val, by omega⟩ : Fin 256) = r0 s from rfl, show (⟨128 + s.val, by omega⟩ : Fin 256) = r1 s from rfl,
    dz H, dz H, tile_r0, tile_r1, add_assoc, EReal.coe_add]

theorem gb (X : Vec Ideal S128x512 .f32) (f : Fin 128 → Fin 512 → ℝ) (hX : ∀ s d, X (ix2 s d) = ((f s d : ℝ) : EReal)) (h : Fin 8) (s : Fin 128) :
    k0_pay3 I.es X (ix2 h s) = ((∑ l, f s (feat h l) : ℝ) : EReal) := by
  pointwise [k0_pay3]
  simp only [H.es, hX, ← EReal.coe_mul, coe_sum, sum_head]

end Cert.Kernel2Ideal.Tile
end
-- ==== Proof.Mixer.Blocks.lean ====
/- The blocks a point reads, out of the arrays the host prepares: rows `256·t + p` of the tokens. -/
module

public import proofs.«01_k».proof.Proof.Mixer.HostB
public import proofs.«01_k».proof.Proof.Mixer.TileRows

@[expose] public section

set_option maxRecDepth 16384

noncomputable section

namespace Cert.Kernel2Ideal.Opened

open Cert.Kernel2Ideal Cert.Kernel2Ideal.Gen Cert.Kernel2Ideal.Value Cert.Kernel2Ideal.Tile
open Idealize.ShloMosaic Idealize.ShloMosaic.TcCoe Idealize.SL.Sem Mix
open Ffn hiding Args

variable {m : (ℓ : Loc nD τ sig) → Buf (Elt Ideal) ℓ} {c : Dev nD} {A : Args}

theorem idx : ∀ t : Fin cfg0.N, win0_0.index t = ![t.val, 0] ∧ win0_1.index t = ![t.val, 0] ∧ win0_2.index t = ![t.val, 0] ∧ win0_3.index t = ![t.val, 0]
    ∧ win0_4.index t = ![t.val / 8, 0, 0] ∧ win0_5.index t = ![0, 0] ∧ win0_6.index t = ![0, 0] ∧ win0_7.index t = ![0, 0]
    ∧ win0_8.index t = ![0, 0, 0] ∧ win0_9.index t = ![0, 0] ∧ win0_10.index t = ![0, 0] :=
  (by decide +kernel : ∀ t : Fin grid0.N, _)

/-- The point as one of the sixteen. -/
def pt (t : Fin cfg0.N) : Fin 16 := ⟨t.val, by have := t.isLt; have : cfg0.N = 16 := N_0; omega⟩

theorem md_blk (t : Fin cfg0.N) (r : Fin 8) (d : Fin 1024) (b : Fin 2) (hb : b.val = t.val / 8) : (inp m c t).md (ix3 0 r d) = V m c main_v181 (ix3 b r d) := by
  show (V m c main_v181) _ = _
  generalize V m c main_v181 = Y
  blk_ext [idx t, hb]

theorem gv_blk (t : Fin cfg0.N) (r : Fin 8) (d : Fin 1024) : (inp m c t).gv (ix2 r d) = V m c main_v183 (ix2 r d) := by
  show (V m c main_v183) _ = _
  generalize V m c main_v183 = Y
  blk_ext [idx t]

theorem vv_blk (t : Fin cfg0.N) (r : Fin 8) (d : Fin 512) : (inp m c t).vv (ix2 r d) = V m c main_v159 (ix2 r d) := by
  show (V m c main_v159) _ = _
  generalize V m c main_v159 = Y
  blk_ext [idx t]

theorem dx_blk (t : Fin cfg0.N) (p : Fin 256) (d : Fin 1024) : (inp m c t).dx (ix2 p d) = V m c main_v169 (ix2 (tile (pt t) p) d) := by
  show (V m c main_v169) _ = _
  generalize V m c main_v169 = Y
  blk_ext [idx t, tile, pt]

theorem ym_blk (t : Fin cfg0.N) (p : Fin 256) (d : Fin 1024) : (inp m c t).ym (ix2 p d) = V m c main_v170 (ix2 (tile (pt t) p) d) := by
  show (V m c main_v170) _ = _
  generalize V m c main_v170 = Y
  blk_ext [idx t, tile, pt]

theorem pj_blk (t : Fin cfg0.N) (p : Fin 256) (d : Fin 1024) : (inp m c t).pj (ix2 p d) = V m c main_v171 (ix2 (tile (pt t) p) ⟨d.val, by omega⟩) := by
  show (V m c main_v171) _ = _
  generalize V m c main_v171 = Y
  blk_ext [idx t, tile, pt]

theorem cv_blk (t : Fin cfg0.N) (p : Fin 256) (d : Fin 512) : (inp m c t).cv (ix2 p d) = V m c main_v176 (ix2 (tile (pt t) p) d) := by
  show (V m c main_v176) _ = _
  generalize V m c main_v176 = Y
  blk_ext [idx t, tile, pt]

theorem wo_blk (t : Fin cfg0.N) (k d : Fin 1024) : (inp m c t).wo (ix2 k d) = V m c main_v185 (ix2 k d) := by
  show (V m c main_v185) _ = _
  generalize V m c main_v185 = Y
  blk_ext [idx t]

theorem ws_blk (t : Fin cfg0.N) (h : Fin 8) (s j : Fin 128) : (inp m c t).ws (ix3 h s j) = V m c main_v186 (ix3 h s j) := by
  show (V m c main_v186) _ = _
  generalize V m c main_v186 = Y
  blk_ext [idx t]

theorem bf_blk (t : Fin cfg0.N) (s : Fin 128) (d : Fin 512) : (inp m c t).bf (ix2 s d) = V m c main_v163 (ix2 s d) := by
  show (V m c main_v163) _ = _
  generalize V m c main_v163 = Y
  blk_ext [idx t]

theorem es_blk (t : Fin cfg0.N) (h : Fin 8) (d : Fin 512) : (inp m c t).es (ix2 h d) = V m c main_v168 (ix2 h d) := by
  show (V m c main_v168) _ = _
  generalize V m c main_v168 = Y
  blk_ext [idx t]

/-- The blocks of point `t` are its rows of the arrays. -/
theorem holds (t : Fin cfg0.N) (H : Given m c A) : Holds (inp m c t) A (pt t) where
  dx p d := (dx_blk t p d).trans (v169 H _ d)
  ym p d := (ym_blk t p d).trans (v170_at H _ d)
  pj p d := (pj_blk t p d).trans (v171_at H _ _)
  cv p d := (cv_blk t p d).trans (v176_at H _ d)
  gt p d := (md_blk t _ d (seq (tile (pt t) p)) (by simp only [seq, tile, pt]; omega)).trans (v181 H _ d)
  g2 d := (gv_blk t _ d).trans (v183 H d)
  wo k d := (wo_blk t k d).trans (v185 H k d)
  ng d := (vv_blk t _ d).trans (v159_0 H d)
  nb d := (vv_blk t _ d).trans (v159_1 H d)
  cg d := (vv_blk t _ d).trans (v159_3 H d)
  cb d := (vv_blk t _ d).trans (v159_4 H d)
  oa d := (vv_blk t _ d).trans (v159_5 H d)
  ob d := (vv_blk t _ d).trans (v159_6 H d)
  ws h s j := (ws_blk t h s j).trans (v186 H h s j)
  bf s d := (bf_blk t s d).trans (v163 H s d)
  es h d := (es_blk t h d).trans (v168 h d)

end Cert.Kernel2Ideal.Opened
end
-- ==== Proof.Mixer.Arrays.lean ====
/- The kernel's eight result arrays: every point's blocks put in their places, and the sums over the points. -/
module

public import proofs.«01_k».proof.Proof.Mixer.Blocks

@[expose] public section

set_option maxRecDepth 16384

noncomputable section

namespace Cert.Kernel2Ideal.Opened

open Cert.Kernel2Ideal Cert.Kernel2Ideal.Gen Cert.Kernel2Ideal.Value Cert.Kernel2Ideal.Tile
open Idealize.ShloMosaic Idealize.ShloMosaic.TcCoe Idealize.SL.Sem Mix
open Ffn hiding Args

variable {m : (ℓ : Loc nD τ sig) → Buf (Elt Ideal) ℓ} {c : Dev nD} {A : Args}

theorem oidx : ∀ t : Fin cfg0.N, win0_11.index t = ![t.val, 0] ∧ win0_12.index t = ![t.val, 0] ∧ win0_13.index t = ![t.val, 0] ∧ win0_14.index t = ![t.val / 8, 0, 0]
    ∧ win0_15.index t = ![0, 0] ∧ win0_16.index t = ![0, 0] ∧ win0_17.index t = ![0, 0, 0] ∧ win0_18.index t = ![0, 0] :=
  (by decide +kernel : ∀ t : Fin grid0.N, _)

theorem arr11 (H : Given m c A) : (dats m 0 c).arrAt 11 cfg0.N = (fun i => ((A.part (i 0) (i 1) : ℝ) : EReal)) := by
  refine (dats m 0 c).arrAt_eq_of_covers 11 _ (by decide +kernel) fun t hf y => ?_
  blk_simp [oidx t]
  rw [after0_11, (leaves m c t).dp]
  obtain ⟨p, d, rfl⟩ : ∃ p : Fin 256, ∃ d : Fin 2048, y = ix2 p d := ⟨y 0, y 1, eq_ix2 y⟩
  have he : (win0_11.blk t).view.emb (ix2 p d) = ix2 (tile (pt t) p) d := by blk_ext [oidx t, tile, pt]
  rw [he]
  exact Tile.dpT (holds t H) p d

theorem arr12 (H : Given m c A) : (dats m 0 c).arrAt 12 cfg0.N = (fun i => ((A.dy (i 0) (i 1) : ℝ) : EReal)) := by
  refine (dats m 0 c).arrAt_eq_of_covers 12 _ (by decide +kernel) fun t hf y => ?_
  blk_simp [oidx t]
  rw [after0_12, (leaves m c t).dy]
  obtain ⟨p, d, rfl⟩ : ∃ p : Fin 256, ∃ d : Fin 1024, y = ix2 p d := ⟨y 0, y 1, eq_ix2 y⟩
  have he : (win0_12.blk t).view.emb (ix2 p d) = ix2 (tile (pt t) p) d := by blk_ext [oidx t, tile, pt]
  rw [he]
  exact Tile.dy (holds t H) p d

theorem arr13 (H : Given m c A) : (dats m 0 c).arrAt 13 cfg0.N = (fun i => ((A.ycat (i 0) (i 1) : ℝ) : EReal)) := by
  refine (dats m 0 c).arrAt_eq_of_covers 13 _ (by decide +kernel) fun t hf y => ?_
  blk_simp [oidx t]
  rw [after0_13, (leaves m c t).yc]
  obtain ⟨p, d, rfl⟩ : ∃ p : Fin 256, ∃ d : Fin 1024, y = ix2 p d := ⟨y 0, y 1, eq_ix2 y⟩
  have he : (win0_13.blk t).view.emb (ix2 p d) = ix2 (tile (pt t) p) d := by blk_ext [oidx t, tile, pt]
  rw [he]
  exact Tile.yc (holds t H) p d

/-- The points of the grid and the 256 rows of each are the tokens; so are a sequence's. -/
theorem sum_points (f : Fin 4096 → ℝ) : ∑ t : Fin cfg0.N, ∑ p, f (tile (pt t) p) = ∑ n, f n := by
  rw [← sum_tile f]
  exact Fintype.sum_equiv (finCongr N_0) _ _ fun _ => rfl

theorem sum_run (f : Fin 2048 → ℝ) (g : Fin 8 → Fin 256 → Fin 2048) (hg : ∀ s p, (g s p).val = 256 * s.val + p.val) :
    ∑ s : Fin 8, ∑ p, f (g s p) = ∑ s, f s :=
  Fin.sum_mul_add_congr (fun s p hl => congrArg f (Fin.ext (by rw [hg]; show 256 * s.val + p.val = s.val * 256 + p.val; omega))) rfl

theorem sum_chunks (f : Fin 32 → ℝ) : ∑ t : Fin 16, (f (c0 t) + f (c1 t)) = ∑ c, f c := by
  simp only [Fin.sum_univ_succ, Fin.sum_univ_zero, c0, c1]
  simp only [← add_assoc, add_zero]
  rfl

theorem zero128 (y : S1x8x1024.Idx) : k0_pay128 (F := Ideal) y = 0 := by pointwise [k0_pay128]
theorem zero71 (y : S8x1024.Idx) : k0_pay71 (F := Ideal) y = 0 := by pointwise [k0_pay71]
theorem zero72 (y : S8x512.Idx) : k0_pay72 (F := Ideal) y = 0 := by pointwise [k0_pay72]
theorem zero69 (y : S8x128x128.Idx) : k0_pay69 (F := Ideal) y = 0 := by pointwise [k0_pay69]
theorem zero70 (y : S128x512.Idx) : k0_pay70 (F := Ideal) y = 0 := by pointwise [k0_pay70]

theorem arr14 (H : Given m c A) : (dats m 0 c).arrAt 14 cfg0.N = (fun i => ((A.mod (i 0) (i 1) (i 2) : ℝ) : EReal)) := by
  refine (dats m 0 c).arrAt_eq_of_covers 14 _ (by decide +kernel) fun t hf y => ?_
  blk_simp [oidx t]
  rw [after0_14]
  have ht := t.isLt
  have hN : cfg0.N = 16 := N_0
  have ht' : t.val < 16 := by rw [← hN]; exact ht
  obtain ⟨z, r, d, rfl⟩ : ∃ z : Fin 1, ∃ r : Fin 8, ∃ d : Fin 1024, y = ix3 z r d := ⟨y 0, y 1, y 2, eq_ix3 y⟩
  obtain rfl : z = 0 := Subsingleton.elim _ _
  have he : (win0_14.blk t).view.emb (ix3 0 r d) = ix3 (⟨t.val / 8, by omega⟩ : Fin 2) r d := by blk_ext [oidx t]
  rw [he]
  rw [Pipeline.eq_sum_fin_of_reset_step_apply_of_flush (fun n h => (outsAt0 m c n h).2.2.2.1) 8 (fun _ => 0) (fun t => (inp m c t).mgT) ?_ ?_ t
    ((flush0_14 t).mp hf) _, zero_add]
  · show _ = ((if r.val = 2 then ∑ s, A.tGt (tok ⟨t.val / 8, _⟩ s) d else 0 : ℝ) : EReal)
    rw [← sum_run (fun s => A.tGt (tok ⟨t.val / 8, by omega⟩ s) d) (fun s p => ⟨256 * s.val + p.val, by omega⟩) (fun s p => rfl)]
    refine (Finset.sum_congr rfl fun s _ => Tile.mgT (holds _ H) r d).trans ?_
    rw [coe_sum]
    refine congrArg _ ?_
    by_cases h2 : r.val = 2
    · simp only [if_pos h2]
      refine Finset.sum_congr rfl fun s _ => Finset.sum_congr rfl fun p _ => congrArg (fun n => A.tGt n d) (Fin.ext ?_)
      show 256 * (8 * (t.val / 8) + s.val) + p.val = 2048 * (t.val / 8) + (256 * s.val + p.val)
      omega
    · simp only [if_neg h2, Finset.sum_const_zero]
  · intro t h y
    exact (congrFun (leaves m c t).mg y).trans (congrArg (· + _) ((if_pos h).trans (zero128 y)))
  · intro t h y
    exact (congrFun (leaves m c t).mg y).trans (congrArg (· + _) (if_neg h))

theorem arr15 (H : Given m c A) : (dats m 0 c).arrAt 15 cfg0.N = (fun i => ((A.gain (i 0) (i 1) : ℝ) : EReal)) := by
  refine (dats m 0 c).arrAt_eq_of_after_last 15 t0_15 (by decide +kernel) _ fun j => ?_
  blk_simp
  rw [after0_15]
  rw [Pipeline.eq_sum_fin_of_reset_step_apply_last (fun n h => (outsAt0 m c n h).2.2.2.2.1) 16 (fun _ => 0) (fun t => (inp m c t).vgT) ?_ ?_
    (le_of_eq N_0) t0_15 rfl j, zero_add]
  · obtain ⟨r, d, rfl⟩ : ∃ r : Fin 8, ∃ d : Fin 1024, j = ix2 r d := ⟨j 0, j 1, eq_ix2 j⟩
    show _ = ((if r.val = 1 then ∑ n, A.tG2 n d else 0 : ℝ) : EReal)
    refine (Finset.sum_congr rfl fun t _ => Tile.vgT (holds t H) r d).trans ?_
    rw [coe_sum, ← sum_points (fun n => A.tG2 n d)]
    refine congrArg _ ?_
    by_cases h1 : r.val = 1
    · simp only [if_pos h1]
    · simp only [if_neg h1, Finset.sum_const_zero]
  · intro t h y
    exact (congrFun (leaves m c t).vg y).trans (congrArg (· + _) ((if_pos h).trans (zero71 y)))
  · intro t h y
    exact (congrFun (leaves m c t).vg y).trans (congrArg (· + _) (if_neg h))

theorem arr16 (H : Given m c A) : (dats m 0 c).arrAt 16 cfg0.N = (fun i => ((A.vec (i 0) (i 1) : ℝ) : EReal)) := by
  refine (dats m 0 c).arrAt_eq_of_after_last 16 t0_15 (by decide +kernel) _ fun j => ?_
  blk_simp
  rw [after0_16]
  rw [Pipeline.eq_sum_fin_of_reset_step_apply_last (fun n h => (outsAt0 m c n h).2.2.2.2.2.1) 16 (fun _ => 0) (fun t => (inp m c t).v5T) ?_ ?_
    (le_of_eq N_0) t0_15 rfl j, zero_add]
  · obtain ⟨r, d, rfl⟩ : ∃ r : Fin 8, ∃ d : Fin 512, j = ix2 r d := ⟨j 0, j 1, eq_ix2 j⟩
    show _ = ((∑ n, A.tVec n r d : ℝ) : EReal)
    refine (Finset.sum_congr rfl fun t _ => Tile.v5T (holds t H) r d).trans ?_
    rw [coe_sum, ← sum_points (fun n => A.tVec n r d)]
  · intro t h y
    exact (congrFun (leaves m c t).v5 y).trans (congrArg (· + _) ((if_pos h).trans (zero72 y)))
  · intro t h y
    exact (congrFun (leaves m c t).v5 y).trans (congrArg (· + _) (if_neg h))

/-- What starts at the first term and adds one term at a point holds the sum of the terms so far. -/
theorem so_far (K : ℕ) (f : (n : ℕ) → n < cfg0.N → EReal) (g : ℕ → ℝ) (h0 : ∀ h, f 0 h = ((g 0 : ℝ) : EReal))
    (hs : ∀ n h, n + 1 < K → f (n + 1) h = f n (by omega) + ((g (n + 1) : ℝ) : EReal)) :
    ∀ n h, n < K → f n h = ((∑ i ∈ Finset.range (n + 1), g i : ℝ) : EReal) := by
  intro n
  induction n with
  | zero => intro h _; rw [h0, Finset.sum_range_one]
  | succ n ih => intro h hK; rw [hs n h hK, ih _ (by omega), Finset.sum_range_succ _ (n + 1), EReal.coe_add]

/-- The two chunks' terms of point `n`; all sixteen points' are the 32 chunks'. -/
def two (f : Fin 32 → ℝ) (n : ℕ) : ℝ := if h : n < 16 then f (c0 ⟨n, h⟩) + f (c1 ⟨n, h⟩) else 0

theorem two_pt (f : Fin 32 → ℝ) (t : Fin cfg0.N) : f (c0 (pt t)) + f (c1 (pt t)) = two f t.val := by
  have h : t.val < 16 := (pt t).isLt
  exact (dif_pos h : two f t.val = f (c0 ⟨t.val, h⟩) + f (c1 ⟨t.val, h⟩)).symm

theorem sum_two (f : Fin 32 → ℝ) : ∑ i ∈ Finset.range 16, two f i = ∑ c, f c := by
  rw [← sum_chunks f, Finset.sum_range]
  exact Finset.sum_congr rfl fun t _ => dif_pos t.isLt

theorem lt15 {n : ℕ} (h : n < 15) : n < cfg0.N := by have : cfg0.N = 16 := N_0; omega

/-- The spatial weights' gradient before the last point. -/
theorem gw_far (H : Given m c A) (h : Fin 8) (s j : Fin 128) : ∀ n (hn : n < cfg0.N), n < 15 →
    (outsAt0 m c n hn).2.2.2.2.2.2.1 (ix3 h s j) = ((∑ i ∈ Finset.range (n + 1), two (fun c => gwC A c h s j) i : ℝ) : EReal) := by
  have hN : cfg0.N = 16 := N_0
  refine so_far 15 (fun n hn => (outsAt0 m c n hn).2.2.2.2.2.2.1 (ix3 h s j)) _ (fun hn => ?_) (fun n hn hK => ?_)
  · refine (congrFun (leaves m c ⟨0, hn⟩).gw (ix3 h s j)).trans ?_
    refine (if_neg (fun hh => absurd hh.1 (by show ¬ 0 % 16 = 15; omega))).trans ?_
    refine (congrArg₂ (· + ·) ((if_pos rfl).trans (zero69 _)) (Tile.gwT (holds _ H) h s j)).trans ?_
    rw [zero_add]
    exact congrArg _ (two_pt (fun c => gwC A c h s j) ⟨0, hn⟩)
  · refine (congrFun (leaves m c ⟨n + 1, hn⟩).gw (ix3 h s j)).trans ?_
    refine (if_neg (fun hh => absurd hh.1 (by show ¬ (n + 1) % 16 = 15; omega))).trans ?_
    refine (congrArg₂ (· + ·) (if_neg (by show ¬ (n + 1) % 16 = 0; omega)) (Tile.gwT (holds _ H) h s j)).trans ?_
    exact congrArg (fun r : ℝ => _ + (r : EReal)) (two_pt (fun c => gwC A c h s j) ⟨n + 1, hn⟩)

theorem bs_far (H : Given m c A) (s : Fin 128) (d : Fin 512) : ∀ n (hn : n < cfg0.N), n < 16 →
    (outsAt0 m c n hn).2.2.2.2.2.2.2.2 (ix2 s d) = ((∑ i ∈ Finset.range (n + 1), two (fun c => A.dz (chk c s) d) i : ℝ) : EReal) := by
  have hN : cfg0.N = 16 := N_0
  refine so_far 16 (fun n hn => (outsAt0 m c n hn).2.2.2.2.2.2.2.2 (ix2 s d)) _ (fun hn => ?_) (fun n hn hK => ?_)
  · refine (congrFun (leaves m c ⟨0, hn⟩).bs (ix2 s d)).trans ?_
    refine (Tile.dbs (holds _ H) _ s d).trans ?_
    refine (congrArg (· + _) ((congrFun (if_pos rfl) _).trans (zero70 _))).trans ?_
    rw [zero_add]
    exact congrArg _ (two_pt (fun c => A.dz (chk c s) d) ⟨0, hn⟩)
  · refine (congrFun (leaves m c ⟨n + 1, hn⟩).bs (ix2 s d)).trans ?_
    refine (Tile.dbs (holds _ H) _ s d).trans ?_
    refine (congrArg (· + _) (congrFun (if_neg (by show ¬ (n + 1) % 16 = 0; omega)) _)).trans ?_
    exact congrArg (fun r : ℝ => _ + (r : EReal)) (two_pt (fun c => A.dz (chk c s) d) ⟨n + 1, hn⟩)

theorem arr17 (H : Given m c A) : (dats m 0 c).arrAt 17 cfg0.N = (fun i => ((A.gw (i 0) (i 1) (i 2) : ℝ) : EReal)) := by
  refine (dats m 0 c).arrAt_eq_of_after_last 17 t0_15 (by decide +kernel) _ fun y => ?_
  blk_simp
  rw [after0_17]
  obtain ⟨h, s, j, rfl⟩ : ∃ h : Fin 8, ∃ s j : Fin 128, y = ix3 h s j := ⟨y 0, y 1, y 2, eq_ix3 y⟩
  refine (congrFun (leaves m c t0_15).gw (ix3 h s j)).trans ?_
  show _ = ((if j ≤ s then ∑ c, gwC A c h s j else 0 : ℝ) : EReal)
  by_cases hj : j ≤ s
  · rw [if_pos hj]
    refine (if_neg (fun hh => absurd (show s.val < j.val from hh.2) (Nat.not_lt.mpr hj))).trans ?_
    refine (congrArg₂ (· + ·) ((if_neg (by decide)).trans (gw_far H h s j 14 _ (by omega))) ((Tile.gwT (holds t0_15 H) h s j).trans
      (congrArg _ (two_pt (fun c => gwC A c h s j) t0_15)))).trans ?_
    rw [← sum_two (fun c => gwC A c h s j), Finset.sum_range_succ _ 15, EReal.coe_add]
    rfl
  · rw [if_neg hj]
    exact if_pos ⟨rfl, Nat.lt_of_not_le hj⟩

theorem arr18 (H : Given m c A) : (dats m 0 c).arrAt 18 cfg0.N = (fun i => ((A.gb (i 0) (i 1) : ℝ) : EReal)) := by
  refine (dats m 0 c).arrAt_eq_of_after_last 18 t0_15 (by decide +kernel) _ fun y => ?_
  blk_simp
  rw [after0_18]
  obtain ⟨h, s, rfl⟩ : ∃ h : Fin 8, ∃ s : Fin 128, y = ix2 h s := ⟨y 0, y 1, eq_ix2 y⟩
  refine (congrFun ((leaves m c t0_15).gb rfl) (ix2 h s)).trans ?_
  refine (Tile.gb (holds t0_15 H) _ (fun s d => ∑ c, A.dz (chk c s) d) (fun s d => ?_) h s).trans ?_
  · refine (Tile.dbs (holds t0_15 H) _ s d).trans ?_
    refine (congrArg₂ (· + ·) (bs_far H s d 14 _ (by omega)) (congrArg _ (two_pt (fun c => A.dz (chk c s) d) t0_15))).trans ?_
    rw [← sum_two (fun c => A.dz (chk c s) d), Finset.sum_range_succ _ 15, EReal.coe_add]
    rfl
  · exact congrArg _ Finset.sum_comm

end Cert.Kernel2Ideal.Opened
end
-- ==== Proof.Mixer.RefBack.lean ====
/- The reference's arrays at an index, as real numbers: the gradient. -/
module

public import proofs.«01_k».proof.Proof.Mixer.RefForward
public import proofs.«01_k».proof.Proof.Mixer.Model

@[expose] public section

set_option maxRecDepth 16384

noncomputable section

namespace Cert.Reference2Ideal.Rows

open Cert.Reference2Ideal Cert.Reference2Ideal.Gen Cert.Reference2Ideal.Read Idealize.ShloMosaic Mix
open Ffn hiding Args

variable {x0 x18 : FVec Ideal S2x2048x1024 .f32} {x1 x2 x3 : FVec Ideal S2x1024 .f32} {x4 x5 : FVec Ideal S1x1024 .f32}
  {x6 : FVec Ideal S1x1024x2048 .f32} {x7 x8 x12 x13 x14 x15 x16 : FVec Ideal S1x512 .f32} {x9 : FVec Ideal S1x8x128x128 .f32}
  {x10 : FVec Ideal S1x8x128 .f32} {x11 : FVec Ideal S1x31x512 .f32} {x17 : FVec Ideal S1x1024x1024 .f32} {A : Args}

variable (H : Reads A x0 x1 x2 x3 x4 x5 x6 x7 x8 x9 x10 x11 x12 x13 x14 x15 x16 x17 x18)
include H

theorem v188 (b : Fin 2) (s : Fin 2048) (d : Fin 1024) : val_main_v188 (F := Ideal) x3 x18 (ix3 b s d) = ((A.dp (tok b s) d : ℝ) : EReal) := by
  pointwise [val_main_v188, val_main_v187, val_main_v163]
  simp only [H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg (fun q => ((A.Gt q d * A.E (tok b s) d : ℝ) : EReal)) (seq_tok b s).symm

theorem v196 (b : Fin 2) (s : Fin 2048) (d : Fin 1024) : val_main_v196 (F := Ideal) x3 x5 x18 (ix3 b s d) = ((A.dyh (tok b s) d : ℝ) : EReal) := by
  pointwise [val_main_v196, val_main_v195, val_main_v181, val_main_v167]
  simp only [v188 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v211 (b : Fin 2) (s : Fin 2048) (d : Fin 1024) : val_main_v211 (F := Ideal) x0 x1 x2 x3 x4 x5 x6 x7 x8 x9 x10 x11 x12 x13 x14 x15 x16 x17 x18 (ix3 b s d) = ((A.dy (tok b s) d : ℝ) : EReal) := by
  pointwise [val_main_v211, val_main_v209, val_main_v202, val_main_v201, val_main_v208, val_main_v207, val_main_v206, val_main_v205, val_main_v203, val_main_v200, val_main_v199, val_main_v198, val_main_cst_36, val_main_v204, val_main_cst_37, val_main_cst_38, val_main_v210]
  simp only [v196 H, v175 H, v166 H, v178 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (norm_grad (A.y (tok b s)) (A.dyh (tok b s)) d)

theorem v213 (b : Fin 2) (s : Fin 2048) (k : Fin 1024) : val_main_v213 (F := Ideal) x0 x1 x2 x3 x4 x5 x6 x7 x8 x9 x10 x11 x12 x13 x14 x15 x16 x17 x18 (ix3 b s k) = ((A.dyc (tok b s) k : ℝ) : EReal) := by
  pointwise [val_main_v213, val_main_v164]
  simp only [v211 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v214 (b : Fin 2) (d : Fin 1024) : val_main_v214 (F := Ideal) x0 x1 x2 x4 x5 x6 x7 x8 x9 x10 x11 x12 x13 x14 x15 x16 x17 x18 (ix2 b d) = ((∑ s : Fin 2048, A.tGt (tok b s) d : ℝ) : EReal) := by
  pointwise [val_main_v214, val_main_v191, val_main_v190, val_main_v189, val_main_cst_33, val_main_cst_39]
  simp only [v183 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v193 (d : Fin 1024) : val_main_v193 (F := Ideal) x0 x1 x2 x3 x4 x6 x7 x8 x9 x10 x11 x12 x13 x14 x15 x16 x17 x18 (ix1 d) = ((∑ n : Fin 4096, A.dp n d * A.yh n d : ℝ) : EReal) := by
  pointwise [val_main_v193, val_main_v192, val_main_cst_34]
  simp only [hostSum_two]
  all_goals try pointwise [val_main_v192, val_main_cst_34]
  simp only [v180 H, v188 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v212 (d : Fin 1024) : val_main_v212 (F := Ideal) x0 x1 x2 x3 x4 x6 x7 x8 x9 x10 x11 x12 x13 x14 x15 x16 x17 x18 (ix2 0 d) = ((∑ n : Fin 4096, A.dp n d * A.yh n d : ℝ) : EReal) := by
  pointwise [val_main_v212, val_main_v197, val_main_v194, val_main_cst_35]
  try rw [hostSum_two]
  pointwise []
  simp only [v193 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v215 (b : Fin 2) (s : Fin 2048) (d : Fin 512) : val_main_v215 (F := Ideal) x0 x1 x2 x3 x4 x5 x6 x7 x8 x9 x10 x11 x12 x13 x14 x15 x16 x17 x18 (ix3 b s d) = ((A.dyc (tok b s) (cA d) : ℝ) : EReal) := by
  pointwise [val_main_v215]
  simp only [v213 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v216 (b : Fin 2) (s : Fin 2048) (d : Fin 512) : val_main_v216 (F := Ideal) x0 x1 x2 x3 x4 x5 x6 x7 x8 x9 x10 x11 x12 x13 x14 x15 x16 x17 x18 (ix3 b s d) = ((A.dyc (tok b s) (cB d) : ℝ) : EReal) := by
  pointwise [val_main_v216]
  simp only [v213 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v218 (d : Fin 512) : val_main_v218 (F := Ideal) x0 x1 x2 x3 x4 x5 x6 x7 x8 x9 x10 x11 x12 x13 x14 x15 x16 x17 x18 (ix1 d) = ((∑ n : Fin 4096, A.dyc n (cB d) * rms (A.yb n) d : ℝ) : EReal) := by
  pointwise [val_main_v218, val_main_v217, val_main_cst_40]
  simp only [hostSum_two]
  all_goals try pointwise [val_main_v217, val_main_cst_40]
  simp only [v158 H, v216 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v237 (d : Fin 512) : val_main_v237 (F := Ideal) x0 x1 x2 x3 x4 x5 x6 x7 x8 x9 x10 x11 x12 x13 x14 x15 x16 x17 x18 (ix2 0 d) = ((∑ n : Fin 4096, A.dyc n (cB d) * rms (A.yb n) d : ℝ) : EReal) := by
  pointwise [val_main_v237, val_main_v222, val_main_v219, val_main_cst_41]
  try rw [hostSum_two]
  pointwise []
  simp only [v218 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v221 (b : Fin 2) (s : Fin 2048) (d : Fin 512) : val_main_v221 (F := Ideal) x0 x1 x2 x3 x4 x5 x6 x7 x8 x9 x10 x11 x12 x13 x14 x15 x16 x17 x18 (ix3 b s d) = ((A.dyc (tok b s) (cB d) * A.ob d : ℝ) : EReal) := by
  pointwise [val_main_v221, val_main_v220, val_main_v159, val_main_v145]
  simp only [v216 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v236 (b : Fin 2) (s : Fin 2048) (d : Fin 512) : val_main_v236 (F := Ideal) x0 x1 x2 x3 x4 x5 x6 x7 x8 x9 x10 x11 x12 x13 x14 x15 x16 x17 x18 (ix3 b s d) = ((A.dyb (tok b s) d : ℝ) : EReal) := by
  pointwise [val_main_v236, val_main_v234, val_main_v227, val_main_v226, val_main_v233, val_main_v232, val_main_v231, val_main_v230, val_main_v228, val_main_v225, val_main_v224, val_main_v223, val_main_cst_42, val_main_v229, val_main_cst_43, val_main_cst_44, val_main_v235]
  simp only [v221 H, v153 H, v127_0 H, v156 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (rmsV_eq (A.yb (tok b s)) (fun d => A.dyc (tok b s) (cB d) * A.ob d) d)

theorem v239 (d : Fin 512) : val_main_v239 (F := Ideal) x0 x1 x2 x3 x4 x5 x6 x7 x8 x9 x10 x11 x12 x13 x14 x15 x16 x17 x18 (ix1 d) = ((∑ n : Fin 4096, A.dyc n (cA d) * rms (A.ya n) d : ℝ) : EReal) := by
  pointwise [val_main_v239, val_main_v238, val_main_cst_45]
  simp only [hostSum_two]
  all_goals try pointwise [val_main_v238, val_main_cst_45]
  simp only [v141 H, v215 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v258 (d : Fin 512) : val_main_v258 (F := Ideal) x0 x1 x2 x3 x4 x5 x6 x7 x8 x9 x10 x11 x12 x13 x14 x15 x16 x17 x18 (ix2 0 d) = ((∑ n : Fin 4096, A.dyc n (cA d) * rms (A.ya n) d : ℝ) : EReal) := by
  pointwise [val_main_v258, val_main_v243, val_main_v240, val_main_cst_46]
  try rw [hostSum_two]
  pointwise []
  simp only [v239 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v242 (b : Fin 2) (s : Fin 2048) (d : Fin 512) : val_main_v242 (F := Ideal) x0 x1 x2 x3 x4 x5 x6 x7 x8 x9 x10 x11 x12 x13 x14 x15 x16 x17 x18 (ix3 b s d) = ((A.dyc (tok b s) (cA d) * A.oa d : ℝ) : EReal) := by
  pointwise [val_main_v242, val_main_v241, val_main_v142, val_main_v128]
  simp only [v215 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v257 (b : Fin 2) (s : Fin 2048) (d : Fin 512) : val_main_v257 (F := Ideal) x0 x1 x2 x3 x4 x5 x6 x7 x8 x9 x10 x11 x12 x13 x14 x15 x16 x17 x18 (ix3 b s d) = ((A.dya (tok b s) d : ℝ) : EReal) := by
  pointwise [val_main_v257, val_main_v255, val_main_v248, val_main_v247, val_main_v254, val_main_v253, val_main_v252, val_main_v251, val_main_v249, val_main_v246, val_main_v245, val_main_v244, val_main_cst_47, val_main_v250, val_main_cst_48, val_main_cst_49, val_main_v256]
  simp only [v242 H, v136 H, v95 H, v139 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (rmsV_eq (A.ya (tok b s)) (fun d => A.dyc (tok b s) (cA d) * A.oa d) d)

theorem v259 (b : Fin 2) (s : Fin 2048) (d : Fin 512) : val_main_v259 (F := Ideal) x0 x1 x2 x3 x4 x5 x6 x7 x8 x9 x10 x11 x12 x13 x14 x15 x16 x17 x18 (ix3 b s d) = ((A.dcn (tok b s) d : ℝ) : EReal) := by
  pointwise [val_main_v259, val_main_call5_v1, val_main_call5_v2, val_main_call5_v0]
  simp only [v236 H, v127_2 H, v126 H, v127_1 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (silu_grad _ _)

theorem v260 (d : Fin 512) : val_main_v260 (F := Ideal) x0 x1 x2 x3 x4 x5 x6 x7 x8 x9 x10 x11 x12 x13 x14 x15 x16 x17 x18 (ix1 d) = ((∑ n : Fin 4096, A.dcn n d : ℝ) : EReal) := by
  pointwise [val_main_v260, val_main_cst_50]
  simp only [hostSum_two]
  all_goals try pointwise [val_main_cst_50]
  simp only [v259 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v291 (d : Fin 512) : val_main_v291 (F := Ideal) x0 x1 x2 x3 x4 x5 x6 x7 x8 x9 x10 x11 x12 x13 x14 x15 x16 x17 x18 (ix2 0 d) = ((∑ n : Fin 4096, A.dcn n d : ℝ) : EReal) := by
  pointwise [val_main_v291, val_main_v262, val_main_v261, val_main_cst_51]
  try rw [hostSum_two]
  pointwise []
  simp only [v260 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v264 (d : Fin 512) : val_main_v264 (F := Ideal) x0 x1 x2 x3 x4 x5 x6 x7 x8 x9 x10 x11 x12 x13 x14 x15 x16 x17 x18 (ix1 d) = ((∑ n : Fin 4096, A.dcn n d * A.ch n d : ℝ) : EReal) := by
  pointwise [val_main_v264, val_main_v263, val_main_cst_52]
  simp only [hostSum_two]
  all_goals try pointwise [val_main_v263, val_main_cst_52]
  simp only [v120 H, v259 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v292 (d : Fin 512) : val_main_v292 (F := Ideal) x0 x1 x2 x3 x4 x5 x6 x7 x8 x9 x10 x11 x12 x13 x14 x15 x16 x17 x18 (ix2 0 d) = ((∑ n : Fin 4096, A.dcn n d * A.ch n d : ℝ) : EReal) := by
  pointwise [val_main_v292, val_main_v268, val_main_v265, val_main_cst_53]
  try rw [hostSum_two]
  pointwise []
  simp only [v264 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v267 (b : Fin 2) (s : Fin 2048) (d : Fin 512) : val_main_v267 (F := Ideal) x0 x1 x2 x3 x4 x5 x6 x7 x8 x9 x10 x11 x12 x13 x14 x15 x16 x17 x18 (ix3 b s d) = ((A.dcn (tok b s) d * A.cg d : ℝ) : EReal) := by
  pointwise [val_main_v267, val_main_v266, val_main_v121, val_main_v100]
  simp only [v259 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v282 (b : Fin 2) (s : Fin 2048) (d : Fin 512) : val_main_v282 (F := Ideal) x0 x1 x2 x3 x4 x5 x6 x7 x8 x9 x10 x11 x12 x13 x14 x15 x16 x17 x18 (ix3 b s d) = ((rmsV (cen (A.C (tok b s))) (fun d => A.dcn (tok b s) d * A.cg d) d : ℝ) : EReal) := by
  pointwise [val_main_v282, val_main_v280, val_main_v273, val_main_v272, val_main_v279, val_main_v278, val_main_v277, val_main_v276, val_main_v274, val_main_v271, val_main_v270, val_main_v269, val_main_cst_54, val_main_v275, val_main_cst_55, val_main_cst_56, val_main_v281]
  simp only [v267 H, v115 H, v107 H, v118 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v290 (b : Fin 2) (s : Fin 2048) (d : Fin 512) : val_main_v290 (F := Ideal) x0 x1 x2 x3 x4 x5 x6 x7 x8 x9 x10 x11 x12 x13 x14 x15 x16 x17 x18 (ix3 b s d) = ((A.dc (tok b s) d : ℝ) : EReal) := by
  pointwise [val_main_v290, val_main_v289, val_main_v288, val_main_v287, val_main_v285, val_main_v284, val_main_v283, val_main_cst_57, val_main_v286, val_main_cst_58, val_main_cst_59]
  simp only [v282 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (lnV_eq _ _ _)

theorem v293 (d : Fin 512) : val_main_v293 (F := Ideal) x0 x1 x2 x3 x4 x5 x6 x7 x8 x9 x10 x11 x12 x13 x14 x15 x16 x17 x18 (ix1 d) = ((∑ n : Fin 4096, A.dc n d : ℝ) : EReal) := by
  pointwise [val_main_v293, val_main_cst_60]
  simp only [hostSum_two]
  all_goals try pointwise [val_main_cst_60]
  simp only [v290 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v296 (d : Fin 512) : val_main_v296 (F := Ideal) x0 x1 x2 x3 x4 x5 x6 x7 x8 x9 x10 x11 x12 x13 x14 x15 x16 x17 x18 (ix2 0 d) = ((∑ n : Fin 4096, A.dc n d : ℝ) : EReal) := by
  pointwise [val_main_v296, val_main_v295, val_main_v294, val_main_cst_61]
  try rw [hostSum_two]
  pointwise []
  simp only [v293 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v297 (b : Fin 2) (s : Fin 2048) (d : Fin 512) : val_main_v297 (F := Ideal) x0 x1 x2 x3 x4 x5 x6 x7 x8 x9 x10 x11 x12 x13 x14 x15 x16 x17 x18 (ix3 b s d) = ((A.dz (tok b s) d : ℝ) : EReal) := by
  pointwise [val_main_v297]
  simp only [v24 H, v257 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (mul_comm _ _)

theorem v298 (b : Fin 2) (s : Fin 2048) (d : Fin 512) : val_main_v298 (F := Ideal) x0 x1 x2 x3 x4 x5 x6 x7 x8 x9 x10 x11 x12 x13 x14 x15 x16 x17 x18 (ix3 b s d) = ((A.du (tok b s) d : ℝ) : EReal) := by
  pointwise [val_main_v298]
  simp only [v257 H, v94 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v299 (c : Fin 32) (j : Fin 128) (h : Fin 8) (l : Fin 64) : val_main_v299 (F := Ideal) x0 x1 x2 x3 x4 x5 x6 x7 x8 x9 x10 x11 x12 x13 x14 x15 x16 x17 x18 (ix4 c j h l) = ((A.dz (chk c j) (feat h l) : ℝ) : EReal) := by
  pointwise [val_main_v299]
  refine (v297 H ..).trans (congrArg₂ (fun n d => ((A.dz n d : ℝ) : EReal)) (Fin.ext ?_) (Fin.ext ?_))
  · dsimp only [tok, chk]; omega
  · dsimp only [feat]; omega

theorem v307 (h : Fin 8) (t : Fin 128) : val_main_v307 (F := Ideal) x0 x1 x2 x3 x4 x5 x6 x7 x8 x9 x10 x11 x12 x13 x14 x15 x16 x17 x18 (ix3 0 h t) = ((A.gb h t : ℝ) : EReal) := by
  pointwise [val_main_v307, val_main_v306, val_main_v305, val_main_v304, val_main_v303, val_main_v302, val_main_v301, val_main_v300, val_main_cst_62, val_main_cst_63, val_main_cst_64, val_main_cst_65]
  simp only [v299 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ Finset.sum_comm

theorem v308 (h : Fin 8) (c : Fin 32) (l : Fin 64) (t : Fin 128) : val_main_v308 (F := Ideal) x0 x1 x2 x3 x4 x5 x6 x7 x8 x9 x10 x11 x12 x13 x14 x15 x16 x17 x18 (ix4 h c l t) = ((A.dz (chk c t) (feat h l) : ℝ) : EReal) := by
  pointwise [val_main_v308]
  simp only [v299 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v309 (h : Fin 8) (t j : Fin 128) : val_main_v309 (F := Ideal) x0 x1 x2 x3 x4 x5 x6 x7 x8 x9 x10 x11 x12 x13 x14 x15 x16 x17 x18 (ix3 h t j) = ((∑ c : Fin 32, ∑ l : Fin 64, A.dz (chk c t) (feat h l) * A.vn (chk c j) (feat h l) : ℝ) : EReal) := by
  pointwise [val_main_v309]
  simp only [v308 H, v77 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v313 (h : Fin 8) (t j : Fin 128) : val_main_v313 (F := Ideal) x0 x1 x2 x3 x4 x5 x6 x7 x8 x9 x10 x11 x12 x13 x14 x15 x16 x17 x18 (ix4 0 h t j) = ((A.gw h t j : ℝ) : EReal) := by
  pointwise [val_main_v313, val_main_v312, val_main_call6_v0, val_main_call6_cst]
  simp only [v84_1, v309 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact select_bit _ _ _

theorem v310 (h : Fin 8) (c : Fin 32) (l : Fin 64) (j : Fin 128) : val_main_v310 (F := Ideal) x0 x1 x2 x3 x4 x5 x6 x7 x8 x9 x10 x11 x12 x13 x14 x15 x16 x17 x18 (ix4 h c l j) = ((∑ t : Fin 128, A.wm h t j * A.dz (chk c t) (feat h l) : ℝ) : EReal) := by
  pointwise [val_main_v310]
  simp only [v308 H, v84_0 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals simp only [mul_comm]

theorem v314 (b : Fin 2) (s : Fin 2048) (d : Fin 512) : val_main_v314 (F := Ideal) x0 x1 x2 x3 x4 x5 x6 x7 x8 x9 x10 x11 x12 x13 x14 x15 x16 x17 x18 (ix3 b s d) = ((A.dvn (tok b s) d : ℝ) : EReal) := by
  pointwise [val_main_v314, val_main_v311]
  refine (v310 H ..).trans ?_
  exact congrArg _ (A.dvn_at b s d _ _ _ _)

theorem v315 (d : Fin 512) : val_main_v315 (F := Ideal) x0 x1 x2 x3 x4 x5 x6 x7 x8 x9 x10 x11 x12 x13 x14 x15 x16 x17 x18 (ix1 d) = ((∑ n : Fin 4096, A.dvn n d : ℝ) : EReal) := by
  pointwise [val_main_v315, val_main_cst_66]
  simp only [hostSum_two]
  all_goals try pointwise [val_main_cst_66]
  simp only [v314 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v346 (d : Fin 512) : val_main_v346 (F := Ideal) x0 x1 x2 x3 x4 x5 x6 x7 x8 x9 x10 x11 x12 x13 x14 x15 x16 x17 x18 (ix2 0 d) = ((∑ n : Fin 4096, A.dvn n d : ℝ) : EReal) := by
  pointwise [val_main_v346, val_main_v317, val_main_v316, val_main_cst_67]
  try rw [hostSum_two]
  pointwise []
  simp only [v315 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v319 (d : Fin 512) : val_main_v319 (F := Ideal) x0 x1 x2 x3 x4 x5 x6 x7 x8 x9 x10 x11 x12 x13 x14 x15 x16 x17 x18 (ix1 d) = ((∑ n : Fin 4096, A.dvn n d * A.vh n d : ℝ) : EReal) := by
  pointwise [val_main_v319, val_main_v318, val_main_cst_68]
  simp only [hostSum_two]
  all_goals try pointwise [val_main_v318, val_main_cst_68]
  simp only [v70 H, v314 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  rw [← sum_tok]
  all_goals simp only [mul_comm]

theorem v347 (d : Fin 512) : val_main_v347 (F := Ideal) x0 x1 x2 x3 x4 x5 x6 x7 x8 x9 x10 x11 x12 x13 x14 x15 x16 x17 x18 (ix2 0 d) = ((∑ n : Fin 4096, A.dvn n d * A.vh n d : ℝ) : EReal) := by
  pointwise [val_main_v347, val_main_v323, val_main_v320, val_main_cst_69]
  try rw [hostSum_two]
  pointwise []
  simp only [v319 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v322 (b : Fin 2) (s : Fin 2048) (d : Fin 512) : val_main_v322 (F := Ideal) x0 x1 x2 x3 x4 x5 x6 x7 x8 x9 x10 x11 x12 x13 x14 x15 x16 x17 x18 (ix3 b s d) = ((A.dvn (tok b s) d * A.ng d : ℝ) : EReal) := by
  pointwise [val_main_v322, val_main_v321, val_main_v71, val_main_v50]
  simp only [v314 H, H.gt, H.g2, H.ng, H.nb, H.ws, H.bs, H.cg, H.cb, H.oa, H.ob, H.wo, H.e, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v337 (b : Fin 2) (s : Fin 2048) (d : Fin 512) : val_main_v337 (F := Ideal) x0 x1 x2 x3 x4 x5 x6 x7 x8 x9 x10 x11 x12 x13 x14 x15 x16 x17 x18 (ix3 b s d) = ((rmsV (cen (A.v (tok b s))) (fun d => A.dvn (tok b s) d * A.ng d) d : ℝ) : EReal) := by
  pointwise [val_main_v337, val_main_v335, val_main_v328, val_main_v327, val_main_v334, val_main_v333, val_main_v332, val_main_v331, val_main_v329, val_main_v326, val_main_v325, val_main_v324, val_main_cst_70, val_main_v330, val_main_cst_71, val_main_cst_72, val_main_v336]
  simp only [v322 H, v65 H, v57 H, v68 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  all_goals rfl

theorem v345 (b : Fin 2) (s : Fin 2048) (d : Fin 512) : val_main_v345 (F := Ideal) x0 x1 x2 x3 x4 x5 x6 x7 x8 x9 x10 x11 x12 x13 x14 x15 x16 x17 x18 (ix3 b s d) = ((A.dv (tok b s) d : ℝ) : EReal) := by
  pointwise [val_main_v345, val_main_v344, val_main_v343, val_main_v342, val_main_v340, val_main_v339, val_main_v338, val_main_cst_73, val_main_v341, val_main_cst_74, val_main_cst_75]
  simp only [v337 H, H.gt, H.g2, H.ng, H.nb, H.ws, H.bs, H.cg, H.cb, H.oa, H.ob, H.wo, H.e, zero_add, Fin.sum_univ_one, Fin.isValue, lit_eps, lit_half, lit_neg_half, lit_two, lit_one, lit_zero, lit_1024, lit_512, ← EReal.coe_one, ← EReal.coe_zero, ← EReal.coe_mul, ← EReal.coe_add, ← EReal.coe_sub, ← EReal.coe_neg, coe_sum, div_1024, div_512]
  exact congrArg _ (lnV_eq _ _ _)

end Cert.Reference2Ideal.Rows
end
-- ==== Proof.Mixer.RefOut.lean ====
/- The reference's results at an index, as real numbers. -/
module

public import proofs.«01_k».proof.Proof.Mixer.RefBack
public import proofs.«01_k».proof.Proof.Mixer.Model

@[expose] public section

set_option maxRecDepth 16384

noncomputable section

namespace Cert.Reference2Ideal.Rows

open Cert.Reference2Ideal Cert.Reference2Ideal.Gen Cert.Reference2Ideal.Read Idealize.ShloMosaic Mix
open Ffn hiding Args

variable {x0 x18 : FVec Ideal S2x2048x1024 .f32} {x1 x2 x3 : FVec Ideal S2x1024 .f32} {x4 x5 : FVec Ideal S1x1024 .f32}
  {x6 : FVec Ideal S1x1024x2048 .f32} {x7 x8 x12 x13 x14 x15 x16 : FVec Ideal S1x512 .f32} {x9 : FVec Ideal S1x8x128x128 .f32}
  {x10 : FVec Ideal S1x8x128 .f32} {x11 : FVec Ideal S1x31x512 .f32} {x17 : FVec Ideal S1x1024x1024 .f32} {A : Args}

variable (H : Reads A x0 x1 x2 x3 x4 x5 x6 x7 x8 x9 x10 x11 x12 x13 x14 x15 x16 x17 x18)
include H

omit H in
theorem tok_split (n : Fin 4096) (h : n.val / 2048 < 2) (h2 : n.val % 2048 < 2048) : tok ⟨n.val / 2048, h⟩ ⟨n.val % 2048, h2⟩ = n :=
  Fin.ext (by show 2048 * (n.val / 2048) + n.val % 2048 = n.val; omega)

/-! ### The results -/

theorem part_at (n : Fin 4096) (k : Fin 2048) : val_main_v365 (F := Ideal) x0 x1 x2 x3 x4 x5 x6 x7 x8 x9 x10 x11 x12 x13 x14 x15 x16 x17 x18 (ix2 n k) = ((A.part n k : ℝ) : EReal) := by
  pointwise [val_main_v365, val_main_v349, val_main_v348, val_main_cst_76]
  by_cases h1 : k.val < 512
  · simp only [Args.part, dif_pos h1]
    exact (v298 H ..).trans (congrArg (fun n => ((A.du n _ : ℝ) : EReal)) (tok_split n _ _))
  by_cases h2 : k.val < 1024
  · have e2 : k.val - 512 < 512 := by omega
    simp only [Args.part, dif_neg h1, dif_pos h2, dif_pos e2]
    exact (v345 H ..).trans (congrArg (fun n => ((A.dv n _ : ℝ) : EReal)) (tok_split n _ _))
  have e2 : ¬ k.val - 512 < 512 := by omega
  by_cases h3 : k.val < 1536
  · have e3 : k.val - 512 - 512 < 512 := by omega
    simp only [Args.part, dif_neg h1, dif_neg h2, dif_neg e2, dif_pos h3, dif_pos e3]
    exact (v290 H ..).trans (congrArg₂ (fun n d => ((A.dc n d : ℝ) : EReal)) (tok_split n _ _) (Fin.ext (by show k.val - 512 - 512 = k.val - 1024; omega)))
  · have e3 : ¬ k.val - 512 - 512 < 512 := by omega
    simp only [Args.part, dif_neg h1, dif_neg h2, dif_neg e2, dif_neg h3, dif_neg e3]
    exact EReal.coe_zero.symm

theorem dym_at (n : Fin 4096) (d : Fin 1024) : val_main_v367 (F := Ideal) x0 x1 x2 x3 x4 x5 x6 x7 x8 x9 x10 x11 x12 x13 x14 x15 x16 x17 x18 (ix2 n d) = ((A.dy n d : ℝ) : EReal) := by
  pointwise [val_main_v367, val_main_v366]
  exact (v211 H ..).trans (congrArg (fun n => ((A.dy n d : ℝ) : EReal)) (tok_split n _ _))

theorem ycat_at (n : Fin 4096) (k : Fin 1024) : val_main_v369 (F := Ideal) x0 x1 x2 x4 x6 x7 x8 x9 x10 x11 x12 x13 x14 x15 x16 (ix2 n k) = ((A.ycat n k : ℝ) : EReal) := by
  pointwise [val_main_v369, val_main_v368]
  exact (v162 H ..).trans (congrArg (fun n => ((A.ycat n k : ℝ) : EReal)) (tok_split n _ _))

omit H in
theorem v350 (b : Fin 2) (d : Fin 1024) : val_main_v350 (F := Ideal) (ix2 b d) = ((0 : ℝ) : EReal) := by
  pointwise [val_main_v350, val_main_cst_77]
  exact EReal.coe_zero.symm

theorem mod_at (b : Fin 2) (r : Fin 8) (d : Fin 1024) : val_main_v359 (F := Ideal) x0 x1 x2 x4 x5 x6 x7 x8 x9 x10 x11 x12 x13 x14 x15 x16 x17 x18 (ix3 b r d) = ((A.mod b r d : ℝ) : EReal) := by
  pointwise [val_main_v359, val_main_v358, val_main_v357, val_main_v356, val_main_v355, val_main_v354, val_main_v353, val_main_v352, val_main_v351]
  simp only [v350, v214 H, dite_eq_ite, ite_self, Args.mod]
  by_cases h2 : r.val = 2
  · rw [if_pos h2, if_neg (by omega), if_neg (by omega)]
    exact if_pos (by omega)
  · rw [if_neg h2]
    by_cases h0 : r.val < 1
    · exact if_pos h0
    rw [if_neg h0]
    by_cases h1 : r.val < 2
    · exact if_pos (by omega)
    rw [if_neg (by omega)]
    exact if_neg (by omega)

theorem gain_at (r : Fin 8) (d : Fin 1024) : val_main_v362 (F := Ideal) x0 x1 x2 x3 x4 x6 x7 x8 x9 x10 x11 x12 x13 x14 x15 x16 x17 x18 (ix2 r d) = ((A.gain r d : ℝ) : EReal) := by
  pointwise [val_main_v362, val_main_v361, val_main_v360, val_main_cst_78, val_main_cst_79]
  have e1 (z : Fin 1) := (congrArg (fun z => val_main_v212 (F := Ideal) x0 x1 x2 x3 x4 x6 x7 x8 x9 x10 x11 x12 x13 x14 x15 x16 x17 x18 (ix2 z d)) (Subsingleton.elim z 0)).trans (v212 H d)
  simp only [e1, dite_eq_ite, Args.gain, Args.tG2]
  by_cases h1 : r.val = 1
  · rw [if_pos h1, if_neg (by omega)]
    exact if_pos (by omega)
  · rw [if_neg h1]
    by_cases h0 : r.val < 1
    · exact (if_pos h0).trans EReal.coe_zero.symm
    · rw [if_neg h0]
      exact (if_neg (by omega)).trans EReal.coe_zero.symm

theorem vec_at (r : Fin 8) (d : Fin 512) : val_main_v364 (F := Ideal) x0 x1 x2 x3 x4 x5 x6 x7 x8 x9 x10 x11 x12 x13 x14 x15 x16 x17 x18 (ix2 r d) = ((A.vec r d : ℝ) : EReal) := by
  have hz : (0 : ℝ) = ∑ _ : Fin 4096, (0 : ℝ) := by simp
  pointwise [val_main_v364, val_main_v363, val_main_cst_80]
  have e0 (z : Fin 1) := (congrArg (fun z => val_main_v347 (F := Ideal) x0 x1 x2 x3 x4 x5 x6 x7 x8 x9 x10 x11 x12 x13 x14 x15 x16 x17 x18 (ix2 z d)) (Subsingleton.elim z 0)).trans (v347 H d)
  have e1 (z : Fin 1) := (congrArg (fun z => val_main_v346 (F := Ideal) x0 x1 x2 x3 x4 x5 x6 x7 x8 x9 x10 x11 x12 x13 x14 x15 x16 x17 x18 (ix2 z d)) (Subsingleton.elim z 0)).trans (v346 H d)
  have e2 (z : Fin 1) := (congrArg (fun z => val_main_v296 (F := Ideal) x0 x1 x2 x3 x4 x5 x6 x7 x8 x9 x10 x11 x12 x13 x14 x15 x16 x17 x18 (ix2 z d)) (Subsingleton.elim z 0)).trans (v296 H d)
  have e3 (z : Fin 1) := (congrArg (fun z => val_main_v292 (F := Ideal) x0 x1 x2 x3 x4 x5 x6 x7 x8 x9 x10 x11 x12 x13 x14 x15 x16 x17 x18 (ix2 z d)) (Subsingleton.elim z 0)).trans (v292 H d)
  have e4 (z : Fin 1) := (congrArg (fun z => val_main_v291 (F := Ideal) x0 x1 x2 x3 x4 x5 x6 x7 x8 x9 x10 x11 x12 x13 x14 x15 x16 x17 x18 (ix2 z d)) (Subsingleton.elim z 0)).trans (v291 H d)
  have e5 (z : Fin 1) := (congrArg (fun z => val_main_v258 (F := Ideal) x0 x1 x2 x3 x4 x5 x6 x7 x8 x9 x10 x11 x12 x13 x14 x15 x16 x17 x18 (ix2 z d)) (Subsingleton.elim z 0)).trans (v258 H d)
  have e6 (z : Fin 1) := (congrArg (fun z => val_main_v237 (F := Ideal) x0 x1 x2 x3 x4 x5 x6 x7 x8 x9 x10 x11 x12 x13 x14 x15 x16 x17 x18 (ix2 z d)) (Subsingleton.elim z 0)).trans (v237 H d)
  simp only [e0, e1, e2, e3, e4, e5, e6, dite_eq_ite, Args.vec, Args.tVec]
  fin_cases r
  all_goals first
    | rfl
    | exact EReal.coe_zero.symm.trans (congrArg _ hz)

theorem gws_at (h : Fin 8) (t j : Fin 128) : val_main_v370 (F := Ideal) x0 x1 x2 x3 x4 x5 x6 x7 x8 x9 x10 x11 x12 x13 x14 x15 x16 x17 x18 (ix3 h t j) = ((A.gw h t j : ℝ) : EReal) := by
  pointwise [val_main_v370]
  exact v313 H _ _ _

theorem gbs_at (h : Fin 8) (t : Fin 128) : val_main_v371 (F := Ideal) x0 x1 x2 x3 x4 x5 x6 x7 x8 x9 x10 x11 x12 x13 x14 x15 x16 x17 x18 (ix2 h t) = ((A.gb h t : ℝ) : EReal) := by
  pointwise [val_main_v371]
  exact v307 H _ _

end Cert.Reference2Ideal.Rows
end
-- ==== Proof.Mixer.RefFirst.lean ====
/- On finite arguments the reference's projection, gated half and convolution hold real numbers. -/
module

public import proofs.«01_k».proof.Defs
public import proofs.«01_k».proof.Proof.Gen.Pre_finite2
public import proofs.«01_k».proof.Proof.Mixer.RefForward

@[expose] public section

set_option maxRecDepth 16384

noncomputable section

namespace Cert.Reference2Ideal.Rows

open Cert.Reference2Ideal Cert.Reference2Ideal.Gen Cert.Reference2Ideal.Read Idealize.ShloMosaic Mix
open Ffn hiding Args

/-- Every entry is a real number. -/
def AllReal {S : Shape} (x : FVec Ideal S .f32) : Prop := ∀ i, x i = ((x i).toReal : EReal)

theorem allReal_of {S : Shape} {x : FVec Ideal S .f32} (h : ∀ i, ∃ r : ℝ, x i = (r : EReal)) : AllReal x := fun i => by
  obtain ⟨r, hr⟩ := h i
  rw [hr, EReal.toReal_coe]

theorem AllReal.entries {S : Shape} {x : FVec Ideal S .f32} (h : AllReal x) : ∃ X : S.Idx → ℝ, ∀ i, x i = (X i : EReal) := ⟨_, h⟩

variable {x0 : FVec Ideal S2x2048x1024 .f32} {x1 x2 : FVec Ideal S2x1024 .f32} {x4 : FVec Ideal S1x1024 .f32}
  {x6 : FVec Ideal S1x1024x2048 .f32} {x11 : FVec Ideal S1x31x512 .f32} {x12 : FVec Ideal S1x512 .f32}

theorem real_v7 {X0 : S2x2048x1024.Idx → ℝ} (h0 : ∀ i, x0 i = (X0 i : EReal)) (b : Fin 2) (s : Fin 2048) :
    val_main_v7 (F := Ideal) x0 (ix3 b s 0) = ((ms (fun d => X0 (ix3 b s d)) + eps : ℝ) : EReal) := by
  pointwise [val_main_v7, val_main_v6, val_main_v5, val_main_v4, val_main_v3, val_main_v2, val_main_v1, val_main_cst, val_main_cst_0, val_main_cst_1]
  simp only [h0, lit_eps, lit_one, lit_zero, lit_1024, zero_add, ← EReal.coe_one, ← EReal.coe_zero, ← EReal.coe_mul, ← EReal.coe_add, ← EReal.coe_sub, ← EReal.coe_neg, coe_sum, div_1024]
  all_goals rfl

theorem real_v23 (h0 : AllReal x0) (h1 : AllReal x1) (h2 : AllReal x2) (h4 : AllReal x4) (h6 : AllReal x6) :
    AllReal (val_main_v23 (F := Ideal) x0 x1 x2 x4 x6) := allReal_of fun i => by
  obtain ⟨b, s, e, rfl⟩ : ∃ b : Fin 2, ∃ s : Fin 2048, ∃ e : Fin 2048, i = ix3 b s e := ⟨i 0, i 1, i 2, eq_ix3 i⟩
  obtain ⟨X0, h0⟩ := h0.entries
  obtain ⟨X1, h1⟩ := h1.entries
  obtain ⟨X2, h2⟩ := h2.entries
  obtain ⟨X4, h4⟩ := h4.entries
  obtain ⟨X6, h6⟩ := h6.entries
  have hh (d : Fin 1024) : ∃ r : ℝ, val_main_v21 (F := Ideal) x0 x1 x2 x4 (ix3 b s d) = (r : EReal) := by
    pointwise [val_main_v21, val_main_v20, val_main_v19, val_main_v18, val_main_v17, val_main_v16, val_main_v15, val_main_v14, val_main_v13, val_main_v12, val_main_v11, val_main_v10, val_main_v9, val_main_v8, val_main_v0, val_main_cst_2]
    rw [real_v7 h0, rsqrt_ms]
    simp only [h0, h1, h2, h4, lit_eps, lit_one, lit_zero, lit_1024, zero_add, ← EReal.coe_one, ← EReal.coe_zero, ← EReal.coe_mul, ← EReal.coe_add, ← EReal.coe_sub, ← EReal.coe_neg, coe_sum, div_1024]
    exact ⟨_, rfl⟩
  choose r hr using hh
  pointwise [val_main_v23, val_main_v22]
  simp only [hr, h6, lit_eps, lit_one, lit_zero, lit_1024, zero_add, ← EReal.coe_one, ← EReal.coe_zero, ← EReal.coe_mul, ← EReal.coe_add, ← EReal.coe_sub, ← EReal.coe_neg, coe_sum, div_1024]
  exact ⟨_, rfl⟩

theorem real_v34 (h : AllReal (val_main_v23 (F := Ideal) x0 x1 x2 x4 x6)) : AllReal (val_main_v34 (F := Ideal) x0 x1 x2 x4 x6) := allReal_of fun i => by
  obtain ⟨b, s, d, rfl⟩ : ∃ b : Fin 2, ∃ s : Fin 2048, ∃ d : Fin 512, i = ix3 b s d := ⟨i 0, i 1, i 2, eq_ix3 i⟩
  pointwise [val_main_v34, val_main_v33, val_main_v32, val_main_v31, val_main_v30, val_main_v29, val_main_v28, val_main_v27, val_main_v26, val_main_cst_3, val_main_cst_4]
  rw [h (ix3 b s ⟨1536 + d.val, by omega⟩), h (ix3 b s ⟨1024 + d.val, by omega⟩)]
  simp only [lit_one, ← EReal.coe_neg, Ideal.exp_coe, ← EReal.coe_one, ← EReal.coe_add, div_pos_real _ _ (one_add_exp_pos _), ← EReal.coe_mul]
  exact ⟨_, rfl⟩

theorem real_v35 (h : AllReal (val_main_v34 (F := Ideal) x0 x1 x2 x4 x6)) (i : S2x2078x512.Idx) : ∃ r : ℝ, val_main_v35 (F := Ideal) x0 x1 x2 x4 x6 i = (r : EReal) := by
  unfold val_main_v35 pad
  split
  · exact ⟨_, h _⟩
  · exact ⟨_, rfl⟩

theorem real_v99 (h : AllReal (val_main_v34 (F := Ideal) x0 x1 x2 x4 x6)) (h11 : AllReal x11) (h12 : AllReal x12) :
    AllReal (val_main_v99 (F := Ideal) x0 x1 x2 x4 x6 x11 x12) := allReal_of fun i => by
  obtain ⟨b, s, d, rfl⟩ : ∃ b : Fin 2, ∃ s : Fin 2048, ∃ d : Fin 512, i = ix3 b s d := ⟨i 0, i 1, i 2, eq_ix3 i⟩
  obtain ⟨X11, h11⟩ := h11.entries
  obtain ⟨X12, h12⟩ := h12.entries
  have hg (k : Fin 31) : ∃ r : ℝ, val_main_v43 (F := Ideal) x0 x1 x2 x4 x6 (ix4 b s k d) = (r : EReal) := real_v35 h _
  choose r hr using hg
  pointwise [val_main_v99, val_main_v98, val_main_v97, val_main_v96, val_main_v48, val_main_v47, val_main_v46, val_main_v45, val_main_v44, val_main_cst_5]
  simp only [hr, h11, h12, lit_eps, lit_one, lit_zero, lit_1024, zero_add, ← EReal.coe_one, ← EReal.coe_zero, ← EReal.coe_mul, ← EReal.coe_add, ← EReal.coe_sub, ← EReal.coe_neg, coe_sum, div_1024]
  exact ⟨_, rfl⟩

end Cert.Reference2Ideal.Rows
end
-- ==== Proof.Mixer.Pre.lean ====
/- Finite arguments of the mixer's pair hold real numbers. -/
module

public import proofs.«01_k».proof.Proof.Mixer.RefFirst
public import proofs.«01_k».proof.Proof.Finite

@[expose] public section

set_option maxRecDepth 16384

noncomputable section

namespace Cert.Reference2Ideal.Rows

open Cert.Reference2Ideal Cert.Reference2Ideal.Gen Cert.Reference2Ideal.Read Idealize.ShloMosaic Mix
open Ffn hiding Args

/-- The real arrays that finite arguments hold. -/
def argsOf (x0 : FVec Ideal S2x2048x1024 .f32) (x1 : FVec Ideal S2x1024 .f32) (x2 : FVec Ideal S2x1024 .f32) (x3 : FVec Ideal S2x1024 .f32) (x4 : FVec Ideal S1x1024 .f32) (x5 : FVec Ideal S1x1024 .f32) (x6 : FVec Ideal S1x1024x2048 .f32) (x7 : FVec Ideal S1x512 .f32) (x8 : FVec Ideal S1x512 .f32) (x9 : FVec Ideal S1x8x128x128 .f32) (x10 : FVec Ideal S1x8x128 .f32) (x11 : FVec Ideal S1x31x512 .f32) (x12 : FVec Ideal S1x512 .f32) (x13 : FVec Ideal S1x512 .f32) (x14 : FVec Ideal S1x512 .f32) (x15 : FVec Ideal S1x512 .f32) (x16 : FVec Ideal S1x512 .f32) (x17 : FVec Ideal S1x1024x1024 .f32) (x18 : FVec Ideal S2x2048x1024 .f32) : Args where
  P n e := (val_main_v23 (F := Ideal) x0 x1 x2 x4 x6 (ix3 (seq n) ⟨n.val % 2048, by omega⟩ e)).toReal
  C n d := (val_main_v99 (F := Ideal) x0 x1 x2 x4 x6 x11 x12 (ix3 (seq n) ⟨n.val % 2048, by omega⟩ d)).toReal
  Gt b d := (x3 (ix2 b d)).toReal
  G2 d := (x5 (ix2 0 d)).toReal
  ng d := (x7 (ix2 0 d)).toReal
  nb d := (x8 (ix2 0 d)).toReal
  cg d := (x13 (ix2 0 d)).toReal
  cb d := (x14 (ix2 0 d)).toReal
  oa d := (x15 (ix2 0 d)).toReal
  ob d := (x16 (ix2 0 d)).toReal
  Ws h t j := (x9 (ix4 0 h t j)).toReal
  Bs h t := (x10 (ix3 0 h t)).toReal
  Wo k d := (x17 (ix3 0 k d)).toReal
  E n d := (x18 (ix3 (seq n) ⟨n.val % 2048, by omega⟩ d)).toReal

theorem row_tok (b : Fin 2) (s : Fin 2048) (h : (tok b s).val % 2048 < 2048) : (⟨(tok b s).val % 2048, h⟩ : Fin 2048) = s :=
  Fin.ext (by simp only [tok]; omega)

theorem reads_of_finite [Cert.Pre_finite2.Facts] (x0 : FVec Ideal S2x2048x1024 .f32) (x1 : FVec Ideal S2x1024 .f32) (x2 : FVec Ideal S2x1024 .f32) (x3 : FVec Ideal S2x1024 .f32) (x4 : FVec Ideal S1x1024 .f32) (x5 : FVec Ideal S1x1024 .f32) (x6 : FVec Ideal S1x1024x2048 .f32) (x7 : FVec Ideal S1x512 .f32) (x8 : FVec Ideal S1x512 .f32) (x9 : FVec Ideal S1x8x128x128 .f32) (x10 : FVec Ideal S1x8x128 .f32) (x11 : FVec Ideal S1x31x512 .f32) (x12 : FVec Ideal S1x512 .f32) (x13 : FVec Ideal S1x512 .f32) (x14 : FVec Ideal S1x512 .f32) (x15 : FVec Ideal S1x512 .f32) (x16 : FVec Ideal S1x512 .f32) (x17 : FVec Ideal S1x1024x1024 .f32) (x18 : FVec Ideal S2x2048x1024 .f32)
    (h : (Cert.Pre_finite2.fn (F := Ideal) x0 x1 x2 x3 x4 x5 x6 x7 x8 x9 x10 x11 x12 x13 x14 x15 x16 x17 x18).1 = (fun _ => 1#1)
      ∧ (Cert.Pre_finite2.fn (F := Ideal) x0 x1 x2 x3 x4 x5 x6 x7 x8 x9 x10 x11 x12 x13 x14 x15 x16 x17 x18).2.1 = (fun _ => 1#1)
      ∧ (Cert.Pre_finite2.fn (F := Ideal) x0 x1 x2 x3 x4 x5 x6 x7 x8 x9 x10 x11 x12 x13 x14 x15 x16 x17 x18).2.2.1 = (fun _ => 1#1)
      ∧ (Cert.Pre_finite2.fn (F := Ideal) x0 x1 x2 x3 x4 x5 x6 x7 x8 x9 x10 x11 x12 x13 x14 x15 x16 x17 x18).2.2.2.1 = (fun _ => 1#1)
      ∧ (Cert.Pre_finite2.fn (F := Ideal) x0 x1 x2 x3 x4 x5 x6 x7 x8 x9 x10 x11 x12 x13 x14 x15 x16 x17 x18).2.2.2.2.1 = (fun _ => 1#1)
      ∧ (Cert.Pre_finite2.fn (F := Ideal) x0 x1 x2 x3 x4 x5 x6 x7 x8 x9 x10 x11 x12 x13 x14 x15 x16 x17 x18).2.2.2.2.2.1 = (fun _ => 1#1)
      ∧ (Cert.Pre_finite2.fn (F := Ideal) x0 x1 x2 x3 x4 x5 x6 x7 x8 x9 x10 x11 x12 x13 x14 x15 x16 x17 x18).2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.2.2.2.2.2.1 = (fun _ => 1#1)
      ∧ (Cert.Pre_finite2.fn (F := Ideal) x0 x1 x2 x3 x4 x5 x6 x7 x8 x9 x10 x11 x12 x13 x14 x15 x16 x17 x18).2.2.2.2.2.2.2.2.2.2.2.2.2.2.2.2.2.2 = (fun _ => 1#1)) :
    Reads (argsOf x0 x1 x2 x3 x4 x5 x6 x7 x8 x9 x10 x11 x12 x13 x14 x15 x16 x17 x18) x0 x1 x2 x3 x4 x5 x6 x7 x8 x9 x10 x11 x12 x13 x14 x15 x16 x17 x18 := by
  have h23 : AllReal (val_main_v23 (F := Ideal) x0 x1 x2 x4 x6) := real_v23 (real_of_abs_lt x0 _ _ h.1) (real_of_abs_lt x1 _ _ h.2.1) (real_of_abs_lt x2 _ _ h.2.2.1) (real_of_abs_lt x4 _ _ h.2.2.2.2.1) (real_of_abs_lt x6 _ _ h.2.2.2.2.2.2.1)
  have h99 : AllReal (val_main_v99 (F := Ideal) x0 x1 x2 x4 x6 x11 x12) := real_v99 (real_v34 h23) (real_of_abs_lt x11 _ _ h.2.2.2.2.2.2.2.2.2.2.2.1) (real_of_abs_lt x12 _ _ h.2.2.2.2.2.2.2.2.2.2.2.2.1)
  have e18 : AllReal x18 := real_of_abs_lt x18 _ _ h.2.2.2.2.2.2.2.2.2.2.2.2.2.2.2.2.2.2
  constructor
  · intro b s e
    simp only [argsOf, seq_tok, row_tok]
    exact h23 _
  · intro b s d
    simp only [argsOf, seq_tok, row_tok]
    exact h99 _
  · exact fun _ _ => real_of_abs_lt x3 _ _ h.2.2.2.1 _
  · exact fun _ => real_of_abs_lt x5 _ _ h.2.2.2.2.2.1 _
  · exact fun _ => real_of_abs_lt x7 _ _ h.2.2.2.2.2.2.2.1 _
  · exact fun _ => real_of_abs_lt x8 _ _ h.2.2.2.2.2.2.2.2.1 _
  · exact fun _ _ _ => real_of_abs_lt x9 _ _ h.2.2.2.2.2.2.2.2.2.1 _
  · exact fun _ _ => real_of_abs_lt x10 _ _ h.2.2.2.2.2.2.2.2.2.2.1 _
  · exact fun _ => real_of_abs_lt x13 _ _ h.2.2.2.2.2.2.2.2.2.2.2.2.2.1 _
  · exact fun _ => real_of_abs_lt x14 _ _ h.2.2.2.2.2.2.2.2.2.2.2.2.2.2.1 _
  · exact fun _ => real_of_abs_lt x15 _ _ h.2.2.2.2.2.2.2.2.2.2.2.2.2.2.2.1 _
  · exact fun _ => real_of_abs_lt x16 _ _ h.2.2.2.2.2.2.2.2.2.2.2.2.2.2.2.2.1 _
  · exact fun _ _ => real_of_abs_lt x17 _ _ h.2.2.2.2.2.2.2.2.2.2.2.2.2.2.2.2.2.1 _
  · intro b s d
    simp only [argsOf, seq_tok, row_tok]
    exact e18 _

end Cert.Reference2Ideal.Rows
end
-- ==== Proof.Mixer.Equal.lean ====
/- The mixer's pair: both programs end holding the same eight arrays. -/
module

public import proofs.«01_k».proof.Defs
public import proofs.«01_k».proof.Proof.Mixer.Arrays
public import proofs.«01_k».proof.Proof.Mixer.RefOut
public import proofs.«01_k».proof.Proof.Mixer.Pre
public import proofs.«01_k».proof.Proof.Gen.Reference2Ideal.Run
public import Idealize.ShloMosaic.Adequacy
public import Idealize.ShloMosaic.Init

@[expose] public section

set_option maxRecDepth 16384

noncomputable section

namespace Cert.Proof.Mixer

open Idealize.ShloMosaic Idealize.SL.Sem Mix Cert.Reference2Ideal.Rows Cert.Reference2Ideal.Read

/-- The reference leaves its arguments alone; it declares no semaphore. -/
theorem quiet : Cert.quiescent_Reference2Ideal (hReference2Ideal := Cert.Reference2Ideal.Gen.facts) := fun m g _ =>
  (θ_run Cert.Reference2Ideal.defs _ _).mono (fun r h => ⟨fun c => (h c).2.2.2.2.2.2.2.2, sem_eq_zero_of_no_sems (by decide) r.2⟩) (Cert.Reference2Ideal.Value.run m g)

theorem quiet_finite : Cert.quiescent_Reference2Ideal_pre_finite2 (hReference2Ideal := Cert.Reference2Ideal.Gen.facts) (hPre_finite2 := Cert.Pre_finite2.Gen.facts) :=
  fun m g _ => quiet m g trivial

/-- The eight arrays, of the real arrays `A`. -/
def results (A : Args) : FVec Ideal Cert.Reference2Ideal.S4096x2048 .f32 × FVec Ideal Cert.Reference2Ideal.S4096x1024 .bf16 × FVec Ideal Cert.Reference2Ideal.S4096x1024 .bf16
    × FVec Ideal Cert.Reference2Ideal.S2x8x1024 .f32 × FVec Ideal Cert.Reference2Ideal.S8x1024 .f32 × FVec Ideal Cert.Reference2Ideal.S8x512 .f32 × FVec Ideal Cert.Reference2Ideal.S8x128x128 .f32 × FVec Ideal Cert.Reference2Ideal.S8x128 .f32 :=
  (fun i => ((A.part (i 0) (i 1) : ℝ) : EReal), fun i => ((A.dy (i 0) (i 1) : ℝ) : EReal), fun i => ((A.ycat (i 0) (i 1) : ℝ) : EReal),
    fun i => ((A.mod (i 0) (i 1) (i 2) : ℝ) : EReal), fun i => ((A.gain (i 0) (i 1) : ℝ) : EReal), fun i => ((A.vec (i 0) (i 1) : ℝ) : EReal),
    fun i => ((A.gw (i 0) (i 1) (i 2) : ℝ) : EReal), fun i => ((A.gb (i 0) (i 1) : ℝ) : EReal))

/-- The real arrays of device `c`. -/
def real (m : (ℓ : Loc Cert.Kernel2Ideal.nD Cert.Kernel2Ideal.τ Cert.Kernel2Ideal.sig) → Buf (Elt Ideal) ℓ) (c : Dev Cert.Kernel2Ideal.nD) : Args :=
  argsOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18))

theorem equal : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  have H (c : Dev Cert.Kernel2Ideal.nD) : Cert.Kernel2Ideal.Opened.Given m c (real m c) := reads_of_finite _ _ _ _ _ _ _ _ _ _ _ _ _ _ _ _ _ _ _ (hpre c)
  have HR (c : Dev Cert.Kernel2Ideal.nD) : Reads (real m c) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) (m' ((c.tc : Thread Cert.Reference2Ideal.nD Cert.Reference2Ideal.τ).loc Cert.Reference2Ideal.main_arg16)) (m' ((c.tc : Thread Cert.Reference2Ideal.nD Cert.Reference2Ideal.τ).loc Cert.Reference2Ideal.main_arg17)) (m' ((c.tc : Thread Cert.Reference2Ideal.nD Cert.Reference2Ideal.τ).loc Cert.Reference2Ideal.main_arg18)) := by
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    exact H c
  refine ⟨fun c => (results (real m c)).1, fun c => (results (real m c)).2.1, fun c => (results (real m c)).2.2.1, fun c => (results (real m c)).2.2.2.1,
    fun c => (results (real m c)).2.2.2.2.1, fun c => (results (real m c)).2.2.2.2.2.1, fun c => (results (real m c)).2.2.2.2.2.2.1,
    fun c => (results (real m c)).2.2.2.2.2.2.2, ?_, ?_⟩
  · refine (θ_run Cert.Kernel2Ideal.defs _ _).mono (fun r h c => ?_) (Cert.Kernel2Ideal.Value.run_blocks m g)
    obtain ⟨h0, h1, h2, h3, h4, h5, h6, h7, hk⟩ := h c
    exact ⟨h0.trans (Cert.Kernel2Ideal.Opened.arr11 (H c)), h1.trans (Cert.Kernel2Ideal.Opened.arr12 (H c)), h2.trans (Cert.Kernel2Ideal.Opened.arr13 (H c)), h3.trans (Cert.Kernel2Ideal.Opened.arr14 (H c)), h4.trans (Cert.Kernel2Ideal.Opened.arr15 (H c)), h5.trans (Cert.Kernel2Ideal.Opened.arr16 (H c)), h6.trans (Cert.Kernel2Ideal.Opened.arr17 (H c)), h7.trans (Cert.Kernel2Ideal.Opened.arr18 (H c)), hk⟩
  · refine (θ_run Cert.Reference2Ideal.defs _ _).mono (fun r h c => ?_) (Cert.Reference2Ideal.Value.run m' g')
    obtain ⟨h0, h1, h2, h3, h4, h5, h6, h7, hk⟩ := h c
    exact ⟨h0.trans ((val_main_v365_eq _).trans (funext fun i => (congrArg _ (eq_ix2 i)).trans (part_at (HR c) _ _))),
      h1.trans ((val_main_v367_eq _).trans (funext fun i => (congrArg _ (eq_ix2 i)).trans (dym_at (HR c) _ _))),
      h2.trans ((val_main_v369_eq _).trans (funext fun i => (congrArg _ (eq_ix2 i)).trans (ycat_at (HR c) _ _))),
      h3.trans ((val_main_v359_eq _).trans (funext fun i => (congrArg _ (eq_ix3 i)).trans (mod_at (HR c) _ _ _))),
      h4.trans ((val_main_v362_eq _).trans (funext fun i => (congrArg _ (eq_ix2 i)).trans (gain_at (HR c) _ _))),
      h5.trans ((val_main_v364_eq _).trans (funext fun i => (congrArg _ (eq_ix2 i)).trans (vec_at (HR c) _ _))),
      h6.trans ((val_main_v370_eq _).trans (funext fun i => (congrArg _ (eq_ix3 i)).trans (gws_at (HR c) _ _ _))),
      h7.trans ((val_main_v371_eq _).trans (funext fun i => (congrArg _ (eq_ix2 i)).trans (gbs_at (HR c) _ _))),
      hk⟩

end Cert.Proof.Mixer
end
-- ==== Proof.Adam.Reduce.lean ====
/- The optimiser's update of a weight: the blocks of rows put in their places are the reference's arrays. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel3Ideal.Update

open Cert.Kernel3Ideal Cert.Kernel3Ideal.Gen
open Idealize.ShloMosaic Idealize.ShloMosaic.TcCoe Idealize.SL.Sem Cert.Reference3Ideal.Read

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] :=
  (by decide +kernel : ∀ t : Fin grid0.N, _)

theorem oidx : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def row (t : Fin cfg0.N) (p : Fin 256) : Fin 1024 := ⟨256 * t.val + p.val, by have := t.isLt; have : cfg0.N = 4 := N_0; omega⟩

theorem blk0 (t : Fin cfg0.N) (s : Fin 4) (p d : Fin 256) : iblk m c 0 t (ix3 s p d) = m ((c : Thread nD τ).loc main_arg0) (ix3 s (row t p) d) := by
  rw [← V_main_arg0 m c]
  refine congrArg (V m c main_arg0) ?_
  blk_ext [idx t, row]

theorem blk1 (t : Fin cfg0.N) (p d : Fin 256) : iblk m c 1 t (ix2 p d) = m ((c : Thread nD τ).loc main_arg1) (ix3 0 (row t p) d) := by
  have h : V m c main_v0 (ix2 (row t p) d) = m ((c : Thread nD τ).loc main_arg1) (ix3 0 (row t p) d) := by
    entry_read
    pointwise
  rw [← h]
  refine congrArg (V m c main_v0) ?_
  blk_ext [idx t, row]

theorem blk2 (t : Fin cfg0.N) (p d : Fin 256) : iblk m c 2 t (ix2 p d) = m ((c : Thread nD τ).loc main_arg2) (ix3 0 (row t p) d) := by
  have h : V m c main_v1 (ix2 (row t p) d) = m ((c : Thread nD τ).loc main_arg2) (ix3 0 (row t p) d) := by
    entry_read
    pointwise
  rw [← h]
  refine congrArg (V m c main_v1) ?_
  blk_ext [idx t, row]

theorem blk3 (t : Fin cfg0.N) (p d : Fin 256) : iblk m c 3 t (ix2 p d) = m ((c : Thread nD τ).loc main_arg3) (ix3 0 (row t p) d) := by
  have h : V m c main_v2 (ix2 (row t p) d) = m ((c : Thread nD τ).loc main_arg3) (ix3 0 (row t p) d) := by
    entry_read
    pointwise
  rw [← h]
  refine congrArg (V m c main_v2) ?_
  blk_ext [idx t, row]

theorem idx2 (q : Fin 1024) (d : Fin 256) : idx_main_v2 (ix2 q d) = ix3 0 q d := by
  funext a
  match a with
  | ⟨0, _⟩ => rfl
  | ⟨1, _⟩ => exact Fin.ext (by show (q.val * 256 + d.val) / 256 % 1024 = q.val; omega)
  | ⟨2, _⟩ => exact Fin.ext (by show (q.val * 256 + d.val) % 256 = d.val; omega)

theorem idx3 (q : Fin 1024) (d : Fin 256) : idx_main_v3 (ix2 q d) = ix3 0 q d := idx2 q d
theorem idx4 (q : Fin 1024) (d : Fin 256) : idx_main_v4 (ix2 q d) = ix3 0 q d := idx2 q d

/-- The sum of the four parts, at an entry. -/
theorem sum (t : Fin cfg0.N) (p d : Fin 256) :
    k0_pay2 (View.ld (iblk m c 0 t) r0_0) (View.ld (iblk m c 0 t) r0_1) (View.ld (iblk m c 0 t) r0_2) (View.ld (iblk m c 0 t) r0_3) (ix2 p d)
      = val_main_v1 (F := Ideal) (m ((c : Thread nD τ).loc main_arg0)) (ix2 (row t p) d) := by
  have h (s : Fin 4) : idx_main_v1 (ix2 (row t p) d) s = ix3 s (row t p) d := by funext a; fin_cases a <;> rfl
  unfold k0_pay2
  pointwise [View.ld_apply, blk0]
  simp only [val_main_v1_apply, val_main_v0_apply, val_main_cst_apply, Fin.sum_univ_four, h]
  exact (zero_add _).symm.trans (congrArg (· + _) Ideal.ofBits_zero_f32.symm)

/-- The first moment and the second. -/
theorem mom (t : Fin cfg0.N) (p d : Fin 256) :
    k0_pay6 (iblk m c 0 t) (iblk m c 1 t) (iblk m c 2 t) (iblk m c 3 t) (ix2 p d)
      = val_main_v9 (F := Ideal) (m ((c : Thread nD τ).loc main_arg0)) (m ((c : Thread nD τ).loc main_arg2)) (ix2 (row t p) d) := by
  unfold k0_pay6 k0_pay4
  pointwise [View.ld_apply, blk2]
  erw [sum]
  simp only [val_main_v9_apply, val_main_v6_apply, val_main_v5_apply, val_main_v8_apply, val_main_v7_apply, val_main_v3_apply,
    val_main_cst_0_apply, val_main_cst_1_apply, idx3]
  rfl

theorem mom2 (t : Fin cfg0.N) (p d : Fin 256) :
    k0_pay7 (iblk m c 0 t) (iblk m c 1 t) (iblk m c 2 t) (iblk m c 3 t) (ix2 p d)
      = val_main_v15 (F := Ideal) (m ((c : Thread nD τ).loc main_arg0)) (m ((c : Thread nD τ).loc main_arg3)) (ix2 (row t p) d) := by
  unfold k0_pay7 k0_pay5
  pointwise [View.ld_apply, blk3]
  erw [sum]
  simp only [val_main_v15_apply, val_main_v11_apply, val_main_v10_apply, val_main_v14_apply, val_main_v13_apply, val_main_v12_apply, val_main_v4_apply,
    val_main_cst_2_apply, val_main_cst_3_apply, idx4]
  rfl

/-- The step. -/
theorem step (t : Fin cfg0.N) (p d : Fin 256) :
    k0_pay1 (k0_pay3 (View.ld (iblk m c 1 t) r0_4)) (k0_pay6 (iblk m c 0 t) (iblk m c 1 t) (iblk m c 2 t) (iblk m c 3 t))
        (k0_pay7 (iblk m c 0 t) (iblk m c 1 t) (iblk m c 2 t) (iblk m c 3 t)) (Scalar.ofBits .f32 0x3F26BD02#32) (ix2 p d)
      = val_main_v28 (F := Ideal) (m ((c : Thread nD τ).loc main_arg0)) (m ((c : Thread nD τ).loc main_arg1)) (m ((c : Thread nD τ).loc main_arg2))
          (m ((c : Thread nD τ).loc main_arg3)) (ix2 (row t p) d) := by
  unfold k0_pay1 k0_pay3
  pointwise [View.ld_apply, blk1, mom, mom2]
  simp only [val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v2_apply,
    val_main_cst_4_apply, val_main_cst_5_apply, val_main_cst_6_apply, val_main_cst_7_apply, val_main_cst_8_apply, idx2]
  rfl

/-- The four arrays are the reference's. -/
theorem arr4 : (dats m 0 c).arrAt 4 cfg0.N = val_main_v1 (F := Ideal) (m ((c : Thread nD τ).loc main_arg0)) := by
  refine (dats m 0 c).arrAt_eq_of_covers 4 _ (by decide +kernel) fun t hf y => ?_
  blk_simp [oidx t]
  rw [after0_4]
  obtain ⟨p, d, rfl⟩ : ∃ p : Fin 256, ∃ d : Fin 256, y = ix2 p d := ⟨y 0, y 1, eq_ix2 y⟩
  have he : (win0_4.blk t).view.emb (ix2 p d) = ix2 (row t p) d := by blk_ext [oidx t, row]
  rw [he]
  unfold out0_4
  rw [View.canon_cons_unit_lit _ _ _ (by decide)]
  exact sum m c t p d

theorem arr5 : (dats m 0 c).arrAt 5 cfg0.N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [oidx t]
  rw [after0_5]
  obtain ⟨p, d, rfl⟩ : ∃ p : Fin 256, ∃ d : Fin 256, y = ix2 p d := ⟨y 0, y 1, eq_ix2 y⟩
  have he : (win0_5.blk t).view.emb (ix2 p d) = ix2 (row t p) d := by blk_ext [oidx t, row]
  rw [he]
  unfold out0_5
  rw [View.canon_cons_unit_lit _ _ _ (by decide)]
  exact step m c t p d

theorem arr6 : (dats m 0 c).arrAt 6 cfg0.N = val_main_v9 (F := Ideal) (m ((c : Thread nD τ).loc main_arg0)) (m ((c : Thread nD τ).loc main_arg2)) := by
  refine (dats m 0 c).arrAt_eq_of_covers 6 _ (by decide +kernel) fun t hf y => ?_
  blk_simp [oidx t]
  rw [after0_6]
  obtain ⟨p, d, rfl⟩ : ∃ p : Fin 256, ∃ d : Fin 256, y = ix2 p d := ⟨y 0, y 1, eq_ix2 y⟩
  have he : (win0_6.blk t).view.emb (ix2 p d) = ix2 (row t p) d := by blk_ext [oidx t, row]
  rw [he]
  unfold out0_6
  rw [View.canon_cons_unit_lit _ _ _ (by decide)]
  exact mom m c t p d

theorem arr7 : (dats m 0 c).arrAt 7 cfg0.N = val_main_v15 (F := Ideal) (m ((c : Thread nD τ).loc main_arg0)) (m ((c : Thread nD τ).loc main_arg3)) := by
  refine (dats m 0 c).arrAt_eq_of_covers 7 _ (by decide +kernel) fun t hf y => ?_
  blk_simp [oidx t]
  rw [after0_7]
  obtain ⟨p, d, rfl⟩ : ∃ p : Fin 256, ∃ d : Fin 256, y = ix2 p d := ⟨y 0, y 1, eq_ix2 y⟩
  have he : (win0_7.blk t).view.emb (ix2 p d) = ix2 (row t p) d := by blk_ext [oidx t, row]
  rw [he]
  unfold out0_7
  rw [View.canon_cons_unit_lit _ _ _ (by decide)]
  exact mom2 m c t p d

end Cert.Kernel3Ideal.Update

end
-- ==== Proof.Adam.Ada.lean ====
/- The gradient of the modulation's weights, a product, with the optimiser's update: the blocks of rows put in their places are the reference's arrays. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel4Ideal.Update

open Cert.Kernel4Ideal Cert.Kernel4Ideal.Gen
open Idealize.ShloMosaic Idealize.ShloMosaic.TcCoe Idealize.SL.Sem Cert.Reference4Ideal.Read

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] ∧ win0_3.index t = ![t.val, 0]
    ∧ win0_4.index t = ![t.val, 0] :=
  (by decide +kernel : ∀ t : Fin grid0.N, _)

theorem oidx : ∀ t : Fin cfg0.N, win0_5.index t = ![t.val, 0] ∧ win0_6.index t = ![t.val, 0] ∧ win0_7.index t = ![t.val, 0] ∧ win0_8.index t = ![t.val, 0] :=
  (by decide +kernel : ∀ t : Fin grid0.N, _)

/-- Row `p` of block `t`. -/
def row (t : Fin cfg0.N) (p : Fin 256) : Fin 1024 := ⟨256 * t.val + p.val, by have := t.isLt; have : cfg0.N = 4 := N_0; omega⟩

theorem blk0 (t : Fin cfg0.N) (k : Fin 64) (p : Fin 256) :
    iblk m c 0 t (ix2 k p) = val_main_v1 (F := Ideal) (m ((c : Thread nD τ).loc main_arg0)) (ix2 k (row t p)) := by
  have h : V m c main_v0 = val_main_v1 (F := Ideal) (m ((c : Thread nD τ).loc main_arg0)) := by
    entry_read
    rfl
  rw [← h]
  refine congrArg (V m c main_v0) ?_
  blk_ext [idx t, row]

theorem blk1 (t : Fin cfg0.N) (k : Fin 64) (d : Fin 1152) : iblk m c 1 t (ix2 k d) = m ((c : Thread nD τ).loc main_arg1) (ix2 k d) := by
  rw [← V_main_arg1 m c]
  refine congrArg (V m c main_arg1) ?_
  blk_ext [idx t]

theorem blk2 (t : Fin cfg0.N) (p : Fin 256) (d : Fin 1152) : iblk m c 2 t (ix2 p d) = m ((c : Thread nD τ).loc main_arg2) (ix3 0 (row t p) d) := by
  have h : V m c main_v1 (ix2 (row t p) d) = m ((c : Thread nD τ).loc main_arg2) (ix3 0 (row t p) d) := by
    unfold V
    simp only [hostOps0, hostOps0_1, List.flatten_cons, List.flatten_nil, List.append_nil, List.cons_append, List.nil_append]
    after_results_simp
    pointwise
  rw [← h]
  refine congrArg (V m c main_v1) ?_
  blk_ext [idx t, row]

theorem blk3 (t : Fin cfg0.N) (p : Fin 256) (d : Fin 1152) : iblk m c 3 t (ix2 p d) = m ((c : Thread nD τ).loc main_arg3) (ix3 0 (row t p) d) := by
  have h : V m c main_v2 (ix2 (row t p) d) = m ((c : Thread nD τ).loc main_arg3) (ix3 0 (row t p) d) := by
    unfold V
    simp only [hostOps0, hostOps0_1, List.flatten_cons, List.flatten_nil, List.append_nil, List.cons_append, List.nil_append]
    after_results_simp
    pointwise
  rw [← h]
  refine congrArg (V m c main_v2) ?_
  blk_ext [idx t, row]

theorem blk4 (t : Fin cfg0.N) (p : Fin 256) (d : Fin 1152) : iblk m c 4 t (ix2 p d) = m ((c : Thread nD τ).loc main_arg4) (ix3 0 (row t p) d) := by
  have h : V m c main_v3 (ix2 (row t p) d) = m ((c : Thread nD τ).loc main_arg4) (ix3 0 (row t p) d) := by
    unfold V
    simp only [hostOps0, hostOps0_1, List.flatten_cons, List.flatten_nil, List.append_nil, List.cons_append, List.nil_append]
    after_results_simp
    pointwise
  rw [← h]
  refine congrArg (V m c main_v3) ?_
  blk_ext [idx t, row]

theorem idx5 (q : Fin 1024) (d : Fin 1152) : idx_main_v5 (ix2 q d) = ix3 0 q d := by
  funext a
  match a with
  | ⟨0, _⟩ => rfl
  | ⟨1, _⟩ => exact Fin.ext (by show (q.val * 1152 + d.val) / 1152 % 1024 = q.val; omega)
  | ⟨2, _⟩ => exact Fin.ext (by show (q.val * 1152 + d.val) % 1152 = d.val; omega)

theorem idx6 (q : Fin 1024) (d : Fin 1152) : idx_main_v6 (ix2 q d) = ix3 0 q d := idx5 q d
theorem idx7 (q : Fin 1024) (d : Fin 1152) : idx_main_v7 (ix2 q d) = ix3 0 q d := idx5 q d

/-- The gradient, at an entry. -/
theorem grad (t : Fin cfg0.N) (p : Fin 256) (d : Fin 1152) :
    k0_pay2 (View.ld (iblk m c 0 t) r0_0) (View.ld (iblk m c 1 t) r0_1) (ix2 p d)
      = val_main_v4 (F := Ideal) (m ((c : Thread nD τ).loc main_arg0)) (m ((c : Thread nD τ).loc main_arg1)) (ix2 (row t p) d) := by
  unfold k0_pay2
  pointwise [View.ld_apply, blk0, blk1]
  simp only [val_main_v4_apply, val_main_v3_apply]
  refine Finset.sum_congr rfl fun k _ => (mul_comm _ _).trans (congrArg₂ (· * ·) (congrArg _ ?_) (congrArg _ ?_)) <;>
    (funext a; fin_cases a <;> rfl)

/-- The first moment and the second. -/
theorem mom (t : Fin cfg0.N) (p : Fin 256) (d : Fin 1152) :
    k0_pay3 (View.ld (iblk m c 0 t) r0_0) (View.ld (iblk m c 1 t) r0_1) (View.ld (iblk m c 3 t) r0_2) (ix2 p d)
      = val_main_v12 (F := Ideal) (m ((c : Thread nD τ).loc main_arg0)) (m ((c : Thread nD τ).loc main_arg1)) (m ((c : Thread nD τ).loc main_arg3)) (ix2 (row t p) d) := by
  unfold k0_pay3
  pointwise [View.ld_apply, blk3]
  erw [grad]
  simp only [val_main_cst_apply, val_main_v8_apply, val_main_v9_apply, val_main_cst_0_apply, val_main_v10_apply, val_main_v11_apply, val_main_v12_apply, val_main_v6_apply, idx6]
  rfl

theorem mom2 (t : Fin cfg0.N) (p : Fin 256) (d : Fin 1152) :
    k0_pay4 (View.ld (iblk m c 0 t) r0_0) (View.ld (iblk m c 1 t) r0_1) (View.ld (iblk m c 4 t) r0_2) (ix2 p d)
      = val_main_v18 (F := Ideal) (m ((c : Thread nD τ).loc main_arg0)) (m ((c : Thread nD τ).loc main_arg1)) (m ((c : Thread nD τ).loc main_arg4)) (ix2 (row t p) d) := by
  unfold k0_pay4
  pointwise [View.ld_apply, blk4]
  erw [grad]
  simp only [val_main_cst_1_apply, val_main_v13_apply, val_main_v14_apply, val_main_v15_apply, val_main_cst_2_apply, val_main_v16_apply, val_main_v17_apply, val_main_v18_apply, val_main_v7_apply, idx7]
  rfl

/-- The step. -/
theorem step (t : Fin cfg0.N) (p : Fin 256) (d : Fin 1152) :
    k0_pay1 (k0_pay5 (View.ld (iblk m c 0 t) r0_0) (View.ld (iblk m c 1 t) r0_1) (View.ld (iblk m c 2 t) r0_2) (View.ld (iblk m c 3 t) r0_2) (View.ld (iblk m c 4 t) r0_2))
        (k0_pay6 (F := Ideal)) (ix2 p d)
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) d) := by
  unfold k0_pay1 k0_pay5 k0_pay6
  pointwise [View.ld_apply, blk2]
  erw [mom, mom2]
  simp only [val_main_cst_3_apply, val_main_v19_apply, val_main_v20_apply, val_main_cst_4_apply, val_main_v21_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_v5_apply, idx5]
  rfl

/-- The four arrays are the reference's. -/
theorem arr5 : (dats m 0 c).arrAt 5 cfg0.N = val_main_v4 (F := Ideal) (m ((c : Thread nD τ).loc main_arg0)) (m ((c : Thread nD τ).loc main_arg1)) := by
  refine (dats m 0 c).arrAt_eq_of_covers 5 _ (by decide +kernel) fun t hf y => ?_
  blk_simp [oidx t]
  rw [after0_5]
  obtain ⟨p, d, rfl⟩ : ∃ p : Fin 256, ∃ d : Fin 1152, y = ix2 p d := ⟨y 0, y 1, eq_ix2 y⟩
  have he : (win0_5.blk t).view.emb (ix2 p d) = ix2 (row t p) d := by blk_ext [oidx t, row]
  rw [he]
  unfold out0_5
  rw [View.canon_cons_unit_lit _ _ _ (by decide)]
  exact grad m c t p d

theorem arr6 : (dats m 0 c).arrAt 6 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp [oidx t]
  rw [after0_6]
  obtain ⟨p, d, rfl⟩ : ∃ p : Fin 256, ∃ d : Fin 1152, y = ix2 p d := ⟨y 0, y 1, eq_ix2 y⟩
  have he : (win0_6.blk t).view.emb (ix2 p d) = ix2 (row t p) d := by blk_ext [oidx t, row]
  rw [he]
  unfold out0_6
  rw [View.canon_cons_unit_lit _ _ _ (by decide)]
  exact step m c t p d

theorem arr7 : (dats m 0 c).arrAt 7 cfg0.N = val_main_v12 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp [oidx t]
  rw [after0_7]
  obtain ⟨p, d, rfl⟩ : ∃ p : Fin 256, ∃ d : Fin 1152, y = ix2 p d := ⟨y 0, y 1, eq_ix2 y⟩
  have he : (win0_7.blk t).view.emb (ix2 p d) = ix2 (row t p) d := by blk_ext [oidx t, row]
  rw [he]
  unfold out0_7
  rw [View.canon_cons_unit_lit _ _ _ (by decide)]
  exact mom m c t p d

theorem arr8 : (dats m 0 c).arrAt 8 cfg0.N = val_main_v18 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp [oidx t]
  rw [after0_8]
  obtain ⟨p, d, rfl⟩ : ∃ p : Fin 256, ∃ d : Fin 1152, y = ix2 p d := ⟨y 0, y 1, eq_ix2 y⟩
  have he : (win0_8.blk t).view.emb (ix2 p d) = ix2 (row t p) d := by blk_ext [oidx t, row]
  rw [he]
  unfold out0_8
  rw [View.canon_cons_unit_lit _ _ _ (by decide)]
  exact mom2 m c t p d

end Cert.Kernel4Ideal.Update

end
-- ==== Proof.Adam.Small.lean ====
/- The optimiser's update of the taps of the convolution, in one block: the arrays it leaves are the reference's. -/
module

public import proofs.«01_k».proof.Proof.Gen.Kernel5Ideal.Value
public import proofs.«01_k».proof.Proof.Gen.Reference5Ideal.Read
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel5Ideal.Update

open Cert.Kernel5Ideal Cert.Kernel5Ideal.Gen
open Idealize.ShloMosaic Idealize.ShloMosaic.TcCoe Idealize.SL.Sem Cert.Reference5Ideal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem oidx : ∀ t : Fin cfg0.N, win0_4.index t = ![0, 0] ∧ win0_5.index t = ![0, 0] ∧ win0_6.index t = ![0, 0] ∧ win0_7.index t = ![0, 0] :=
  (by decide +kernel : ∀ t : Fin grid0.N, _)

theorem blk0 (t : Fin cfg0.N) (p : Fin 32) (d : Fin 64) : iblk m c 0 t (ix2 p d) = m ((c : Thread nD τ).loc main_arg0) (ix2 p d) := by
  rw [← V_main_arg0 m c]
  refine congrArg (V m c main_arg0) ?_
  blk_ext [idx t]

theorem blk1 (t : Fin cfg0.N) (p : Fin 32) (d : Fin 64) : iblk m c 1 t (ix2 p d) = val_main_v1 (F := Ideal) (m ((c : Thread nD τ).loc main_arg1)) (ix2 p d) := by
  have h : V m c main_v1 = val_main_v1 (F := Ideal) (m ((c : Thread nD τ).loc main_arg1)) := by
    unfold V
    simp only [hostOps0, hostOps0_1, hostOps0_2, hostOps0_3, hostOps0_4, hostOps0_5, List.flatten_cons, List.flatten_nil, List.append_nil, List.cons_append, List.nil_append]
    after_results_simp
    rfl
  rw [← h]
  refine congrArg (V m c main_v1) ?_
  blk_ext [idx t]

theorem blk2 (t : Fin cfg0.N) (p : Fin 32) (d : Fin 64) : iblk m c 2 t (ix2 p d) = val_main_v3 (F := Ideal) (m ((c : Thread nD τ).loc main_arg2)) (ix2 p d) := by
  have h : V m c main_v3 = val_main_v3 (F := Ideal) (m ((c : Thread nD τ).loc main_arg2)) := by
    unfold V
    simp only [hostOps0, hostOps0_1, hostOps0_2, hostOps0_3, hostOps0_4, hostOps0_5, List.flatten_cons, List.flatten_nil, List.append_nil, List.cons_append, List.nil_append]
    after_results_simp
    rfl
  rw [← h]
  refine congrArg (V m c main_v3) ?_
  blk_ext [idx t]

theorem blk3 (t : Fin cfg0.N) (p : Fin 32) (d : Fin 64) : iblk m c 3 t (ix2 p d) = val_main_v5 (F := Ideal) (m ((c : Thread nD τ).loc main_arg3)) (ix2 p d) := by
  have h : V m c main_v5 = val_main_v5 (F := Ideal) (m ((c : Thread nD τ).loc main_arg3)) := by
    unfold V
    simp only [hostOps0, hostOps0_1, hostOps0_2, hostOps0_3, hostOps0_4, hostOps0_5, List.flatten_cons, List.flatten_nil, List.append_nil, List.cons_append, List.nil_append]
    after_results_simp
    rfl
  rw [← h]
  refine congrArg (V m c main_v5) ?_
  blk_ext [idx t]

/-- The first moment and the second. -/
theorem mom (t : Fin cfg0.N) (p : Fin 32) (d : Fin 64) :
    k0_pay1 (View.ld (iblk m c 0 t) r0_0) (View.ld (iblk m c 2 t) r0_0) (ix2 p d) = val_main_v10 (F := Ideal) (m ((c : Thread nD τ).loc main_arg0)) (m ((c : Thread nD τ).loc main_arg2)) (ix2 p d) := by
  unfold k0_pay1
  pointwise [View.ld_apply, blk0, blk2]
  rfl

theorem mom2 (t : Fin cfg0.N) (p : Fin 32) (d : Fin 64) :
    k0_pay2 (View.ld (iblk m c 0 t) r0_0) (View.ld (iblk m c 3 t) r0_0) (ix2 p d) = val_main_v16 (F := Ideal) (m ((c : Thread nD τ).loc main_arg0)) (m ((c : Thread nD τ).loc main_arg3)) (ix2 p d) := by
  unfold k0_pay2
  pointwise [View.ld_apply, blk0, blk3]
  rfl

/-- The step. -/
theorem step (t : Fin cfg0.N) (p : Fin 32) (d : Fin 64) :
    k0_pay3 (View.ld (iblk m c 0 t) r0_0) (View.ld (iblk m c 1 t) r0_0) (View.ld (iblk m c 2 t) r0_0) (View.ld (iblk m c 3 t) r0_0) (ix2 p d) = val_main_v29 (F := Ideal) (m ((c : Thread nD τ).loc main_arg0)) (m ((c : Thread nD τ).loc main_arg1)) (m ((c : Thread nD τ).loc main_arg2)) (m ((c : Thread nD τ).loc main_arg3)) (ix2 p d) := by
  unfold k0_pay3
  pointwise [View.ld_apply, blk1]
  erw [mom, mom2]
  rfl

/-- The four arrays are the reference's. -/
theorem arr4 : (dats m 0 c).arrAt 4 cfg0.N = (m ((c : Thread nD τ).loc main_arg0)) := by
  refine (dats m 0 c).arrAt_eq_of_covers 4 _ (by decide +kernel) fun t hf y => ?_
  blk_simp [oidx t]
  rw [after0_4]
  obtain ⟨p, d, rfl⟩ : ∃ p : Fin 32, ∃ d : Fin 64, y = ix2 p d := ⟨y 0, y 1, eq_ix2 y⟩
  have he : (win0_4.blk t).view.emb (ix2 p d) = ix2 p d := by blk_ext [oidx t]
  rw [he]
  unfold out0_4
  rw [View.canon_cons_unit_lit _ _ _ (by decide)]
  pointwise [View.ld_apply, blk0]

theorem arr5 : (dats m 0 c).arrAt 5 cfg0.N = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [oidx t]
  rw [after0_5]
  obtain ⟨p, d, rfl⟩ : ∃ p : Fin 32, ∃ d : Fin 64, y = ix2 p d := ⟨y 0, y 1, eq_ix2 y⟩
  have he : (win0_5.blk t).view.emb (ix2 p d) = ix2 p d := by blk_ext [oidx t]
  rw [he]
  unfold out0_5
  rw [View.canon_cons_unit_lit _ _ _ (by decide)]
  exact step m c t p d

theorem arr6 : (dats m 0 c).arrAt 6 cfg0.N = val_main_v10 (F := Ideal) (m ((c : Thread nD τ).loc main_arg0)) (m ((c : Thread nD τ).loc main_arg2)) := by
  refine (dats m 0 c).arrAt_eq_of_covers 6 _ (by decide +kernel) fun t hf y => ?_
  blk_simp [oidx t]
  rw [after0_6]
  obtain ⟨p, d, rfl⟩ : ∃ p : Fin 32, ∃ d : Fin 64, y = ix2 p d := ⟨y 0, y 1, eq_ix2 y⟩
  have he : (win0_6.blk t).view.emb (ix2 p d) = ix2 p d := by blk_ext [oidx t]
  rw [he]
  unfold out0_6
  rw [View.canon_cons_unit_lit _ _ _ (by decide)]
  exact mom m c t p d

theorem arr7 : (dats m 0 c).arrAt 7 cfg0.N = val_main_v16 (F := Ideal) (m ((c : Thread nD τ).loc main_arg0)) (m ((c : Thread nD τ).loc main_arg3)) := by
  refine (dats m 0 c).arrAt_eq_of_covers 7 _ (by decide +kernel) fun t hf y => ?_
  blk_simp [oidx t]
  rw [after0_7]
  obtain ⟨p, d, rfl⟩ : ∃ p : Fin 32, ∃ d : Fin 64, y = ix2 p d := ⟨y 0, y 1, eq_ix2 y⟩
  have he : (win0_7.blk t).view.emb (ix2 p d) = ix2 p d := by blk_ext [oidx t]
  rw [he]
  unfold out0_7
  rw [View.canon_cons_unit_lit _ _ _ (by decide)]
  exact mom2 m c t p d

end Cert.Kernel5Ideal.Update

end
-- ==== Proof.Adam.Equal.lean ====
/- The optimiser's pairs: both programs end holding the same four arrays. -/
module

public import proofs.«01_k».proof.Defs
public import proofs.«01_k».proof.Proof.Adam.Reduce
public import proofs.«01_k».proof.Proof.Adam.Ada
public import proofs.«01_k».proof.Proof.Adam.Small
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Init

@[expose] public section

set_option maxRecDepth 16384

noncomputable section

namespace Cert.Proof.Adam

open Idealize.ShloMosaic Idealize.SL.Sem

/-! ## The update of a weight, from the four parts of its gradient -/

/-- The reference leaves its arguments alone; it declares no semaphore. -/
theorem quiet3 : Cert.quiescent_Reference3Ideal (hReference3Ideal := Cert.Reference3Ideal.Gen.facts) := fun m g _ =>
  (θ_run Cert.Reference3Ideal.defs _ _).mono (fun r h => ⟨fun c => (h c).2.2.2.2, sem_eq_zero_of_no_sems (by decide) r.2⟩) (Cert.Reference3Ideal.Value.run m g)

theorem equal3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Reference3Ideal.Read.val_main_v1 (F := Ideal) (m ((c.tc : Thread Cert.Kernel3Ideal.nD Cert.Kernel3Ideal.τ).loc Cert.Kernel3Ideal.main_arg0)), fun c => Cert.Reference3Ideal.Read.val_main_v28 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), fun c => Cert.Reference3Ideal.Read.val_main_v9 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)), fun c => Cert.Reference3Ideal.Read.val_main_v15 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg3)), ?_, ?_⟩
  · refine (θ_run Cert.Kernel3Ideal.defs _ _).mono (fun r h c => ?_) (Cert.Kernel3Ideal.Value.run_blocks m g)
    obtain ⟨h0, h1, h2, h3, hk⟩ := h c
    exact ⟨h0.trans (Cert.Kernel3Ideal.Update.arr4 m c), h1.trans (Cert.Kernel3Ideal.Update.arr5 m c), h2.trans (Cert.Kernel3Ideal.Update.arr6 m c), h3.trans (Cert.Kernel3Ideal.Update.arr7 m c), hk⟩
  · refine (θ_run Cert.Reference3Ideal.defs _ _).mono (fun r h c => ?_) (Cert.Reference3Ideal.Value.run m' g')
    obtain ⟨h0, h1, h2, h3, hk⟩ := h c
    obtain ⟨a0, a1, a2, a3⟩ := hagree c
    exact ⟨h0.trans ((Cert.Reference3Ideal.Read.val_main_v1_eq _).trans (by rw [a0])), h1.trans ((Cert.Reference3Ideal.Read.val_main_v28_eq _ _ _ _).trans (by rw [a0, a1, a2, a3])), h2.trans ((Cert.Reference3Ideal.Read.val_main_v9_eq _ _).trans (by rw [a0, a2])), h3.trans ((Cert.Reference3Ideal.Read.val_main_v15_eq _ _).trans (by rw [a0, a3])), hk⟩

/-! ## The update of the modulation's weights -/

/-- The reference leaves its arguments alone; it declares no semaphore. -/
theorem quiet4 : Cert.quiescent_Reference4Ideal (hReference4Ideal := Cert.Reference4Ideal.Gen.facts) := fun m g _ =>
  (θ_run Cert.Reference4Ideal.defs _ _).mono (fun r h => ⟨fun c => (h c).2.2.2.2, sem_eq_zero_of_no_sems (by decide) r.2⟩) (Cert.Reference4Ideal.Value.run m g)

theorem equal4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Reference4Ideal.Read.val_main_v4 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), fun c => Cert.Reference4Ideal.Read.val_main_v31 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), fun c => Cert.Reference4Ideal.Read.val_main_v12 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)), fun c => Cert.Reference4Ideal.Read.val_main_v18 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg4)), ?_, ?_⟩
  · refine (θ_run Cert.Kernel4Ideal.defs _ _).mono (fun r h c => ?_) (Cert.Kernel4Ideal.Value.run_blocks m g)
    obtain ⟨h0, h1, h2, h3, hk⟩ := h c
    exact ⟨h0.trans (Cert.Kernel4Ideal.Update.arr5 m c), h1.trans (Cert.Kernel4Ideal.Update.arr6 m c), h2.trans (Cert.Kernel4Ideal.Update.arr7 m c), h3.trans (Cert.Kernel4Ideal.Update.arr8 m c), hk⟩
  · refine (θ_run Cert.Reference4Ideal.defs _ _).mono (fun r h c => ?_) (Cert.Reference4Ideal.Value.run m' g')
    obtain ⟨h0, h1, h2, h3, hk⟩ := h c
    obtain ⟨a0, a1, a2, a3, a4⟩ := hagree c
    exact ⟨h0.trans ((Cert.Reference4Ideal.Read.val_main_v4_eq _ _).trans (by rw [a0, a1])), h1.trans ((Cert.Reference4Ideal.Read.val_main_v31_eq _ _ _ _ _).trans (by rw [a0, a1, a2, a3, a4])), h2.trans ((Cert.Reference4Ideal.Read.val_main_v12_eq _ _ _).trans (by rw [a0, a1, a3])), h3.trans ((Cert.Reference4Ideal.Read.val_main_v18_eq _ _ _).trans (by rw [a0, a1, a4])), hk⟩

/-! ## The update of the taps of the convolution -/

/-- The reference leaves its arguments alone; it declares no semaphore. -/
theorem quiet5 : Cert.quiescent_Reference5Ideal (hReference5Ideal := Cert.Reference5Ideal.Gen.facts) := fun m g _ =>
  (θ_run Cert.Reference5Ideal.defs _ _).mono (fun r h => ⟨fun c => (h c).2.2.2.2, sem_eq_zero_of_no_sems (by decide) r.2⟩) (Cert.Reference5Ideal.Value.run m g)

theorem equal5 : Cert.algebraic_Kernel5Ideal_Reference5Ideal (hKernel5Ideal := Cert.Kernel5Ideal.Gen.facts) (hReference5Ideal := Cert.Reference5Ideal.Gen.facts) := by
  intro m g m' g' _ hagree
  refine ⟨fun c => (m ((c.tc : Thread Cert.Kernel5Ideal.nD Cert.Kernel5Ideal.τ).loc Cert.Kernel5Ideal.main_arg0)), fun c => Cert.Reference5Ideal.Read.val_main_v29 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => Cert.Reference5Ideal.Read.val_main_v10 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)), fun c => Cert.Reference5Ideal.Read.val_main_v16 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg3)), ?_, ?_⟩
  · refine (θ_run Cert.Kernel5Ideal.defs _ _).mono (fun r h c => ?_) (Cert.Kernel5Ideal.Value.run_blocks m g)
    obtain ⟨h0, h1, h2, h3, hk⟩ := h c
    exact ⟨h0.trans (Cert.Kernel5Ideal.Update.arr4 m c), h1.trans (Cert.Kernel5Ideal.Update.arr5 m c), h2.trans (Cert.Kernel5Ideal.Update.arr6 m c), h3.trans (Cert.Kernel5Ideal.Update.arr7 m c), hk⟩
  · refine (θ_run Cert.Reference5Ideal.defs _ _).mono (fun r h c => ?_) (Cert.Reference5Ideal.Value.run m' g')
    obtain ⟨h0, h1, h2, h3, hk⟩ := h c
    obtain ⟨a0, a1, a2, a3⟩ := hagree c
    exact ⟨h0.trans a0, h1.trans ((Cert.Reference5Ideal.Read.val_main_v29_eq _ _ _ _).trans (by rw [a0, a1, a2, a3])), h2.trans ((Cert.Reference5Ideal.Read.val_main_v10_eq _ _).trans (by rw [a0, a2])), h3.trans ((Cert.Reference5Ideal.Read.val_main_v16_eq _ _).trans (by rw [a0, a3])), hk⟩

end Cert.Proof.Adam

end
-- ==== Proof.Scatter.Rows.lean ====
/-
# The exchange between the four chips: schedule and body

A device holds four rows and a result of four rows. It copies one of its rows into its own result and sends each of the
other three to one of the three devices of the other chips, which keep the sender's row at the same place: the row named
after the sender's chip. There is no handshake, so a sender must hold the row it writes on its peer from the beginning.

Seven semaphores a device: three a send signals when its source is read, three its data signals on arrival, one for the
copy at home. Each serves one round with one duty. The payload of a cell is what its wait gives back.
-/
module

public import proofs.«01_k».proof.Proof.Gen.Kernel6
public import proofs.«01_k».proof.Proof.Gen.Kernel6.Skeleton
public import proofs.«01_k».proof.Proof.Gen.Kernel6.Launch
public import Idealize.ShloMosaic.Lib.Pipeline.Launch
public import Idealize.ShloMosaic.Lib.Pipeline.Kit
public import Idealize.ShloMosaic.Lib.Quiescent
public import Idealize.ShloMosaic.Lib.Tactic
public import Idealize.ShloMosaic.Lib.Pipeline.ValueKit.Geometry

@[expose] public section

noncomputable section

namespace Cert.Kernel6.Exchange

open Cert.Kernel6 Cert.Kernel6.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Chips and peers -/

/-- The device of the same place on another chip: across the first axis, the second, both. -/
def peer (k : Fin 3) (c : Dev nD) : Dev nD :=
  (![![4, 5, 6, 7, 0, 1, 2, 3], ![2, 3, 0, 1, 6, 7, 4, 5], ![6, 7, 4, 5, 2, 3, 0, 1]] : Fin 3 → Fin 8 → Fin 8) k c

theorem peer_peer (k : Fin 3) (c : Dev nD) : peer k (peer k c) = c := by revert k c; decide
theorem peer_eq_iff {k : Fin 3} {d c : Dev nD} : peer k d = c ↔ d = peer k c :=
  ⟨fun h => by rw [← h, peer_peer], fun h => by rw [h, peer_peer]⟩

/-- A peering as a permutation of the devices. -/
def across (k : Fin 3) : Dev nD ≃ Dev nD := ⟨peer k, peer k, peer_peer k, peer_peer k⟩

/-- The chip of a device. -/
def chip (c : Dev nD) : Fin 4 := ⟨c.val / 2, by have : c.val < 8 := c.isLt; omega⟩
/-- The device of chip `j` at the place of `c` on its chip. -/
def onChip (j : Fin 4) (c : Dev nD) : Dev nD := ⟨2 * j.val + c.val % 2, by have := j.isLt; show _ < 8; omega⟩

theorem onChip_self (c : Dev nD) : onChip (chip c) c = c := by revert c; decide
theorem onChip_peer (k : Fin 3) (c : Dev nD) : onChip (chip (peer k c)) c = peer k c := by revert k c; decide

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))

/-! ## Rows -/

/-- Where row `j` starts. -/
def at3 (j : Fin 4) : Fin 3 → ℕ := ![j.val, 0, 0]
theorem at3_inb (j : Fin 4) : ∀ a, at3 j a + S1x704x1024.size a ≤ S4x704x1024.size a := by revert j; decide

theorem off1_eq (c : Dev nD) : k0_off1 c = at3 (chip c) := (k0_off1_eq c).trans (by revert c; decide)
theorem off2_eq (c : Dev nD) : k0_off2 c = at3 (chip (peer 0 c)) := (k0_off2_eq c).trans (by revert c; decide)
theorem off3_eq (c : Dev nD) : k0_off3 c = at3 (chip (peer 1 c)) := (k0_off3_eq c).trans (by revert c; decide)
theorem off4_eq (c : Dev nD) : k0_off4 c = at3 (chip (peer 2 c)) := (k0_off4_eq c).trans (by revert c; decide)

abbrev rowAt (M : Memref sig .tc .hbm S4x704x1024 .bf16) (o : Fin 3 → ℕ) (ho : ∀ a, o a + S1x704x1024.size a ≤ S4x704x1024.size a) :
    Memref sig .tc .hbm S704x1024 .bf16 :=
  (M.slice (Rect.unit (s := S4x704x1024) o S1x704x1024.size ho) (fun _ => rfl)).squeeze S704x1024 squeezes_S1x704x1024_S704x1024

abbrev row (M : Memref sig .tc .hbm S4x704x1024 .bf16) (j : Fin 4) : Memref sig .tc .hbm S704x1024 .bf16 := rowAt M (at3 j) (at3_inb j)

abbrev X0 : Memref sig .tc .hbm S4x704x1024 .bf16 := Memref.whole main_arg0
abbrev Y0 : Memref sig .tc .hbm S4x704x1024 .bf16 := Memref.whole main_v1

/-- The argument's row `j` on device `d`, at its launch contents. -/
def xRow (d : Dev nD) (j : Fin 4) : sProp 𝕄 :=
  (row X0 j).view.loc (d : Thread nD τ) ↦[(row X0 j).view.set]{fullShare} m ((d : Thread nD τ).loc main_arg0)
/-- The result's row `j` on device `d`, at some contents. -/
def yRow (d : Dev nD) (j : Fin 4) (f : Buf (Elt F) ((d : Thread nD τ).loc main_v1)) : sProp 𝕄 :=
  (row Y0 j).view.loc (d : Thread nD τ) ↦[(row Y0 j).view.set]{fullShare} f

omit [FloatOps F] in
instance xRow_storable (d : Dev nD) (j : Fin 4) : BI.Storable (upEmb : UEmb _ 𝕄) (xRow (F := F) m d j) := by unfold xRow; infer_instance
omit [FloatOps F] in
instance yRow_storable (d : Dev nD) (j : Fin 4) (f) : BI.Storable (upEmb : UEmb _ 𝕄) (yRow (F := F) d j f) := by unfold yRow; infer_instance

/-! ## What arrives -/

/-- The argument of device `d`, by index. -/
def arg (d : Dev nD) : S4x704x1024.Idx → Elt F .bf16 := m ((d : Thread nD τ).loc main_arg0)

/-- An index moved to row `j`. -/
def toRow (i : S4x704x1024.Idx) (j : Fin 4) : S4x704x1024.Idx := fun a => match a with
  | ⟨0, _⟩ => j
  | ⟨1, h⟩ => i ⟨1, h⟩
  | ⟨2, h⟩ => i ⟨2, h⟩

/-- The row of an index. -/
def rowOf (i : S4x704x1024.Idx) : Fin 4 := i (0 : Fin 3)

/-- The result of device `d`: row `j` is the row of `d`'s chip on the device of chip `j`. -/
def res (d : Dev nD) : Buf (Elt F) ((d : Thread nD τ).loc main_v1) :=
  fun (i : S4x704x1024.Idx) => arg m (onChip (rowOf i) d) (toRow i (chip d))

/-- Where an index of a row lies in the array. -/
def inArr (j : Fin 4) (x : S704x1024.Idx) : S4x704x1024.Idx := (row X0 j).view.emb x

theorem inArr_val (j : Fin 4) (x : S704x1024.Idx) (a : Fin 3) :
    (inArr j x a : ℕ) = at3 j a + (((Shape.reshapeEquiv squeezes_S1x704x1024_S704x1024.numel_eq x : S1x704x1024.Idx) a : Fin _) : ℕ) :=
  ValueKit.rect_emb_unit_val (s := S4x704x1024) _ _ (at3_inb j) _ a

theorem first_val (y : S1x704x1024.Idx) : (y (0 : Fin 3) : ℕ) = 0 := by
  have h : (y (0 : Fin 3) : ℕ) < 1 := (y (0 : Fin 3)).isLt
  omega

theorem rowOf_inArr (j : Fin 4) (x : S704x1024.Idx) : rowOf (inArr j x) = j :=
  Fin.ext ((inArr_val j x (0 : Fin 3)).trans (by rw [first_val]; rfl))

theorem toRow_inArr (j j' : Fin 4) (x : S704x1024.Idx) : toRow (inArr j x) j' = inArr j' x := funext fun a => Fin.ext <| match a with
  | ⟨0, _⟩ => ((inArr_val j' x (0 : Fin 3)).trans (by rw [first_val]; rfl)).symm
  | ⟨1, h⟩ => (inArr_val j x (1 : Fin 3)).trans (inArr_val j' x (1 : Fin 3)).symm
  | ⟨2, h⟩ => (inArr_val j x (2 : Fin 3)).trans (inArr_val j' x (2 : Fin 3)).symm

omit [FloatOps F] in
/-- What a copy of the row of `d`'s chip on `e` leaves in `d`'s row of `e`'s chip is the result there. -/
theorem yRow_landed (d e : Dev nD) (he : onChip (chip e) d = e) (f : Buf (Elt F) ((d : Thread nD τ).loc main_v1)) :
    yRow d (chip e) ((row Y0 (chip e)).view.write (Elt F) f ((row X0 (chip d)).view.read (Elt F) (m ((e : Thread nD τ).loc main_arg0))) Finset.univ)
      = yRow d (chip e) (res m d) := by
  unfold yRow
  refine pointsTo_congr fun i hi => ?_
  obtain ⟨x, -, rfl⟩ := Finset.mem_map.mp hi
  rw [View.write_emb_of_mem _ _ (Finset.mem_univ x)]
  show arg m e (inArr (chip d) x) = arg m (onChip (rowOf (inArr (chip e) x)) d) (toRow (inArr (chip e) x) (chip d))
  rw [rowOf_inArr, toRow_inArr, he]

/-! ## Cells -/

abbrev dsem (j : Fin 7) : DmaSem sig := j
abbrev osem (j : Fin 7) : SemLoc sig := .dma (dsem j)
abbrev kcell (cj : Dev nD × Fin 7) : GSem nD τ sig := ((cj.1 : Thread nD τ), osem cj.2)

/-- The cell send `k` signals at home, and the one it signals on arrival. -/
def snd (k : Fin 3) : Fin 7 := ⟨k.val, by omega⟩
def rcv (k : Fin 3) : Fin 7 := ⟨3 + k.val, by omega⟩

/-- A row's credit. -/
def N : ℕ := (row Y0 0).view.dmaCredit
theorem N_pos : 0 < N := View.dmaCredit_pos _ (by decide)
theorem credit_x (o : Fin 3 → ℕ) (ho) : (rowAt X0 o ho).view.dmaCredit = N := rfl
theorem credit_y (o : Fin 3 → ℕ) (ho) : (rowAt Y0 o ho).view.dmaCredit = N := rfl

/-! ## The schedule -/

/-- What the wait on cell `j` of device `c` gives back. -/
def pay (c : Dev nD) : Fin 7 → sProp 𝕄
  | 0 => xRow m c (chip (peer 0 c))
  | 1 => xRow m c (chip (peer 1 c))
  | 2 => xRow m c (chip (peer 2 c))
  | 3 => yRow c (chip (peer 0 c)) (res m c)
  | 4 => yRow c (chip (peer 1 c)) (res m c)
  | 5 => yRow c (chip (peer 2 c)) (res m c)
  | 6 => iprop(yRow c (chip c) (res m c) ∗ xRow m c (chip c))

omit [FloatOps F] in
theorem pay_snd (c : Dev nD) (k : Fin 3) : pay m c (snd k) = xRow m c (chip (peer k c)) := by fin_cases k <;> rfl
omit [FloatOps F] in
theorem pay_rcv (c : Dev nD) (k : Fin 3) : pay m c (rcv k) = yRow c (chip (peer k c)) (res m c) := by fin_cases k <;> rfl

omit [FloatOps F] in
instance pay_storable (c : Dev nD) (j : Fin 7) : BI.Storable (upEmb : UEmb _ 𝕄) (pay (F := F) m c j) := by
  fin_cases j <;> (simp only [pay]; infer_instance)

def Rd : Rounds.Schedule (GSem nD τ sig) Unit 𝕄 where
  duties g r := if r = 0 ∧ g.1.2 = .tc then {()} else ∅
  unitless _ := False
  amount _ _ _ := N
  payload g _ _ := match g.2 with
    | .dma s => pay m g.1.1 s
    | .reg _ => iprop(emp)
  amount_pos _ _ _ _ := N_pos

omit [FloatOps F] in
instance Rd_payload_storable (g : GSem nD τ sig) (r : ℕ) (d : Unit) : BI.Storable (upEmb : UEmb _ 𝕄) ((Rd (F := F) m).payload g r d) := by
  obtain ⟨t, s | s⟩ := g
  · show BI.Storable upEmb (iprop(emp)); infer_instance
  · show BI.Storable upEmb (pay m t.1 s); infer_instance

omit [FloatOps F] in
theorem duties_cell (cj : Dev nD × Fin 7) : (Rd (F := F) m).duties (kcell cj) 0 = {()} := by dsimp only [Rd]; exact if_pos ⟨rfl, rfl⟩
omit [FloatOps F] in
theorem mem_duties (cj : Dev nD × Fin 7) : () ∈ (Rd (F := F) m).duties (kcell cj) 0 := by rw [duties_cell]; exact Finset.mem_singleton_self _
omit [FloatOps F] in
theorem duties_later (g : GSem nD τ sig) : ∀ r, 1 ≤ r → (Rd (F := F) m).duties g r = ∅ :=
  fun r hr => by dsimp only [Rd]; exact if_neg fun h => by omega
omit [FloatOps F] in
theorem expect_cell (cj : Dev nD × Fin 7) : (Rd (F := F) m).expect (kcell cj) 0 = N := by
  unfold Schedule.expect Schedule.amountOf; rw [duties_cell, Finset.sum_singleton]; rfl
omit [FloatOps F] in
theorem rest_cell (cj : Dev nD × Fin 7) :
    bigSep ((Rd (F := F) m).duties (kcell cj) 0 \ ∅) (fun u => (Rd (F := F) m).payload (kcell cj) 0 u) = pay m cj.1 cj.2 := by
  rw [Finset.sdiff_empty, duties_cell, bigSep_singleton]; rfl

/-- What device `c` owes at launch: the arrival of each of its sends, the first one last. -/
def due (k : Fin 3) (c : Dev nD) : CellTallies nD τ sig Unit := tallyAt (kcell (peer k c, rcv k)) () N
def O₀ (c : Dev nD) : CellTallies nD τ sig Unit := 0 + due 2 c + due 1 c + due 0 c

end Cert.Kernel6.Exchange

end
-- ==== Proof.Scatter.Steps.lean ====
/-
# The exchange between the four chips: a send, the copy at home, a wait

Each step of the body once, over the offsets, semaphores and the device it names.
-/
module

public import proofs.«01_k».proof.Proof.Scatter.Rows

@[expose] public section

noncomputable section

namespace Cert.Kernel6.Exchange

open Cert.Kernel6 Cert.Kernel6.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## Steps of the body -/

abbrev 𝒱₀ : Variants := Variants.none

section Steps

variable (K : Dev nD × Fin 7 → ℕ) (c : Dev nD)

theorem send_step (k : Fin 3) (n : Dev nD) (hn : n = peer k c) (s r : DmaSem sig) (hs : s = dsem (snd k)) (hr : r = dsem (rcv k))
    (o o' : Fin 3 → ℕ) (ho ho') (eo : o = at3 (chip (peer k c))) (eo' : o' = at3 (chip c))
    {hsc : (rowAt Y0 o' ho' : Memref sig (Dev.tc n : Thread nD τ).2.kind .hbm S704x1024 .bf16).view.ref.isScScratch = false}
    {hsrc : (rowAt X0 o ho).view.WordExact} {hdst : (rowAt Y0 o' ho').view.WordExact}
    {hsem : DmaTarget.Typed .hbm (.dma r) (.remote (Dev.tc n : Thread nD τ) (rowAt Y0 o' ho') (.dma s) hsc)}
    {α : Type} {Q : α → sProp 𝕄} {kt : PUnit → Prog (TpuEff nD τ sig (Elt F) Λ₀ .tc) α}
    (O : CellTallies nD τ sig Unit) (W : Waits sig Unit) (f : Buf (Elt F) ((peer k c : Thread nD τ).loc main_v1)) :
    iprop(cellInv ER (Rd m) (K (c, snd k)) (kcell (c, snd k)) ∗ cellInv ER (Rd m) (K (peer k c, rcv k)) (kcell (peer k c, rcv k))
        ∗ xRow m c (chip (peer k c)) ∗ yRow (peer k c) (chip c) f ∗ owes (c : Thread nD τ) (O + due k c) W
        ∗ dutyTok ER (kcell (c, snd k)) 0 () ∗ reached ER (kcell (c, snd k)) 0
        ∗ dutyTok ER (kcell (peer k c, rcv k)) 0 () ∗ reached ER (kcell (peer k c, rcv k)) 0)
      ⊢ iprop(((cred (tallyAt (kcell (c, snd k)) () N) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowAt X0 o ho) (.remote (Dev.tc n : Thread nD τ) (rowAt Y0 o' ho') (.dma s) hsc) (.dma r) hsrc hdst hsem) kt) Q) := by
  subst hn hs hr eo eo'
  unfold xRow yRow
  exact Rounds.wp_send_pointsTo (defs := defs₀ (F := F)) 𝒱₀ ER (Rd m) (c : Thread nD τ) none (κ₁ := K (c, snd k)) (κ₂ := K (peer k c, rcv k))
    (c' := (peer k c : Thread nD τ)) (src := row X0 (chip (peer k c))) (dst := row Y0 (chip c)) (hsc := hsc) (sS := .dma (dsem (snd k)))
    (sem := .dma (dsem (rcv k))) (hsrc := hsrc) (hdst := hdst) (hsem := hsem) (k := kt) (Q := Q) (q := fullShare)
    (fs := m ((c : Thread nD τ).loc main_arg0)) (fd := f) (Γ := .empty) (Es := Set.univ) (r₁ := 0) (r₂ := 0) (d₁ := ()) (d₂ := ())
    (mem_duties m (c, snd k)) (mem_duties m (peer k c, rcv k))
    () () N (credit_y _ (at3_inb (chip c))) rfl rfl (O₀ := O + due k c) O rfl (W := W)
    (by show xRow m c (chip (peer k c)) ⊢ pay m c (snd k); rw [pay_snd])
    (by
      show yRow (peer k c) (chip c) _ ⊢ pay m (peer k c) (rcv k)
      rw [pay_rcv, peer_peer, ← yRow_landed m (peer k c) c (by have := onChip_peer k (peer k c); rwa [peer_peer] at this) f])

theorem copy_step (s : DmaSem sig) (hs : s = dsem 6) (o o' : Fin 3 → ℕ) (ho ho') (eo : o = at3 (chip c)) (eo' : o' = at3 (chip c))
    {hsrc : (rowAt X0 o ho).view.WordExact} {hdst : (rowAt Y0 o' ho').view.WordExact}
    {hsem : DmaTarget.Typed .hbm (.dma s) (DmaTarget.here (sig := sig) (nD := nD) (τ := τ) (p := Proc.tc) (rowAt Y0 o' ho'))}
    {α : Type} {Q : α → sProp 𝕄} {kt : PUnit → Prog (TpuEff nD τ sig (Elt F) Λ₀ .tc) α}
    (f : Buf (Elt F) ((c : Thread nD τ).loc main_v1)) :
    iprop(cellInv ER (Rd m) (K (c, 6)) (kcell (c, 6)) ∗ xRow m c (chip c) ∗ yRow c (chip c) f
        ∗ dutyTok ER (kcell (c, 6)) 0 () ∗ reached ER (kcell (c, 6)) 0)
      ⊢ iprop((cred (tallyAt (kcell (c, 6)) () N) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowAt X0 o ho) (.here (rowAt Y0 o' ho')) (.dma s) hsrc hdst hsem) kt) Q) := by
  subst hs eo eo'
  unfold xRow yRow
  exact Rounds.wp_copy_pointsTo (defs := defs₀ (F := F)) 𝒱₀ ER (Rd m) (c : Thread nD τ) none (κ := K (c, 6))
    (src := row X0 (chip c)) (dst := row Y0 (chip c)) (sem := .dma (dsem 6)) (hsrc := hsrc) (hdst := hdst) (hsem := hsem) (k := kt) (Q := Q)
    (q := fullShare) (fs := m ((c : Thread nD τ).loc main_arg0)) (fd := f) (Γ := .empty) (Es := Set.univ) (r := 0) (d := ())
    (mem_duties m (c, 6)) () N (credit_y _ (at3_inb (chip c))) rfl
    (by
      show iprop(yRow c (chip c) _ ∗ xRow m c (chip c)) ⊢ iprop(yRow c (chip c) (res m c) ∗ xRow m c (chip c))
      rw [← yRow_landed m c c (onChip_self c) f])

theorem wait_step (j : Fin 7) (s : DmaSem sig) (hs : dsem j = s) {sp sp' : Space} {s₁ s₂ : Shape} {e₁ e₂ : EltTy}
    {src : Memref sig .tc sp s₁ e₁} {dst : Memref sig .tc sp' s₂ e₂}
    {hsrc : src.view.WordExact} {hdst : dst.view.WordExact}
    {α : Type} {Q : α → sProp 𝕄} {kt : PUnit → Prog (TpuEff nD τ sig (Elt F) Λ₀ .tc) α} (hN : dst.view.dmaCredit = N) (W : Waits sig Unit) :
    iprop(cellInv ER (Rd m) (K (c, j)) (kcell (c, j)) ∗ cred (tallyAt (kcell (c, j)) () N) ∗ owes (c : Thread nD τ) 0 W
        ∗ atPos ER (kcell (c, j)) 0 ∅ 0)
      ⊢ iprop((((∃ W', owes (c : Thread nD τ) 0 W') ∗ semVal (kcell (c, j)) 0 ∗ pay m c j)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src dst hsrc hdst) kt) Q) := by
  subst hs
  iintro ⟨#HI, Hc, HO, Hat⟩ Hk
  iapply (Rounds.wp_wait_rest_token 𝒱₀ ER (Rd m) (c : Thread nD τ) none (κ := K (c, j))
      (wpE_waitDma2_eq 𝒱₀ (c : Thread nD τ) none Set.univ) (Set.mem_univ _) () (O := 0) (W := W) (R := 0) (m := 0) (T := ∅)
      (by rw [Nat.zero_add]; exact hN.trans (expect_cell m (c, j)).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (Rd m) (Set.mem_univ (K (c, j))) (fun h => h) (R := 0 + 1) (duties_later m (kcell (c, j)))) $$ [Hat] with Hz
  · isplitr; · iexact HI
    iexact Hat
  iapply Hk
  isplitl [HO]; · iexists _; iexact HO
  isplitl [Hz]; · iexact Hz
  iapply (Entails.of_eq (rest_cell m (c, j))); iexact Hpay

end Steps

end Cert.Kernel6.Exchange

end
-- ==== Proof.Scatter.Body.lean ====
/-
# The exchange between the four chips: the body

A device starts with its four rows, with the four rows of results it is to write (one at home, one on each peer), with
the credit for three arrivals, and with the tokens of the cells it signals. It ends with its own rows and its own
result, every semaphore back at zero.
-/
module

public import proofs.«01_k».proof.Proof.Scatter.Steps

@[expose] public section

noncomputable section

namespace Cert.Kernel6.Exchange

open Cert.Kernel6 Cert.Kernel6.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ UU ℕ

variable (m : (ℓ : Loc nD τ sig) → Buf (Elt F) ℓ)

/-! ## What a device holds before the body and after it -/

def records (K : Dev nD × Fin 7 → ℕ) : sProp 𝕄 :=
  iprop((bigSep Finset.univ fun cj : Dev nD × Fin 7 => cellInv ER (Rd m) (K cj) (kcell cj))
    ∗ bigSep Finset.univ fun cj : Dev nD × Fin 7 => reached ER (kcell cj) 0)
omit [FloatOps F] in
instance records_persistent (K : Dev nD × Fin 7 → ℕ) : BI.Persistent (records (F := F) m K) := by unfold records; infer_instance

omit [FloatOps F] in
theorem inv_at (K : Dev nD × Fin 7 → ℕ) (cj : Dev nD × Fin 7) :
    (bigSep Finset.univ fun cj : Dev nD × Fin 7 => (cellInv ER (Rd m) (K cj) (kcell cj) : sProp 𝕄)) ⊢ cellInv ER (Rd m) (K cj) (kcell cj) :=
  bigSep_elim (Finset.mem_univ cj)
omit [FloatOps F] in
theorem reached_at (cj : Dev nD × Fin 7) :
    (bigSep Finset.univ fun cj : Dev nD × Fin 7 => (reached ER (kcell cj) 0 : sProp 𝕄)) ⊢ reached ER (kcell cj) 0 :=
  bigSep_elim (Finset.mem_univ cj)

/-- The tokens of the cells device `c` signals. -/
def payToks (c : Dev nD) : sProp 𝕄 :=
  iprop(dutyTok ER (kcell (c, snd 0)) 0 () ∗ dutyTok ER (kcell (c, snd 1)) 0 () ∗ dutyTok ER (kcell (c, snd 2)) 0 ()
    ∗ dutyTok ER (kcell (peer 0 c, rcv 0)) 0 () ∗ dutyTok ER (kcell (peer 1 c, rcv 1)) 0 () ∗ dutyTok ER (kcell (peer 2 c, rcv 2)) 0 ()
    ∗ dutyTok ER (kcell (c, 6)) 0 ())

def linear (c : Dev nD) : sProp 𝕄 := iprop((bigSep Finset.univ fun j : Fin 7 => atPos ER (kcell (c, j)) 0 ∅ 0) ∗ payToks c)

def creds (c : Dev nD) : sProp 𝕄 :=
  iprop(cred (tallyAt (kcell (c, rcv 0)) () N) ∗ cred (tallyAt (kcell (c, rcv 1)) () N) ∗ cred (tallyAt (kcell (c, rcv 2)) () N))

/-- The four rows of the argument. -/
def xRows (c : Dev nD) : sProp 𝕄 :=
  iprop(xRow m c (chip c) ∗ xRow m c (chip (peer 0 c)) ∗ xRow m c (chip (peer 1 c)) ∗ xRow m c (chip (peer 2 c)))
/-- The four rows device `c` writes. -/
def toWrite (c : Dev nD) : sProp 𝕄 :=
  iprop(yRow c (chip c) (m ((c : Thread nD τ).loc main_v1)) ∗ yRow (peer 0 c) (chip c) (m ((peer 0 c : Thread nD τ).loc main_v1))
    ∗ yRow (peer 1 c) (chip c) (m ((peer 1 c : Thread nD τ).loc main_v1)) ∗ yRow (peer 2 c) (chip c) (m ((peer 2 c : Thread nD τ).loc main_v1)))
/-- The four rows of a result. -/
def yRows (c : Dev nD) (f : Buf (Elt F) ((c : Thread nD τ).loc main_v1)) : sProp 𝕄 :=
  iprop(yRow c (chip c) f ∗ yRow c (chip (peer 0 c)) f ∗ yRow c (chip (peer 1 c)) f ∗ yRow c (chip (peer 2 c)) f)

def start (c : Dev nD) : sProp 𝕄 := iprop((∃ K, records m K ∗ linear c) ∗ creds c ∗ xRows m c ∗ toWrite m c)

def finish (c : Dev nD) : sProp 𝕄 := iprop(xRows m c ∗ yRows c (res m c) ∗ bigSep Finset.univ fun j : Fin 7 => semVal (kcell (c, j)) 0)

/-! ## The call's proof data: no window, one point -/

def dats (_ : Fin 1) (c : Dev nD) : Dat τ (Elt F) Unit ℕ UU ℕ cfg0 c where
  A w := Fin.elim0 (show Fin 0 from w)
  after w _ := Fin.elim0 (show Fin 0 from w)
  Φ t := match t with
    | ⟨0, _⟩ => start m c
    | ⟨_ + 1, _⟩ => finish m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_none (Φ : Fin 0 → sProp 𝕄) : bigSep Finset.univ Φ = BI.emp := by rw [Finset.univ_eq_empty, BI.bigSep_empty]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The body -/

set_option maxHeartbeats 1600000 in
theorem sound_body (c : Dev nD) (K : Dev nD × Fin 7 → ℕ) (W : Waits sig Unit) :
    iprop((records m K ∗ linear c) ∗ creds c ∗ xRows m c ∗ toWrite m c ∗ owes (c : Thread nD τ) (O₀ c) W)
      ⊢ wp frame (wpE (defs₀ (F := F)) 𝒱₀ (c : Thread nD τ) none) Set.univ
          (cc0_chip_scatter (Memref.whole main_arg0) (Memref.isWhole_whole _) (Memref.whole main_v1) (Memref.isWhole_whole _)
            cc0_scratch0 cc0_scratch1 cc0_scratch2) (fun _ => iprop(finish m c ∗ ∃ W', owes (c : Thread nD τ) 0 W')) := by
  simp only [cc0_chip_scatter_eq_skeleton]; unfold cc0_chip_scatter_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold records linear creds xRows toWrite payToks
  rw [bigSep_fin7]
  iintro ⟨⟨⟨#HI, #HR⟩, ⟨A0, A1, A2, A3, A4, A5, A6⟩, T0, T1, T2, T3, T4, T5, T6⟩, ⟨C3, C4, C5⟩, ⟨X, X0, X1, X2⟩, ⟨Y, Y0, Y1, Y2⟩, HO⟩
  iapply (copy_step m K c _ (by rfl) _ _ _ _ (off1_eq c) (off1_eq c) (m ((c : Thread nD τ).loc main_v1))) $$ [X Y T6]
  · isplitr; · iapply (inv_at m K (c, 6)); iexact HI
    isplitl [X]; · iexact X
    isplitl [Y]; · iexact Y
    isplitl [T6]; · iexact T6
    iapply (reached_at (F := F) (c, 6)); iexact HR
  iintro C6
  iapply (send_step m K c 0 _ (dev1_eq c) _ _ (by rfl) (by rfl) _ _ _ _ (off2_eq c) (off1_eq c) (0 + due 2 c + due 1 c) W (m ((peer 0 c : Thread nD τ).loc main_v1))) $$ [X0 Y0 HO T0 T3]
  · isplitr; · iapply (inv_at m K (c, snd 0)); iexact HI
    isplitr; · iapply (inv_at m K (peer 0 c, rcv 0)); iexact HI
    isplitl [X0]; · iexact X0
    isplitl [Y0]; · iexact Y0
    isplitl [HO]; · iexact HO
    isplitl [T0]; · iexact T0
    isplitr; · iapply (reached_at (F := F) (c, snd 0)); iexact HR
    isplitl [T3]; · iexact T3
    iapply (reached_at (F := F) (peer 0 c, rcv 0)); iexact HR
  iintro ⟨C0, HO⟩
  iapply (send_step m K c 1 _ (dev2_eq c) _ _ (by rfl) (by rfl) _ _ _ _ (off3_eq c) (off1_eq c) (0 + due 2 c) W (m ((peer 1 c : Thread nD τ).loc main_v1))) $$ [X1 Y1 HO T1 T4]
  · isplitr; · iapply (inv_at m K (c, snd 1)); iexact HI
    isplitr; · iapply (inv_at m K (peer 1 c, rcv 1)); iexact HI
    isplitl [X1]; · iexact X1
    isplitl [Y1]; · iexact Y1
    isplitl [HO]; · iexact HO
    isplitl [T1]; · iexact T1
    isplitr; · iapply (reached_at (F := F) (c, snd 1)); iexact HR
    isplitl [T4]; · iexact T4
    iapply (reached_at (F := F) (peer 1 c, rcv 1)); iexact HR
  iintro ⟨C1, HO⟩
  iapply (send_step m K c 2 _ (dev3_eq c) _ _ (by rfl) (by rfl) _ _ _ _ (off4_eq c) (off1_eq c) 0 W (m ((peer 2 c : Thread nD τ).loc main_v1))) $$ [X2 Y2 HO T2 T5]
  · isplitr; · iapply (inv_at m K (c, snd 2)); iexact HI
    isplitr; · iapply (inv_at m K (peer 2 c, rcv 2)); iexact HI
    isplitl [X2]; · iexact X2
    isplitl [Y2]; · iexact Y2
    isplitl [HO]; · iexact HO
    isplitl [T2]; · iexact T2
    isplitr; · iapply (reached_at (F := F) (c, snd 2)); iexact HR
    isplitl [T5]; · iexact T5
    iapply (reached_at (F := F) (peer 2 c, rcv 2)); iexact HR
  iintro ⟨C2, HO⟩
  iapply (wait_step m K c (rcv 0) _ (by rfl) (by rfl) _) $$ [C3 HO A3]
  · isplitr; · iapply (inv_at m K (c, (rcv 0))); iexact HI
    isplitl [C3]; · iexact C3
    isplitl [HO]; · iexact HO
    iexact A3
  iintro ⟨⟨%W1, HO⟩, Z3, P3⟩
  iapply (wait_step m K c (rcv 1) _ (by rfl) (by rfl) _) $$ [C4 HO A4]
  · isplitr; · iapply (inv_at m K (c, (rcv 1))); iexact HI
    isplitl [C4]; · iexact C4
    isplitl [HO]; · iexact HO
    iexact A4
  iintro ⟨⟨%W2, HO⟩, Z4, P4⟩
  iapply (wait_step m K c (rcv 2) _ (by rfl) (by rfl) _) $$ [C5 HO A5]
  · isplitr; · iapply (inv_at m K (c, (rcv 2))); iexact HI
    isplitl [C5]; · iexact C5
    isplitl [HO]; · iexact HO
    iexact A5
  iintro ⟨⟨%W3, HO⟩, Z5, P5⟩
  iapply (wait_step m K c (snd 0) _ (by rfl) (by rfl) _) $$ [C0 HO A0]
  · isplitr; · iapply (inv_at m K (c, (snd 0))); iexact HI
    isplitl [C0]; · iexact C0
    isplitl [HO]; · iexact HO
    iexact A0
  iintro ⟨⟨%W4, HO⟩, Z0, P0⟩
  iapply (wait_step m K c (snd 1) _ (by rfl) (by rfl) _) $$ [C1 HO A1]
  · isplitr; · iapply (inv_at m K (c, (snd 1))); iexact HI
    isplitl [C1]; · iexact C1
    isplitl [HO]; · iexact HO
    iexact A1
  iintro ⟨⟨%W5, HO⟩, Z1, P1⟩
  iapply (wait_step m K c (snd 2) _ (by rfl) (by rfl) _) $$ [C2 HO A2]
  · isplitr; · iapply (inv_at m K (c, (snd 2))); iexact HI
    isplitl [C2]; · iexact C2
    isplitl [HO]; · iexact HO
    iexact A2
  iintro ⟨⟨%W6, HO⟩, Z2, P2⟩
  iapply (wait_step m K c 6 _ (by rfl) (by rfl) _) $$ [C6 HO A6]
  · isplitr; · iapply (inv_at m K (c, 6)); iexact HI
    isplitl [C6]; · iexact C6
    isplitl [HO]; · iexact HO
    iexact A6
  iintro ⟨⟨%W7, HO⟩, Z6, P6⟩
  rw [wp_ret]; imodintro
  unfold finish xRows yRows
  rw [bigSep_fin7]
  simp only [pay_snd, pay_rcv]
  ihave P6' := (Entails.of_eq (show pay m c 6 = iprop(yRow c (chip c) (res m c) ∗ xRow m c (chip c)) from rfl)) $$ P6
  icases P6' with ⟨Y, X⟩
  isplitr [HO]
  · isplitl [X P0 P1 P2]
    · isplitl [X]; · iexact X
      isplitl [P0]; · iexact P0
      isplitl [P1]; · iexact P1
      iexact P2
    isplitl [Y P3 P4 P5]
    · isplitl [Y]; · iexact Y
      isplitl [P3]; · iexact P3
      isplitl [P4]; · iexact P4
      iexact P5
    isplitl [Z0]; · iexact Z0
    isplitl [Z1]; · iexact Z1
    isplitl [Z2]; · iexact Z2
    isplitl [Z3]; · iexact Z3
    isplitl [Z4]; · iexact Z4
    isplitl [Z5]; · iexact Z5
    iexact Z6
  · iexists _; iexact HO

theorem body_obligation (c : Dev nD) : BodyObligationLoose (dats (F := F) m 0 c) (defs₀ (F := F)) 𝒱₀ () Set.univ := fun t => by
  rw [fin_N t]
  have hb (Φ : Fin cfg0.W → sProp 𝕄) : bigSep Finset.univ Φ = BI.emp := bigSep_none Φ
  rw [hb, hb]
  unfold Dat.owesAt Pipeline.owesWithin
  show iprop(start m c ∗ (∃ W, ⌜_⌝ ∗ owes (c : Thread nD τ) (O₀ c) W) ∗ emp) ⊢ wp frame (wpE (defs₀ (F := F)) 𝒱₀ (c : Thread nD τ) none) Set.univ
    (cc0_chip_scatter (Memref.whole main_arg0) (Memref.isWhole_whole _) (Memref.whole main_v1) (Memref.isWhole_whole _)
      cc0_scratch0 cc0_scratch1 cc0_scratch2) (fun _ => iprop(finish m c ∗ (∃ W, ⌜_⌝ ∗ owes (c : Thread nD τ) 0 W) ∗ emp))
  unfold start
  iintro ⟨⟨⟨%K, HG⟩, HC, HX, HY⟩, ⟨%W, -, HO⟩, -⟩
  iapply (wp_mono frame (wpE (defs₀ (F := F)) 𝒱₀ (c : Thread nD τ) none) Set.univ (Q := fun _ => iprop(finish m c ∗ ∃ W', owes (c : Thread nD τ) 0 W')) (fun _ => by
    iintro ⟨HF, ⟨%W, HO⟩⟩
    isplitl [HF]; · iexact HF
    isplitl [HO]
    · iexists W
      isplitr; · ipureintro; exact fun _ _ => Or.inl trivial
      iexact HO
    iempintro))
  iapply (sound_body m c K W)
  isplitl [HG]; · iexact HG
  isplitl [HC]; · iexact HC
  isplitl [HX]; · iexact HX
  isplitl [HY]; · iexact HY
  iexact HO

end Cert.Kernel6.Exchange

end
-- ==== Proof.Scatter.Deal.lean ====
/-
# The exchange between the four chips: dealing the launch's resources

What the launch gives each device, dealt to who uses it. The tokens of the arrival cells and the rows of the results go
across to the devices that fill them; a peering is a permutation of the devices, so this is a reindexing.
-/
module

public import proofs.«01_k».proof.Proof.Scatter.Body

@[expose] public section

noncomputable section

namespace Cert.Kernel6.Exchange

open Cert.Kernel6 Cert.Kernel6.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## Arrays as rows -/

theorem mem_xRow {j : Fin 4} {i : S4x704x1024.Idx} : i ∈ (Rect.unit (s := S4x704x1024) (at3 j) S1x704x1024.size (at3_inb j)).set ↔ rowOf i = j := by
  rw [Rect.mem_set_unit]
  constructor
  · intro h
    have h0 := h (0 : Fin 3)
    have h1 : j.val ≤ (rowOf i).val ∧ (rowOf i).val < j.val + 1 := h0
    exact Fin.ext (by omega)
  · rintro rfl a
    match a with
    | ⟨0, _⟩ => exact ⟨Nat.le_refl _, Nat.lt_succ_self _⟩
    | ⟨1, h⟩ => exact ⟨Nat.zero_le _, by have := (i ⟨1, h⟩).isLt; exact (Nat.zero_add _).symm ▸ this⟩
    | ⟨2, h⟩ => exact ⟨Nat.zero_le _, by have := (i ⟨2, h⟩).isLt; exact (Nat.zero_add _).symm ▸ this⟩

/-- The indices of row `j`. -/
def rowSet (j : Fin 4) : Finset S4x704x1024.Idx := (Rect.unit (s := S4x704x1024) (at3 j) S1x704x1024.size (at3_inb j)).set

theorem xRow_set (j : Fin 4) : (row X0 j).view.set = rowSet j := (View.set_reshape _ _).trans (View.set_slice_whole _ _)
theorem yRow_set (j : Fin 4) : (row Y0 j).view.set = rowSet j := (View.set_reshape _ _).trans (View.set_slice_whole _ _)

omit [FloatOps F] in
theorem xRow_eq (d : Dev nD) (j : Fin 4) :
    xRow m d j = (((d : Thread nD τ).loc main_arg0) ↦[rowSet j]{fullShare} m ((d : Thread nD τ).loc main_arg0) : sProp 𝕄) :=
  congrArg (fun S : Finset S4x704x1024.Idx => (((d : Thread nD τ).loc main_arg0) ↦[S]{fullShare} m ((d : Thread nD τ).loc main_arg0) : sProp 𝕄)) (xRow_set j)
omit [FloatOps F] in
theorem yRow_eq (d : Dev nD) (j : Fin 4) (f : Buf (Elt F) ((d : Thread nD τ).loc main_v1)) :
    yRow d j f = (((d : Thread nD τ).loc main_v1) ↦[rowSet j]{fullShare} f : sProp 𝕄) :=
  congrArg (fun S : Finset S4x704x1024.Idx => (((d : Thread nD τ).loc main_v1) ↦[S]{fullShare} f : sProp 𝕄)) (yRow_set j)

theorem rows_cover : (Finset.univ : Finset S4x704x1024.Idx) = (Finset.univ : Finset (Fin 4)).biUnion rowSet :=
  (Finset.eq_univ_of_forall fun i => Finset.mem_biUnion.mpr ⟨rowOf i, Finset.mem_univ _, mem_xRow.mpr rfl⟩).symm
theorem rows_disjoint : ∀ t ∈ (Finset.univ : Finset (Fin 4)), ∀ t' ∈ (Finset.univ : Finset (Fin 4)), t ≠ t' → Disjoint (rowSet t) (rowSet t') :=
  fun t _ t' _ h => Finset.disjoint_left.mpr fun i hi hi' => h ((mem_xRow.mp hi).symm.trans (mem_xRow.mp hi'))

theorem chips_cover (c : Dev nD) : (Finset.univ : Finset (Fin 4)) = [chip c, chip (peer 0 c), chip (peer 1 c), chip (peer 2 c)].toFinset := by
  revert c; decide
theorem chips_nodup (c : Dev nD) : [chip c, chip (peer 0 c), chip (peer 1 c), chip (peer 2 c)].Nodup := by revert c; decide

omit [FloatOps F] in
theorem by_chips (c : Dev nD) (Φ : Fin 4 → sProp 𝕄) :
    bigSep Finset.univ Φ = iprop(Φ (chip c) ∗ Φ (chip (peer 0 c)) ∗ Φ (chip (peer 1 c)) ∗ Φ (chip (peer 2 c))) :=
  bigSep_univ_eq_bigSepL _ (chips_cover c) (chips_nodup c) Φ

omit [FloatOps F] in
theorem xRows_eq (c : Dev nD) : (((c : Thread nD τ).loc main_arg0) ↦{fullShare} m ((c : Thread nD τ).loc main_arg0) : sProp 𝕄) = xRows m c := by
  have h : (((c : Thread nD τ).loc main_arg0) ↦[(Finset.univ : Finset (Fin 4)).biUnion rowSet]{fullShare} m ((c : Thread nD τ).loc main_arg0) : sProp 𝕄)
      = bigSep Finset.univ fun j => ((c : Thread nD τ).loc main_arg0) ↦[rowSet j]{fullShare} m ((c : Thread nD τ).loc main_arg0) :=
    pointsTo_biUnion _ _ rows_disjoint
  rw [← rows_cover, by_chips c] at h
  refine h.trans ?_
  unfold xRows
  simp only [xRow_eq]

omit [FloatOps F] in
theorem yRows_eq (c : Dev nD) (f : Buf (Elt F) ((c : Thread nD τ).loc main_v1)) :
    (((c : Thread nD τ).loc main_v1) ↦{fullShare} f : sProp 𝕄) = yRows c f := by
  have h : (((c : Thread nD τ).loc main_v1) ↦[(Finset.univ : Finset (Fin 4)).biUnion rowSet]{fullShare} f : sProp 𝕄)
      = bigSep Finset.univ fun j => ((c : Thread nD τ).loc main_v1) ↦[rowSet j]{fullShare} f :=
    pointsTo_biUnion _ _ rows_disjoint
  rw [← rows_cover, by_chips c] at h
  refine h.trans ?_
  unfold yRows
  simp only [yRow_eq]

omit [FloatOps F] in
theorem across_sum (k : Fin 3) (Φ : Dev nD → sProp 𝕄) : bigSep Finset.univ Φ = bigSep Finset.univ fun c => Φ (peer k c) :=
  bigSep_univ_equiv (across k) Φ

omit [FloatOps F] in
/-- Every result, row by row to the device that writes it. -/
theorem rows_across :
    (bigSep Finset.univ fun c : Dev nD => (((c : Thread nD τ).loc main_v1) ↦{fullShare} m ((c : Thread nD τ).loc main_v1) : sProp 𝕄))
      ⊢ bigSep Finset.univ fun c : Dev nD => toWrite m c := by
  simp only [yRows_eq]
  unfold yRows toWrite
  simp only [bigSep_sep']
  rw [across_sum 0 (fun c : Dev nD => (yRow c (chip (peer 0 c)) (m ((c : Thread nD τ).loc main_v1)) : sProp 𝕄)),
    across_sum 1 (fun c : Dev nD => (yRow c (chip (peer 1 c)) (m ((c : Thread nD τ).loc main_v1)) : sProp 𝕄)),
    across_sum 2 (fun c : Dev nD => (yRow c (chip (peer 2 c)) (m ((c : Thread nD τ).loc main_v1)) : sProp 𝕄))]
  simp only [peer_peer]
  exact BI.Entails.refl _

/-! ## The cells -/

theorem kcell_injective : Function.Injective kcell := by
  rintro ⟨c, j⟩ ⟨c', j'⟩ h
  have h1 : c = c' := congrArg (fun g : GSem nD τ sig => g.1.1) h
  have h2 : osem j = osem j' := congrArg Prod.snd h
  have h3 : j = j' := SemLoc.dma.inj h2
  rw [h1, h3]

theorem kcell_eq_iff {a b : Dev nD} {i j : Fin 7} : kcell (a, i) = kcell (b, j) ↔ a = b ∧ i = j :=
  ⟨fun h => Prod.mk.inj (kcell_injective h), fun ⟨h, h'⟩ => by rw [h, h']⟩

def allCells : Finset (GSem nD τ sig) := Finset.univ.map ⟨kcell, kcell_injective⟩
def allToks : Finset (GSem nD τ sig × ℕ × Unit) :=
  Finset.univ.map ⟨fun cj : Dev nD × Fin 7 => (kcell cj, 0, ()), fun _ _ h => kcell_injective (congrArg Prod.fst h)⟩

def u₀ : UU := (initOf (Pipeline.cells cfgs cellOf_inj) (Pipeline.launchToks cfgs cellOf_inj), initOf allCells allToks)

def toks (c : Dev nD) : sProp 𝕄 := bigSep Finset.univ fun j : Fin 7 => dutyTok ER (kcell (c, j)) 0 ()

/-- A device's share of the cells' ghost state. -/
def G (c : Dev nD) : sProp 𝕄 :=
  iprop((bigSep Finset.univ fun j : Fin 7 => roundState ER (Rd m) (kcell (c, j)) 0)
    ∗ (bigSep Finset.univ fun j : Fin 7 => atPos ER (kcell (c, j)) 0 ∅ 0) ∗ (bigSep Finset.univ fun j : Fin 7 => reached ER (kcell (c, j)) 0) ∗ toks c)

omit [FloatOps F] in
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 7 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem bigSep_fin7' (Φ : Fin 7 → sProp 𝕄) :
    bigSep Finset.univ Φ = iprop(Φ (snd 0) ∗ Φ (snd 1) ∗ Φ (snd 2) ∗ Φ (rcv 0) ∗ Φ (rcv 1) ∗ Φ (rcv 2) ∗ Φ 6) := bigSep_fin7 Φ

omit [FloatOps F] in
/-- The tokens of the arrival cells to the devices that signal them. -/
theorem toks_across : (bigSep Finset.univ fun c : Dev nD => (toks c : sProp 𝕄)) ⊢ bigSep Finset.univ fun c : Dev nD => payToks c := by
  unfold toks payToks
  simp only [bigSep_fin7', bigSep_sep']
  rw [across_sum 0 (fun c : Dev nD => (dutyTok ER (kcell (c, rcv 0)) 0 () : sProp 𝕄)),
    across_sum 1 (fun c : Dev nD => (dutyTok ER (kcell (c, rcv 1)) 0 () : sProp 𝕄)),
    across_sum 2 (fun c : Dev nD => (dutyTok ER (kcell (c, rcv 2)) 0 () : sProp 𝕄))]

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 7 => semVal (kcell (c, j)) 0 := rfl

omit [FloatOps F] in
/-- The cells' invariants, opened once for all devices, and what each device keeps. -/
theorem cells_alloc :
    (bigSep Finset.univ fun c : Dev nD => iprop(Pipeline.ownSems0 (Ix := Unit) (Name := ℕ) (U := UU) (Lvl := ℕ) (Val := Elt F) (τ := τ) osem c ∗ G m c) : sProp 𝕄)
      ⊢ |={Set.univ}=> bigSep Finset.univ fun c : Dev nD => iprop(∃ K, records m K ∗ linear c) := by
  have hprod (Φ : Dev nD × Fin 7 → sProp 𝕄) : (bigSep Finset.univ fun c : Dev nD => bigSep Finset.univ fun j : Fin 7 => Φ (c, j)) = bigSep Finset.univ Φ :=
    (bigSep_univ_prod Φ).symm
  have halloc : iprop((bigSep Finset.univ fun cj : Dev nD × Fin 7 => semVal (kcell cj) 0) ∗ bigSep Finset.univ fun cj : Dev nD × Fin 7 => roundState ER (Rd m) (kcell cj) 0)
      ⊢ (|={Set.univ}=> bigSep Finset.univ fun cj => iprop(∃ κ : ℕ, cellInv ER (Rd m) κ (kcell cj)) : sProp 𝕄) := by
    rw [← bigSep_sep']
    exact (bigSep_mono fun cj _ => (Rounds.body_intro ER (Rd m) (kcell cj)).trans inv_alloc).trans (bigSep_fupd _ _)
  simp only [ownSems0_eq]
  unfold G
  simp only [bigSep_sep']
  rw [hprod fun cj => semVal (kcell cj) 0, hprod fun cj => roundState ER (Rd m) (kcell cj) 0, hprod fun cj => reached ER (kcell cj) 0]
  iintro ⟨Hv, Hst, Hat, #HR, Htok⟩
  imod halloc $$ [Hv Hst] with HI
  · isplitl [Hv] <;> iassumption
  imodintro
  ihave HK := (BI.bigSep_exists_pi Finset.univ (fun (cj : Dev nD × Fin 7) (κ : ℕ) => (cellInv ER (Rd m) κ (kcell cj) : sProp 𝕄))) $$ HI
  icases HK with ⟨%K, #HI⟩
  ihave Ht := (toks_across (F := F)) $$ Htok
  have hone (c : Dev nD) : iprop(records m K ∗ linear c) ⊢ (iprop(∃ K, records m K ∗ linear c) : sProp 𝕄) := by
    iintro H; iexists K; iexact H
  have hall : (bigSep Finset.univ fun c : Dev nD => iprop(records m K ∗ linear c)) ⊢ (bigSep Finset.univ fun c : Dev nD => iprop(∃ K, records m K ∗ linear c) : sProp 𝕄) :=
    bigSep_mono fun c _ => hone c
  iapply hall
  rw [bigSep_sep']
  isplitr
  · iapply (BI.bigSep_of_persistent (Finset.univ : Finset (Dev nD)) (records m K))
    unfold records
    isplitr; · iexact HI
    iexact HR
  unfold linear
  rw [bigSep_sep']
  isplitl [Hat]; · iexact Hat
  iexact Ht

/-! ## The launch credit -/

theorem due_apply (k k' : Fin 3) (d c : Dev nD) : due k' d (kcell (c, rcv k)) () = if k' = k ∧ d = peer k c then N else 0 := by
  unfold due
  rw [tallyAt_apply]
  refine if_congr ⟨fun h => ?_, fun h => ?_⟩ rfl rfl
  · obtain ⟨h1, h2⟩ := kcell_eq_iff.mp h.1
    have hk : k' = k := by
      have := congrArg Fin.val h2
      exact Fin.ext (by simp only [rcv] at this; omega)
    subst hk
    exact ⟨rfl, (peer_eq_iff.mp h1.symm)⟩
  · obtain ⟨rfl, rfl⟩ := h
    rw [peer_peer]; exact ⟨rfl, rfl⟩

theorem owed_rcv (k : Fin 3) (d c : Dev nD) : O₀ d (kcell (c, rcv k)) () = if d = peer k c then N else 0 := by
  unfold O₀
  rw [Pi.add_apply, Pi.add_apply, Pi.add_apply, Finsupp.add_apply, Finsupp.add_apply, Finsupp.add_apply, due_apply, due_apply, due_apply]
  show 0 + _ + _ + _ = _
  by_cases h : d = peer k c
  · subst h; fin_cases k <;> simp
  · have hn (k' : Fin 3) : ¬ (k' = k ∧ d = peer k c) := fun h' => h h'.2
    rw [if_neg h, if_neg (hn _), if_neg (hn _), if_neg (hn _)]

theorem launch_rcv (k : Fin 3) (c : Dev nD) :
    tallyOn (kcell (c, rcv k)) (launchCredit (Pipeline.owing O₀) 0 (kcell (c, rcv k))) = (tallyAt (kcell (c, rcv k)) () N : CellTallies nD τ sig Unit) := by
  unfold tallyAt; refine congrArg _ (Finsupp.ext fun u => ?_); cases u
  rw [Pipeline.launchCredit_owing, Finsupp.single_eq_same, Finset.sum_congr rfl fun d _ => owed_rcv k d c, Finset.sum_ite_eq' Finset.univ (peer k c) fun _ => N,
    if_pos (Finset.mem_univ _)]

omit [FloatOps F] in
theorem sem_sum (Φ : SemLoc sig → sProp 𝕄) :
    bigSep Finset.univ Φ = iprop(Φ (osem 0) ∗ Φ (osem 1) ∗ Φ (osem 2) ∗ Φ (osem 3) ∗ Φ (osem 4) ∗ Φ (osem 5) ∗ Φ (osem 6)) :=
  bigSep_univ_eq_bigSepL [osem 0, osem 1, osem 2, osem 3, osem 4, osem 5, osem 6] (by decide) (by decide) Φ

omit [FloatOps F] in
theorem creds_intro (c : Dev nD) : (Pipeline.launchCred O₀ c : sProp 𝕄) ⊢ creds c := by
  unfold Pipeline.launchCred creds
  rw [sem_sum, ← launch_rcv 0, ← launch_rcv 1, ← launch_rcv 2]
  iintro ⟨-, -, -, H0, H1, H2, -⟩
  isplitl [H0]; · iexact H0
  isplitl [H1]; · iexact H1
  iexact H2

end Cert.Kernel6.Exchange

end
-- ==== Proof.Scatter.Run.lean ====
/-
# The exchange between the four chips: the run

From any memory, with the counters at zero, every execution ends, with every argument unchanged, every result the rows
of the four chips, and every counter at zero.

The launch is set up here: each device's body starts with rows of results of other devices, so what all devices hold at
the launch is dealt anew before any of them runs.
-/
module

public import proofs.«01_k».proof.Proof.Scatter.Deal

@[expose] public section

noncomputable section

namespace Cert.Kernel6.Exchange

open Cert.Kernel6 Cert.Kernel6.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

variable (ρ : Dev nD → PrngReg)

/-- No call has a table. -/
abbrev adm : (p : Fin 1) → (pcfgs (F := F) p).Adm := fun p => (cfgs p).toPCfg_adm

/-- What a device is left with: its argument and its result, whole. -/
def left (c : Dev nD) : sProp 𝕄 :=
  iprop((((c : Thread nD τ).loc main_arg0) ↦{fullShare} m ((c : Thread nD τ).loc main_arg0)) ∗ (((c : Thread nD τ).loc main_v1) ↦{fullShare} res m c))

/-- What a device holds before the program and after it. -/
def before (c : Dev nD) : sProp 𝕄 :=
  iprop(scopedBufs (c : Thread nD τ) ∗ Pipeline.idleSems0 cfgs cellOf_inj 0 ownSemFacts c ∗ owes (c : Thread nD τ) (O₀ c) ∅ ∗ start m c)
def after (c : Dev nD) : sProp 𝕄 := iprop(left m c ∗ scopedSems0 (c : Thread nD τ))

omit [FloatOps F] in
theorem cellsSems0_eq (c : Dev nD) : (Pipeline.cellsSems0 cfgs 0 c : sProp 𝕄) = BI.emp := bigSep_none _

omit [FloatOps F] in
theorem sems_split (c : Dev nD) : (scopedSems0 (c : Thread nD τ) : sProp 𝕄)
    = iprop((emp ∗ bigSep Finset.univ fun j : Fin 7 => semVal (kcell (c, j)) 0) ∗ Pipeline.idleSems0 cfgs cellOf_inj 0 ownSemFacts c) := by
  have h := Pipeline.scopedSems0_split (Ix := Unit) (Val := Elt F) (Name := ℕ) (U := UU) (Lvl := ℕ) cfgs cellOf_inj 0 winFacts0.to₀ ownSemFacts c
  rw [cellsSems0_eq] at h
  exact h

omit [FloatOps F] in
theorem bufs_split (c : Dev nD) : (scopedBufs (c : Thread nD τ) : sProp 𝕄) = iprop(Dat.staging cfg0 c ∗ Pipeline.scopedRest cfg0.spec c) :=
  Pipeline.scopedBufs_split cfgs 0 winFacts0.to₀.stage_scoped winFacts0.to₀.stage_inj stage_whole0 c

omit [FloatOps F] in
theorem arrays_split (c : Dev nD) : (unscopedBufs c (fun b => m ((c : Thread nD τ).loc b)) : sProp 𝕄)
    = iprop(emp ∗ (((c : Thread nD τ).loc main_arg0) ↦{fullShare} m ((c : Thread nD τ).loc main_arg0))
        ∗ (((c : Thread nD τ).loc main_v1) ↦{fullShare} m ((c : Thread nD τ).loc main_v1))) := by
  have h := Pipeline.unscopedBufs_split (Ix := Unit) (Name := ℕ) (U := UU) (Lvl := ℕ) cfgs 0 winFacts0.to₀.arr_unscoped winFacts0.arr_inj c
    (fun b => m ((c : Thread nD τ).loc b))
  rw [show (bigSep Finset.univ fun w : Fin (cfgs 0).W => _) = (BI.emp : sProp 𝕄) from bigSep_none _] at h
  exact h.trans (congrArg (fun R => iprop(emp ∗ R)) (unscopedRest0_eq c _))

/-- The launch's resources, dealt. -/
theorem deal : iprop((bigSep Finset.univ fun c : Dev nD => coreInit (Ix := Unit) (Name := ℕ) (U := UU) (Lvl := ℕ) (Pipeline.owing O₀) 0
        (⟨m, fun _ => 0, ρ⟩ : MemSt nD τ sig (Elt F)) (c : Thread nD τ)) ∗ ownU u₀)
      ⊢ (|={Set.univ}=> iprop(∃ _ : Unit, (bigSep Finset.univ fun c : Dev nD => before m c) ∗ emp) : sProp 𝕄) := by
  have hcore (c : Dev nD) : coreInit (Ix := Unit) (Name := ℕ) (U := UU) (Lvl := ℕ) (Pipeline.owing O₀) 0
        (⟨m, fun _ => 0, ρ⟩ : MemSt nD τ sig (Elt F)) (c : Thread nD τ)
      ⊢ (iprop(scopedBufs (c : Thread nD τ) ∗ Pipeline.idleSems0 cfgs cellOf_inj 0 ownSemFacts c ∗ owes (c : Thread nD τ) (O₀ c) ∅ ∗ creds c ∗ xRows m c
          ∗ Pipeline.ownSems0 (Ix := Unit) (Name := ℕ) (U := UU) (Lvl := ℕ) (Val := Elt F) (τ := τ) osem c
          ∗ (((c : Thread nD τ).loc main_v1) ↦{fullShare} m ((c : Thread nD τ).loc main_v1))) : sProp 𝕄) := by
    refine (Pipeline.coreInit_boundary_owing O₀ m ρ c).trans ?_
    unfold boundary
    rw [sems_split, arrays_split, xRows_eq, ownSems0_eq]
    iintro ⟨⟨Hb, ⟨⟨-, Hs⟩, Hi⟩, -⟩, ⟨-, Hx, Hy⟩, -, Ho, -, -, Hc⟩
    isplitl [Hb]; · iexact Hb
    isplitl [Hi]; · iexact Hi
    isplitl [Ho]; · iexact Ho
    isplitl [Hc]; · iapply (creds_intro (F := F) c); iexact Hc
    isplitl [Hx]; · iexact Hx
    isplitl [Hs]; · iexact Hs
    iexact Hy
  have hcores : (bigSep Finset.univ fun c : Dev nD => coreInit (Ix := Unit) (Name := ℕ) (U := UU) (Lvl := ℕ) (Pipeline.owing O₀) 0
        (⟨m, fun _ => 0, ρ⟩ : MemSt nD τ sig (Elt F)) (c : Thread nD τ))
      ⊢ (iprop((bigSep Finset.univ fun c : Dev nD => scopedBufs (c : Thread nD τ))
          ∗ (bigSep Finset.univ fun c : Dev nD => Pipeline.idleSems0 cfgs cellOf_inj 0 ownSemFacts c)
          ∗ (bigSep Finset.univ fun c : Dev nD => owes (c : Thread nD τ) (O₀ c) ∅) ∗ (bigSep Finset.univ fun c : Dev nD => creds c)
          ∗ (bigSep Finset.univ fun c : Dev nD => xRows m c)
          ∗ (bigSep Finset.univ fun c : Dev nD => Pipeline.ownSems0 (Ix := Unit) (Name := ℕ) (U := UU) (Lvl := ℕ) (Val := Elt F) (τ := τ) osem c)
          ∗ (bigSep Finset.univ fun c : Dev nD => ((c : Thread nD τ).loc main_v1) ↦{fullShare} m ((c : Thread nD τ).loc main_v1))) : sProp 𝕄) := by
    refine (bigSep_mono fun c _ => hcore c).trans ?_
    simp only [bigSep_sep']
    exact BI.Entails.refl _
  iintro ⟨HC, Hu⟩
  ihave HC' := hcores $$ HC
  icases HC' with ⟨Hb, Hi, Ho, Hc, Hx, Hs, Hy⟩
  unfold u₀
  ihave Hu' := (ownU_pair _ _) $$ Hu
  icases Hu' with ⟨-, HX⟩
  imod (fund_cells m) $$ HX with HG
  imod (cells_alloc m) $$ [Hs HG] with HK
  · rw [bigSep_sep']; isplitl [Hs] <;> iassumption
  imodintro
  iexists ()
  isplitl
  · unfold before start
    simp only [bigSep_sep']
    isplitl [Hb]; · iexact Hb
    isplitl [Hi]; · iexact Hi
    isplitl [Ho]; · iexact Ho
    isplitl [HK]; · iexact HK
    isplitl [Hc]; · iexact Hc
    isplitl [Hx]; · iexact Hx
    iapply (rows_across m); iexact Hy
  · iempintro

theorem Φ_first (c : Dev nD) : (dats m 0 c).Φ 0 = start m c := rfl
theorem Φ_last (c : Dev nD) : (dats m 0 c).Φ (Fin.last cfg0.N) = finish m c := rfl
theorem owed_last (c : Dev nD) : (dats m 0 c).owed (Fin.last cfg0.N) = 0 := rfl
theorem owed_first (c : Dev nD) : (dats m 0 c).owed 0 = O₀ c := rfl

/-- The program is the call and the return. -/
abbrev rest : Prog (TpuEff nD τ sig (Elt F) (Pipeline.Sig Λ₀ (Fin 1) fun p => (pcfgs (F := F) p).Adm) .tc) PUnit := .ret ⟨⟩
abbrev call : Prog (TpuEff nD τ sig (Elt F) (Pipeline.Sig Λ₀ (Fin 1) fun p => (pcfgs (F := F) p).Adm) .tc) PUnit := .op (.customCall (Pipeline.entry 0) ()) fun _ => rest
theorem hmain (c : Dev nD) : main (F := F) c = call := rfl

theorem hin (c : Dev nD) : iprop(start m c ∗ Pipeline.prefHeld (pcfgs (F := F) 0).pre c (fun _ => fullShare) (adm (F := F) 0).1 ∗ Pipeline.scopedRest cfg0.spec c)
    ⊢ (dats m 0 c).Φ 0 := by
  rw [Φ_first]
  iintro ⟨H, -, -⟩; iexact H

theorem hout (c : Dev nD) : iprop((dats m 0 c).Φ (Fin.last cfg0.N) ∗ Pipeline.cellsSems0 cfgs 0 c ∗ Dat.staging cfg0 c ∗ Pipeline.idleSems0 cfgs cellOf_inj 0 ownSemFacts c)
    ⊢ (iprop(left m c ∗ scopedSems0 (c : Thread nD τ) ∗ scopedBufs (c : Thread nD τ)) : sProp 𝕄) := by
  rw [Φ_last, sems_split, bufs_split, scopedRest0_eq]
  unfold finish left
  rw [xRows_eq, yRows_eq]
  iintro ⟨⟨Hx, Hy, Hz⟩, -, Hst, Hi⟩
  isplitl [Hx Hy]; · isplitl [Hx] <;> iassumption
  isplitl [Hz Hi]
  · isplitl [Hz]
    · isplitr; · iempintro
      iexact Hz
    iexact Hi
  isplitl [Hst]; · iexact Hst
  iempintro

theorem e1 (c : Dev nD) : (dats m 0 c).arrays ((dats m 0 c).arrAt · 0) = BI.emp := bigSep_none _
theorem e2 (c : Dev nD) : (Pipeline.cellsWaits cfgs (dats m) () 0 c : sProp 𝕄) = BI.emp := bigSep_none _
theorem e3 (c : Dev nD) : (Pipeline.cellsInit cfgs (dats m) EP (fun _ => 0) 0 c : sProp 𝕄) = BI.emp := bigSep_none _
theorem e4 (c : Dev nD) : (Pipeline.toksInit cfgs EP 0 c : sProp 𝕄) = BI.emp := bigSep_none _
theorem e5 (c : Dev nD) : (Pipeline.prefHeld (pcfgs (F := F) 0).pre c (fun _ => fullShare) (adm (F := F) 0).1 : sProp 𝕄) = BI.emp := bigSep_none _

theorem hpre (c : Dev nD) : (Pipeline.EntryPre cfgs (dats m) () EP (fun _ => 0) 0 c : sProp 𝕄) = iprop(BI.emp ∗ (dats m 0 c).owesAt () 0 ∗ BI.emp ∗ BI.emp ∗ BI.emp) := by
  refine (show _ = iprop((dats m 0 c).arrays ((dats m 0 c).arrAt · 0) ∗ (dats m 0 c).owesAt () 0 ∗ Pipeline.cellsWaits cfgs (dats m) () 0 c
      ∗ Pipeline.cellsInit cfgs (dats m) EP (fun _ => 0) 0 c ∗ Pipeline.toksInit cfgs EP 0 c) from rfl).trans ?_
  rw [e1 m, e2 m, e3 m, e4]

theorem hpost (c : Dev nD) : (Pipeline.EntryPost cfgs (dats m) () 0 c : sProp 𝕄) ⊢ iprop(∃ W, owes (c : Thread nD τ) 0 W) := by
  show iprop(_ ∗ (dats m 0 c).owesAt () (Fin.last cfg0.N)) ⊢ _
  unfold Dat.owesAt Pipeline.owesWithin
  rw [owed_last]
  iintro ⟨-, ⟨%W, -, HW⟩⟩
  iexists W; iexact HW

theorem no_window (w : Fin (cfgs 0).W) : 0 < (((cfgs 0).win w).block).numel := Fin.elim0 (show Fin 0 from w)

/-- The call's region. -/
theorem region (c : Dev nD) :
    iprop(Pipeline.EntryPre cfgs (dats m) () EP (fun _ => 0) 0 c ∗ Pipeline.prefHeld (pcfgs (F := F) 0).pre c (fun _ => fullShare) (adm (F := F) 0).1
        ∗ start m c ∗ Pipeline.idleSems0 cfgs cellOf_inj 0 ownSemFacts c ∗ scopedBufs (c : Thread nD τ))
      ⊢ (iprop(((Pipeline.EntryPost cfgs (dats m) () 0 c ∗ left m c ∗ scopedSems0 (c : Thread nD τ) ∗ scopedBufs (c : Thread nD τ))
            -∗ wp frame (wpE (Pipeline.defs pcfgs (defs₀ (F := F))) (Variants.lift 𝒱₀) (c : Thread nD τ) none) Set.univ rest
              (fun _ => post (liftTc (after m) BI.emp) (c : Thread nD τ)))
          -∗ wp frame (wpE (Pipeline.defs pcfgs (defs₀ (F := F))) (Variants.lift 𝒱₀) (c : Thread nD τ) none) Set.univ
              call (fun _ => post (liftTc (after m) BI.emp) (c : Thread nD τ))) : sProp 𝕄) :=
  Pipeline.wp_customCall_entry_frame pcfgs adm (dats m) () EP (fun _ => 0) cellOf_inj 0 defs₀ 𝒱₀ (fun _ => fullShare) c Set.univ
      (fun _ _ => Set.mem_univ _) (body_obligation m c) no_window none (fun u h => nomatch h)
      (X := start m c) (Y := left m c) (R := Pipeline.scopedRest cfg0.spec c) (I := Pipeline.idleSems0 cfgs cellOf_inj 0 ownSemFacts c)
      (Entails.of_eq (bufs_split c)) (hin m c) (hout m c)
      (k := fun _ => rest) (Q := fun _ => post (liftTc (after m) BI.emp) (c : Thread nD τ))

set_option maxHeartbeats 400000 in
/-- A device's run of the program. -/
theorem wp_device (c : Dev nD) :
    before m c ⊢ wp frame (wpE (defs (F := F)) (Variants.lift 𝒱₀) (c : Thread nD τ) none) Set.univ (main (F := F) c)
      (fun _ => post (liftTc (after m) BI.emp) (c : Thread nD τ)) := by
  rw [hmain, show defs (F := F) = Pipeline.defs pcfgs defs₀ from rfl]
  unfold before
  iintro ⟨Hb, Hi, Ho, Hs⟩
  iapply (region m c) $$ [Hb Hi Ho Hs]
  · isplitl [Ho]
    · iapply (Entails.of_eq (hpre m c).symm)
      isplitr; · iempintro
      isplitl [Ho]
      · unfold Dat.owesAt Pipeline.owesWithin; rw [owed_first]
        iexists ∅; isplitr; · ipureintro; rw [Finset.coe_empty]; exact Set.empty_subset _
        iexact Ho
      isplitr; · iempintro
      isplitr <;> iempintro
    isplitr; · iapply (Entails.of_eq (e5 c).symm); iempintro
    isplitl [Hs]; · iexact Hs
    isplitl [Hi]; · iexact Hi
    iexact Hb
  iintro ⟨Hpost, HY, Hz, -⟩
  rw [wp_ret]; imodintro
  unfold post; simp only [liftTc_tc, after]
  isplitr [Hpost]
  · isplitl [HY] <;> iassumption
  · iapply (hpost m c); iexact Hpost

omit [FloatOps F] in
/-- An array held whole reads as what it is held at. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := Idealize.ShloMosaic.pointsTo_read_all (Ix := Unit) (Name := ℕ) (U := UU) (Lvl := ℕ) ({()} : Finset Unit) (fun _ => ℓ) (fun _ => f) s' fullShare
  rw [bigSep_singleton] at h
  refine h.trans (sep_mono_left (BI.pure_mono fun h => h () (Finset.mem_singleton_self _)))

/-- Every execution of the program, from any memory with the counters at zero. -/
theorem run : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = res m c) ∧ r.2.sem = fun _ => 0) := by
  refine (θ_run (defs (F := F)) _ _).mono
    (Q := fun r => (∀ c : Dev nD, (r.2.mem ((c : Thread nD τ).loc main_arg0) = m ((c : Thread nD τ).loc main_arg0)
        ∧ r.2.mem ((c : Thread nD τ).loc main_v1) = res m c) ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _
      (reflect_intro_fupd_tc_sems (X := Unit) (Variants.lift 𝒱₀) (Pipeline.owing O₀) 0 (noBookings fun _ => le_rfl) (Pipeline.owing_of_ne O₀) u₀
        (fun _ => before m) (fun _ => after m) (fun _ => iprop(emp)) Set.univ (deal m ρ) (fun _ c => wp_device m c) fun _ => ?_))
  have hcore (c : Dev nD) (s' : Phys nD τ sig (Elt F)) : iprop(after m c ∗ SI s') ⊢ (|={Set.univ}=>
      iprop(⌜(s'.mem.mem ((c : Thread nD τ).loc main_arg0) = m ((c : Thread nD τ).loc main_arg0) ∧ s'.mem.mem ((c : Thread nD τ).loc main_v1) = res m c)
        ∧ ∀ sm : SemLoc sig, sm.isScoped .tc = true → s'.mem.sem ((c : Thread nD τ), sm) = 0⌝ ∗ SI s') : sProp 𝕄) := by
    unfold after left
    iintro ⟨⟨⟨Hx, Hy⟩, Hz⟩, HSI⟩
    ihave %hz := (tcScoped_read_pers c s') $$ [Hz HSI]
    · isplitl [Hz] <;> iassumption
    ihave Hr := (read_whole _ _ s') $$ [Hx HSI]
    · isplitl [Hx] <;> iassumption
    icases Hr with ⟨%hx, HSI⟩
    ihave Hr := (read_whole _ _ s') $$ [Hy HSI]
    · isplitl [Hy] <;> iassumption
    icases Hr with ⟨%hy, HSI⟩
    imodintro
    isplitr
    · ipureintro; exact ⟨⟨hx, hy⟩, hz⟩
    · iexact HSI
  iintro ⟨H, -, Hsc⟩ %s' HSI
  ihave %hsc := (scSems_read_zero m ρ s') $$ [Hsc HSI]
  · isplitl [Hsc] <;> iassumption
  imod (posts_fupd Finset.univ hcore s') $$ [H HSI] with %h
  · isplitl [H] <;> iassumption
  imodintro
  ipureintro
  exact ⟨fun c => h c (Finset.mem_univ c), hsc⟩

end Cert.Kernel6.Exchange

end
-- ==== Proof.Scatter.Value.lean ====
/-
# The exchange between the four chips: its result

Row `j` of what device `c` ends with is the row of `c`'s chip of the array on the device of chip `j` at `c`'s place. Of the
whole array, cut into the eight devices' rows, this is the block of `c` of the array with its chips and rows exchanged.
-/
module

public import proofs.«01_k».proof.Proof.Scatter.Run
public import proofs.«01_k».proof.Proof.Gen.Reference6.Run
public import proofs.«01_k».proof.Proof.Gen.Reference6.Read
public import Idealize.ShloMosaic.Lib.Layout

@[expose] public section

noncomputable section

namespace Cert.Kernel6.Exchange

open Cert.Kernel6 Cert.Kernel6.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-- The digits of a position, its row `r`, and its place `(y, x)` in the row. -/
theorem digits (r y x : ℕ) (hy : y < 704) (hx : x < 1024) :
    ((r * 704 + y) * 1024 + x) / 720896 = r ∧ ((r * 704 + y) * 1024 + x) / 1024 % 704 = y ∧ ((r * 704 + y) * 1024 + x) % 1024 = x
      ∧ ((r * 704 + y) * 1024 + x) / 2883584 % 2 = r / 4 % 2 ∧ ((r * 704 + y) * 1024 + x) / 5767168 = r / 8 := by
  refine ⟨?_, ?_, ?_, ?_, ?_⟩ <;> omega

/-- The position, in the whole array, that the result at row `c * 4 + r` comes from. -/
def origin (r y x : ℕ) : ℕ :=
  (((((r * 704 + y) * 1024 + x) / 720896 % 4 * 2 + ((r * 704 + y) * 1024 + x) / 2883584 % 2) * 4 + ((r * 704 + y) * 1024 + x) / 5767168) * 704
    + ((r * 704 + y) * 1024 + x) / 1024 % 704) * 1024 + ((r * 704 + y) * 1024 + x) % 1024

theorem origin_eq (c r y x : ℕ) (hr : r < 4) (hy : y < 704) (hx : x < 1024) :
    origin (c * 4 + r) y x = (((2 * r + c % 2) * 4 + c / 2) * 704 + y) * 1024 + x := by
  obtain ⟨d0, d1, d2, d3, d4⟩ := digits (c * 4 + r) y x hy hx
  unfold origin
  rw [d0, d1, d2, d3, d4, show (c * 4 + r) % 4 = r by omega, show (c * 4 + r) / 4 % 2 = c % 2 by omega, show (c * 4 + r) / 8 = c / 2 by omega,
    Nat.mul_comm r 2]

/-- Every device ends with its block of the exchanged array. -/
theorem res_eq (X : Cert.Reference6.S32x704x1024.Idx → Elt F .bf16)
    (hm : ∀ c : Dev nD, m ((c : Thread nD τ).loc main_arg0) = Layout.block ⟨3, ![4, 704, 1024]⟩ ⟨3, ![32, 704, 1024]⟩ 0 8 c X) (c : Dev nD) :
    res m c = Layout.block ⟨3, ![4, 704, 1024]⟩ ⟨3, ![32, 704, 1024]⟩ 0 8 c (Cert.Reference6.Read.val_main_v2 (F := F) X) := by
  funext (i : S4x704x1024.Idx)
  show arg m (onChip (rowOf i) c) (toRow i (chip c)) = _
  unfold arg
  rw [hm, Layout.block_apply, Layout.block_apply, Cert.Reference6.Read.val_main_v2_apply, Cert.Reference6.Read.val_main_v1_apply, Cert.Reference6.Read.val_main_v0_apply]
  have hc : c.val < 8 := c.isLt
  have h0 : (i (0 : Fin 3)).val < 4 := (i (0 : Fin 3)).isLt
  have h1 : (i (1 : Fin 3)).val < 704 := (i (1 : Fin 3)).isLt
  have h2 : (i (2 : Fin 3)).val < 1024 := (i (2 : Fin 3)).isLt
  refine congrArg X (funext fun a => Fin.ext ?_)
  obtain ⟨d0, d1, d2, -, -⟩ := digits ((2 * (i (0 : Fin 3)).val + c.val % 2) * 4 + c.val / 2) _ _ h1 h2
  have e := origin_eq c.val _ _ _ h0 h1 h2
  match a with
  | ⟨0, _⟩ =>
    show (2 * (i (0 : Fin 3)).val + c.val % 2) * 4 + c.val / 2 = origin (c.val * 4 + (i (0 : Fin 3)).val) (i (1 : Fin 3)).val (i (2 : Fin 3)).val / 720896
    rw [e, d0]
  | ⟨1, _⟩ =>
    show (i (1 : Fin 3)).val = origin (c.val * 4 + (i (0 : Fin 3)).val) (i (1 : Fin 3)).val (i (2 : Fin 3)).val / 1024 % 704
    rw [e, d1]
  | ⟨2, _⟩ =>
    show (i (2 : Fin 3)).val = origin (c.val * 4 + (i (0 : Fin 3)).val) (i (1 : Fin 3)).val (i (2 : Fin 3)).val % 1024
    rw [e, d2]

end Cert.Kernel6.Exchange

end
-- ==== Proof.Scatter.Equal.lean ====
/-
# The exchange between the four chips: the claims

No operation of the exchange is rewritten, so each program read over the reals is the program itself, at another reading of
its floats. Its run and what it leaves are proved for every reading, and each claim is one of the two readings.
-/
module

public import proofs.«01_k».proof.Defs
public import proofs.«01_k».proof.Proof.Scatter.Value
public import proofs.«01_k».proof.Proof.Gen.Kernel6Ideal
public import proofs.«01_k».proof.Proof.Gen.Reference6Ideal

@[expose] public section

noncomputable section

namespace Cert.Proof.Scatter

open Idealize.ShloMosaic Idealize.ShloMosaic.TcCoe Idealize.SL.Sem
open Cert.Kernel6 Cert.Kernel6.Exchange

variable {F : FTy → Type} [FloatOps F]

/-- The argument stays, and every counter is back at zero. -/
theorem kernel_quiet (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c).1, h.2⟩) (run m ρ)

theorem reference_quiet (m : (ℓ : Loc Cert.Reference6.nD Cert.Reference6.τ Cert.Reference6.sig) → Buf (Elt F) ℓ) (ρ : Dev Cert.Reference6.nD → PrngReg) :
    θ_run (Cert.Reference6.defs (F := F)) (onTc (τ := Cert.Reference6.τ) (Cert.Reference6.main (F := F))) ⟨m, fun _ => 0, ρ⟩
      (fun r => (∀ c : Dev Cert.Reference6.nD, r.2.mem ((c.tc : Thread Cert.Reference6.nD Cert.Reference6.τ).loc Cert.Reference6.main_arg0)
        = m ((c.tc : Thread Cert.Reference6.nD Cert.Reference6.τ).loc Cert.Reference6.main_arg0)) ∧ r.2.sem = fun _ => 0) :=
  (θ_run (Cert.Reference6.defs (F := F)) _ _).mono (fun r h => ⟨fun c => (h c).2, sem_eq_zero_of_no_sems (by decide) r.2⟩) (Cert.Reference6.Value.run m ρ)

/-- The devices end with their blocks of the array the reference ends with. -/
theorem same (m : (ℓ : Loc nD τ sig) → Buf (Elt F) ℓ) (g : Dev nD → PrngReg)
    (m' : (ℓ : Loc Cert.Reference6.nD Cert.Reference6.τ Cert.Reference6.sig) → Buf (Elt F) ℓ) (g' : Dev Cert.Reference6.nD → PrngReg)
    (hm : ∀ c : Dev nD, m ((c.tc : Thread nD τ).loc main_arg0) = Layout.block ⟨3, ![4, 704, 1024]⟩ ⟨3, ![32, 704, 1024]⟩ 0 8 c
      (m' (((0 : Dev Cert.Reference6.nD).tc : Thread Cert.Reference6.nD Cert.Reference6.τ).loc Cert.Reference6.main_arg0))) :
    ∃ v0 : Buf (Elt F) (((0 : Dev Cert.Reference6.nD).tc : Thread Cert.Reference6.nD Cert.Reference6.τ).loc Cert.Reference6.main_v2),
      θ_run (defs (F := F)) (onTc (τ := τ) (main (F := F))) ⟨m, fun _ => 0, g⟩ (fun r => ∀ c : Dev nD,
          r.2.mem ((c.tc : Thread nD τ).loc main_v1) = Layout.block ⟨3, ![4, 704, 1024]⟩ ⟨3, ![32, 704, 1024]⟩ 0 8 c v0
          ∧ r.2.mem ((c.tc : Thread nD τ).loc main_arg0) = m ((c.tc : Thread nD τ).loc main_arg0))
      ∧ θ_run (Cert.Reference6.defs (F := F)) (onTc (τ := Cert.Reference6.τ) (Cert.Reference6.main (F := F))) ⟨m', fun _ => 0, g'⟩ (fun r =>
          r.2.mem (((0 : Dev Cert.Reference6.nD).tc : Thread Cert.Reference6.nD Cert.Reference6.τ).loc Cert.Reference6.main_v2) = v0
          ∧ r.2.mem (((0 : Dev Cert.Reference6.nD).tc : Thread Cert.Reference6.nD Cert.Reference6.τ).loc Cert.Reference6.main_arg0)
            = m' (((0 : Dev Cert.Reference6.nD).tc : Thread Cert.Reference6.nD Cert.Reference6.τ).loc Cert.Reference6.main_arg0)) :=
  ⟨Cert.Reference6.Read.val_main_v2 (F := F) (m' (((0 : Dev Cert.Reference6.nD).tc : Thread Cert.Reference6.nD Cert.Reference6.τ).loc Cert.Reference6.main_arg0)),
    (θ_run (defs (F := F)) _ _).mono (fun _ h c => ⟨(h.1 c).2.trans (res_eq m _ hm c), (h.1 c).1⟩) (run m g),
    (θ_run (Cert.Reference6.defs (F := F)) _ _).mono (fun _ h => ⟨(h 0).1.trans (Cert.Reference6.Read.val_main_v2_eq _), (h 0).2⟩) (Cert.Reference6.Value.run m' g')⟩

theorem quiet : Cert.quiescent_Kernel6 (hKernel6 := Cert.Kernel6.Gen.facts) := fun m g _ => kernel_quiet m g
theorem quiet_ideal : Cert.quiescent_Kernel6Ideal (hKernel6Ideal := Cert.Kernel6Ideal.Gen.facts) := fun m g _ => kernel_quiet (F := Ideal) m g
theorem quiet_reference : Cert.quiescent_Reference6 (hReference6 := Cert.Reference6.Gen.facts) := fun m g _ => reference_quiet m g
theorem quiet_reference_ideal : Cert.quiescent_Reference6Ideal (hReference6Ideal := Cert.Reference6Ideal.Gen.facts) :=
  fun m g _ => reference_quiet (F := Ideal) m g

theorem bits : Cert.bitexact_Kernel6_Reference6 (hKernel6 := Cert.Kernel6.Gen.facts) (hReference6 := Cert.Reference6.Gen.facts) :=
  fun m g m' g' _ hm => same m g m' g' hm
theorem equal : Cert.algebraic_Kernel6Ideal_Reference6Ideal (hKernel6Ideal := Cert.Kernel6Ideal.Gen.facts) (hReference6Ideal := Cert.Reference6Ideal.Gen.facts) :=
  fun m g m' g' _ hm => same (F := Ideal) m g m' g' hm

end Cert.Proof.Scatter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Arrays
public import proofs.«01_k».proof.Proof.RefOut
public import proofs.«01_k».proof.Proof.Pre
public import proofs.«01_k».proof.Proof.First.Equal
public import proofs.«01_k».proof.Proof.Gen.Kernel1.Frame
public import proofs.«01_k».proof.Proof.Gen.Kernel1Ideal.Frame
public import proofs.«01_k».proof.Proof.Gen.Reference1Ideal.Run
public import proofs.«01_k».proof.Proof.Gen.Reference1Ideal.Read
public import proofs.«01_k».proof.Proof.Gen.Pre_finite1
public import proofs.«01_k».proof.Proof.Mixer.Equal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.Adam.Equal
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Scatter.Equal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

open Ffn Cert.ReferenceIdeal.Rows Cert.ReferenceIdeal.Read

/-- The reference leaves its arguments alone; it declares no semaphore. -/
theorem quiet : Cert.quiescent_ReferenceIdeal (hReferenceIdeal := Cert.ReferenceIdeal.Gen.facts) := fun m g _ =>
  (θ_run Cert.ReferenceIdeal.defs _ _).mono (fun r h => ⟨fun c => (h c).2.2.2.2.2.2.2.2, sem_eq_zero_of_no_sems (by decide) r.2⟩) (Cert.ReferenceIdeal.Value.run m g)

theorem quiet_finite : Cert.quiescent_ReferenceIdeal_pre_finite (hReferenceIdeal := Cert.ReferenceIdeal.Gen.facts) (hPre_finite := Cert.Pre_finite.Gen.facts) :=
  fun m g _ => quiet m g trivial

/-- The eight arrays, of the real arguments `A`. -/
def results (A : Args) : FVec Ideal Cert.ReferenceIdeal.S4096x1024 .f32 × FVec Ideal Cert.ReferenceIdeal.S8x4096x704 .bf16 × FVec Ideal Cert.ReferenceIdeal.S4x4096x704 .bf16
    × FVec Ideal Cert.ReferenceIdeal.S4096x1024 .bf16 × FVec Ideal Cert.ReferenceIdeal.S4096x1024 .bf16 × FVec Ideal Cert.ReferenceIdeal.S2x8x1024 .f32
    × FVec Ideal Cert.ReferenceIdeal.S8x1024 .f32 × FVec Ideal Cert.ReferenceIdeal.S8x1024 .f32 :=
  (fun i => ((A.dxAt (i 0) (i 1) : ℝ) : EReal), fun i => ((A.dprojAt (i 0) (i 1) (i 2) : ℝ) : EReal), fun i => ((A.actAt (i 0) (i 1) (i 2) : ℝ) : EReal),
    fun i => ((A.hAt (i 0) (i 1) : ℝ) : EReal), fun i => ((A.dyAt (i 0) (i 1) : ℝ) : EReal), fun i => ((A.modAt (i 0) (i 1) (i 2) : ℝ) : EReal),
    fun i => ((A.gainAt (i 0) (i 1) : ℝ) : EReal), fun _ => ((A.loss : ℝ) : EReal))

/-- The real arguments of device `c`. -/
def real (m : (ℓ : Loc Cert.KernelIdeal.nD Cert.KernelIdeal.τ Cert.KernelIdeal.sig) → Buf (Elt Ideal) ℓ) (c : Dev Cert.KernelIdeal.nD) : Args :=
  argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- On finite arguments both programs end holding the same eight arrays: those of the real computation. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have H (c : Dev Cert.KernelIdeal.nD) : Cert.KernelIdeal.Opened.Given m c (real m c) := reads_of_finite _ _ _ _ _ _ _ _ _ (hpre c)
  have HR (c : Dev Cert.KernelIdeal.nD) : Reads (real m c)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
    obtain ⟨h0, h1, h2, h3, h4, h5, h6, h7, h8⟩ := hagree c
    rw [h0, h1, h2, h3, h4, h5, h6, h7, h8]
    exact H c
  refine ⟨fun c => (results (real m c)).1, fun c => (results (real m c)).2.1, fun c => (results (real m c)).2.2.1, fun c => (results (real m c)).2.2.2.1,
    fun c => (results (real m c)).2.2.2.2.1, fun c => (results (real m c)).2.2.2.2.2.1, fun c => (results (real m c)).2.2.2.2.2.2.1,
    fun c => (results (real m c)).2.2.2.2.2.2.2, ?_, ?_⟩
  · refine (θ_run Cert.KernelIdeal.defs _ _).mono (fun r h c => ?_) (Cert.KernelIdeal.Value.run_blocks m g)
    obtain ⟨h0, h1, h2, h3, h4, h5, h6, h7, hk⟩ := h c
    exact ⟨h0.trans (Cert.KernelIdeal.Opened.arr7 (H c)), h1.trans (Cert.KernelIdeal.Opened.arr8 (H c)), h2.trans (Cert.KernelIdeal.Opened.arr9 (H c)),
      h3.trans (Cert.KernelIdeal.Opened.arr10 (H c)), h4.trans (Cert.KernelIdeal.Opened.arr11 (H c)), h5.trans (Cert.KernelIdeal.Opened.arr12 (H c)),
      h6.trans (Cert.KernelIdeal.Opened.arr13 (H c)), h7.trans (Cert.KernelIdeal.Opened.arr14 (H c)), hk⟩
  · refine (θ_run Cert.ReferenceIdeal.defs _ _).mono (fun r h c => ?_) (Cert.ReferenceIdeal.Value.run m' g')
    obtain ⟨h0, h1, h2, h3, h4, h5, h6, h7, hk⟩ := h c
    exact ⟨h0.trans ((val_main_v153_eq _).trans (funext fun i => (congrArg _ (eq_ix2 i)).trans (v153 (HR c) _ _))),
      h1.trans ((val_main_v156_eq _).trans (funext fun i => (congrArg _ (eq_ix3 i)).trans (v156 (HR c) _ _ _))),
      h2.trans ((val_main_v159_eq _).trans (funext fun i => (congrArg _ (eq_ix3 i)).trans (v159 (HR c) _ _ _))),
      h3.trans ((val_main_v161_eq _).trans (funext fun i => (congrArg _ (eq_ix2 i)).trans (v161 (HR c) _ _))),
      h4.trans ((val_main_v163_eq _).trans (funext fun i => (congrArg _ (eq_ix2 i)).trans (v163 (HR c) _ _))),
      h5.trans ((val_main_v150_eq _).trans (funext fun i => (congrArg _ (eq_ix3 i)).trans (v150 (HR c) _ _ _))),
      h6.trans ((val_main_v152_eq _).trans (funext fun i => (congrArg _ (eq_ix2 i)).trans (v152 (HR c) _ _))),
      h7.trans ((val_main_v164_eq _).trans (funext fun i => (congrArg _ (eq_ix2 i)).trans (v164 (HR c) _ _))), hk⟩

theorem claim : Cert.Claim := ⟨Cert.Kernel.Gen.facts, Cert.KernelIdeal.Gen.facts, Cert.ReferenceIdeal.Gen.facts,
  Cert.Kernel1.Gen.facts, Cert.Kernel1Ideal.Gen.facts, Cert.Reference1Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Reference6.Gen.facts,
  Cert.Pre_finite.Gen.facts, Cert.Pre_finite1.Gen.facts, Cert.Pre_finite2.Gen.facts,
  fun m ρ _ => Cert.Kernel.Gen.frame m ρ, fun m ρ _ => Cert.KernelIdeal.Gen.frame m ρ, fun m ρ _ => Cert.KernelIdeal.Gen.frame m ρ,
  quiet, quiet_finite,
  fun m ρ _ => Cert.Kernel1.Gen.frame m ρ, fun m ρ _ => Cert.Kernel1Ideal.Gen.frame m ρ, fun m ρ _ => Cert.Kernel1Ideal.Gen.frame m ρ,
  First.quiet, First.quiet_finite,
  fun m ρ _ => Cert.Kernel2.Gen.frame m ρ, fun m ρ _ => Cert.Kernel2Ideal.Gen.frame m ρ, fun m ρ _ => Cert.Kernel2Ideal.Gen.frame m ρ,
  Mixer.quiet, Mixer.quiet_finite,
  fun m ρ _ => Cert.Kernel3.Gen.frame m ρ, fun m ρ _ => Cert.Kernel3Ideal.Gen.frame m ρ, Adam.quiet3,
  fun m ρ _ => Cert.Kernel4.Gen.frame m ρ, fun m ρ _ => Cert.Kernel4Ideal.Gen.frame m ρ, Adam.quiet4,
  fun m ρ _ => Cert.Kernel5.Gen.frame m ρ, fun m ρ _ => Cert.Kernel5Ideal.Gen.frame m ρ, Adam.quiet5,
  Scatter.quiet, Scatter.quiet_ideal, Scatter.quiet_reference_ideal, Scatter.quiet_reference,
  trivial, equal, trivial, First.equal, trivial, Mixer.equal, trivial, Adam.equal3, trivial, Adam.equal4, trivial, Adam.equal5,
  trivial, Scatter.equal, Scatter.bits⟩

end Cert.Proof

end
